-- ==== Defs.lean ====
def Pre_Kernel0 (m : (ℓ : Loc Cert.Kernel0.nD Cert.Kernel0.τ Cert.Kernel0.sig) → Buf (Elt Bits) ℓ) : Prop :=
  True

def Pre_Kernel0Ideal (m : (ℓ : Loc Cert.Kernel0Ideal.nD Cert.Kernel0Ideal.τ Cert.Kernel0Ideal.sig) → Buf (Elt Ideal) ℓ) : Prop :=
  True

def Pre_Reference0Ideal (m : (ℓ : Loc Cert.Reference0Ideal.nD Cert.Reference0Ideal.τ Cert.Reference0Ideal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Proposals (m : (ℓ : Loc Cert.Proposals.nD Cert.Proposals.τ Cert.Proposals.sig) → Buf (Elt Bits) ℓ) : Prop :=
  True

def Pre_ProposalsIdeal (m : (ℓ : Loc Cert.ProposalsIdeal.nD Cert.ProposalsIdeal.τ Cert.ProposalsIdeal.sig) → Buf (Elt Ideal) ℓ) : Prop :=
  True

def quiescent_Kernel0 [hKernel0 : Cert.Kernel0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2)
      ∧ r.2.mem ((c.tc : Thread Cert.Kernel0.nD Cert.Kernel0.τ).loc Cert.Kernel0.main_arg3) = m ((c.tc : Thread Cert.Kernel0.nD Cert.Kernel0.τ).loc Cert.Kernel0.main_arg3)
      ∧ r.2.mem ((c.tc : Thread Cert.Kernel0.nD Cert.Kernel0.τ).loc Cert.Kernel0.main_arg4) = m ((c.tc : Thread Cert.Kernel0.nD Cert.Kernel0.τ).loc Cert.Kernel0.main_arg4)
      ∧ r.2.mem ((c.tc : Thread Cert.Kernel0.nD Cert.Kernel0.τ).loc Cert.Kernel0.main_arg5) = m ((c.tc : Thread Cert.Kernel0.nD Cert.Kernel0.τ).loc Cert.Kernel0.main_arg5)
      ∧ r.2.mem ((c.tc : Thread Cert.Kernel0.nD Cert.Kernel0.τ).loc Cert.Kernel0.main_arg6) = m ((c.tc : Thread Cert.Kernel0.nD Cert.Kernel0.τ).loc Cert.Kernel0.main_arg6)
      ∧ r.2.mem ((c.tc : Thread Cert.Kernel0.nD Cert.Kernel0.τ).loc Cert.Kernel0.main_arg7) = m ((c.tc : Thread Cert.Kernel0.nD Cert.Kernel0.τ).loc Cert.Kernel0.main_arg7)
      ∧ r.2.mem ((c.tc : Thread Cert.Kernel0.nD Cert.Kernel0.τ).loc Cert.Kernel0.main_arg8) = m ((c.tc : Thread Cert.Kernel0.nD Cert.Kernel0.τ).loc Cert.Kernel0.main_arg8))
      ∧ r.2.sem = fun _ => 0)

def quiescent_Kernel0Ideal [hKernel0Ideal : Cert.Kernel0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
      ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
      ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7)
      ∧ r.2.mem ((c.tc : Thread Cert.Kernel0Ideal.nD Cert.Kernel0Ideal.τ).loc Cert.Kernel0Ideal.main_arg8) = m ((c.tc : Thread Cert.Kernel0Ideal.nD Cert.Kernel0Ideal.τ).loc Cert.Kernel0Ideal.main_arg8))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5)
      ∧ r.2.mem ((c.tc : Thread Cert.Reference0Ideal.nD Cert.Reference0Ideal.τ).loc Cert.Reference0Ideal.main_arg6) = m ((c.tc : Thread Cert.Reference0Ideal.nD Cert.Reference0Ideal.τ).loc Cert.Reference0Ideal.main_arg6)
      ∧ r.2.mem ((c.tc : Thread Cert.Reference0Ideal.nD Cert.Reference0Ideal.τ).loc Cert.Reference0Ideal.main_arg7) = m ((c.tc : Thread Cert.Reference0Ideal.nD Cert.Reference0Ideal.τ).loc Cert.Reference0Ideal.main_arg7)
      ∧ r.2.mem ((c.tc : Thread Cert.Reference0Ideal.nD Cert.Reference0Ideal.τ).loc Cert.Reference0Ideal.main_arg8) = m ((c.tc : Thread Cert.Reference0Ideal.nD Cert.Reference0Ideal.τ).loc Cert.Reference0Ideal.main_arg8))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Proposals [hProposals : Cert.Proposals.Facts] : Prop :=
  ∀ (m : (ℓ : Loc Cert.Proposals.nD Cert.Proposals.τ Cert.Proposals.sig) → Buf (Elt Bits) ℓ) (g : Dev Cert.Proposals.nD → PrngReg), Pre_Proposals m →
    θ_run (Cert.Proposals.defs (F := Bits)) (onTc (τ := Cert.Proposals.τ) (Cert.Proposals.main (F := Bits))) ⟨m, fun _ => 0, g⟩ (fun r => (∀ c : Dev Cert.Proposals.nD,
      r.2.mem ((c.tc : Thread Cert.Proposals.nD Cert.Proposals.τ).loc Cert.Proposals.main_arg0) = m ((c.tc : Thread Cert.Proposals.nD Cert.Proposals.τ).loc Cert.Proposals.main_arg0)
      ∧ r.2.mem ((c.tc : Thread Cert.Proposals.nD Cert.Proposals.τ).loc Cert.Proposals.main_arg1) = m ((c.tc : Thread Cert.Proposals.nD Cert.Proposals.τ).loc Cert.Proposals.main_arg1)
      ∧ r.2.mem ((c.tc : Thread Cert.Proposals.nD Cert.Proposals.τ).loc Cert.Proposals.main_arg2) = m ((c.tc : Thread Cert.Proposals.nD Cert.Proposals.τ).loc Cert.Proposals.main_arg2)
      ∧ r.2.mem ((c.tc : Thread Cert.Proposals.nD Cert.Proposals.τ).loc Cert.Proposals.main_arg3) = m ((c.tc : Thread Cert.Proposals.nD Cert.Proposals.τ).loc Cert.Proposals.main_arg3)
      ∧ r.2.mem ((c.tc : Thread Cert.Proposals.nD Cert.Proposals.τ).loc Cert.Proposals.main_arg4) = m ((c.tc : Thread Cert.Proposals.nD Cert.Proposals.τ).loc Cert.Proposals.main_arg4)
      ∧ r.2.mem ((c.tc : Thread Cert.Proposals.nD Cert.Proposals.τ).loc Cert.Proposals.main_arg5) = m ((c.tc : Thread Cert.Proposals.nD Cert.Proposals.τ).loc Cert.Proposals.main_arg5)
      ∧ r.2.mem ((c.tc : Thread Cert.Proposals.nD Cert.Proposals.τ).loc Cert.Proposals.main_arg6) = m ((c.tc : Thread Cert.Proposals.nD Cert.Proposals.τ).loc Cert.Proposals.main_arg6))
      ∧ r.2.sem = fun _ => 0)

def quiescent_ProposalsIdeal [hProposalsIdeal : Cert.ProposalsIdeal.Facts] : Prop :=
  ∀ (m : (ℓ : Loc Cert.ProposalsIdeal.nD Cert.ProposalsIdeal.τ Cert.ProposalsIdeal.sig) → Buf (Elt Ideal) ℓ) (g : Dev Cert.ProposalsIdeal.nD → PrngReg), Pre_ProposalsIdeal m →
    θ_run (Cert.ProposalsIdeal.defs (F := Ideal)) (onTc (τ := Cert.ProposalsIdeal.τ) (Cert.ProposalsIdeal.main (F := Ideal))) ⟨m, fun _ => 0, g⟩ (fun r => (∀ c : Dev Cert.ProposalsIdeal.nD,
      r.2.mem ((c.tc : Thread Cert.ProposalsIdeal.nD Cert.ProposalsIdeal.τ).loc Cert.ProposalsIdeal.main_arg0) = m ((c.tc : Thread Cert.ProposalsIdeal.nD Cert.ProposalsIdeal.τ).loc Cert.ProposalsIdeal.main_arg0)
      ∧ r.2.mem ((c.tc : Thread Cert.ProposalsIdeal.nD Cert.ProposalsIdeal.τ).loc Cert.ProposalsIdeal.main_arg1) = m ((c.tc : Thread Cert.ProposalsIdeal.nD Cert.ProposalsIdeal.τ).loc Cert.ProposalsIdeal.main_arg1)
      ∧ r.2.mem ((c.tc : Thread Cert.ProposalsIdeal.nD Cert.ProposalsIdeal.τ).loc Cert.ProposalsIdeal.main_arg2) = m ((c.tc : Thread Cert.ProposalsIdeal.nD Cert.ProposalsIdeal.τ).loc Cert.ProposalsIdeal.main_arg2)
      ∧ r.2.mem ((c.tc : Thread Cert.ProposalsIdeal.nD Cert.ProposalsIdeal.τ).loc Cert.ProposalsIdeal.main_arg3) = m ((c.tc : Thread Cert.ProposalsIdeal.nD Cert.ProposalsIdeal.τ).loc Cert.ProposalsIdeal.main_arg3)
      ∧ r.2.mem ((c.tc : Thread Cert.ProposalsIdeal.nD Cert.ProposalsIdeal.τ).loc Cert.ProposalsIdeal.main_arg4) = m ((c.tc : Thread Cert.ProposalsIdeal.nD Cert.ProposalsIdeal.τ).loc Cert.ProposalsIdeal.main_arg4)
      ∧ r.2.mem ((c.tc : Thread Cert.ProposalsIdeal.nD Cert.ProposalsIdeal.τ).loc Cert.ProposalsIdeal.main_arg5) = m ((c.tc : Thread Cert.ProposalsIdeal.nD Cert.ProposalsIdeal.τ).loc Cert.ProposalsIdeal.main_arg5)
      ∧ r.2.mem ((c.tc : Thread Cert.ProposalsIdeal.nD Cert.ProposalsIdeal.τ).loc Cert.ProposalsIdeal.main_arg6) = m ((c.tc : Thread Cert.ProposalsIdeal.nD Cert.ProposalsIdeal.τ).loc Cert.ProposalsIdeal.main_arg6))
      ∧ r.2.sem = fun _ => 0)

def preserves_Kernel0_Kernel0Ideal : Prop :=
  True

def algebraic_Kernel0Ideal_Reference0Ideal [hKernel0Ideal : Cert.Kernel0Ideal.Facts] [hReference0Ideal : Cert.Reference0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)
      ∧ m' ((c.tc : Thread Cert.Reference0Ideal.nD Cert.Reference0Ideal.τ).loc Cert.Reference0Ideal.main_arg3) = m ((c.tc : Thread Cert.Kernel0Ideal.nD Cert.Kernel0Ideal.τ).loc Cert.Kernel0Ideal.main_arg3)
      ∧ m' ((c.tc : Thread Cert.Reference0Ideal.nD Cert.Reference0Ideal.τ).loc Cert.Reference0Ideal.main_arg4) = m ((c.tc : Thread Cert.Kernel0Ideal.nD Cert.Kernel0Ideal.τ).loc Cert.Kernel0Ideal.main_arg4)
      ∧ m' ((c.tc : Thread Cert.Reference0Ideal.nD Cert.Reference0Ideal.τ).loc Cert.Reference0Ideal.main_arg5) = m ((c.tc : Thread Cert.Kernel0Ideal.nD Cert.Kernel0Ideal.τ).loc Cert.Kernel0Ideal.main_arg5)
      ∧ m' ((c.tc : Thread Cert.Reference0Ideal.nD Cert.Reference0Ideal.τ).loc Cert.Reference0Ideal.main_arg6) = m ((c.tc : Thread Cert.Kernel0Ideal.nD Cert.Kernel0Ideal.τ).loc Cert.Kernel0Ideal.main_arg6)
      ∧ m' ((c.tc : Thread Cert.Reference0Ideal.nD Cert.Reference0Ideal.τ).loc Cert.Reference0Ideal.main_arg7) = m ((c.tc : Thread Cert.Kernel0Ideal.nD Cert.Kernel0Ideal.τ).loc Cert.Kernel0Ideal.main_arg7)
      ∧ m' ((c.tc : Thread Cert.Reference0Ideal.nD Cert.Reference0Ideal.τ).loc Cert.Reference0Ideal.main_arg8) = m ((c.tc : Thread Cert.Kernel0Ideal.nD Cert.Kernel0Ideal.τ).loc Cert.Kernel0Ideal.main_arg8)) →
    ∃ (v0 : (c : Dev Cert.Kernel0Ideal.nD) → Buf (Elt Ideal) ((c.tc : Thread Cert.Kernel0Ideal.nD Cert.Kernel0Ideal.τ).loc Cert.Kernel0Ideal.main_v70_0)) (v1 : (c : Dev Cert.Kernel0Ideal.nD) → Buf (Elt Ideal) ((c.tc : Thread Cert.Kernel0Ideal.nD Cert.Kernel0Ideal.τ).loc Cert.Kernel0Ideal.main_v70_1)) (v2 : (c : Dev Cert.Kernel0Ideal.nD) → Buf (Elt Ideal) ((c.tc : Thread Cert.Kernel0Ideal.nD Cert.Kernel0Ideal.τ).loc Cert.Kernel0Ideal.main_v70_2)) (v3 : (c : Dev Cert.Kernel0Ideal.nD) → Buf (Elt Ideal) ((c.tc : Thread Cert.Kernel0Ideal.nD Cert.Kernel0Ideal.τ).loc Cert.Kernel0Ideal.main_v70_3)) (v4 : (c : Dev Cert.Kernel0Ideal.nD) → Buf (Elt Ideal) ((c.tc : Thread Cert.Kernel0Ideal.nD Cert.Kernel0Ideal.τ).loc Cert.Kernel0Ideal.main_v70_4)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v70_0) = v0 c
          ∧ r.2.mem ((c.tc : Thread Cert.Kernel0Ideal.nD Cert.Kernel0Ideal.τ).loc Cert.Kernel0Ideal.main_v70_1) = v1 c
          ∧ r.2.mem ((c.tc : Thread Cert.Kernel0Ideal.nD Cert.Kernel0Ideal.τ).loc Cert.Kernel0Ideal.main_v70_2) = v2 c
          ∧ r.2.mem ((c.tc : Thread Cert.Kernel0Ideal.nD Cert.Kernel0Ideal.τ).loc Cert.Kernel0Ideal.main_v70_3) = v3 c
          ∧ r.2.mem ((c.tc : Thread Cert.Kernel0Ideal.nD Cert.Kernel0Ideal.τ).loc Cert.Kernel0Ideal.main_v70_4) = v4 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
          ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
          ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
          ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
          ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
          ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7)
          ∧ r.2.mem ((c.tc : Thread Cert.Kernel0Ideal.nD Cert.Kernel0Ideal.τ).loc Cert.Kernel0Ideal.main_arg8) = m ((c.tc : Thread Cert.Kernel0Ideal.nD Cert.Kernel0Ideal.τ).loc Cert.Kernel0Ideal.main_arg8))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v144) = v0 c
          ∧ r.2.mem ((c.tc : Thread Cert.Reference0Ideal.nD Cert.Reference0Ideal.τ).loc Cert.Reference0Ideal.main_v145) = v1 c
          ∧ r.2.mem ((c.tc : Thread Cert.Reference0Ideal.nD Cert.Reference0Ideal.τ).loc Cert.Reference0Ideal.main_v146) = v2 c
          ∧ r.2.mem ((c.tc : Thread Cert.Reference0Ideal.nD Cert.Reference0Ideal.τ).loc Cert.Reference0Ideal.main_v147) = v3 c
          ∧ r.2.mem ((c.tc : Thread Cert.Reference0Ideal.nD Cert.Reference0Ideal.τ).loc Cert.Reference0Ideal.main_v148) = v4 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2)
          ∧ r.2.mem ((c.tc : Thread Cert.Reference0Ideal.nD Cert.Reference0Ideal.τ).loc Cert.Reference0Ideal.main_arg3) = m' ((c.tc : Thread Cert.Reference0Ideal.nD Cert.Reference0Ideal.τ).loc Cert.Reference0Ideal.main_arg3)
          ∧ r.2.mem ((c.tc : Thread Cert.Reference0Ideal.nD Cert.Reference0Ideal.τ).loc Cert.Reference0Ideal.main_arg4) = m' ((c.tc : Thread Cert.Reference0Ideal.nD Cert.Reference0Ideal.τ).loc Cert.Reference0Ideal.main_arg4)
          ∧ r.2.mem ((c.tc : Thread Cert.Reference0Ideal.nD Cert.Reference0Ideal.τ).loc Cert.Reference0Ideal.main_arg5) = m' ((c.tc : Thread Cert.Reference0Ideal.nD Cert.Reference0Ideal.τ).loc Cert.Reference0Ideal.main_arg5)
          ∧ r.2.mem ((c.tc : Thread Cert.Reference0Ideal.nD Cert.Reference0Ideal.τ).loc Cert.Reference0Ideal.main_arg6) = m' ((c.tc : Thread Cert.Reference0Ideal.nD Cert.Reference0Ideal.τ).loc Cert.Reference0Ideal.main_arg6)
          ∧ r.2.mem ((c.tc : Thread Cert.Reference0Ideal.nD Cert.Reference0Ideal.τ).loc Cert.Reference0Ideal.main_arg7) = m' ((c.tc : Thread Cert.Reference0Ideal.nD Cert.Reference0Ideal.τ).loc Cert.Reference0Ideal.main_arg7)
          ∧ r.2.mem ((c.tc : Thread Cert.Reference0Ideal.nD Cert.Reference0Ideal.τ).loc Cert.Reference0Ideal.main_arg8) = m' ((c.tc : Thread Cert.Reference0Ideal.nD Cert.Reference0Ideal.τ).loc Cert.Reference0Ideal.main_arg8))

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)) →
    ∃ (v0 : (c : Dev Cert.Kernel1Ideal.nD) → Buf (Elt Ideal) ((c.tc : Thread Cert.Kernel1Ideal.nD Cert.Kernel1Ideal.τ).loc Cert.Kernel1Ideal.main_v70_0)) (v1 : (c : Dev Cert.Kernel1Ideal.nD) → Buf (Elt Ideal) ((c.tc : Thread Cert.Kernel1Ideal.nD Cert.Kernel1Ideal.τ).loc Cert.Kernel1Ideal.main_v70_1)) (v2 : (c : Dev Cert.Kernel1Ideal.nD) → Buf (Elt Ideal) ((c.tc : Thread Cert.Kernel1Ideal.nD Cert.Kernel1Ideal.τ).loc Cert.Kernel1Ideal.main_v70_2)) (v3 : (c : Dev Cert.Kernel1Ideal.nD) → Buf (Elt Ideal) ((c.tc : Thread Cert.Kernel1Ideal.nD Cert.Kernel1Ideal.τ).loc Cert.Kernel1Ideal.main_v70_3)) (v4 : (c : Dev Cert.Kernel1Ideal.nD) → Buf (Elt Ideal) ((c.tc : Thread Cert.Kernel1Ideal.nD Cert.Kernel1Ideal.τ).loc Cert.Kernel1Ideal.main_v70_4)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v70_0) = v0 c
          ∧ r.2.mem ((c.tc : Thread Cert.Kernel1Ideal.nD Cert.Kernel1Ideal.τ).loc Cert.Kernel1Ideal.main_v70_1) = v1 c
          ∧ r.2.mem ((c.tc : Thread Cert.Kernel1Ideal.nD Cert.Kernel1Ideal.τ).loc Cert.Kernel1Ideal.main_v70_2) = v2 c
          ∧ r.2.mem ((c.tc : Thread Cert.Kernel1Ideal.nD Cert.Kernel1Ideal.τ).loc Cert.Kernel1Ideal.main_v70_3) = v3 c
          ∧ r.2.mem ((c.tc : Thread Cert.Kernel1Ideal.nD Cert.Kernel1Ideal.τ).loc Cert.Kernel1Ideal.main_v70_4) = v4 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v144) = v0 c
          ∧ r.2.mem ((c.tc : Thread Cert.Reference1Ideal.nD Cert.Reference1Ideal.τ).loc Cert.Reference1Ideal.main_v145) = v1 c
          ∧ r.2.mem ((c.tc : Thread Cert.Reference1Ideal.nD Cert.Reference1Ideal.τ).loc Cert.Reference1Ideal.main_v146) = v2 c
          ∧ r.2.mem ((c.tc : Thread Cert.Reference1Ideal.nD Cert.Reference1Ideal.τ).loc Cert.Reference1Ideal.main_v147) = v3 c
          ∧ r.2.mem ((c.tc : Thread Cert.Reference1Ideal.nD Cert.Reference1Ideal.τ).loc Cert.Reference1Ideal.main_v148) = v4 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v70_0)) (v1 : (c : Dev Cert.Kernel2Ideal.nD) → Buf (Elt Ideal) ((c.tc : Thread Cert.Kernel2Ideal.nD Cert.Kernel2Ideal.τ).loc Cert.Kernel2Ideal.main_v70_1)) (v2 : (c : Dev Cert.Kernel2Ideal.nD) → Buf (Elt Ideal) ((c.tc : Thread Cert.Kernel2Ideal.nD Cert.Kernel2Ideal.τ).loc Cert.Kernel2Ideal.main_v70_2)) (v3 : (c : Dev Cert.Kernel2Ideal.nD) → Buf (Elt Ideal) ((c.tc : Thread Cert.Kernel2Ideal.nD Cert.Kernel2Ideal.τ).loc Cert.Kernel2Ideal.main_v70_3)) (v4 : (c : Dev Cert.Kernel2Ideal.nD) → Buf (Elt Ideal) ((c.tc : Thread Cert.Kernel2Ideal.nD Cert.Kernel2Ideal.τ).loc Cert.Kernel2Ideal.main_v70_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v70_0) = v0 c
          ∧ r.2.mem ((c.tc : Thread Cert.Kernel2Ideal.nD Cert.Kernel2Ideal.τ).loc Cert.Kernel2Ideal.main_v70_1) = v1 c
          ∧ r.2.mem ((c.tc : Thread Cert.Kernel2Ideal.nD Cert.Kernel2Ideal.τ).loc Cert.Kernel2Ideal.main_v70_2) = v2 c
          ∧ r.2.mem ((c.tc : Thread Cert.Kernel2Ideal.nD Cert.Kernel2Ideal.τ).loc Cert.Kernel2Ideal.main_v70_3) = v3 c
          ∧ r.2.mem ((c.tc : Thread Cert.Kernel2Ideal.nD Cert.Kernel2Ideal.τ).loc Cert.Kernel2Ideal.main_v70_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v144) = v0 c
          ∧ r.2.mem ((c.tc : Thread Cert.Reference2Ideal.nD Cert.Reference2Ideal.τ).loc Cert.Reference2Ideal.main_v145) = v1 c
          ∧ r.2.mem ((c.tc : Thread Cert.Reference2Ideal.nD Cert.Reference2Ideal.τ).loc Cert.Reference2Ideal.main_v146) = v2 c
          ∧ r.2.mem ((c.tc : Thread Cert.Reference2Ideal.nD Cert.Reference2Ideal.τ).loc Cert.Reference2Ideal.main_v147) = v3 c
          ∧ r.2.mem ((c.tc : Thread Cert.Reference2Ideal.nD Cert.Reference2Ideal.τ).loc Cert.Reference2Ideal.main_v148) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v70_0)) (v1 : (c : Dev Cert.Kernel3Ideal.nD) → Buf (Elt Ideal) ((c.tc : Thread Cert.Kernel3Ideal.nD Cert.Kernel3Ideal.τ).loc Cert.Kernel3Ideal.main_v70_1)) (v2 : (c : Dev Cert.Kernel3Ideal.nD) → Buf (Elt Ideal) ((c.tc : Thread Cert.Kernel3Ideal.nD Cert.Kernel3Ideal.τ).loc Cert.Kernel3Ideal.main_v70_2)) (v3 : (c : Dev Cert.Kernel3Ideal.nD) → Buf (Elt Ideal) ((c.tc : Thread Cert.Kernel3Ideal.nD Cert.Kernel3Ideal.τ).loc Cert.Kernel3Ideal.main_v70_3)) (v4 : (c : Dev Cert.Kernel3Ideal.nD) → Buf (Elt Ideal) ((c.tc : Thread Cert.Kernel3Ideal.nD Cert.Kernel3Ideal.τ).loc Cert.Kernel3Ideal.main_v70_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v70_0) = v0 c
          ∧ r.2.mem ((c.tc : Thread Cert.Kernel3Ideal.nD Cert.Kernel3Ideal.τ).loc Cert.Kernel3Ideal.main_v70_1) = v1 c
          ∧ r.2.mem ((c.tc : Thread Cert.Kernel3Ideal.nD Cert.Kernel3Ideal.τ).loc Cert.Kernel3Ideal.main_v70_2) = v2 c
          ∧ r.2.mem ((c.tc : Thread Cert.Kernel3Ideal.nD Cert.Kernel3Ideal.τ).loc Cert.Kernel3Ideal.main_v70_3) = v3 c
          ∧ r.2.mem ((c.tc : Thread Cert.Kernel3Ideal.nD Cert.Kernel3Ideal.τ).loc Cert.Kernel3Ideal.main_v70_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v144) = v0 c
          ∧ r.2.mem ((c.tc : Thread Cert.Reference3Ideal.nD Cert.Reference3Ideal.τ).loc Cert.Reference3Ideal.main_v145) = v1 c
          ∧ r.2.mem ((c.tc : Thread Cert.Reference3Ideal.nD Cert.Reference3Ideal.τ).loc Cert.Reference3Ideal.main_v146) = v2 c
          ∧ r.2.mem ((c.tc : Thread Cert.Reference3Ideal.nD Cert.Reference3Ideal.τ).loc Cert.Reference3Ideal.main_v147) = v3 c
          ∧ r.2.mem ((c.tc : Thread Cert.Reference3Ideal.nD Cert.Reference3Ideal.τ).loc Cert.Reference3Ideal.main_v148) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v70_0)) (v1 : (c : Dev Cert.Kernel4Ideal.nD) → Buf (Elt Ideal) ((c.tc : Thread Cert.Kernel4Ideal.nD Cert.Kernel4Ideal.τ).loc Cert.Kernel4Ideal.main_v70_1)) (v2 : (c : Dev Cert.Kernel4Ideal.nD) → Buf (Elt Ideal) ((c.tc : Thread Cert.Kernel4Ideal.nD Cert.Kernel4Ideal.τ).loc Cert.Kernel4Ideal.main_v70_2)) (v3 : (c : Dev Cert.Kernel4Ideal.nD) → Buf (Elt Ideal) ((c.tc : Thread Cert.Kernel4Ideal.nD Cert.Kernel4Ideal.τ).loc Cert.Kernel4Ideal.main_v70_3)) (v4 : (c : Dev Cert.Kernel4Ideal.nD) → Buf (Elt Ideal) ((c.tc : Thread Cert.Kernel4Ideal.nD Cert.Kernel4Ideal.τ).loc Cert.Kernel4Ideal.main_v70_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v70_0) = v0 c
          ∧ r.2.mem ((c.tc : Thread Cert.Kernel4Ideal.nD Cert.Kernel4Ideal.τ).loc Cert.Kernel4Ideal.main_v70_1) = v1 c
          ∧ r.2.mem ((c.tc : Thread Cert.Kernel4Ideal.nD Cert.Kernel4Ideal.τ).loc Cert.Kernel4Ideal.main_v70_2) = v2 c
          ∧ r.2.mem ((c.tc : Thread Cert.Kernel4Ideal.nD Cert.Kernel4Ideal.τ).loc Cert.Kernel4Ideal.main_v70_3) = v3 c
          ∧ r.2.mem ((c.tc : Thread Cert.Kernel4Ideal.nD Cert.Kernel4Ideal.τ).loc Cert.Kernel4Ideal.main_v70_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v144) = v0 c
          ∧ r.2.mem ((c.tc : Thread Cert.Reference4Ideal.nD Cert.Reference4Ideal.τ).loc Cert.Reference4Ideal.main_v145) = v1 c
          ∧ r.2.mem ((c.tc : Thread Cert.Reference4Ideal.nD Cert.Reference4Ideal.τ).loc Cert.Reference4Ideal.main_v146) = v2 c
          ∧ r.2.mem ((c.tc : Thread Cert.Reference4Ideal.nD Cert.Reference4Ideal.τ).loc Cert.Reference4Ideal.main_v147) = v3 c
          ∧ r.2.mem ((c.tc : Thread Cert.Reference4Ideal.nD Cert.Reference4Ideal.τ).loc Cert.Reference4Ideal.main_v148) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Proposals_ProposalsIdeal : Prop :=
  True

def holds_ProposalsIdeal_picked_in_turn [hProposalsIdeal : Cert.ProposalsIdeal.Facts] [hPost_picked_in_turn : Cert.Post_picked_in_turn.Facts] : Prop :=
  ∀ (m : (ℓ : Loc Cert.ProposalsIdeal.nD Cert.ProposalsIdeal.τ Cert.ProposalsIdeal.sig) → Buf (Elt Ideal) ℓ) (g : Dev Cert.ProposalsIdeal.nD → PrngReg), Pre_ProposalsIdeal m →
    θ_run (Cert.ProposalsIdeal.defs (F := Ideal)) (onTc (τ := Cert.ProposalsIdeal.τ) (Cert.ProposalsIdeal.main (F := Ideal))) ⟨m, fun _ => 0, g⟩ (fun r => ∀ c : Dev Cert.ProposalsIdeal.nD,
      r.2.mem ((c.tc : Thread Cert.ProposalsIdeal.nD Cert.ProposalsIdeal.τ).loc Cert.ProposalsIdeal.main_arg0) = m ((c.tc : Thread Cert.ProposalsIdeal.nD Cert.ProposalsIdeal.τ).loc Cert.ProposalsIdeal.main_arg0)
      ∧ r.2.mem ((c.tc : Thread Cert.ProposalsIdeal.nD Cert.ProposalsIdeal.τ).loc Cert.ProposalsIdeal.main_arg1) = m ((c.tc : Thread Cert.ProposalsIdeal.nD Cert.ProposalsIdeal.τ).loc Cert.ProposalsIdeal.main_arg1)
      ∧ r.2.mem ((c.tc : Thread Cert.ProposalsIdeal.nD Cert.ProposalsIdeal.τ).loc Cert.ProposalsIdeal.main_arg2) = m ((c.tc : Thread Cert.ProposalsIdeal.nD Cert.ProposalsIdeal.τ).loc Cert.ProposalsIdeal.main_arg2)
      ∧ r.2.mem ((c.tc : Thread Cert.ProposalsIdeal.nD Cert.ProposalsIdeal.τ).loc Cert.ProposalsIdeal.main_arg3) = m ((c.tc : Thread Cert.ProposalsIdeal.nD Cert.ProposalsIdeal.τ).loc Cert.ProposalsIdeal.main_arg3)
      ∧ r.2.mem ((c.tc : Thread Cert.ProposalsIdeal.nD Cert.ProposalsIdeal.τ).loc Cert.ProposalsIdeal.main_arg4) = m ((c.tc : Thread Cert.ProposalsIdeal.nD Cert.ProposalsIdeal.τ).loc Cert.ProposalsIdeal.main_arg4)
      ∧ r.2.mem ((c.tc : Thread Cert.ProposalsIdeal.nD Cert.ProposalsIdeal.τ).loc Cert.ProposalsIdeal.main_arg5) = m ((c.tc : Thread Cert.ProposalsIdeal.nD Cert.ProposalsIdeal.τ).loc Cert.ProposalsIdeal.main_arg5)
      ∧ r.2.mem ((c.tc : Thread Cert.ProposalsIdeal.nD Cert.ProposalsIdeal.τ).loc Cert.ProposalsIdeal.main_arg6) = m ((c.tc : Thread Cert.ProposalsIdeal.nD Cert.ProposalsIdeal.τ).loc Cert.ProposalsIdeal.main_arg6)
      ∧ (Cert.Post_picked_in_turn.fn (F := Ideal) (m ((c.tc : Thread Cert.ProposalsIdeal.nD Cert.ProposalsIdeal.τ).loc Cert.ProposalsIdeal.main_arg0)) (m ((c.tc : Thread Cert.ProposalsIdeal.nD Cert.ProposalsIdeal.τ).loc Cert.ProposalsIdeal.main_arg1)) (m ((c.tc : Thread Cert.ProposalsIdeal.nD Cert.ProposalsIdeal.τ).loc Cert.ProposalsIdeal.main_arg2)) (m ((c.tc : Thread Cert.ProposalsIdeal.nD Cert.ProposalsIdeal.τ).loc Cert.ProposalsIdeal.main_arg3)) (m ((c.tc : Thread Cert.ProposalsIdeal.nD Cert.ProposalsIdeal.τ).loc Cert.ProposalsIdeal.main_arg4)) (m ((c.tc : Thread Cert.ProposalsIdeal.nD Cert.ProposalsIdeal.τ).loc Cert.ProposalsIdeal.main_arg5)) (m ((c.tc : Thread Cert.ProposalsIdeal.nD Cert.ProposalsIdeal.τ).loc Cert.ProposalsIdeal.main_arg6)) (r.2.mem ((c.tc : Thread Cert.ProposalsIdeal.nD Cert.ProposalsIdeal.τ).loc Cert.ProposalsIdeal.main_v0))) = (fun _ => 1#1))

def Claim : Prop :=
  ∃ (hKernel0 : Cert.Kernel0.Facts) (hKernel0Ideal : Cert.Kernel0Ideal.Facts) (hReference0Ideal : Cert.Reference0Ideal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hProposals : Cert.Proposals.Facts) (hProposalsIdeal : Cert.ProposalsIdeal.Facts) (hPost_picked_in_turn : Cert.Post_picked_in_turn.Facts),
    quiescent_Kernel0 (hKernel0 := hKernel0)
    ∧ quiescent_Kernel0Ideal (hKernel0Ideal := hKernel0Ideal)
    ∧ quiescent_Reference0Ideal (hReference0Ideal := hReference0Ideal)
    ∧ quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Proposals (hProposals := hProposals)
    ∧ quiescent_ProposalsIdeal (hProposalsIdeal := hProposalsIdeal)
    ∧ preserves_Kernel0_Kernel0Ideal
    ∧ algebraic_Kernel0Ideal_Reference0Ideal (hKernel0Ideal := hKernel0Ideal) (hReference0Ideal := hReference0Ideal)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Proposals_ProposalsIdeal
    ∧ holds_ProposalsIdeal_picked_in_turn (hProposalsIdeal := hProposalsIdeal) (hPost_picked_in_turn := hPost_picked_in_turn)
-- ==== Post_picked_in_turn.lean ====
abbrev S288x128 : Shape := ⟨2, ![288, 128]⟩
abbrev S1024x8 : Shape := ⟨2, ![1024, 8]⟩
abbrev S_ : Shape := ⟨0, ![]⟩
abbrev S288x128x288x128 : Shape := ⟨4, ![288, 128, 288, 128]⟩
abbrev S1024x1 : Shape := ⟨2, ![1024, 1]⟩
abbrev S1024x288x128 : Shape := ⟨3, ![1024, 288, 128]⟩
abbrev S1024x1024 : Shape := ⟨2, ![1024, 1024]⟩
abbrev S1024x1024x288x128 : Shape := ⟨4, ![1024, 1024, 288, 128]⟩
abbrev S1024 : Shape := ⟨1, ![1024]⟩
abbrev S1024x4 : Shape := ⟨2, ![1024, 4]⟩
abbrev S1x8 : Shape := ⟨2, ![1, 8]⟩

class Facts : Prop where
  bcast_S_S288x128 : S_.BroadcastsInDim S288x128 (![] : Fin 0 → Fin S288x128.rank)
  bcast_S288x128_S288x128x288x128_2_3 : S288x128.BroadcastsInDim S288x128x288x128 (![2, 3] : Fin 2 → Fin S288x128x288x128.rank)
  bcast_S288x128_S288x128x288x128_0_1 : S288x128.BroadcastsInDim S288x128x288x128 (![0, 1] : Fin 2 → Fin S288x128x288x128.rank)
  bcast_S_S288x128x288x128 : S_.BroadcastsInDim S288x128x288x128 (![] : Fin 0 → Fin S288x128x288x128.rank)
  reducesTo_S288x128x288x128_S288x128_d2_3 : S288x128x288x128.ReducesTo [2, 3] S288x128
  h_S_ : 0 < S_.numel
  reducesTo_S288x128_S_d0_1 : S288x128.ReducesTo [0, 1] S_
  slices_S1024x8_S1024x1_0_0 : S1024x8.Slices ![0, 0] S1024x1
  bcast_S1024x1_S1024x288x128_0_1 : S1024x1.BroadcastsInDim S1024x288x128 (![0, 1] : Fin 2 → Fin S1024x288x128.rank)
  slices_S1024x8_S1024x1_0_1 : S1024x8.Slices ![0, 1] S1024x1
  slices_S1024x8_S1024x1_0_2 : S1024x8.Slices ![0, 2] S1024x1
  slices_S1024x8_S1024x1_0_3 : S1024x8.Slices ![0, 3] S1024x1
  bcast_S288x128_S1024x288x128_1_2 : S288x128.BroadcastsInDim S1024x288x128 (![1, 2] : Fin 2 → Fin S1024x288x128.rank)
  bcast_S_S1024x288x128 : S_.BroadcastsInDim S1024x288x128 (![] : Fin 0 → Fin S1024x288x128.rank)
  bcast_S1024x1024_S1024x1024x288x128_0_1 : S1024x1024.BroadcastsInDim S1024x1024x288x128 (![0, 1] : Fin 2 → Fin S1024x1024x288x128.rank)
  bcast_S1024x288x128_S1024x1024x288x128_1_2_3 : S1024x288x128.BroadcastsInDim S1024x1024x288x128 (![1, 2, 3] : Fin 3 → Fin S1024x1024x288x128.rank)
  reducesTo_S1024x1024x288x128_S1024x288x128_d1 : S1024x1024x288x128.ReducesTo [1] S1024x288x128
  reducesTo_S1024x288x128_S1024_d1_2 : S1024x288x128.ReducesTo [1, 2] S1024
  bcast_S1024_S1024x288x128_0 : S1024.BroadcastsInDim S1024x288x128 (![0] : Fin 1 → Fin S1024x288x128.rank)
  slices_S1024x8_S1024x4_0_4 : S1024x8.Slices ![0, 4] S1024x4
  bcast_S_S1024x4 : S_.BroadcastsInDim S1024x4 (![] : Fin 0 → Fin S1024x4.rank)
  reducesTo_S1024x4_S1024_d1 : S1024x4.ReducesTo [1] S1024
  slices_S1024x8_S1x8_0_0 : S1024x8.Slices ![0, 0] S1x8
  bcast_S1x8_S1024x8_0_1 : S1x8.BroadcastsInDim S1024x8 (![0, 1] : Fin 2 → Fin S1024x8.rank)
  reducesTo_S1024x8_S1024_d1 : S1024x8.ReducesTo [1] S1024
  bcast_S_S1024 : S_.BroadcastsInDim S1024 (![] : Fin 0 → Fin S1024.rank)

variable [Facts]

def fn_where {F : FTy → Type} [FloatOps F] (arg0 : IVec S288x128x288x128 1) (arg1 : FVec F S_ .f32) (arg2 : FVec F S_ .f32) : FVec F S288x128x288x128 .f32 :=
  let v0 : FVec F S288x128x288x128 .f32 := broadcastInDim S288x128x288x128 ![] bcast_S_S288x128x288x128 arg1
  let v1 : FVec F S288x128x288x128 .f32 := broadcastInDim S288x128x288x128 ![] bcast_S_S288x128x288x128 arg2
  let v2 : FVec F S288x128x288x128 .f32 := select arg0 v0 v1
  v2

def fn_where_0 {F : FTy → Type} [FloatOps F] (arg0 : IVec S288x128 1) (arg1 : IVec S_ 32) (arg2 : IVec S_ 32) : IVec S288x128 32 :=
  let v0 : IVec S288x128 32 := broadcastInDim S288x128 ![] bcast_S_S288x128 arg1
  let v1 : IVec S288x128 32 := broadcastInDim S288x128 ![] bcast_S_S288x128 arg2
  let v2 : IVec S288x128 32 := select arg0 v0 v1
  v2

def fn_where_1 {F : FTy → Type} [FloatOps F] (arg0 : IVec S288x128 1) (arg1 : IVec S_ 32) (arg2 : IVec S288x128 32) : IVec S288x128 32 :=
  let v0 : IVec S288x128 32 := broadcastInDim S288x128 ![] bcast_S_S288x128 arg1
  let v1 : IVec S288x128 32 := select arg0 v0 arg2
  v1

def fn_where_2 {F : FTy → Type} [FloatOps F] (arg0 : IVec S1024x288x128 1) (arg1 : FVec F S1024x288x128 .f32) (arg2 : FVec F S_ .f32) : FVec F S1024x288x128 .f32 :=
  let v0 : FVec F S_ .f32 := id arg2
  let v1 : FVec F S1024x288x128 .f32 := broadcastInDim S1024x288x128 ![] bcast_S_S1024x288x128 v0
  let v2 : FVec F S1024x288x128 .f32 := select arg0 arg1 v1
  v2

def fn_part8 {F : FTy → Type} [FloatOps F] (main_v129 : IVec S1024x288x128 1) (main_v149 : IVec S1024 1) (main_v153 : IVec S1024 1) : IVec S1024 1 :=
  let main_v154 : IVec S1024x288x128 1 := noti main_v129
  let main_c_36 : IVec S_ 1 := constantI S_ 1 1#1
  let main_v155 : IVec S1024 1 := (fun x v => Host.reduce IntOp.andi x v reducesTo_S1024x288x128_S1024_d1_2 h_S_) main_v154 main_c_36
  let main_v156 : IVec S1024 32 := iotaInDim S1024 32 0
  let main_c_37 : IVec S_ 32 := constantI S_ 32 1000#32
  let main_v157 : IVec S1024 32 := broadcastInDim S1024 ![] bcast_S_S1024 main_c_37
  let main_v158 : IVec S1024 1 := cmpi .sge main_v156 main_v157
  let main_v159 : IVec S1024 1 := ori main_v155 main_v158
  let main_v160 : IVec S1024 1 := andi main_v153 main_v159
  let main_v161 : IVec S1024 1 := ori main_v149 main_v160
  main_v161

def fn_part7 {F : FTy → Type} [FloatOps F] (main_arg7 : FVec F S1024x8 .f32) (main_v104 : IVec S1024x288x128 1) (main_v111 : IVec S1024x288x128 1) (main_v114 : IVec S1024x1024 1) (main_v117 : IVec S1024x288x128 1) (main_v118 : FVec F S1024x288x128 .f32) (main_v120 : IVec S1024x288x128 1) (main_v129 : IVec S1024x288x128 1) (main_v132 : FVec F S1024x288x128 .f32) (main_v133 : FVec F S1024x4 .f32) (main_cst_31 : FVec F S_ .f32) : IVec S1024 1 :=
  let main_v134 : FVec F S1024x4 .f32 := broadcastInDim S1024x4 ![] bcast_S_S1024x4 main_cst_31
  let main_v135 : IVec S1024x4 1 := cmpf .oeq main_v133 main_v134
  let main_c_32 : IVec S_ 1 := constantI S_ 1 1#1
  let main_v136 : IVec S1024 1 := (fun x v => Host.reduce IntOp.andi x v reducesTo_S1024x4_S1024_d1 h_S_) main_v135 main_c_32
  let main_v137 : IVec S1024x288x128 1 := broadcastInDim S1024x288x128 ![0] bcast_S1024_S1024x288x128_0 main_v136
  let main_v138 : IVec S1024x288x128 1 := andi main_v111 main_v120
  let main_v139 : IVec S1024x288x128 1 := andi main_v138 main_v117
  let main_v140 : IVec S1024x1024x288x128 1 := broadcastInDim S1024x1024x288x128 ![0, 1] bcast_S1024x1024_S1024x1024x288x128_0_1 main_v114
  let main_v141 : IVec S1024x1024x288x128 1 := broadcastInDim S1024x1024x288x128 ![1, 2, 3] bcast_S1024x288x128_S1024x1024x288x128_1_2_3 main_v104
  let main_v142 : IVec S1024x1024x288x128 1 := andi main_v140 main_v141
  let main_c_33 : IVec S_ 1 := constantI S_ 1 0#1
  let main_v143 : IVec S1024x288x128 1 := (fun x v => Host.reduce IntOp.ori x v reducesTo_S1024x1024x288x128_S1024x288x128_d1 h_S_) main_v142 main_c_33
  let main_v144 : IVec S1024x288x128 1 := noti main_v143
  let main_v145 : IVec S1024x288x128 1 := andi main_v139 main_v144
  let main_v146 : IVec S1024x288x128 1 := cmpf .oge main_v118 main_v132
  let main_v147 : IVec S1024x288x128 1 := andi main_v145 main_v146
  let main_v148 : IVec S1024x288x128 1 := andi main_v147 main_v137
  let main_c_34 : IVec S_ 1 := constantI S_ 1 0#1
  let main_v149 : IVec S1024 1 := (fun x v => Host.reduce IntOp.ori x v reducesTo_S1024x288x128_S1024_d1_2 h_S_) main_v148 main_c_34
  let main_v150 : FVec F S1x8 .f32 := (extractStridedSlice S1x8 ![0, 0] · slices_S1024x8_S1x8_0_0) main_arg7
  let main_v151 : FVec F S1024x8 .f32 := broadcastInDim S1024x8 ![0, 1] bcast_S1x8_S1024x8_0_1 main_v150
  let main_v152 : IVec S1024x8 1 := cmpf .oeq main_arg7 main_v151
  let main_c_35 : IVec S_ 1 := constantI S_ 1 1#1
  let main_v153 : IVec S1024 1 := (fun x v => Host.reduce IntOp.andi x v reducesTo_S1024x8_S1024_d1 h_S_) main_v152 main_c_35
  fn_part8 (F := F) main_v129 main_v149 main_v153

def fn_part6 {F : FTy → Type} [FloatOps F] (main_arg0 : FVec F S288x128 .f32) (main_arg7 : FVec F S1024x8 .f32) (main_v50 : IVec S288x128 1) (main_v68 : IVec S288x128 1) (main_v104 : IVec S1024x288x128 1) (main_v111 : IVec S1024x288x128 1) (main_v114 : IVec S1024x1024 1) : IVec S1024 1 :=
  let main_v115 : IVec S288x128 1 := noti main_v50
  let main_v116 : IVec S288x128 1 := ori main_v68 main_v115
  let main_v117 : IVec S1024x288x128 1 := broadcastInDim S1024x288x128 ![1, 2] bcast_S288x128_S1024x288x128_1_2 main_v116
  let main_v118 : FVec F S1024x288x128 .f32 := broadcastInDim S1024x288x128 ![1, 2] bcast_S288x128_S1024x288x128_1_2 main_arg0
  let main_cst_27 : FVec F S_ .f32 := constant S_ .f32 0x00000000#32
  let main_v119 : FVec F S1024x288x128 .f32 := broadcastInDim S1024x288x128 ![] bcast_S_S1024x288x128 main_cst_27
  let main_v120 : IVec S1024x288x128 1 := cmpf .ogt main_v118 main_v119
  let main_v121 : IVec S1024x288x128 1 := broadcastInDim S1024x288x128 ![1, 2] bcast_S288x128_S1024x288x128_1_2 main_v68
  let main_v122 : IVec S1024x288x128 1 := andi main_v121 main_v120
  let main_v123 : IVec S1024x288x128 1 := ori main_v104 main_v111
  let main_v124 : IVec S1024x1024x288x128 1 := broadcastInDim S1024x1024x288x128 ![0, 1] bcast_S1024x1024_S1024x1024x288x128_0_1 main_v114
  let main_v125 : IVec S1024x1024x288x128 1 := broadcastInDim S1024x1024x288x128 ![1, 2, 3] bcast_S1024x288x128_S1024x1024x288x128_1_2_3 main_v123
  let main_v126 : IVec S1024x1024x288x128 1 := andi main_v124 main_v125
  let main_c_28 : IVec S_ 1 := constantI S_ 1 0#1
  let main_v127 : IVec S1024x288x128 1 := (fun x v => Host.reduce IntOp.ori x v reducesTo_S1024x1024x288x128_S1024x288x128_d1 h_S_) main_v126 main_c_28
  let main_v128 : IVec S1024x288x128 1 := noti main_v127
  let main_v129 : IVec S1024x288x128 1 := andi main_v122 main_v128
  let main_cst_29 : FVec F S_ .f32 := constant S_ .f32 0x00000000#32
  let main_v130 : FVec F S1024x288x128 .f32 := fn_where_2 (F := F) main_v129 main_v118 main_cst_29
  let main_cst_30 : FVec F S_ .f32 := constant S_ .f32 0xFF800000#32
  let main_v131 : FVec F S1024 .f32 := (fun x v => Host.reduce FloatOps.maximumf x v reducesTo_S1024x288x128_S1024_d1_2 h_S_) main_v130 main_cst_30
  let main_v132 : FVec F S1024x288x128 .f32 := broadcastInDim S1024x288x128 ![0] bcast_S1024_S1024x288x128_0 main_v131
  let main_v133 : FVec F S1024x4 .f32 := (extractStridedSlice S1024x4 ![0, 4] · slices_S1024x8_S1024x4_0_4) main_arg7
  let main_cst_31 : FVec F S_ .f32 := constant S_ .f32 0x00000000#32
  fn_part7 (F := F) main_arg7 main_v104 main_v111 main_v114 main_v117 main_v118 main_v120 main_v129 main_v132 main_v133 main_cst_31

def fn_part5 {F : FTy → Type} [FloatOps F] (main_arg0 : FVec F S288x128 .f32) (main_arg7 : FVec F S1024x8 .f32) (main_v50 : IVec S288x128 1) (main_v68 : IVec S288x128 1) (main_v70 : FVec F S1024x288x128 .f32) (main_v72 : FVec F S1024x288x128 .f32) (main_v74 : FVec F S1024x288x128 .f32) (main_v76 : FVec F S1024x288x128 .f32) (main_v77 : FVec F S1024x288x128 .f32) (main_v78 : FVec F S1024x288x128 .f32) (main_v79 : FVec F S1024x288x128 .f32) (main_v80 : FVec F S1024x288x128 .f32) (main_v91 : FVec F S1024x288x128 .f32) (main_v92 : FVec F S1024x288x128 .f32) : IVec S1024 1 :=
  let main_v93 : FVec F S1024x288x128 .f32 := subf main_v80 main_v78
  let main_v94 : FVec F S1024x288x128 .f32 := mulf main_v92 main_v93
  let main_v95 : FVec F S1024x288x128 .f32 := subf main_v74 main_v70
  let main_v96 : FVec F S1024x288x128 .f32 := subf main_v76 main_v72
  let main_v97 : FVec F S1024x288x128 .f32 := mulf main_v95 main_v96
  let main_v98 : FVec F S1024x288x128 .f32 := addf main_v94 main_v97
  let main_v99 : FVec F S1024x288x128 .f32 := subf main_v98 main_v91
  let main_cst_25 : FVec F S_ .f32 := constant S_ .f32 0x3089705F#32
  let main_v100 : FVec F S1024x288x128 .f32 := broadcastInDim S1024x288x128 ![] bcast_S_S1024x288x128 main_cst_25
  let main_v101 : FVec F S1024x288x128 .f32 := addf main_v99 main_v100
  let main_cst_26 : FVec F S_ .f32 := constant S_ .f32 0x3F333333#32
  let main_v102 : FVec F S1024x288x128 .f32 := broadcastInDim S1024x288x128 ![] bcast_S_S1024x288x128 main_cst_26
  let main_v103 : FVec F S1024x288x128 .f32 := mulf main_v102 main_v101
  let main_v104 : IVec S1024x288x128 1 := cmpf .ogt main_v91 main_v103
  let main_v105 : IVec S1024x288x128 1 := cmpf .oeq main_v77 main_v70
  let main_v106 : IVec S1024x288x128 1 := cmpf .oeq main_v78 main_v72
  let main_v107 : IVec S1024x288x128 1 := andi main_v105 main_v106
  let main_v108 : IVec S1024x288x128 1 := cmpf .oeq main_v79 main_v74
  let main_v109 : IVec S1024x288x128 1 := andi main_v107 main_v108
  let main_v110 : IVec S1024x288x128 1 := cmpf .oeq main_v80 main_v76
  let main_v111 : IVec S1024x288x128 1 := andi main_v109 main_v110
  let main_v112 : IVec S1024x1024 32 := iotaInDim S1024x1024 32 0
  let main_v113 : IVec S1024x1024 32 := iotaInDim S1024x1024 32 1
  let main_v114 : IVec S1024x1024 1 := cmpi .slt main_v113 main_v112
  fn_part6 (F := F) main_arg0 main_arg7 main_v50 main_v68 main_v104 main_v111 main_v114

def fn_part4 {F : FTy → Type} [FloatOps F] (main_arg0 : FVec F S288x128 .f32) (main_arg2 : FVec F S288x128 .f32) (main_arg3 : FVec F S288x128 .f32) (main_arg4 : FVec F S288x128 .f32) (main_arg5 : FVec F S288x128 .f32) (main_arg7 : FVec F S1024x8 .f32) (main_v50 : IVec S288x128 1) (main_v68 : IVec S288x128 1) (main_v70 : FVec F S1024x288x128 .f32) : IVec S1024 1 :=
  let main_v71 : FVec F S1024x1 .f32 := (extractStridedSlice S1024x1 ![0, 1] · slices_S1024x8_S1024x1_0_1) main_arg7
  let main_v72 : FVec F S1024x288x128 .f32 := broadcastInDim S1024x288x128 ![0, 1] bcast_S1024x1_S1024x288x128_0_1 main_v71
  let main_v73 : FVec F S1024x1 .f32 := (extractStridedSlice S1024x1 ![0, 2] · slices_S1024x8_S1024x1_0_2) main_arg7
  let main_v74 : FVec F S1024x288x128 .f32 := broadcastInDim S1024x288x128 ![0, 1] bcast_S1024x1_S1024x288x128_0_1 main_v73
  let main_v75 : FVec F S1024x1 .f32 := (extractStridedSlice S1024x1 ![0, 3] · slices_S1024x8_S1024x1_0_3) main_arg7
  let main_v76 : FVec F S1024x288x128 .f32 := broadcastInDim S1024x288x128 ![0, 1] bcast_S1024x1_S1024x288x128_0_1 main_v75
  let main_v77 : FVec F S1024x288x128 .f32 := broadcastInDim S1024x288x128 ![1, 2] bcast_S288x128_S1024x288x128_1_2 main_arg2
  let main_v78 : FVec F S1024x288x128 .f32 := broadcastInDim S1024x288x128 ![1, 2] bcast_S288x128_S1024x288x128_1_2 main_arg3
  let main_v79 : FVec F S1024x288x128 .f32 := broadcastInDim S1024x288x128 ![1, 2] bcast_S288x128_S1024x288x128_1_2 main_arg4
  let main_v80 : FVec F S1024x288x128 .f32 := broadcastInDim S1024x288x128 ![1, 2] bcast_S288x128_S1024x288x128_1_2 main_arg5
  let main_v81 : FVec F S1024x288x128 .f32 := minimumf main_v79 main_v74
  let main_v82 : FVec F S1024x288x128 .f32 := maximumf main_v77 main_v70
  let main_v83 : FVec F S1024x288x128 .f32 := subf main_v81 main_v82
  let main_cst_23 : FVec F S_ .f32 := constant S_ .f32 0x00000000#32
  let main_v84 : FVec F S1024x288x128 .f32 := broadcastInDim S1024x288x128 ![] bcast_S_S1024x288x128 main_cst_23
  let main_v85 : FVec F S1024x288x128 .f32 := maximumf main_v83 main_v84
  let main_v86 : FVec F S1024x288x128 .f32 := minimumf main_v80 main_v76
  let main_v87 : FVec F S1024x288x128 .f32 := maximumf main_v78 main_v72
  let main_v88 : FVec F S1024x288x128 .f32 := subf main_v86 main_v87
  let main_cst_24 : FVec F S_ .f32 := constant S_ .f32 0x00000000#32
  let main_v89 : FVec F S1024x288x128 .f32 := broadcastInDim S1024x288x128 ![] bcast_S_S1024x288x128 main_cst_24
  let main_v90 : FVec F S1024x288x128 .f32 := maximumf main_v88 main_v89
  let main_v91 : FVec F S1024x288x128 .f32 := mulf main_v85 main_v90
  let main_v92 : FVec F S1024x288x128 .f32 := subf main_v79 main_v77
  fn_part5 (F := F) main_arg0 main_arg7 main_v50 main_v68 main_v70 main_v72 main_v74 main_v76 main_v77 main_v78 main_v79 main_v80 main_v91 main_v92

def fn_part3 {F : FTy → Type} [FloatOps F] (main_arg0 : FVec F S288x128 .f32) (main_arg2 : FVec F S288x128 .f32) (main_arg3 : FVec F S288x128 .f32) (main_arg4 : FVec F S288x128 .f32) (main_arg5 : FVec F S288x128 .f32) (main_arg6 : IVec S288x128 32) (main_arg7 : FVec F S1024x8 .f32) (main_v22 : FVec F S288x128 .f32) (main_v50 : IVec S288x128 1) (main_v51 : IVec S288x128 32) : IVec S1024 1 :=
  let main_v52 : IVec S288x128 1 := cmpi .eq main_arg6 main_v51
  let main_c_18 : IVec S_ 32 := constantI S_ 32 3#32
  let main_v53 : IVec S288x128 32 := broadcastInDim S288x128 ![] bcast_S_S288x128 main_c_18
  let main_v54 : IVec S288x128 1 := cmpi .eq main_arg6 main_v53
  let main_v55 : IVec S288x128 1 := ori main_v52 main_v54
  let main_c_19 : IVec S_ 32 := constantI S_ 32 4#32
  let main_v56 : IVec S288x128 32 := broadcastInDim S288x128 ![] bcast_S_S288x128 main_c_19
  let main_v57 : IVec S288x128 1 := cmpi .eq main_arg6 main_v56
  let main_v58 : IVec S288x128 1 := ori main_v55 main_v57
  let main_cst_20 : FVec F S_ .f32 := constant S_ .f32 0x447A0000#32
  let main_v59 : FVec F S288x128 .f32 := broadcastInDim S288x128 ![] bcast_S_S288x128 main_cst_20
  let main_v60 : IVec S288x128 1 := cmpf .olt main_v22 main_v59
  let main_v61 : IVec S288x128 1 := andi main_v58 main_v60
  let main_c_21 : IVec S_ 32 := constantI S_ 32 0#32
  let main_v62 : IVec S288x128 32 := broadcastInDim S288x128 ![] bcast_S_S288x128 main_c_21
  let main_v63 : IVec S288x128 1 := cmpi .eq main_arg6 main_v62
  let main_c_22 : IVec S_ 32 := constantI S_ 32 1#32
  let main_v64 : IVec S288x128 32 := broadcastInDim S288x128 ![] bcast_S_S288x128 main_c_22
  let main_v65 : IVec S288x128 1 := cmpi .eq main_arg6 main_v64
  let main_v66 : IVec S288x128 1 := ori main_v63 main_v65
  let main_v67 : IVec S288x128 1 := andi main_v50 main_v61
  let main_v68 : IVec S288x128 1 := ori main_v66 main_v67
  let main_v69 : FVec F S1024x1 .f32 := (extractStridedSlice S1024x1 ![0, 0] · slices_S1024x8_S1024x1_0_0) main_arg7
  let main_v70 : FVec F S1024x288x128 .f32 := broadcastInDim S1024x288x128 ![0, 1] bcast_S1024x1_S1024x288x128_0_1 main_v69
  fn_part4 (F := F) main_arg0 main_arg2 main_arg3 main_arg4 main_arg5 main_arg7 main_v50 main_v68 main_v70

def fn_part2 {F : FTy → Type} [FloatOps F] (main_arg0 : FVec F S288x128 .f32) (main_arg1 : IVec S288x128 32) (main_arg2 : FVec F S288x128 .f32) (main_arg3 : FVec F S288x128 .f32) (main_arg4 : FVec F S288x128 .f32) (main_arg5 : FVec F S288x128 .f32) (main_arg6 : IVec S288x128 32) (main_arg7 : FVec F S1024x8 .f32) (main_v22 : FVec F S288x128 .f32) (main_v24 : IVec S288x128 1) (main_v26 : IVec S288x128 1) (main_v28 : IVec S288x128 1) (main_v34 : IVec S288x128 32) (main_c_10 : IVec S_ 32) : IVec S1024 1 :=
  let main_v35 : IVec S288x128 32 := fn_where_1 (F := F) main_v28 main_c_10 main_v34
  let main_c_11 : IVec S_ 32 := constantI S_ 32 1#32
  let main_v36 : IVec S288x128 32 := fn_where_1 (F := F) main_v26 main_c_11 main_v35
  let main_c_12 : IVec S_ 32 := constantI S_ 32 0#32
  let main_v37 : IVec S288x128 32 := fn_where_1 (F := F) main_v24 main_c_12 main_v36
  let main_v38 : IVec S288x128 32 := id main_v37
  let main_v39 : IVec S288x128 1 := cmpi .eq main_arg6 main_v38
  let main_c_13 : IVec S_ 32 := constantI S_ 32 0#32
  let main_v40 : IVec S288x128 32 := broadcastInDim S288x128 ![] bcast_S_S288x128 main_c_13
  let main_v41 : IVec S288x128 1 := cmpi .slt main_arg6 main_v40
  let main_c_14 : IVec S_ 32 := constantI S_ 32 0#32
  let main_v42 : IVec S288x128 32 := broadcastInDim S288x128 ![] bcast_S_S288x128 main_c_14
  let main_v43 : IVec S288x128 1 := cmpi .sge main_arg1 main_v42
  let main_c_15 : IVec S_ 32 := constantI S_ 32 1073741824#32
  let main_v44 : IVec S288x128 32 := broadcastInDim S288x128 ![] bcast_S_S288x128 main_c_15
  let main_v45 : IVec S288x128 1 := cmpi .slt main_arg1 main_v44
  let main_v46 : IVec S288x128 1 := andi main_v43 main_v45
  let main_v47 : IVec S288x128 1 := ori main_v41 main_v46
  let main_v48 : IVec S288x128 1 := andi main_v39 main_v47
  let main_c_16 : IVec S_ 1 := constantI S_ 1 1#1
  let main_v49 : IVec S_ 1 := (fun x v => Host.reduce IntOp.andi x v reducesTo_S288x128_S_d0_1 h_S_) main_v48 main_c_16
  let main_v50 : IVec S288x128 1 := broadcastInDim S288x128 ![] bcast_S_S288x128 main_v49
  let main_c_17 : IVec S_ 32 := constantI S_ 32 2#32
  let main_v51 : IVec S288x128 32 := broadcastInDim S288x128 ![] bcast_S_S288x128 main_c_17
  fn_part3 (F := F) main_arg0 main_arg2 main_arg3 main_arg4 main_arg5 main_arg6 main_arg7 main_v22 main_v50 main_v51

def fn_part1 {F : FTy → Type} [FloatOps F] (main_arg0 : FVec F S288x128 .f32) (main_arg1 : IVec S288x128 32) (main_arg2 : FVec F S288x128 .f32) (main_arg3 : FVec F S288x128 .f32) (main_arg4 : FVec F S288x128 .f32) (main_arg5 : FVec F S288x128 .f32) (main_arg6 : IVec S288x128 32) (main_arg7 : FVec F S1024x8 .f32) (main_v4 : IVec S288x128 32) (main_v20 : FVec F S288x128x288x128 .f32) : IVec S1024 1 :=
  let main_v21 : FVec F S288x128x288x128 .f32 := id main_v20
  let main_cst_1 : FVec F S_ .f32 := constant S_ .f32 0x00000000#32
  let main_v22 : FVec F S288x128 .f32 := (fun x v => Host.reduceAdd x v reducesTo_S288x128x288x128_S288x128_d2_3 h_S_) main_v21 main_cst_1
  let main_c_2 : IVec S_ 32 := constantI S_ 32 108#32
  let main_v23 : IVec S288x128 32 := broadcastInDim S288x128 ![] bcast_S_S288x128 main_c_2
  let main_v24 : IVec S288x128 1 := cmpi .slt main_v4 main_v23
  let main_c_3 : IVec S_ 32 := constantI S_ 32 540#32
  let main_v25 : IVec S288x128 32 := broadcastInDim S288x128 ![] bcast_S_S288x128 main_c_3
  let main_v26 : IVec S288x128 1 := cmpi .slt main_v4 main_v25
  let main_c_4 : IVec S_ 32 := constantI S_ 32 2268#32
  let main_v27 : IVec S288x128 32 := broadcastInDim S288x128 ![] bcast_S_S288x128 main_c_4
  let main_v28 : IVec S288x128 1 := cmpi .slt main_v4 main_v27
  let main_c_5 : IVec S_ 32 := constantI S_ 32 9180#32
  let main_v29 : IVec S288x128 32 := broadcastInDim S288x128 ![] bcast_S_S288x128 main_c_5
  let main_v30 : IVec S288x128 1 := cmpi .slt main_v4 main_v29
  let main_c_6 : IVec S_ 32 := constantI S_ 32 36828#32
  let main_v31 : IVec S288x128 32 := broadcastInDim S288x128 ![] bcast_S_S288x128 main_c_6
  let main_v32 : IVec S288x128 1 := cmpi .slt main_v4 main_v31
  let main_c_7 : IVec S_ 32 := constantI S_ 32 4#32
  let main_c_8 : IVec S_ 32 := constantI S_ 32 4294967295#32
  let main_v33 : IVec S288x128 32 := fn_where_0 (F := F) main_v32 main_c_7 main_c_8
  let main_c_9 : IVec S_ 32 := constantI S_ 32 3#32
  let main_v34 : IVec S288x128 32 := fn_where_1 (F := F) main_v30 main_c_9 main_v33
  let main_c_10 : IVec S_ 32 := constantI S_ 32 2#32
  fn_part2 (F := F) main_arg0 main_arg1 main_arg2 main_arg3 main_arg4 main_arg5 main_arg6 main_arg7 main_v22 main_v24 main_v26 main_v28 main_v34 main_c_10

def fn {F : FTy → Type} [FloatOps F] (main_arg0 : FVec F S288x128 .f32) (main_arg1 : IVec S288x128 32) (main_arg2 : FVec F S288x128 .f32) (main_arg3 : FVec F S288x128 .f32) (main_arg4 : FVec F S288x128 .f32) (main_arg5 : FVec F S288x128 .f32) (main_arg6 : IVec S288x128 32) (main_arg7 : FVec F S1024x8 .f32) : IVec S1024 1 :=
  let main_v0 : IVec S288x128 32 := iotaInDim S288x128 32 0
  let main_c : IVec S_ 32 := constantI S_ 32 128#32
  let main_v1 : IVec S288x128 32 := broadcastInDim S288x128 ![] bcast_S_S288x128 main_c
  let main_v2 : IVec S288x128 32 := muli main_v0 main_v1
  let main_v3 : IVec S288x128 32 := iotaInDim S288x128 32 1
  let main_v4 : IVec S288x128 32 := addi main_v2 main_v3
  let main_v5 : IVec S288x128x288x128 32 := broadcastInDim S288x128x288x128 ![2, 3] bcast_S288x128_S288x128x288x128_2_3 main_arg6
  let main_v6 : IVec S288x128x288x128 32 := broadcastInDim S288x128x288x128 ![0, 1] bcast_S288x128_S288x128x288x128_0_1 main_arg6
  let main_v7 : IVec S288x128x288x128 1 := cmpi .eq main_v5 main_v6
  let main_v8 : IVec S288x128x288x128 32 := broadcastInDim S288x128x288x128 ![2, 3] bcast_S288x128_S288x128x288x128_2_3 main_arg1
  let main_v9 : IVec S288x128x288x128 32 := broadcastInDim S288x128x288x128 ![0, 1] bcast_S288x128_S288x128x288x128_0_1 main_arg1
  let main_v10 : IVec S288x128x288x128 1 := cmpi .sgt main_v8 main_v9
  let main_v11 : IVec S288x128x288x128 32 := broadcastInDim S288x128x288x128 ![2, 3] bcast_S288x128_S288x128x288x128_2_3 main_arg1
  let main_v12 : IVec S288x128x288x128 32 := broadcastInDim S288x128x288x128 ![0, 1] bcast_S288x128_S288x128x288x128_0_1 main_arg1
  let main_v13 : IVec S288x128x288x128 1 := cmpi .eq main_v11 main_v12
  let main_v14 : IVec S288x128x288x128 32 := broadcastInDim S288x128x288x128 ![2, 3] bcast_S288x128_S288x128x288x128_2_3 main_v4
  let main_v15 : IVec S288x128x288x128 32 := broadcastInDim S288x128x288x128 ![0, 1] bcast_S288x128_S288x128x288x128_0_1 main_v4
  let main_v16 : IVec S288x128x288x128 1 := cmpi .slt main_v14 main_v15
  let main_v17 : IVec S288x128x288x128 1 := andi main_v13 main_v16
  let main_v18 : IVec S288x128x288x128 1 := ori main_v10 main_v17
  let main_v19 : IVec S288x128x288x128 1 := andi main_v7 main_v18
  let main_cst : FVec F S_ .f32 := constant S_ .f32 0x3F800000#32
  let main_cst_0 : FVec F S_ .f32 := constant S_ .f32 0x00000000#32
  let main_v20 : FVec F S288x128x288x128 .f32 := fn_where (F := F) main_v19 main_cst main_cst_0
  fn_part1 (F := F) main_arg0 main_arg1 main_arg2 main_arg3 main_arg4 main_arg5 main_arg6 main_arg7 main_v4 main_v20
-- ==== Kernel0.lean ====
abbrev S1x256x6x6 : Shape := ⟨4, ![1, 256, 6, 6]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S108x4 : Shape := ⟨2, ![108, 4]⟩
abbrev S12 : Shape := ⟨1, ![12]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S6x256 : Shape := ⟨2, ![6, 256]⟩
abbrev S256x6 : Shape := ⟨2, ![256, 6]⟩
abbrev S256x3 : Shape := ⟨2, ![256, 3]⟩
abbrev S3 : Shape := ⟨1, ![3]⟩
abbrev S12x256x1x1 : Shape := ⟨4, ![12, 256, 1, 1]⟩
abbrev S12x256 : Shape := ⟨2, ![12, 256]⟩
abbrev S256x12 : Shape := ⟨2, ![256, 12]⟩
abbrev S_ : Shape := ⟨0, ![]⟩
abbrev S12x1 : Shape := ⟨2, ![12, 1]⟩
abbrev S256x6x6 : Shape := ⟨3, ![256, 6, 6]⟩
abbrev S6x6x256 : Shape := ⟨3, ![6, 6, 256]⟩
abbrev S8x8x256 : Shape := ⟨3, ![8, 8, 256]⟩
abbrev S36x3x4 : Shape := ⟨3, ![36, 3, 4]⟩
abbrev S36x3x1 : Shape := ⟨3, ![36, 3, 1]⟩
abbrev S36x3 : Shape := ⟨2, ![36, 3]⟩
abbrev S1x2 : Shape := ⟨2, ![1, 2]⟩
abbrev S36x256 : Shape := ⟨2, ![36, 256]⟩
abbrev S1x256 : Shape := ⟨2, ![1, 256]⟩
abbrev S1x3 : Shape := ⟨2, ![1, 3]⟩
abbrev S36x12 : Shape := ⟨2, ![36, 12]⟩
abbrev S1x12 : Shape := ⟨2, ![1, 12]⟩
abbrev S1x1 : Shape := ⟨2, ![1, 1]⟩

abbrev nBuf : Space → Nat
  | .hbm => 91
  | .vmem => 19
  | .smem => 0
  | _ => 0

abbrev bufTy : (tb : Table) → Fin (tcTables nBuf tb) → BufTy
  | .hbm, ⟨0, _⟩ => ⟨S1x256x6x6, .f32⟩
  | .hbm, ⟨1, _⟩ => ⟨S1x6, .f32⟩
  | .hbm, ⟨2, _⟩ => ⟨S256x256x3x3, .f32⟩
  | .hbm, ⟨3, _⟩ => ⟨S256, .f32⟩
  | .hbm, ⟨4, _⟩ => ⟨S6x256x1x1, .f32⟩
  | .hbm, ⟨5, _⟩ => ⟨S6, .f32⟩
  | .hbm, ⟨6, _⟩ => ⟨S18x256x1x1, .f32⟩
  | .hbm, ⟨7, _⟩ => ⟨S18, .f32⟩
  | .hbm, ⟨8, _⟩ => ⟨S108x4, .f32⟩
  | .hbm, ⟨9, _⟩ => ⟨S12, .i32⟩
  | .hbm, ⟨10, _⟩ => ⟨S12, .i1⟩
  | .hbm, ⟨11, _⟩ => ⟨S12, .i1⟩
  | .hbm, ⟨12, _⟩ => ⟨S256x256x1x1, .f32⟩
  | .hbm, ⟨13, _⟩ => ⟨S256x256, .f32⟩
  | .hbm, ⟨14, _⟩ => ⟨S256x256, .f32⟩
  | .hbm, ⟨15, _⟩ => ⟨S256x256x1x1, .f32⟩
  | .hbm, ⟨16, _⟩ => ⟨S256x256, .f32⟩
  | .hbm, ⟨17, _⟩ => ⟨S256x256, .f32⟩
  | .hbm, ⟨18, _⟩ => ⟨S256x256x1x1, .f32⟩
  | .hbm, ⟨19, _⟩ => ⟨S256x256, .f32⟩
  | .hbm, ⟨20, _⟩ => ⟨S256x256, .f32⟩
  | .hbm, ⟨21, _⟩ => ⟨S256x256x1x1, .f32⟩
  | .hbm, ⟨22, _⟩ => ⟨S256x256, .f32⟩
  | .hbm, ⟨23, _⟩ => ⟨S256x256, .f32⟩
  | .hbm, ⟨24, _⟩ => ⟨S256x256x1x1, .f32⟩
  | .hbm, ⟨25, _⟩ => ⟨S256x256, .f32⟩
  | .hbm, ⟨26, _⟩ => ⟨S256x256, .f32⟩
  | .hbm, ⟨27, _⟩ => ⟨S256x256x1x1, .f32⟩
  | .hbm, ⟨28, _⟩ => ⟨S256x256, .f32⟩
  | .hbm, ⟨29, _⟩ => ⟨S256x256, .f32⟩
  | .hbm, ⟨30, _⟩ => ⟨S256x256x1x1, .f32⟩
  | .hbm, ⟨31, _⟩ => ⟨S256x256, .f32⟩
  | .hbm, ⟨32, _⟩ => ⟨S256x256, .f32⟩
  | .hbm, ⟨33, _⟩ => ⟨S256x256x1x1, .f32⟩
  | .hbm, ⟨34, _⟩ => ⟨S256x256, .f32⟩
  | .hbm, ⟨35, _⟩ => ⟨S256x256, .f32⟩
  | .hbm, ⟨36, _⟩ => ⟨S256x256x1x1, .f32⟩
  | .hbm, ⟨37, _⟩ => ⟨S256x256, .f32⟩
  | .hbm, ⟨38, _⟩ => ⟨S256x256, .f32⟩
  | .hbm, ⟨39, _⟩ => ⟨S1x256x256, .f32⟩
  | .hbm, ⟨40, _⟩ => ⟨S1x256x256, .f32⟩
  | .hbm, ⟨41, _⟩ => ⟨S1x256x256, .f32⟩
  | .hbm, ⟨42, _⟩ => ⟨S1x256x256, .f32⟩
  | .hbm, ⟨43, _⟩ => ⟨S1x256x256, .f32⟩
  | .hbm, ⟨44, _⟩ => ⟨S1x256x256, .f32⟩
  | .hbm, ⟨45, _⟩ => ⟨S1x256x256, .f32⟩
  | .hbm, ⟨46, _⟩ => ⟨S1x256x256, .f32⟩
  | .hbm, ⟨47, _⟩ => ⟨S1x256x256, .f32⟩
  | .hbm, ⟨48, _⟩ => ⟨S9x256x256, .f32⟩
  | .hbm, ⟨49, _⟩ => ⟨S6x256, .f32⟩
  | .hbm, ⟨50, _⟩ => ⟨S256x6, .f32⟩
  | .hbm, ⟨51, _⟩ => ⟨S256x3, .f32⟩
  | .hbm, ⟨52, _⟩ => ⟨S256x3, .f32⟩
  | .hbm, ⟨53, _⟩ => ⟨S3, .f32⟩
  | .hbm, ⟨54, _⟩ => ⟨S3, .f32⟩
  | .hbm, ⟨55, _⟩ => ⟨S12x256x1x1, .f32⟩
  | .hbm, ⟨56, _⟩ => ⟨S12x256, .f32⟩
  | .hbm, ⟨57, _⟩ => ⟨S256x12, .f32⟩
  | .hbm, ⟨58, _⟩ => ⟨S_, .i32⟩
  | .hbm, ⟨59, _⟩ => ⟨S12, .i32⟩
  | .hbm, ⟨60, _⟩ => ⟨S12, .i32⟩
  | .hbm, ⟨61, _⟩ => ⟨S12, .i32⟩
  | .hbm, ⟨62, _⟩ => ⟨S12x1, .i32⟩
  | .hbm, ⟨63, _⟩ => ⟨S256x12, .f32⟩
  | .hbm, ⟨64, _⟩ => ⟨S12, .f32⟩
  | .hbm, ⟨65, _⟩ => ⟨S_, .i32⟩
  | .hbm, ⟨66, _⟩ => ⟨S12, .i32⟩
  | .hbm, ⟨67, _⟩ => ⟨S12, .i32⟩
  | .hbm, ⟨68, _⟩ => ⟨S12, .i32⟩
  | .hbm, ⟨69, _⟩ => ⟨S12x1, .i32⟩
  | .hbm, ⟨70, _⟩ => ⟨S12, .f32⟩
  | .hbm, ⟨71, _⟩ => ⟨S256x6x6, .f32⟩
  | .hbm, ⟨72, _⟩ => ⟨S6x6x256, .f32⟩
  | .hbm, ⟨73, _⟩ => ⟨S_, .i32⟩
  | .hbm, ⟨74, _⟩ => ⟨S_, .f32⟩
  | .hbm, ⟨75, _⟩ => ⟨S8x8x256, .f32⟩
  | .hbm, ⟨76, _⟩ => ⟨S36x3x4, .f32⟩
  | .hbm, ⟨77, _⟩ => ⟨S36x3x1, .f32⟩
  | .hbm, ⟨78, _⟩ => ⟨S36x3, .f32⟩
  | .hbm, ⟨79, _⟩ => ⟨S36x3x1, .f32⟩
  | .hbm, ⟨80, _⟩ => ⟨S36x3, .f32⟩
  | .hbm, ⟨81, _⟩ => ⟨S36x3x1, .f32⟩
  | .hbm, ⟨82, _⟩ => ⟨S36x3, .f32⟩
  | .hbm, ⟨83, _⟩ => ⟨S36x3x1, .f32⟩
  | .hbm, ⟨84, _⟩ => ⟨S36x3, .f32⟩
  | .hbm, ⟨85, _⟩ => ⟨S1x2, .f32⟩
  | .hbm, ⟨86, _⟩ => ⟨S36x3, .f32⟩
  | .hbm, ⟨87, _⟩ => ⟨S36x3, .f32⟩
  | .hbm, ⟨88, _⟩ => ⟨S36x3, .f32⟩
  | .hbm, ⟨89, _⟩ => ⟨S36x3, .f32⟩
  | .hbm, ⟨90, _⟩ => ⟨S36x3, .f32⟩
  | .local _ .vmem, ⟨0, _⟩ => ⟨S8x8x256, .f32⟩
  | .local _ .vmem, ⟨1, _⟩ => ⟨S9x256x256, .f32⟩
  | .local _ .vmem, ⟨2, _⟩ => ⟨S256, .f32⟩
  | .local _ .vmem, ⟨3, _⟩ => ⟨S256x3, .f32⟩
  | .local _ .vmem, ⟨4, _⟩ => ⟨S256x3, .f32⟩
  | .local _ .vmem, ⟨5, _⟩ => ⟨S3, .f32⟩
  | .local _ .vmem, ⟨6, _⟩ => ⟨S3, .f32⟩
  | .local _ .vmem, ⟨7, _⟩ => ⟨S256x12, .f32⟩
  | .local _ .vmem, ⟨8, _⟩ => ⟨S12, .f32⟩
  | .local _ .vmem, ⟨9, _⟩ => ⟨S36x3, .f32⟩
  | .local _ .vmem, ⟨10, _⟩ => ⟨S36x3, .f32⟩
  | .local _ .vmem, ⟨11, _⟩ => ⟨S36x3, .f32⟩
  | .local _ .vmem, ⟨12, _⟩ => ⟨S36x3, .f32⟩
  | .local _ .vmem, ⟨13, _⟩ => ⟨S1x2, .f32⟩
  | .local _ .vmem, ⟨14, _⟩ => ⟨S36x3, .f32⟩
  | .local _ .vmem, ⟨15, _⟩ => ⟨S36x3, .f32⟩
  | .local _ .vmem, ⟨16, _⟩ => ⟨S36x3, .f32⟩
  | .local _ .vmem, ⟨17, _⟩ => ⟨S36x3, .f32⟩
  | .local _ .vmem, ⟨18, _⟩ => ⟨S36x3, .f32⟩
  | _, _ => ⟨S1x256x6x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_4 : Ref sig .tc := ⟨.hbm, 73, rfl⟩
abbrev main_call0_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v70_3 : Ref sig .tc := ⟨.hbm, 89, rfl⟩
abbrev main_v70_4 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def k0_off1 (i : grid0.Coords) (c0_i32 : BitVec 32) : Fin 3 → Nat :=
  let arg0 : BitVec 32 := BitVec.ofNat 32 (i 0).val
  let c6_i32 : BitVec 32 := 6#32
  let v1 : BitVec 32 := Scalar.muli arg0 c6_i32
  let v2 : BitVec 32 := Scalar.addi v1 c0_i32
  let v3 : Index := Scalar.indexCast v2
  let c0 : Index := 0#32
  let c0_0 : Index := 0#32
  ![v3.toNat, 0, 0]
def k0_off2 (i : grid0.Coords) (c0_i32_6 : BitVec 32) : Fin 3 → Nat :=
  let arg0 : BitVec 32 := BitVec.ofNat 32 (i 0).val
  let c6_i32_5 : BitVec 32 := 6#32
  let v11 : BitVec 32 := Scalar.muli arg0 c6_i32_5
  let v12 : BitVec 32 := Scalar.addi v11 c0_i32_6
  let v13 : Index := Scalar.indexCast v12
  let c1 : Index := 1#32
  let c0_7 : Index := 0#32
  ![v13.toNat, 1, 0]
def k0_off3 (i : grid0.Coords) (c0_i32_13 : BitVec 32) : Fin 3 → Nat :=
  let arg0 : BitVec 32 := BitVec.ofNat 32 (i 0).val
  let c6_i32_12 : BitVec 32 := 6#32
  let v21 : BitVec 32 := Scalar.muli arg0 c6_i32_12
  let v22 : BitVec 32 := Scalar.addi v21 c0_i32_13
  let v23 : Index := Scalar.indexCast v22
  let c2 : Index := 2#32
  let c0_14 : Index := 0#32
  ![v23.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S36x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S36x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S36x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S36x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S36x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S36x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S36x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S36x3 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S36x3 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Kernel0Ideal.lean ====
abbrev S1x256x6x6 : Shape := ⟨4, ![1, 256, 6, 6]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S108x4 : Shape := ⟨2, ![108, 4]⟩
abbrev S12 : Shape := ⟨1, ![12]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S6x256 : Shape := ⟨2, ![6, 256]⟩
abbrev S256x6 : Shape := ⟨2, ![256, 6]⟩
abbrev S256x3 : Shape := ⟨2, ![256, 3]⟩
abbrev S3 : Shape := ⟨1, ![3]⟩
abbrev S12x256x1x1 : Shape := ⟨4, ![12, 256, 1, 1]⟩
abbrev S12x256 : Shape := ⟨2, ![12, 256]⟩
abbrev S256x12 : Shape := ⟨2, ![256, 12]⟩
abbrev S_ : Shape := ⟨0, ![]⟩
abbrev S12x1 : Shape := ⟨2, ![12, 1]⟩
abbrev S256x6x6 : Shape := ⟨3, ![256, 6, 6]⟩
abbrev S6x6x256 : Shape := ⟨3, ![6, 6, 256]⟩
abbrev S8x8x256 : Shape := ⟨3, ![8, 8, 256]⟩
abbrev S36x3x4 : Shape := ⟨3, ![36, 3, 4]⟩
abbrev S36x3x1 : Shape := ⟨3, ![36, 3, 1]⟩
abbrev S36x3 : Shape := ⟨2, ![36, 3]⟩
abbrev S1x2 : Shape := ⟨2, ![1, 2]⟩
abbrev S36x256 : Shape := ⟨2, ![36, 256]⟩
abbrev S1x256 : Shape := ⟨2, ![1, 256]⟩
abbrev S1x3 : Shape := ⟨2, ![1, 3]⟩
abbrev S36x12 : Shape := ⟨2, ![36, 12]⟩
abbrev S1x12 : Shape := ⟨2, ![1, 12]⟩
abbrev S1x1 : Shape := ⟨2, ![1, 1]⟩

abbrev nBuf : Space → Nat
  | .hbm => 91
  | .vmem => 19
  | .smem => 0
  | _ => 0

abbrev bufTy : (tb : Table) → Fin (tcTables nBuf tb) → BufTy
  | .hbm, ⟨0, _⟩ => ⟨S1x256x6x6, .f32⟩
  | .hbm, ⟨1, _⟩ => ⟨S1x6, .f32⟩
  | .hbm, ⟨2, _⟩ => ⟨S256x256x3x3, .f32⟩
  | .hbm, ⟨3, _⟩ => ⟨S256, .f32⟩
  | .hbm, ⟨4, _⟩ => ⟨S6x256x1x1, .f32⟩
  | .hbm, ⟨5, _⟩ => ⟨S6, .f32⟩
  | .hbm, ⟨6, _⟩ => ⟨S18x256x1x1, .f32⟩
  | .hbm, ⟨7, _⟩ => ⟨S18, .f32⟩
  | .hbm, ⟨8, _⟩ => ⟨S108x4, .f32⟩
  | .hbm, ⟨9, _⟩ => ⟨S12, .i32⟩
  | .hbm, ⟨10, _⟩ => ⟨S12, .i1⟩
  | .hbm, ⟨11, _⟩ => ⟨S12, .i1⟩
  | .hbm, ⟨12, _⟩ => ⟨S256x256x1x1, .f32⟩
  | .hbm, ⟨13, _⟩ => ⟨S256x256, .f32⟩
  | .hbm, ⟨14, _⟩ => ⟨S256x256, .f32⟩
  | .hbm, ⟨15, _⟩ => ⟨S256x256x1x1, .f32⟩
  | .hbm, ⟨16, _⟩ => ⟨S256x256, .f32⟩
  | .hbm, ⟨17, _⟩ => ⟨S256x256, .f32⟩
  | .hbm, ⟨18, _⟩ => ⟨S256x256x1x1, .f32⟩
  | .hbm, ⟨19, _⟩ => ⟨S256x256, .f32⟩
  | .hbm, ⟨20, _⟩ => ⟨S256x256, .f32⟩
  | .hbm, ⟨21, _⟩ => ⟨S256x256x1x1, .f32⟩
  | .hbm, ⟨22, _⟩ => ⟨S256x256, .f32⟩
  | .hbm, ⟨23, _⟩ => ⟨S256x256, .f32⟩
  | .hbm, ⟨24, _⟩ => ⟨S256x256x1x1, .f32⟩
  | .hbm, ⟨25, _⟩ => ⟨S256x256, .f32⟩
  | .hbm, ⟨26, _⟩ => ⟨S256x256, .f32⟩
  | .hbm, ⟨27, _⟩ => ⟨S256x256x1x1, .f32⟩
  | .hbm, ⟨28, _⟩ => ⟨S256x256, .f32⟩
  | .hbm, ⟨29, _⟩ => ⟨S256x256, .f32⟩
  | .hbm, ⟨30, _⟩ => ⟨S256x256x1x1, .f32⟩
  | .hbm, ⟨31, _⟩ => ⟨S256x256, .f32⟩
  | .hbm, ⟨32, _⟩ => ⟨S256x256, .f32⟩
  | .hbm, ⟨33, _⟩ => ⟨S256x256x1x1, .f32⟩
  | .hbm, ⟨34, _⟩ => ⟨S256x256, .f32⟩
  | .hbm, ⟨35, _⟩ => ⟨S256x256, .f32⟩
  | .hbm, ⟨36, _⟩ => ⟨S256x256x1x1, .f32⟩
  | .hbm, ⟨37, _⟩ => ⟨S256x256, .f32⟩
  | .hbm, ⟨38, _⟩ => ⟨S256x256, .f32⟩
  | .hbm, ⟨39, _⟩ => ⟨S1x256x256, .f32⟩
  | .hbm, ⟨40, _⟩ => ⟨S1x256x256, .f32⟩
  | .hbm, ⟨41, _⟩ => ⟨S1x256x256, .f32⟩
  | .hbm, ⟨42, _⟩ => ⟨S1x256x256, .f32⟩
  | .hbm, ⟨43, _⟩ => ⟨S1x256x256, .f32⟩
  | .hbm, ⟨44, _⟩ => ⟨S1x256x256, .f32⟩
  | .hbm, ⟨45, _⟩ => ⟨S1x256x256, .f32⟩
  | .hbm, ⟨46, _⟩ => ⟨S1x256x256, .f32⟩
  | .hbm, ⟨47, _⟩ => ⟨S1x256x256, .f32⟩
  | .hbm, ⟨48, _⟩ => ⟨S9x256x256, .f32⟩
  | .hbm, ⟨49, _⟩ => ⟨S6x256, .f32⟩
  | .hbm, ⟨50, _⟩ => ⟨S256x6, .f32⟩
  | .hbm, ⟨51, _⟩ => ⟨S256x3, .f32⟩
  | .hbm, ⟨52, _⟩ => ⟨S256x3, .f32⟩
  | .hbm, ⟨53, _⟩ => ⟨S3, .f32⟩
  | .hbm, ⟨54, _⟩ => ⟨S3, .f32⟩
  | .hbm, ⟨55, _⟩ => ⟨S12x256x1x1, .f32⟩
  | .hbm, ⟨56, _⟩ => ⟨S12x256, .f32⟩
  | .hbm, ⟨57, _⟩ => ⟨S256x12, .f32⟩
  | .hbm, ⟨58, _⟩ => ⟨S_, .i32⟩
  | .hbm, ⟨59, _⟩ => ⟨S12, .i32⟩
  | .hbm, ⟨60, _⟩ => ⟨S12, .i32⟩
  | .hbm, ⟨61, _⟩ => ⟨S12, .i32⟩
  | .hbm, ⟨62, _⟩ => ⟨S12x1, .i32⟩
  | .hbm, ⟨63, _⟩ => ⟨S256x12, .f32⟩
  | .hbm, ⟨64, _⟩ => ⟨S12, .f32⟩
  | .hbm, ⟨65, _⟩ => ⟨S_, .i32⟩
  | .hbm, ⟨66, _⟩ => ⟨S12, .i32⟩
  | .hbm, ⟨67, _⟩ => ⟨S12, .i32⟩
  | .hbm, ⟨68, _⟩ => ⟨S12, .i32⟩
  | .hbm, ⟨69, _⟩ => ⟨S12x1, .i32⟩
  | .hbm, ⟨70, _⟩ => ⟨S12, .f32⟩
  | .hbm, ⟨71, _⟩ => ⟨S256x6x6, .f32⟩
  | .hbm, ⟨72, _⟩ => ⟨S6x6x256, .f32⟩
  | .hbm, ⟨73, _⟩ => ⟨S_, .i32⟩
  | .hbm, ⟨74, _⟩ => ⟨S_, .f32⟩
  | .hbm, ⟨75, _⟩ => ⟨S8x8x256, .f32⟩
  | .hbm, ⟨76, _⟩ => ⟨S36x3x4, .f32⟩
  | .hbm, ⟨77, _⟩ => ⟨S36x3x1, .f32⟩
  | .hbm, ⟨78, _⟩ => ⟨S36x3, .f32⟩
  | .hbm, ⟨79, _⟩ => ⟨S36x3x1, .f32⟩
  | .hbm, ⟨80, _⟩ => ⟨S36x3, .f32⟩
  | .hbm, ⟨81, _⟩ => ⟨S36x3x1, .f32⟩
  | .hbm, ⟨82, _⟩ => ⟨S36x3, .f32⟩
  | .hbm, ⟨83, _⟩ => ⟨S36x3x1, .f32⟩
  | .hbm, ⟨84, _⟩ => ⟨S36x3, .f32⟩
  | .hbm, ⟨85, _⟩ => ⟨S1x2, .f32⟩
  | .hbm, ⟨86, _⟩ => ⟨S36x3, .f32⟩
  | .hbm, ⟨87, _⟩ => ⟨S36x3, .f32⟩
  | .hbm, ⟨88, _⟩ => ⟨S36x3, .f32⟩
  | .hbm, ⟨89, _⟩ => ⟨S36x3, .f32⟩
  | .hbm, ⟨90, _⟩ => ⟨S36x3, .f32⟩
  | .local _ .vmem, ⟨0, _⟩ => ⟨S8x8x256, .f32⟩
  | .local _ .vmem, ⟨1, _⟩ => ⟨S9x256x256, .f32⟩
  | .local _ .vmem, ⟨2, _⟩ => ⟨S256, .f32⟩
  | .local _ .vmem, ⟨3, _⟩ => ⟨S256x3, .f32⟩
  | .local _ .vmem, ⟨4, _⟩ => ⟨S256x3, .f32⟩
  | .local _ .vmem, ⟨5, _⟩ => ⟨S3, .f32⟩
  | .local _ .vmem, ⟨6, _⟩ => ⟨S3, .f32⟩
  | .local _ .vmem, ⟨7, _⟩ => ⟨S256x12, .f32⟩
  | .local _ .vmem, ⟨8, _⟩ => ⟨S12, .f32⟩
  | .local _ .vmem, ⟨9, _⟩ => ⟨S36x3, .f32⟩
  | .local _ .vmem, ⟨10, _⟩ => ⟨S36x3, .f32⟩
  | .local _ .vmem, ⟨11, _⟩ => ⟨S36x3, .f32⟩
  | .local _ .vmem, ⟨12, _⟩ => ⟨S36x3, .f32⟩
  | .local _ .vmem, ⟨13, _⟩ => ⟨S1x2, .f32⟩
  | .local _ .vmem, ⟨14, _⟩ => ⟨S36x3, .f32⟩
  | .local _ .vmem, ⟨15, _⟩ => ⟨S36x3, .f32⟩
  | .local _ .vmem, ⟨16, _⟩ => ⟨S36x3, .f32⟩
  | .local _ .vmem, ⟨17, _⟩ => ⟨S36x3, .f32⟩
  | .local _ .vmem, ⟨18, _⟩ => ⟨S36x3, .f32⟩
  | _, _ => ⟨S1x256x6x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_4 : Ref sig .tc := ⟨.hbm, 73, rfl⟩
abbrev main_call0_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v70_3 : Ref sig .tc := ⟨.hbm, 89, rfl⟩
abbrev main_v70_4 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def k0_off1 (i : grid0.Coords) (c0_i32 : BitVec 32) : Fin 3 → Nat :=
  let arg0 : BitVec 32 := BitVec.ofNat 32 (i 0).val
  let c6_i32 : BitVec 32 := 6#32
  let v1 : BitVec 32 := Scalar.muli arg0 c6_i32
  let v2 : BitVec 32 := Scalar.addi v1 c0_i32
  let v3 : Index := Scalar.indexCast v2
  let c0 : Index := 0#32
  let c0_0 : Index := 0#32
  ![v3.toNat, 0, 0]
def k0_off2 (i : grid0.Coords) (c0_i32_6 : BitVec 32) : Fin 3 → Nat :=
  let arg0 : BitVec 32 := BitVec.ofNat 32 (i 0).val
  let c6_i32_5 : BitVec 32 := 6#32
  let v11 : BitVec 32 := Scalar.muli arg0 c6_i32_5
  let v12 : BitVec 32 := Scalar.addi v11 c0_i32_6
  let v13 : Index := Scalar.indexCast v12
  let c1 : Index := 1#32
  let c0_7 : Index := 0#32
  ![v13.toNat, 1, 0]
def k0_off3 (i : grid0.Coords) (c0_i32_13 : BitVec 32) : Fin 3 → Nat :=
  let arg0 : BitVec 32 := BitVec.ofNat 32 (i 0).val
  let c6_i32_12 : BitVec 32 := 6#32
  let v21 : BitVec 32 := Scalar.muli arg0 c6_i32_12
  let v22 : BitVec 32 := Scalar.addi v21 c0_i32_13
  let v23 : Index := Scalar.indexCast v22
  let c2 : Index := 2#32
  let c0_14 : Index := 0#32
  ![v23.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S36x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S36x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S36x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S36x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S36x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S36x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S36x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S36x3 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S36x3 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Reference0Ideal.lean ====
abbrev S1x256x6x6 : Shape := ⟨4, ![1, 256, 6, 6]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S108x4 : Shape := ⟨2, ![108, 4]⟩
abbrev S256x6x6 : Shape := ⟨3, ![256, 6, 6]⟩
abbrev S_ : Shape := ⟨0, ![]⟩
abbrev S256x8x8 : Shape := ⟨3, ![256, 8, 8]⟩
abbrev S256x256x1x1 : Shape := ⟨4, ![256, 256, 1, 1]⟩
abbrev S256x256 : Shape := ⟨2, ![256, 256]⟩
abbrev S256x1x1 : Shape := ⟨3, ![256, 1, 1]⟩
abbrev S6x256 : Shape := ⟨2, ![6, 256]⟩
abbrev S6x6x6 : Shape := ⟨3, ![6, 6, 6]⟩
abbrev S6x1x1 : Shape := ⟨3, ![6, 1, 1]⟩
abbrev S18x256 : Shape := ⟨2, ![18, 256]⟩
abbrev S18x6x6 : Shape := ⟨3, ![18, 6, 6]⟩
abbrev S18x1x1 : Shape := ⟨3, ![18, 1, 1]⟩
abbrev S12x6x6 : Shape := ⟨3, ![12, 6, 6]⟩
abbrev S6x6x12 : Shape := ⟨3, ![6, 6, 12]⟩
abbrev S108x2 : Shape := ⟨2, ![108, 2]⟩
abbrev S108 : Shape := ⟨1, ![108]⟩
abbrev S108x1 : Shape := ⟨2, ![108, 1]⟩
abbrev S1x1 : Shape := ⟨2, ![1, 1]⟩
abbrev S36x3 : Shape := ⟨2, ![36, 3]⟩

abbrev nBuf : Space → Nat
  | .hbm => 198
  | .vmem => 0
  | .smem => 0
  | _ => 0

abbrev hbmTy0_0 (i : Nat) : BufTy := match i % 128 with
  | 0 => ⟨S1x256x6x6, .f32⟩
  | 1 => ⟨S1x6, .f32⟩
  | 2 => ⟨S256x256x3x3, .f32⟩
  | 3 => ⟨S256, .f32⟩
  | 4 => ⟨S6x256x1x1, .f32⟩
  | 5 => ⟨S6, .f32⟩
  | 6 => ⟨S18x256x1x1, .f32⟩
  | 7 => ⟨S18, .f32⟩
  | 8 => ⟨S108x4, .f32⟩
  | 9 => ⟨S256x6x6, .f32⟩
  | 10 => ⟨S_, .i32⟩
  | 11 => ⟨S_, .f32⟩
  | 12 => ⟨S256x8x8, .f32⟩
  | 13 => ⟨S_, .f32⟩
  | 14 => ⟨S256x6x6, .f32⟩
  | 15 => ⟨S256x256x1x1, .f32⟩
  | 16 => ⟨S256x256, .f32⟩
  | 17 => ⟨S256x6x6, .f32⟩
  | 18 => ⟨S256x6x6, .f32⟩
  | 19 => ⟨S256x6x6, .f32⟩
  | 20 => ⟨S256x256x1x1, .f32⟩
  | 21 => ⟨S256x256, .f32⟩
  | 22 => ⟨S256x6x6, .f32⟩
  | 23 => ⟨S256x6x6, .f32⟩
  | 24 => ⟨S256x6x6, .f32⟩
  | 25 => ⟨S256x256x1x1, .f32⟩
  | 26 => ⟨S256x256, .f32⟩
  | 27 => ⟨S256x6x6, .f32⟩
  | 28 => ⟨S256x6x6, .f32⟩
  | 29 => ⟨S256x6x6, .f32⟩
  | 30 => ⟨S256x256x1x1, .f32⟩
  | 31 => ⟨S256x256, .f32⟩
  | 32 => ⟨S256x6x6, .f32⟩
  | 33 => ⟨S256x6x6, .f32⟩
  | 34 => ⟨S256x6x6, .f32⟩
  | 35 => ⟨S256x256x1x1, .f32⟩
  | 36 => ⟨S256x256, .f32⟩
  | 37 => ⟨S256x6x6, .f32⟩
  | 38 => ⟨S256x6x6, .f32⟩
  | 39 => ⟨S256x6x6, .f32⟩
  | 40 => ⟨S256x256x1x1, .f32⟩
  | 41 => ⟨S256x256, .f32⟩
  | 42 => ⟨S256x6x6, .f32⟩
  | 43 => ⟨S256x6x6, .f32⟩
  | 44 => ⟨S256x6x6, .f32⟩
  | 45 => ⟨S256x256x1x1, .f32⟩
  | 46 => ⟨S256x256, .f32⟩
  | 47 => ⟨S256x6x6, .f32⟩
  | 48 => ⟨S256x6x6, .f32⟩
  | 49 => ⟨S256x6x6, .f32⟩
  | 50 => ⟨S256x256x1x1, .f32⟩
  | 51 => ⟨S256x256, .f32⟩
  | 52 => ⟨S256x6x6, .f32⟩
  | 53 => ⟨S256x6x6, .f32⟩
  | 54 => ⟨S256x6x6, .f32⟩
  | 55 => ⟨S256x256x1x1, .f32⟩
  | 56 => ⟨S256x256, .f32⟩
  | 57 => ⟨S256x6x6, .f32⟩
  | 58 => ⟨S256x6x6, .f32⟩
  | 59 => ⟨S256x6x6, .f32⟩
  | 60 => ⟨S256x1x1, .f32⟩
  | 61 => ⟨S256x6x6, .f32⟩
  | 62 => ⟨S256x6x6, .f32⟩
  | 63 => ⟨S_, .f32⟩
  | 64 => ⟨S256x6x6, .f32⟩
  | 65 => ⟨S256x6x6, .f32⟩
  | 66 => ⟨S6x256, .f32⟩
  | 67 => ⟨S6x6x6, .f32⟩
  | 68 => ⟨S6x1x1, .f32⟩
  | 69 => ⟨S6x6x6, .f32⟩
  | 70 => ⟨S6x6x6, .f32⟩
  | 71 => ⟨S18x256, .f32⟩
  | 72 => ⟨S18x6x6, .f32⟩
  | 73 => ⟨S18x1x1, .f32⟩
  | 74 => ⟨S18x6x6, .f32⟩
  | 75 => ⟨S18x6x6, .f32⟩
  | 76 => ⟨S12x6x6, .f32⟩
  | 77 => ⟨S6x6x12, .f32⟩
  | 78 => ⟨S108x4, .f32⟩
  | 79 => ⟨S6x6x6, .f32⟩
  | 80 => ⟨S108x2, .f32⟩
  | 81 => ⟨S_, .f32⟩
  | 82 => ⟨S108, .f32⟩
  | 83 => ⟨S_, .f32⟩
  | 84 => ⟨S108, .f32⟩
  | 85 => ⟨S108, .f32⟩
  | 86 => ⟨S108x1, .f32⟩
  | 87 => ⟨S108x2, .f32⟩
  | 88 => ⟨S108x2, .f32⟩
  | 89 => ⟨S108x2, .f32⟩
  | 90 => ⟨S_, .f32⟩
  | 91 => ⟨S108, .f32⟩
  | 92 => ⟨S108x1, .f32⟩
  | 93 => ⟨S108x2, .f32⟩
  | 94 => ⟨S108x2, .f32⟩
  | 95 => ⟨S108x1, .f32⟩
  | 96 => ⟨S108, .f32⟩
  | 97 => ⟨S108x1, .f32⟩
  | 98 => ⟨S108, .f32⟩
  | 99 => ⟨S108x1, .f32⟩
  | 100 => ⟨S108, .f32⟩
  | 101 => ⟨S108, .f32⟩
  | 102 => ⟨S108x1, .f32⟩
  | 103 => ⟨S108, .f32⟩
  | 104 => ⟨S108x1, .f32⟩
  | 105 => ⟨S108, .f32⟩
  | 106 => ⟨S108, .f32⟩
  | 107 => ⟨S108x1, .f32⟩
  | 108 => ⟨S108, .f32⟩
  | 109 => ⟨S_, .f32⟩
  | 110 => ⟨S108, .f32⟩
  | 111 => ⟨S108, .f32⟩
  | 112 => ⟨S108, .f32⟩
  | 113 => ⟨S108x1, .f32⟩
  | 114 => ⟨S108, .f32⟩
  | 115 => ⟨S_, .f32⟩
  | 116 => ⟨S108, .f32⟩
  | 117 => ⟨S108, .f32⟩
  | 118 => ⟨S108, .f32⟩
  | 119 => ⟨S108x1, .f32⟩
  | 120 => ⟨S108, .f32⟩
  | 121 => ⟨S108x1, .f32⟩
  | 122 => ⟨S108, .f32⟩
  | 123 => ⟨S108x1, .f32⟩
  | 124 => ⟨S108, .f32⟩
  | 125 => ⟨S108x1, .f32⟩
  | 126 => ⟨S108, .f32⟩
  | 127 => ⟨S108, .f32⟩
  | _ => ⟨S1x256x6x6, .f32⟩

abbrev hbmTy0_1 (i : Nat) : BufTy := match i % 128 with
  | 0 => ⟨S108, .f32⟩
  | 1 => ⟨S108, .f32⟩
  | 2 => ⟨S108, .f32⟩
  | 3 => ⟨S_, .f32⟩
  | 4 => ⟨S108, .f32⟩
  | 5 => ⟨S108, .f32⟩
  | 6 => ⟨S108, .f32⟩
  | 7 => ⟨S108, .f32⟩
  | 8 => ⟨S_, .f32⟩
  | 9 => ⟨S108, .f32⟩
  | 10 => ⟨S108, .f32⟩
  | 11 => ⟨S108, .f32⟩
  | 12 => ⟨S108, .f32⟩
  | 13 => ⟨S1x1, .f32⟩
  | 14 => ⟨S_, .f32⟩
  | 15 => ⟨S1x1, .f32⟩
  | 16 => ⟨S_, .f32⟩
  | 17 => ⟨S_, .f32⟩
  | 18 => ⟨S108, .f32⟩
  | 19 => ⟨S108, .f32⟩
  | 20 => ⟨S108, .f32⟩
  | 21 => ⟨S_, .f32⟩
  | 22 => ⟨S_, .f32⟩
  | 23 => ⟨S_, .f32⟩
  | 24 => ⟨S_, .f32⟩
  | 25 => ⟨S108, .f32⟩
  | 26 => ⟨S108, .f32⟩
  | 27 => ⟨S108, .f32⟩
  | 28 => ⟨S108, .f32⟩
  | 29 => ⟨S_, .f32⟩
  | 30 => ⟨S108, .f32⟩
  | 31 => ⟨S108, .f32⟩
  | 32 => ⟨S108, .f32⟩
  | 33 => ⟨S_, .f32⟩
  | 34 => ⟨S_, .f32⟩
  | 35 => ⟨S_, .f32⟩
  | 36 => ⟨S_, .f32⟩
  | 37 => ⟨S108, .f32⟩
  | 38 => ⟨S108, .f32⟩
  | 39 => ⟨S108, .f32⟩
  | 40 => ⟨S108, .f32⟩
  | 41 => ⟨S_, .f32⟩
  | 42 => ⟨S108, .f32⟩
  | 43 => ⟨S108, .f32⟩
  | 44 => ⟨S108, .f32⟩
  | 45 => ⟨S_, .f32⟩
  | 46 => ⟨S_, .f32⟩
  | 47 => ⟨S_, .f32⟩
  | 48 => ⟨S_, .f32⟩
  | 49 => ⟨S108, .f32⟩
  | 50 => ⟨S108, .f32⟩
  | 51 => ⟨S108, .f32⟩
  | 52 => ⟨S108, .f32⟩
  | 53 => ⟨S_, .f32⟩
  | 54 => ⟨S108, .f32⟩
  | 55 => ⟨S108, .f32⟩
  | 56 => ⟨S108, .f32⟩
  | 57 => ⟨S_, .f32⟩
  | 58 => ⟨S_, .f32⟩
  | 59 => ⟨S_, .f32⟩
  | 60 => ⟨S_, .f32⟩
  | 61 => ⟨S108, .f32⟩
  | 62 => ⟨S108, .f32⟩
  | 63 => ⟨S108, .f32⟩
  | 64 => ⟨S108, .f32⟩
  | 65 => ⟨S36x3, .f32⟩
  | 66 => ⟨S36x3, .f32⟩
  | 67 => ⟨S36x3, .f32⟩
  | 68 => ⟨S36x3, .f32⟩
  | 69 => ⟨S36x3, .f32⟩
  | _ => ⟨S1x256x6x6, .f32⟩

abbrev hbmTy (i : Nat) : BufTy := match i / 128 with
  | 0 => hbmTy0_0 i
  | 1 => hbmTy0_1 i
  | _ => ⟨S1x256x6x6, .f32⟩

abbrev bufTy : (tb : Table) → Fin (tcTables nBuf tb) → BufTy
  | .hbm, ⟨i, _⟩ => hbmTy i
  | _, _ => ⟨S1x256x6x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call1_cst : Ref sig .tc := ⟨.hbm, 63, rfl⟩
abbrev main_call1_v0 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_0 : Ref sig .tc := ⟨.hbm, 81, rfl⟩
abbrev main_v67 : Ref sig .tc := ⟨.hbm, 82, rfl⟩
abbrev main_cst_1 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_2 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_3 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_4 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_5 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_6 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_7 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_8 : Ref sig .tc := ⟨.hbm, 149, rfl⟩
abbrev main_v127 : Ref sig .tc := ⟨.hbm, 150, rfl⟩
abbrev main_cst_9 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_v128 : Ref sig .tc := ⟨.hbm, 156, rfl⟩
abbrev main_cst_10 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_11 : Ref sig .tc := ⟨.hbm, 161, rfl⟩
abbrev main_v132 : Ref sig .tc := ⟨.hbm, 162, rfl⟩
abbrev main_cst_12 : Ref sig .tc := ⟨.hbm, 163, rfl⟩
abbrev main_call3_v0 : Ref sig .tc := ⟨.hbm, 164, rfl⟩
abbrev main_call3_v1 : Ref sig .tc := ⟨.hbm, 165, rfl⟩
abbrev main_call3_v2 : Ref sig .tc := ⟨.hbm, 166, rfl⟩
abbrev main_call3_v3 : Ref sig .tc := ⟨.hbm, 167, rfl⟩
abbrev main_v133 : Ref sig .tc := ⟨.hbm, 168, rfl⟩
abbrev main_cst_13 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_14 : Ref sig .tc := ⟨.hbm, 173, rfl⟩
abbrev main_v137 : Ref sig .tc := ⟨.hbm, 174, rfl⟩
abbrev main_cst_15 : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_v138 : Ref sig .tc := ⟨.hbm, 180, rfl⟩
abbrev main_cst_16 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_17 : Ref sig .tc := ⟨.hbm, 185, rfl⟩
abbrev main_v142 : Ref sig .tc := ⟨.hbm, 186, rfl⟩
abbrev main_cst_18 : Ref sig .tc := ⟨.hbm, 187, rfl⟩
abbrev main_call5_v0 : Ref sig .tc := ⟨.hbm, 188, rfl⟩
abbrev main_call5_v1 : Ref sig .tc := ⟨.hbm, 189, rfl⟩
abbrev main_call5_v2 : Ref sig .tc := ⟨.hbm, 190, rfl⟩
abbrev main_call5_v3 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩

abbrev nD : Nat := 1
abbrev τ : Topo := Topo.v7x

variable {F : FTy → Type} [FloatOps F]
-- ==== Kernel1.lean ====
abbrev S1x256x12x12 : Shape := ⟨4, ![1, 256, 12, 12]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S432x4 : Shape := ⟨2, ![432, 4]⟩
abbrev S12 : Shape := ⟨1, ![12]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S6x256 : Shape := ⟨2, ![6, 256]⟩
abbrev S256x6 : Shape := ⟨2, ![256, 6]⟩
abbrev S256x3 : Shape := ⟨2, ![256, 3]⟩
abbrev S3 : Shape := ⟨1, ![3]⟩
abbrev S12x256x1x1 : Shape := ⟨4, ![12, 256, 1, 1]⟩
abbrev S12x256 : Shape := ⟨2, ![12, 256]⟩
abbrev S256x12 : Shape := ⟨2, ![256, 12]⟩
abbrev S_ : Shape := ⟨0, ![]⟩
abbrev S12x1 : Shape := ⟨2, ![12, 1]⟩
abbrev S256x12x12 : Shape := ⟨3, ![256, 12, 12]⟩
abbrev S12x12x256 : Shape := ⟨3, ![12, 12, 256]⟩
abbrev S14x14x256 : Shape := ⟨3, ![14, 14, 256]⟩
abbrev S144x3x4 : Shape := ⟨3, ![144, 3, 4]⟩
abbrev S144x3x1 : Shape := ⟨3, ![144, 3, 1]⟩
abbrev S144x3 : Shape := ⟨2, ![144, 3]⟩
abbrev S1x2 : Shape := ⟨2, ![1, 2]⟩
abbrev S144x256 : Shape := ⟨2, ![144, 256]⟩
abbrev S1x256 : Shape := ⟨2, ![1, 256]⟩
abbrev S1x3 : Shape := ⟨2, ![1, 3]⟩
abbrev S144x12 : Shape := ⟨2, ![144, 12]⟩
abbrev S1x12 : Shape := ⟨2, ![1, 12]⟩
abbrev S1x1 : Shape := ⟨2, ![1, 1]⟩

abbrev nBuf : Space → Nat
  | .hbm => 91
  | .vmem => 19
  | .smem => 0
  | _ => 0

abbrev bufTy : (tb : Table) → Fin (tcTables nBuf tb) → BufTy
  | .hbm, ⟨0, _⟩ => ⟨S1x256x12x12, .f32⟩
  | .hbm, ⟨1, _⟩ => ⟨S1x6, .f32⟩
  | .hbm, ⟨2, _⟩ => ⟨S256x256x3x3, .f32⟩
  | .hbm, ⟨3, _⟩ => ⟨S256, .f32⟩
  | .hbm, ⟨4, _⟩ => ⟨S6x256x1x1, .f32⟩
  | .hbm, ⟨5, _⟩ => ⟨S6, .f32⟩
  | .hbm, ⟨6, _⟩ => ⟨S18x256x1x1, .f32⟩
  | .hbm, ⟨7, _⟩ => ⟨S18, .f32⟩
  | .hbm, ⟨8, _⟩ => ⟨S432x4, .f32⟩
  | .hbm, ⟨9, _⟩ => ⟨S12, .i32⟩
  | .hbm, ⟨10, _⟩ => ⟨S12, .i1⟩
  | .hbm, ⟨11, _⟩ => ⟨S12, .i1⟩
  | .hbm, ⟨12, _⟩ => ⟨S256x256x1x1, .f32⟩
  | .hbm, ⟨13, _⟩ => ⟨S256x256, .f32⟩
  | .hbm, ⟨14, _⟩ => ⟨S256x256, .f32⟩
  | .hbm, ⟨15, _⟩ => ⟨S256x256x1x1, .f32⟩
  | .hbm, ⟨16, _⟩ => ⟨S256x256, .f32⟩
  | .hbm, ⟨17, _⟩ => ⟨S256x256, .f32⟩
  | .hbm, ⟨18, _⟩ => ⟨S256x256x1x1, .f32⟩
  | .hbm, ⟨19, _⟩ => ⟨S256x256, .f32⟩
  | .hbm, ⟨20, _⟩ => ⟨S256x256, .f32⟩
  | .hbm, ⟨21, _⟩ => ⟨S256x256x1x1, .f32⟩
  | .hbm, ⟨22, _⟩ => ⟨S256x256, .f32⟩
  | .hbm, ⟨23, _⟩ => ⟨S256x256, .f32⟩
  | .hbm, ⟨24, _⟩ => ⟨S256x256x1x1, .f32⟩
  | .hbm, ⟨25, _⟩ => ⟨S256x256, .f32⟩
  | .hbm, ⟨26, _⟩ => ⟨S256x256, .f32⟩
  | .hbm, ⟨27, _⟩ => ⟨S256x256x1x1, .f32⟩
  | .hbm, ⟨28, _⟩ => ⟨S256x256, .f32⟩
  | .hbm, ⟨29, _⟩ => ⟨S256x256, .f32⟩
  | .hbm, ⟨30, _⟩ => ⟨S256x256x1x1, .f32⟩
  | .hbm, ⟨31, _⟩ => ⟨S256x256, .f32⟩
  | .hbm, ⟨32, _⟩ => ⟨S256x256, .f32⟩
  | .hbm, ⟨33, _⟩ => ⟨S256x256x1x1, .f32⟩
  | .hbm, ⟨34, _⟩ => ⟨S256x256, .f32⟩
  | .hbm, ⟨35, _⟩ => ⟨S256x256, .f32⟩
  | .hbm, ⟨36, _⟩ => ⟨S256x256x1x1, .f32⟩
  | .hbm, ⟨37, _⟩ => ⟨S256x256, .f32⟩
  | .hbm, ⟨38, _⟩ => ⟨S256x256, .f32⟩
  | .hbm, ⟨39, _⟩ => ⟨S1x256x256, .f32⟩
  | .hbm, ⟨40, _⟩ => ⟨S1x256x256, .f32⟩
  | .hbm, ⟨41, _⟩ => ⟨S1x256x256, .f32⟩
  | .hbm, ⟨42, _⟩ => ⟨S1x256x256, .f32⟩
  | .hbm, ⟨43, _⟩ => ⟨S1x256x256, .f32⟩
  | .hbm, ⟨44, _⟩ => ⟨S1x256x256, .f32⟩
  | .hbm, ⟨45, _⟩ => ⟨S1x256x256, .f32⟩
  | .hbm, ⟨46, _⟩ => ⟨S1x256x256, .f32⟩
  | .hbm, ⟨47, _⟩ => ⟨S1x256x256, .f32⟩
  | .hbm, ⟨48, _⟩ => ⟨S9x256x256, .f32⟩
  | .hbm, ⟨49, _⟩ => ⟨S6x256, .f32⟩
  | .hbm, ⟨50, _⟩ => ⟨S256x6, .f32⟩
  | .hbm, ⟨51, _⟩ => ⟨S256x3, .f32⟩
  | .hbm, ⟨52, _⟩ => ⟨S256x3, .f32⟩
  | .hbm, ⟨53, _⟩ => ⟨S3, .f32⟩
  | .hbm, ⟨54, _⟩ => ⟨S3, .f32⟩
  | .hbm, ⟨55, _⟩ => ⟨S12x256x1x1, .f32⟩
  | .hbm, ⟨56, _⟩ => ⟨S12x256, .f32⟩
  | .hbm, ⟨57, _⟩ => ⟨S256x12, .f32⟩
  | .hbm, ⟨58, _⟩ => ⟨S_, .i32⟩
  | .hbm, ⟨59, _⟩ => ⟨S12, .i32⟩
  | .hbm, ⟨60, _⟩ => ⟨S12, .i32⟩
  | .hbm, ⟨61, _⟩ => ⟨S12, .i32⟩
  | .hbm, ⟨62, _⟩ => ⟨S12x1, .i32⟩
  | .hbm, ⟨63, _⟩ => ⟨S256x12, .f32⟩
  | .hbm, ⟨64, _⟩ => ⟨S12, .f32⟩
  | .hbm, ⟨65, _⟩ => ⟨S_, .i32⟩
  | .hbm, ⟨66, _⟩ => ⟨S12, .i32⟩
  | .hbm, ⟨67, _⟩ => ⟨S12, .i32⟩
  | .hbm, ⟨68, _⟩ => ⟨S12, .i32⟩
  | .hbm, ⟨69, _⟩ => ⟨S12x1, .i32⟩
  | .hbm, ⟨70, _⟩ => ⟨S12, .f32⟩
  | .hbm, ⟨71, _⟩ => ⟨S256x12x12, .f32⟩
  | .hbm, ⟨72, _⟩ => ⟨S12x12x256, .f32⟩
  | .hbm, ⟨73, _⟩ => ⟨S_, .i32⟩
  | .hbm, ⟨74, _⟩ => ⟨S_, .f32⟩
  | .hbm, ⟨75, _⟩ => ⟨S14x14x256, .f32⟩
  | .hbm, ⟨76, _⟩ => ⟨S144x3x4, .f32⟩
  | .hbm, ⟨77, _⟩ => ⟨S144x3x1, .f32⟩
  | .hbm, ⟨78, _⟩ => ⟨S144x3, .f32⟩
  | .hbm, ⟨79, _⟩ => ⟨S144x3x1, .f32⟩
  | .hbm, ⟨80, _⟩ => ⟨S144x3, .f32⟩
  | .hbm, ⟨81, _⟩ => ⟨S144x3x1, .f32⟩
  | .hbm, ⟨82, _⟩ => ⟨S144x3, .f32⟩
  | .hbm, ⟨83, _⟩ => ⟨S144x3x1, .f32⟩
  | .hbm, ⟨84, _⟩ => ⟨S144x3, .f32⟩
  | .hbm, ⟨85, _⟩ => ⟨S1x2, .f32⟩
  | .hbm, ⟨86, _⟩ => ⟨S144x3, .f32⟩
  | .hbm, ⟨87, _⟩ => ⟨S144x3, .f32⟩
  | .hbm, ⟨88, _⟩ => ⟨S144x3, .f32⟩
  | .hbm, ⟨89, _⟩ => ⟨S144x3, .f32⟩
  | .hbm, ⟨90, _⟩ => ⟨S144x3, .f32⟩
  | .local _ .vmem, ⟨0, _⟩ => ⟨S14x14x256, .f32⟩
  | .local _ .vmem, ⟨1, _⟩ => ⟨S9x256x256, .f32⟩
  | .local _ .vmem, ⟨2, _⟩ => ⟨S256, .f32⟩
  | .local _ .vmem, ⟨3, _⟩ => ⟨S256x3, .f32⟩
  | .local _ .vmem, ⟨4, _⟩ => ⟨S256x3, .f32⟩
  | .local _ .vmem, ⟨5, _⟩ => ⟨S3, .f32⟩
  | .local _ .vmem, ⟨6, _⟩ => ⟨S3, .f32⟩
  | .local _ .vmem, ⟨7, _⟩ => ⟨S256x12, .f32⟩
  | .local _ .vmem, ⟨8, _⟩ => ⟨S12, .f32⟩
  | .local _ .vmem, ⟨9, _⟩ => ⟨S144x3, .f32⟩
  | .local _ .vmem, ⟨10, _⟩ => ⟨S144x3, .f32⟩
  | .local _ .vmem, ⟨11, _⟩ => ⟨S144x3, .f32⟩
  | .local _ .vmem, ⟨12, _⟩ => ⟨S144x3, .f32⟩
  | .local _ .vmem, ⟨13, _⟩ => ⟨S1x2, .f32⟩
  | .local _ .vmem, ⟨14, _⟩ => ⟨S144x3, .f32⟩
  | .local _ .vmem, ⟨15, _⟩ => ⟨S144x3, .f32⟩
  | .local _ .vmem, ⟨16, _⟩ => ⟨S144x3, .f32⟩
  | .local _ .vmem, ⟨17, _⟩ => ⟨S144x3, .f32⟩
  | .local _ .vmem, ⟨18, _⟩ => ⟨S144x3, .f32⟩
  | _, _ => ⟨S1x256x12x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_4 : Ref sig .tc := ⟨.hbm, 73, rfl⟩
abbrev main_call0_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v70_3 : Ref sig .tc := ⟨.hbm, 89, rfl⟩
abbrev main_v70_4 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def k0_off1 (i : grid0.Coords) (c0_i32 : BitVec 32) : Fin 3 → Nat :=
  let arg0 : BitVec 32 := BitVec.ofNat 32 (i 0).val
  let c12_i32 : BitVec 32 := 12#32
  let v1 : BitVec 32 := Scalar.muli arg0 c12_i32
  let v2 : BitVec 32 := Scalar.addi v1 c0_i32
  let v3 : Index := Scalar.indexCast v2
  let c0 : Index := 0#32
  let c0_0 : Index := 0#32
  ![v3.toNat, 0, 0]
def k0_off2 (i : grid0.Coords) (c0_i32_6 : BitVec 32) : Fin 3 → Nat :=
  let arg0 : BitVec 32 := BitVec.ofNat 32 (i 0).val
  let c12_i32_5 : BitVec 32 := 12#32
  let v11 : BitVec 32 := Scalar.muli arg0 c12_i32_5
  let v12 : BitVec 32 := Scalar.addi v11 c0_i32_6
  let v13 : Index := Scalar.indexCast v12
  let c1 : Index := 1#32
  let c0_7 : Index := 0#32
  ![v13.toNat, 1, 0]
def k0_off3 (i : grid0.Coords) (c0_i32_13 : BitVec 32) : Fin 3 → Nat :=
  let arg0 : BitVec 32 := BitVec.ofNat 32 (i 0).val
  let c12_i32_12 : BitVec 32 := 12#32
  let v21 : BitVec 32 := Scalar.muli arg0 c12_i32_12
  let v22 : BitVec 32 := Scalar.addi v21 c0_i32_13
  let v23 : Index := Scalar.indexCast v22
  let c2 : Index := 2#32
  let c0_14 : Index := 0#32
  ![v23.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S14x14x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S144x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S144x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S144x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S144x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S144x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S144x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S144x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S144x3 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S144x3 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Kernel1Ideal.lean ====
abbrev S1x256x12x12 : Shape := ⟨4, ![1, 256, 12, 12]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S432x4 : Shape := ⟨2, ![432, 4]⟩
abbrev S12 : Shape := ⟨1, ![12]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S6x256 : Shape := ⟨2, ![6, 256]⟩
abbrev S256x6 : Shape := ⟨2, ![256, 6]⟩
abbrev S256x3 : Shape := ⟨2, ![256, 3]⟩
abbrev S3 : Shape := ⟨1, ![3]⟩
abbrev S12x256x1x1 : Shape := ⟨4, ![12, 256, 1, 1]⟩
abbrev S12x256 : Shape := ⟨2, ![12, 256]⟩
abbrev S256x12 : Shape := ⟨2, ![256, 12]⟩
abbrev S_ : Shape := ⟨0, ![]⟩
abbrev S12x1 : Shape := ⟨2, ![12, 1]⟩
abbrev S256x12x12 : Shape := ⟨3, ![256, 12, 12]⟩
abbrev S12x12x256 : Shape := ⟨3, ![12, 12, 256]⟩
abbrev S14x14x256 : Shape := ⟨3, ![14, 14, 256]⟩
abbrev S144x3x4 : Shape := ⟨3, ![144, 3, 4]⟩
abbrev S144x3x1 : Shape := ⟨3, ![144, 3, 1]⟩
abbrev S144x3 : Shape := ⟨2, ![144, 3]⟩
abbrev S1x2 : Shape := ⟨2, ![1, 2]⟩
abbrev S144x256 : Shape := ⟨2, ![144, 256]⟩
abbrev S1x256 : Shape := ⟨2, ![1, 256]⟩
abbrev S1x3 : Shape := ⟨2, ![1, 3]⟩
abbrev S144x12 : Shape := ⟨2, ![144, 12]⟩
abbrev S1x12 : Shape := ⟨2, ![1, 12]⟩
abbrev S1x1 : Shape := ⟨2, ![1, 1]⟩

abbrev nBuf : Space → Nat
  | .hbm => 91
  | .vmem => 19
  | .smem => 0
  | _ => 0

abbrev bufTy : (tb : Table) → Fin (tcTables nBuf tb) → BufTy
  | .hbm, ⟨0, _⟩ => ⟨S1x256x12x12, .f32⟩
  | .hbm, ⟨1, _⟩ => ⟨S1x6, .f32⟩
  | .hbm, ⟨2, _⟩ => ⟨S256x256x3x3, .f32⟩
  | .hbm, ⟨3, _⟩ => ⟨S256, .f32⟩
  | .hbm, ⟨4, _⟩ => ⟨S6x256x1x1, .f32⟩
  | .hbm, ⟨5, _⟩ => ⟨S6, .f32⟩
  | .hbm, ⟨6, _⟩ => ⟨S18x256x1x1, .f32⟩
  | .hbm, ⟨7, _⟩ => ⟨S18, .f32⟩
  | .hbm, ⟨8, _⟩ => ⟨S432x4, .f32⟩
  | .hbm, ⟨9, _⟩ => ⟨S12, .i32⟩
  | .hbm, ⟨10, _⟩ => ⟨S12, .i1⟩
  | .hbm, ⟨11, _⟩ => ⟨S12, .i1⟩
  | .hbm, ⟨12, _⟩ => ⟨S256x256x1x1, .f32⟩
  | .hbm, ⟨13, _⟩ => ⟨S256x256, .f32⟩
  | .hbm, ⟨14, _⟩ => ⟨S256x256, .f32⟩
  | .hbm, ⟨15, _⟩ => ⟨S256x256x1x1, .f32⟩
  | .hbm, ⟨16, _⟩ => ⟨S256x256, .f32⟩
  | .hbm, ⟨17, _⟩ => ⟨S256x256, .f32⟩
  | .hbm, ⟨18, _⟩ => ⟨S256x256x1x1, .f32⟩
  | .hbm, ⟨19, _⟩ => ⟨S256x256, .f32⟩
  | .hbm, ⟨20, _⟩ => ⟨S256x256, .f32⟩
  | .hbm, ⟨21, _⟩ => ⟨S256x256x1x1, .f32⟩
  | .hbm, ⟨22, _⟩ => ⟨S256x256, .f32⟩
  | .hbm, ⟨23, _⟩ => ⟨S256x256, .f32⟩
  | .hbm, ⟨24, _⟩ => ⟨S256x256x1x1, .f32⟩
  | .hbm, ⟨25, _⟩ => ⟨S256x256, .f32⟩
  | .hbm, ⟨26, _⟩ => ⟨S256x256, .f32⟩
  | .hbm, ⟨27, _⟩ => ⟨S256x256x1x1, .f32⟩
  | .hbm, ⟨28, _⟩ => ⟨S256x256, .f32⟩
  | .hbm, ⟨29, _⟩ => ⟨S256x256, .f32⟩
  | .hbm, ⟨30, _⟩ => ⟨S256x256x1x1, .f32⟩
  | .hbm, ⟨31, _⟩ => ⟨S256x256, .f32⟩
  | .hbm, ⟨32, _⟩ => ⟨S256x256, .f32⟩
  | .hbm, ⟨33, _⟩ => ⟨S256x256x1x1, .f32⟩
  | .hbm, ⟨34, _⟩ => ⟨S256x256, .f32⟩
  | .hbm, ⟨35, _⟩ => ⟨S256x256, .f32⟩
  | .hbm, ⟨36, _⟩ => ⟨S256x256x1x1, .f32⟩
  | .hbm, ⟨37, _⟩ => ⟨S256x256, .f32⟩
  | .hbm, ⟨38, _⟩ => ⟨S256x256, .f32⟩
  | .hbm, ⟨39, _⟩ => ⟨S1x256x256, .f32⟩
  | .hbm, ⟨40, _⟩ => ⟨S1x256x256, .f32⟩
  | .hbm, ⟨41, _⟩ => ⟨S1x256x256, .f32⟩
  | .hbm, ⟨42, _⟩ => ⟨S1x256x256, .f32⟩
  | .hbm, ⟨43, _⟩ => ⟨S1x256x256, .f32⟩
  | .hbm, ⟨44, _⟩ => ⟨S1x256x256, .f32⟩
  | .hbm, ⟨45, _⟩ => ⟨S1x256x256, .f32⟩
  | .hbm, ⟨46, _⟩ => ⟨S1x256x256, .f32⟩
  | .hbm, ⟨47, _⟩ => ⟨S1x256x256, .f32⟩
  | .hbm, ⟨48, _⟩ => ⟨S9x256x256, .f32⟩
  | .hbm, ⟨49, _⟩ => ⟨S6x256, .f32⟩
  | .hbm, ⟨50, _⟩ => ⟨S256x6, .f32⟩
  | .hbm, ⟨51, _⟩ => ⟨S256x3, .f32⟩
  | .hbm, ⟨52, _⟩ => ⟨S256x3, .f32⟩
  | .hbm, ⟨53, _⟩ => ⟨S3, .f32⟩
  | .hbm, ⟨54, _⟩ => ⟨S3, .f32⟩
  | .hbm, ⟨55, _⟩ => ⟨S12x256x1x1, .f32⟩
  | .hbm, ⟨56, _⟩ => ⟨S12x256, .f32⟩
  | .hbm, ⟨57, _⟩ => ⟨S256x12, .f32⟩
  | .hbm, ⟨58, _⟩ => ⟨S_, .i32⟩
  | .hbm, ⟨59, _⟩ => ⟨S12, .i32⟩
  | .hbm, ⟨60, _⟩ => ⟨S12, .i32⟩
  | .hbm, ⟨61, _⟩ => ⟨S12, .i32⟩
  | .hbm, ⟨62, _⟩ => ⟨S12x1, .i32⟩
  | .hbm, ⟨63, _⟩ => ⟨S256x12, .f32⟩
  | .hbm, ⟨64, _⟩ => ⟨S12, .f32⟩
  | .hbm, ⟨65, _⟩ => ⟨S_, .i32⟩
  | .hbm, ⟨66, _⟩ => ⟨S12, .i32⟩
  | .hbm, ⟨67, _⟩ => ⟨S12, .i32⟩
  | .hbm, ⟨68, _⟩ => ⟨S12, .i32⟩
  | .hbm, ⟨69, _⟩ => ⟨S12x1, .i32⟩
  | .hbm, ⟨70, _⟩ => ⟨S12, .f32⟩
  | .hbm, ⟨71, _⟩ => ⟨S256x12x12, .f32⟩
  | .hbm, ⟨72, _⟩ => ⟨S12x12x256, .f32⟩
  | .hbm, ⟨73, _⟩ => ⟨S_, .i32⟩
  | .hbm, ⟨74, _⟩ => ⟨S_, .f32⟩
  | .hbm, ⟨75, _⟩ => ⟨S14x14x256, .f32⟩
  | .hbm, ⟨76, _⟩ => ⟨S144x3x4, .f32⟩
  | .hbm, ⟨77, _⟩ => ⟨S144x3x1, .f32⟩
  | .hbm, ⟨78, _⟩ => ⟨S144x3, .f32⟩
  | .hbm, ⟨79, _⟩ => ⟨S144x3x1, .f32⟩
  | .hbm, ⟨80, _⟩ => ⟨S144x3, .f32⟩
  | .hbm, ⟨81, _⟩ => ⟨S144x3x1, .f32⟩
  | .hbm, ⟨82, _⟩ => ⟨S144x3, .f32⟩
  | .hbm, ⟨83, _⟩ => ⟨S144x3x1, .f32⟩
  | .hbm, ⟨84, _⟩ => ⟨S144x3, .f32⟩
  | .hbm, ⟨85, _⟩ => ⟨S1x2, .f32⟩
  | .hbm, ⟨86, _⟩ => ⟨S144x3, .f32⟩
  | .hbm, ⟨87, _⟩ => ⟨S144x3, .f32⟩
  | .hbm, ⟨88, _⟩ => ⟨S144x3, .f32⟩
  | .hbm, ⟨89, _⟩ => ⟨S144x3, .f32⟩
  | .hbm, ⟨90, _⟩ => ⟨S144x3, .f32⟩
  | .local _ .vmem, ⟨0, _⟩ => ⟨S14x14x256, .f32⟩
  | .local _ .vmem, ⟨1, _⟩ => ⟨S9x256x256, .f32⟩
  | .local _ .vmem, ⟨2, _⟩ => ⟨S256, .f32⟩
  | .local _ .vmem, ⟨3, _⟩ => ⟨S256x3, .f32⟩
  | .local _ .vmem, ⟨4, _⟩ => ⟨S256x3, .f32⟩
  | .local _ .vmem, ⟨5, _⟩ => ⟨S3, .f32⟩
  | .local _ .vmem, ⟨6, _⟩ => ⟨S3, .f32⟩
  | .local _ .vmem, ⟨7, _⟩ => ⟨S256x12, .f32⟩
  | .local _ .vmem, ⟨8, _⟩ => ⟨S12, .f32⟩
  | .local _ .vmem, ⟨9, _⟩ => ⟨S144x3, .f32⟩
  | .local _ .vmem, ⟨10, _⟩ => ⟨S144x3, .f32⟩
  | .local _ .vmem, ⟨11, _⟩ => ⟨S144x3, .f32⟩
  | .local _ .vmem, ⟨12, _⟩ => ⟨S144x3, .f32⟩
  | .local _ .vmem, ⟨13, _⟩ => ⟨S1x2, .f32⟩
  | .local _ .vmem, ⟨14, _⟩ => ⟨S144x3, .f32⟩
  | .local _ .vmem, ⟨15, _⟩ => ⟨S144x3, .f32⟩
  | .local _ .vmem, ⟨16, _⟩ => ⟨S144x3, .f32⟩
  | .local _ .vmem, ⟨17, _⟩ => ⟨S144x3, .f32⟩
  | .local _ .vmem, ⟨18, _⟩ => ⟨S144x3, .f32⟩
  | _, _ => ⟨S1x256x12x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_4 : Ref sig .tc := ⟨.hbm, 73, rfl⟩
abbrev main_call0_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v70_3 : Ref sig .tc := ⟨.hbm, 89, rfl⟩
abbrev main_v70_4 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def k0_off1 (i : grid0.Coords) (c0_i32 : BitVec 32) : Fin 3 → Nat :=
  let arg0 : BitVec 32 := BitVec.ofNat 32 (i 0).val
  let c12_i32 : BitVec 32 := 12#32
  let v1 : BitVec 32 := Scalar.muli arg0 c12_i32
  let v2 : BitVec 32 := Scalar.addi v1 c0_i32
  let v3 : Index := Scalar.indexCast v2
  let c0 : Index := 0#32
  let c0_0 : Index := 0#32
  ![v3.toNat, 0, 0]
def k0_off2 (i : grid0.Coords) (c0_i32_6 : BitVec 32) : Fin 3 → Nat :=
  let arg0 : BitVec 32 := BitVec.ofNat 32 (i 0).val
  let c12_i32_5 : BitVec 32 := 12#32
  let v11 : BitVec 32 := Scalar.muli arg0 c12_i32_5
  let v12 : BitVec 32 := Scalar.addi v11 c0_i32_6
  let v13 : Index := Scalar.indexCast v12
  let c1 : Index := 1#32
  let c0_7 : Index := 0#32
  ![v13.toNat, 1, 0]
def k0_off3 (i : grid0.Coords) (c0_i32_13 : BitVec 32) : Fin 3 → Nat :=
  let arg0 : BitVec 32 := BitVec.ofNat 32 (i 0).val
  let c12_i32_12 : BitVec 32 := 12#32
  let v21 : BitVec 32 := Scalar.muli arg0 c12_i32_12
  let v22 : BitVec 32 := Scalar.addi v21 c0_i32_13
  let v23 : Index := Scalar.indexCast v22
  let c2 : Index := 2#32
  let c0_14 : Index := 0#32
  ![v23.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S14x14x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S144x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S144x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S144x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S144x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S144x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S144x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S144x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S144x3 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S144x3 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Reference1Ideal.lean ====
abbrev S1x256x12x12 : Shape := ⟨4, ![1, 256, 12, 12]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S432x4 : Shape := ⟨2, ![432, 4]⟩
abbrev S256x12x12 : Shape := ⟨3, ![256, 12, 12]⟩
abbrev S_ : Shape := ⟨0, ![]⟩
abbrev S256x14x14 : Shape := ⟨3, ![256, 14, 14]⟩
abbrev S256x256x1x1 : Shape := ⟨4, ![256, 256, 1, 1]⟩
abbrev S256x256 : Shape := ⟨2, ![256, 256]⟩
abbrev S256x1x1 : Shape := ⟨3, ![256, 1, 1]⟩
abbrev S6x256 : Shape := ⟨2, ![6, 256]⟩
abbrev S6x12x12 : Shape := ⟨3, ![6, 12, 12]⟩
abbrev S6x1x1 : Shape := ⟨3, ![6, 1, 1]⟩
abbrev S18x256 : Shape := ⟨2, ![18, 256]⟩
abbrev S18x12x12 : Shape := ⟨3, ![18, 12, 12]⟩
abbrev S18x1x1 : Shape := ⟨3, ![18, 1, 1]⟩
abbrev S12x12x12 : Shape := ⟨3, ![12, 12, 12]⟩
abbrev S12x12x6 : Shape := ⟨3, ![12, 12, 6]⟩
abbrev S432x2 : Shape := ⟨2, ![432, 2]⟩
abbrev S432 : Shape := ⟨1, ![432]⟩
abbrev S432x1 : Shape := ⟨2, ![432, 1]⟩
abbrev S1x1 : Shape := ⟨2, ![1, 1]⟩
abbrev S144x3 : Shape := ⟨2, ![144, 3]⟩

abbrev nBuf : Space → Nat
  | .hbm => 198
  | .vmem => 0
  | .smem => 0
  | _ => 0

abbrev hbmTy0_0 (i : Nat) : BufTy := match i % 128 with
  | 0 => ⟨S1x256x12x12, .f32⟩
  | 1 => ⟨S1x6, .f32⟩
  | 2 => ⟨S256x256x3x3, .f32⟩
  | 3 => ⟨S256, .f32⟩
  | 4 => ⟨S6x256x1x1, .f32⟩
  | 5 => ⟨S6, .f32⟩
  | 6 => ⟨S18x256x1x1, .f32⟩
  | 7 => ⟨S18, .f32⟩
  | 8 => ⟨S432x4, .f32⟩
  | 9 => ⟨S256x12x12, .f32⟩
  | 10 => ⟨S_, .i32⟩
  | 11 => ⟨S_, .f32⟩
  | 12 => ⟨S256x14x14, .f32⟩
  | 13 => ⟨S_, .f32⟩
  | 14 => ⟨S256x12x12, .f32⟩
  | 15 => ⟨S256x256x1x1, .f32⟩
  | 16 => ⟨S256x256, .f32⟩
  | 17 => ⟨S256x12x12, .f32⟩
  | 18 => ⟨S256x12x12, .f32⟩
  | 19 => ⟨S256x12x12, .f32⟩
  | 20 => ⟨S256x256x1x1, .f32⟩
  | 21 => ⟨S256x256, .f32⟩
  | 22 => ⟨S256x12x12, .f32⟩
  | 23 => ⟨S256x12x12, .f32⟩
  | 24 => ⟨S256x12x12, .f32⟩
  | 25 => ⟨S256x256x1x1, .f32⟩
  | 26 => ⟨S256x256, .f32⟩
  | 27 => ⟨S256x12x12, .f32⟩
  | 28 => ⟨S256x12x12, .f32⟩
  | 29 => ⟨S256x12x12, .f32⟩
  | 30 => ⟨S256x256x1x1, .f32⟩
  | 31 => ⟨S256x256, .f32⟩
  | 32 => ⟨S256x12x12, .f32⟩
  | 33 => ⟨S256x12x12, .f32⟩
  | 34 => ⟨S256x12x12, .f32⟩
  | 35 => ⟨S256x256x1x1, .f32⟩
  | 36 => ⟨S256x256, .f32⟩
  | 37 => ⟨S256x12x12, .f32⟩
  | 38 => ⟨S256x12x12, .f32⟩
  | 39 => ⟨S256x12x12, .f32⟩
  | 40 => ⟨S256x256x1x1, .f32⟩
  | 41 => ⟨S256x256, .f32⟩
  | 42 => ⟨S256x12x12, .f32⟩
  | 43 => ⟨S256x12x12, .f32⟩
  | 44 => ⟨S256x12x12, .f32⟩
  | 45 => ⟨S256x256x1x1, .f32⟩
  | 46 => ⟨S256x256, .f32⟩
  | 47 => ⟨S256x12x12, .f32⟩
  | 48 => ⟨S256x12x12, .f32⟩
  | 49 => ⟨S256x12x12, .f32⟩
  | 50 => ⟨S256x256x1x1, .f32⟩
  | 51 => ⟨S256x256, .f32⟩
  | 52 => ⟨S256x12x12, .f32⟩
  | 53 => ⟨S256x12x12, .f32⟩
  | 54 => ⟨S256x12x12, .f32⟩
  | 55 => ⟨S256x256x1x1, .f32⟩
  | 56 => ⟨S256x256, .f32⟩
  | 57 => ⟨S256x12x12, .f32⟩
  | 58 => ⟨S256x12x12, .f32⟩
  | 59 => ⟨S256x12x12, .f32⟩
  | 60 => ⟨S256x1x1, .f32⟩
  | 61 => ⟨S256x12x12, .f32⟩
  | 62 => ⟨S256x12x12, .f32⟩
  | 63 => ⟨S_, .f32⟩
  | 64 => ⟨S256x12x12, .f32⟩
  | 65 => ⟨S256x12x12, .f32⟩
  | 66 => ⟨S6x256, .f32⟩
  | 67 => ⟨S6x12x12, .f32⟩
  | 68 => ⟨S6x1x1, .f32⟩
  | 69 => ⟨S6x12x12, .f32⟩
  | 70 => ⟨S6x12x12, .f32⟩
  | 71 => ⟨S18x256, .f32⟩
  | 72 => ⟨S18x12x12, .f32⟩
  | 73 => ⟨S18x1x1, .f32⟩
  | 74 => ⟨S18x12x12, .f32⟩
  | 75 => ⟨S18x12x12, .f32⟩
  | 76 => ⟨S12x12x12, .f32⟩
  | 77 => ⟨S12x12x12, .f32⟩
  | 78 => ⟨S432x4, .f32⟩
  | 79 => ⟨S12x12x6, .f32⟩
  | 80 => ⟨S432x2, .f32⟩
  | 81 => ⟨S_, .f32⟩
  | 82 => ⟨S432, .f32⟩
  | 83 => ⟨S_, .f32⟩
  | 84 => ⟨S432, .f32⟩
  | 85 => ⟨S432, .f32⟩
  | 86 => ⟨S432x1, .f32⟩
  | 87 => ⟨S432x2, .f32⟩
  | 88 => ⟨S432x2, .f32⟩
  | 89 => ⟨S432x2, .f32⟩
  | 90 => ⟨S_, .f32⟩
  | 91 => ⟨S432, .f32⟩
  | 92 => ⟨S432x1, .f32⟩
  | 93 => ⟨S432x2, .f32⟩
  | 94 => ⟨S432x2, .f32⟩
  | 95 => ⟨S432x1, .f32⟩
  | 96 => ⟨S432, .f32⟩
  | 97 => ⟨S432x1, .f32⟩
  | 98 => ⟨S432, .f32⟩
  | 99 => ⟨S432x1, .f32⟩
  | 100 => ⟨S432, .f32⟩
  | 101 => ⟨S432, .f32⟩
  | 102 => ⟨S432x1, .f32⟩
  | 103 => ⟨S432, .f32⟩
  | 104 => ⟨S432x1, .f32⟩
  | 105 => ⟨S432, .f32⟩
  | 106 => ⟨S432, .f32⟩
  | 107 => ⟨S432x1, .f32⟩
  | 108 => ⟨S432, .f32⟩
  | 109 => ⟨S_, .f32⟩
  | 110 => ⟨S432, .f32⟩
  | 111 => ⟨S432, .f32⟩
  | 112 => ⟨S432, .f32⟩
  | 113 => ⟨S432x1, .f32⟩
  | 114 => ⟨S432, .f32⟩
  | 115 => ⟨S_, .f32⟩
  | 116 => ⟨S432, .f32⟩
  | 117 => ⟨S432, .f32⟩
  | 118 => ⟨S432, .f32⟩
  | 119 => ⟨S432x1, .f32⟩
  | 120 => ⟨S432, .f32⟩
  | 121 => ⟨S432x1, .f32⟩
  | 122 => ⟨S432, .f32⟩
  | 123 => ⟨S432x1, .f32⟩
  | 124 => ⟨S432, .f32⟩
  | 125 => ⟨S432x1, .f32⟩
  | 126 => ⟨S432, .f32⟩
  | 127 => ⟨S432, .f32⟩
  | _ => ⟨S1x256x12x12, .f32⟩

abbrev hbmTy0_1 (i : Nat) : BufTy := match i % 128 with
  | 0 => ⟨S432, .f32⟩
  | 1 => ⟨S432, .f32⟩
  | 2 => ⟨S432, .f32⟩
  | 3 => ⟨S_, .f32⟩
  | 4 => ⟨S432, .f32⟩
  | 5 => ⟨S432, .f32⟩
  | 6 => ⟨S432, .f32⟩
  | 7 => ⟨S432, .f32⟩
  | 8 => ⟨S_, .f32⟩
  | 9 => ⟨S432, .f32⟩
  | 10 => ⟨S432, .f32⟩
  | 11 => ⟨S432, .f32⟩
  | 12 => ⟨S432, .f32⟩
  | 13 => ⟨S1x1, .f32⟩
  | 14 => ⟨S_, .f32⟩
  | 15 => ⟨S1x1, .f32⟩
  | 16 => ⟨S_, .f32⟩
  | 17 => ⟨S_, .f32⟩
  | 18 => ⟨S432, .f32⟩
  | 19 => ⟨S432, .f32⟩
  | 20 => ⟨S432, .f32⟩
  | 21 => ⟨S_, .f32⟩
  | 22 => ⟨S_, .f32⟩
  | 23 => ⟨S_, .f32⟩
  | 24 => ⟨S_, .f32⟩
  | 25 => ⟨S432, .f32⟩
  | 26 => ⟨S432, .f32⟩
  | 27 => ⟨S432, .f32⟩
  | 28 => ⟨S432, .f32⟩
  | 29 => ⟨S_, .f32⟩
  | 30 => ⟨S432, .f32⟩
  | 31 => ⟨S432, .f32⟩
  | 32 => ⟨S432, .f32⟩
  | 33 => ⟨S_, .f32⟩
  | 34 => ⟨S_, .f32⟩
  | 35 => ⟨S_, .f32⟩
  | 36 => ⟨S_, .f32⟩
  | 37 => ⟨S432, .f32⟩
  | 38 => ⟨S432, .f32⟩
  | 39 => ⟨S432, .f32⟩
  | 40 => ⟨S432, .f32⟩
  | 41 => ⟨S_, .f32⟩
  | 42 => ⟨S432, .f32⟩
  | 43 => ⟨S432, .f32⟩
  | 44 => ⟨S432, .f32⟩
  | 45 => ⟨S_, .f32⟩
  | 46 => ⟨S_, .f32⟩
  | 47 => ⟨S_, .f32⟩
  | 48 => ⟨S_, .f32⟩
  | 49 => ⟨S432, .f32⟩
  | 50 => ⟨S432, .f32⟩
  | 51 => ⟨S432, .f32⟩
  | 52 => ⟨S432, .f32⟩
  | 53 => ⟨S_, .f32⟩
  | 54 => ⟨S432, .f32⟩
  | 55 => ⟨S432, .f32⟩
  | 56 => ⟨S432, .f32⟩
  | 57 => ⟨S_, .f32⟩
  | 58 => ⟨S_, .f32⟩
  | 59 => ⟨S_, .f32⟩
  | 60 => ⟨S_, .f32⟩
  | 61 => ⟨S432, .f32⟩
  | 62 => ⟨S432, .f32⟩
  | 63 => ⟨S432, .f32⟩
  | 64 => ⟨S432, .f32⟩
  | 65 => ⟨S144x3, .f32⟩
  | 66 => ⟨S144x3, .f32⟩
  | 67 => ⟨S144x3, .f32⟩
  | 68 => ⟨S144x3, .f32⟩
  | 69 => ⟨S144x3, .f32⟩
  | _ => ⟨S1x256x12x12, .f32⟩

abbrev hbmTy (i : Nat) : BufTy := match i / 128 with
  | 0 => hbmTy0_0 i
  | 1 => hbmTy0_1 i
  | _ => ⟨S1x256x12x12, .f32⟩

abbrev bufTy : (tb : Table) → Fin (tcTables nBuf tb) → BufTy
  | .hbm, ⟨i, _⟩ => hbmTy i
  | _, _ => ⟨S1x256x12x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call1_cst : Ref sig .tc := ⟨.hbm, 63, rfl⟩
abbrev main_call1_v0 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_0 : Ref sig .tc := ⟨.hbm, 81, rfl⟩
abbrev main_v67 : Ref sig .tc := ⟨.hbm, 82, rfl⟩
abbrev main_cst_1 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_2 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_3 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_4 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_5 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_6 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_7 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_8 : Ref sig .tc := ⟨.hbm, 149, rfl⟩
abbrev main_v127 : Ref sig .tc := ⟨.hbm, 150, rfl⟩
abbrev main_cst_9 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_v128 : Ref sig .tc := ⟨.hbm, 156, rfl⟩
abbrev main_cst_10 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_11 : Ref sig .tc := ⟨.hbm, 161, rfl⟩
abbrev main_v132 : Ref sig .tc := ⟨.hbm, 162, rfl⟩
abbrev main_cst_12 : Ref sig .tc := ⟨.hbm, 163, rfl⟩
abbrev main_call3_v0 : Ref sig .tc := ⟨.hbm, 164, rfl⟩
abbrev main_call3_v1 : Ref sig .tc := ⟨.hbm, 165, rfl⟩
abbrev main_call3_v2 : Ref sig .tc := ⟨.hbm, 166, rfl⟩
abbrev main_call3_v3 : Ref sig .tc := ⟨.hbm, 167, rfl⟩
abbrev main_v133 : Ref sig .tc := ⟨.hbm, 168, rfl⟩
abbrev main_cst_13 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_14 : Ref sig .tc := ⟨.hbm, 173, rfl⟩
abbrev main_v137 : Ref sig .tc := ⟨.hbm, 174, rfl⟩
abbrev main_cst_15 : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_v138 : Ref sig .tc := ⟨.hbm, 180, rfl⟩
abbrev main_cst_16 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_17 : Ref sig .tc := ⟨.hbm, 185, rfl⟩
abbrev main_v142 : Ref sig .tc := ⟨.hbm, 186, rfl⟩
abbrev main_cst_18 : Ref sig .tc := ⟨.hbm, 187, rfl⟩
abbrev main_call5_v0 : Ref sig .tc := ⟨.hbm, 188, rfl⟩
abbrev main_call5_v1 : Ref sig .tc := ⟨.hbm, 189, rfl⟩
abbrev main_call5_v2 : Ref sig .tc := ⟨.hbm, 190, rfl⟩
abbrev main_call5_v3 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩

abbrev nD : Nat := 1
abbrev τ : Topo := Topo.v7x

variable {F : FTy → Type} [FloatOps F]
-- ==== Kernel2.lean ====
abbrev S1x256x24x24 : Shape := ⟨4, ![1, 256, 24, 24]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S1728x4 : Shape := ⟨2, ![1728, 4]⟩
abbrev S12 : Shape := ⟨1, ![12]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S6x256 : Shape := ⟨2, ![6, 256]⟩
abbrev S256x6 : Shape := ⟨2, ![256, 6]⟩
abbrev S256x3 : Shape := ⟨2, ![256, 3]⟩
abbrev S3 : Shape := ⟨1, ![3]⟩
abbrev S12x256x1x1 : Shape := ⟨4, ![12, 256, 1, 1]⟩
abbrev S12x256 : Shape := ⟨2, ![12, 256]⟩
abbrev S256x12 : Shape := ⟨2, ![256, 12]⟩
abbrev S_ : Shape := ⟨0, ![]⟩
abbrev S12x1 : Shape := ⟨2, ![12, 1]⟩
abbrev S256x24x24 : Shape := ⟨3, ![256, 24, 24]⟩
abbrev S24x24x256 : Shape := ⟨3, ![24, 24, 256]⟩
abbrev S26x26x256 : Shape := ⟨3, ![26, 26, 256]⟩
abbrev S576x3x4 : Shape := ⟨3, ![576, 3, 4]⟩
abbrev S576x3x1 : Shape := ⟨3, ![576, 3, 1]⟩
abbrev S576x3 : Shape := ⟨2, ![576, 3]⟩
abbrev S1x2 : Shape := ⟨2, ![1, 2]⟩
abbrev S288x3 : Shape := ⟨2, ![288, 3]⟩
abbrev S288x256 : Shape := ⟨2, ![288, 256]⟩
abbrev S12x24x256 : Shape := ⟨3, ![12, 24, 256]⟩
abbrev S1x256 : Shape := ⟨2, ![1, 256]⟩
abbrev S1x3 : Shape := ⟨2, ![1, 3]⟩
abbrev S288x12 : Shape := ⟨2, ![288, 12]⟩
abbrev S1x12 : Shape := ⟨2, ![1, 12]⟩
abbrev S1x1 : Shape := ⟨2, ![1, 1]⟩

abbrev nBuf : Space → Nat
  | .hbm => 91
  | .vmem => 28
  | .smem => 0
  | _ => 0

abbrev bufTy : (tb : Table) → Fin (tcTables nBuf tb) → BufTy
  | .hbm, ⟨0, _⟩ => ⟨S1x256x24x24, .f32⟩
  | .hbm, ⟨1, _⟩ => ⟨S1x6, .f32⟩
  | .hbm, ⟨2, _⟩ => ⟨S256x256x3x3, .f32⟩
  | .hbm, ⟨3, _⟩ => ⟨S256, .f32⟩
  | .hbm, ⟨4, _⟩ => ⟨S6x256x1x1, .f32⟩
  | .hbm, ⟨5, _⟩ => ⟨S6, .f32⟩
  | .hbm, ⟨6, _⟩ => ⟨S18x256x1x1, .f32⟩
  | .hbm, ⟨7, _⟩ => ⟨S18, .f32⟩
  | .hbm, ⟨8, _⟩ => ⟨S1728x4, .f32⟩
  | .hbm, ⟨9, _⟩ => ⟨S12, .i32⟩
  | .hbm, ⟨10, _⟩ => ⟨S12, .i1⟩
  | .hbm, ⟨11, _⟩ => ⟨S12, .i1⟩
  | .hbm, ⟨12, _⟩ => ⟨S256x256x1x1, .f32⟩
  | .hbm, ⟨13, _⟩ => ⟨S256x256, .f32⟩
  | .hbm, ⟨14, _⟩ => ⟨S256x256, .f32⟩
  | .hbm, ⟨15, _⟩ => ⟨S256x256x1x1, .f32⟩
  | .hbm, ⟨16, _⟩ => ⟨S256x256, .f32⟩
  | .hbm, ⟨17, _⟩ => ⟨S256x256, .f32⟩
  | .hbm, ⟨18, _⟩ => ⟨S256x256x1x1, .f32⟩
  | .hbm, ⟨19, _⟩ => ⟨S256x256, .f32⟩
  | .hbm, ⟨20, _⟩ => ⟨S256x256, .f32⟩
  | .hbm, ⟨21, _⟩ => ⟨S256x256x1x1, .f32⟩
  | .hbm, ⟨22, _⟩ => ⟨S256x256, .f32⟩
  | .hbm, ⟨23, _⟩ => ⟨S256x256, .f32⟩
  | .hbm, ⟨24, _⟩ => ⟨S256x256x1x1, .f32⟩
  | .hbm, ⟨25, _⟩ => ⟨S256x256, .f32⟩
  | .hbm, ⟨26, _⟩ => ⟨S256x256, .f32⟩
  | .hbm, ⟨27, _⟩ => ⟨S256x256x1x1, .f32⟩
  | .hbm, ⟨28, _⟩ => ⟨S256x256, .f32⟩
  | .hbm, ⟨29, _⟩ => ⟨S256x256, .f32⟩
  | .hbm, ⟨30, _⟩ => ⟨S256x256x1x1, .f32⟩
  | .hbm, ⟨31, _⟩ => ⟨S256x256, .f32⟩
  | .hbm, ⟨32, _⟩ => ⟨S256x256, .f32⟩
  | .hbm, ⟨33, _⟩ => ⟨S256x256x1x1, .f32⟩
  | .hbm, ⟨34, _⟩ => ⟨S256x256, .f32⟩
  | .hbm, ⟨35, _⟩ => ⟨S256x256, .f32⟩
  | .hbm, ⟨36, _⟩ => ⟨S256x256x1x1, .f32⟩
  | .hbm, ⟨37, _⟩ => ⟨S256x256, .f32⟩
  | .hbm, ⟨38, _⟩ => ⟨S256x256, .f32⟩
  | .hbm, ⟨39, _⟩ => ⟨S1x256x256, .f32⟩
  | .hbm, ⟨40, _⟩ => ⟨S1x256x256, .f32⟩
  | .hbm, ⟨41, _⟩ => ⟨S1x256x256, .f32⟩
  | .hbm, ⟨42, _⟩ => ⟨S1x256x256, .f32⟩
  | .hbm, ⟨43, _⟩ => ⟨S1x256x256, .f32⟩
  | .hbm, ⟨44, _⟩ => ⟨S1x256x256, .f32⟩
  | .hbm, ⟨45, _⟩ => ⟨S1x256x256, .f32⟩
  | .hbm, ⟨46, _⟩ => ⟨S1x256x256, .f32⟩
  | .hbm, ⟨47, _⟩ => ⟨S1x256x256, .f32⟩
  | .hbm, ⟨48, _⟩ => ⟨S9x256x256, .f32⟩
  | .hbm, ⟨49, _⟩ => ⟨S6x256, .f32⟩
  | .hbm, ⟨50, _⟩ => ⟨S256x6, .f32⟩
  | .hbm, ⟨51, _⟩ => ⟨S256x3, .f32⟩
  | .hbm, ⟨52, _⟩ => ⟨S256x3, .f32⟩
  | .hbm, ⟨53, _⟩ => ⟨S3, .f32⟩
  | .hbm, ⟨54, _⟩ => ⟨S3, .f32⟩
  | .hbm, ⟨55, _⟩ => ⟨S12x256x1x1, .f32⟩
  | .hbm, ⟨56, _⟩ => ⟨S12x256, .f32⟩
  | .hbm, ⟨57, _⟩ => ⟨S256x12, .f32⟩
  | .hbm, ⟨58, _⟩ => ⟨S_, .i32⟩
  | .hbm, ⟨59, _⟩ => ⟨S12, .i32⟩
  | .hbm, ⟨60, _⟩ => ⟨S12, .i32⟩
  | .hbm, ⟨61, _⟩ => ⟨S12, .i32⟩
  | .hbm, ⟨62, _⟩ => ⟨S12x1, .i32⟩
  | .hbm, ⟨63, _⟩ => ⟨S256x12, .f32⟩
  | .hbm, ⟨64, _⟩ => ⟨S12, .f32⟩
  | .hbm, ⟨65, _⟩ => ⟨S_, .i32⟩
  | .hbm, ⟨66, _⟩ => ⟨S12, .i32⟩
  | .hbm, ⟨67, _⟩ => ⟨S12, .i32⟩
  | .hbm, ⟨68, _⟩ => ⟨S12, .i32⟩
  | .hbm, ⟨69, _⟩ => ⟨S12x1, .i32⟩
  | .hbm, ⟨70, _⟩ => ⟨S12, .f32⟩
  | .hbm, ⟨71, _⟩ => ⟨S256x24x24, .f32⟩
  | .hbm, ⟨72, _⟩ => ⟨S24x24x256, .f32⟩
  | .hbm, ⟨73, _⟩ => ⟨S_, .i32⟩
  | .hbm, ⟨74, _⟩ => ⟨S_, .f32⟩
  | .hbm, ⟨75, _⟩ => ⟨S26x26x256, .f32⟩
  | .hbm, ⟨76, _⟩ => ⟨S576x3x4, .f32⟩
  | .hbm, ⟨77, _⟩ => ⟨S576x3x1, .f32⟩
  | .hbm, ⟨78, _⟩ => ⟨S576x3, .f32⟩
  | .hbm, ⟨79, _⟩ => ⟨S576x3x1, .f32⟩
  | .hbm, ⟨80, _⟩ => ⟨S576x3, .f32⟩
  | .hbm, ⟨81, _⟩ => ⟨S576x3x1, .f32⟩
  | .hbm, ⟨82, _⟩ => ⟨S576x3, .f32⟩
  | .hbm, ⟨83, _⟩ => ⟨S576x3x1, .f32⟩
  | .hbm, ⟨84, _⟩ => ⟨S576x3, .f32⟩
  | .hbm, ⟨85, _⟩ => ⟨S1x2, .f32⟩
  | .hbm, ⟨86, _⟩ => ⟨S576x3, .f32⟩
  | .hbm, ⟨87, _⟩ => ⟨S576x3, .f32⟩
  | .hbm, ⟨88, _⟩ => ⟨S576x3, .f32⟩
  | .hbm, ⟨89, _⟩ => ⟨S576x3, .f32⟩
  | .hbm, ⟨90, _⟩ => ⟨S576x3, .f32⟩
  | .local _ .vmem, ⟨0, _⟩ => ⟨S26x26x256, .f32⟩
  | .local _ .vmem, ⟨1, _⟩ => ⟨S9x256x256, .f32⟩
  | .local _ .vmem, ⟨2, _⟩ => ⟨S256, .f32⟩
  | .local _ .vmem, ⟨3, _⟩ => ⟨S256x3, .f32⟩
  | .local _ .vmem, ⟨4, _⟩ => ⟨S256x3, .f32⟩
  | .local _ .vmem, ⟨5, _⟩ => ⟨S3, .f32⟩
  | .local _ .vmem, ⟨6, _⟩ => ⟨S3, .f32⟩
  | .local _ .vmem, ⟨7, _⟩ => ⟨S256x12, .f32⟩
  | .local _ .vmem, ⟨8, _⟩ => ⟨S12, .f32⟩
  | .local _ .vmem, ⟨9, _⟩ => ⟨S288x3, .f32⟩
  | .local _ .vmem, ⟨10, _⟩ => ⟨S288x3, .f32⟩
  | .local _ .vmem, ⟨11, _⟩ => ⟨S288x3, .f32⟩
  | .local _ .vmem, ⟨12, _⟩ => ⟨S288x3, .f32⟩
  | .local _ .vmem, ⟨13, _⟩ => ⟨S288x3, .f32⟩
  | .local _ .vmem, ⟨14, _⟩ => ⟨S288x3, .f32⟩
  | .local _ .vmem, ⟨15, _⟩ => ⟨S288x3, .f32⟩
  | .local _ .vmem, ⟨16, _⟩ => ⟨S288x3, .f32⟩
  | .local _ .vmem, ⟨17, _⟩ => ⟨S1x2, .f32⟩
  | .local _ .vmem, ⟨18, _⟩ => ⟨S288x3, .f32⟩
  | .local _ .vmem, ⟨19, _⟩ => ⟨S288x3, .f32⟩
  | .local _ .vmem, ⟨20, _⟩ => ⟨S288x3, .f32⟩
  | .local _ .vmem, ⟨21, _⟩ => ⟨S288x3, .f32⟩
  | .local _ .vmem, ⟨22, _⟩ => ⟨S288x3, .f32⟩
  | .local _ .vmem, ⟨23, _⟩ => ⟨S288x3, .f32⟩
  | .local _ .vmem, ⟨24, _⟩ => ⟨S288x3, .f32⟩
  | .local _ .vmem, ⟨25, _⟩ => ⟨S288x3, .f32⟩
  | .local _ .vmem, ⟨26, _⟩ => ⟨S288x3, .f32⟩
  | .local _ .vmem, ⟨27, _⟩ => ⟨S288x3, .f32⟩
  | _, _ => ⟨S1x256x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_4 : Ref sig .tc := ⟨.hbm, 73, rfl⟩
abbrev main_call0_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v70_3 : Ref sig .tc := ⟨.hbm, 89, rfl⟩
abbrev main_v70_4 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 3 → Nat :=
  let arg0 : BitVec 32 := BitVec.ofNat 32 (i 0).val
  let c12_i32 : BitVec 32 := 12#32
  let v1 : BitVec 32 := Scalar.muli arg0 c12_i32
  let v2 : BitVec 32 := Scalar.addi v1 c0_i32
  let v3 : Index := Scalar.indexCast v2
  let c0 : Index := 0#32
  let c0_0 : Index := 0#32
  ![v3.toNat, 0, 0]
def k0_off2 (i : grid0.Coords) (c0_i32_6 : BitVec 32) : Fin 3 → Nat :=
  let arg0 : BitVec 32 := BitVec.ofNat 32 (i 0).val
  let c12_i32_5 : BitVec 32 := 12#32
  let v11 : BitVec 32 := Scalar.muli arg0 c12_i32_5
  let v12 : BitVec 32 := Scalar.addi v11 c0_i32_6
  let v13 : Index := Scalar.indexCast v12
  let c1 : Index := 1#32
  let c0_7 : Index := 0#32
  ![v13.toNat, 1, 0]
def k0_off3 (i : grid0.Coords) (c0_i32_13 : BitVec 32) : Fin 3 → Nat :=
  let arg0 : BitVec 32 := BitVec.ofNat 32 (i 0).val
  let c12_i32_12 : BitVec 32 := 12#32
  let v21 : BitVec 32 := Scalar.muli arg0 c12_i32_12
  let v22 : BitVec 32 := Scalar.addi v21 c0_i32_13
  let v23 : Index := Scalar.indexCast v22
  let c2 : Index := 2#32
  let c0_14 : Index := 0#32
  ![v23.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S26x26x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S288x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S288x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S288x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S288x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S288x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S288x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S288x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S288x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S288x3 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel2Ideal.lean ====
abbrev S1x256x24x24 : Shape := ⟨4, ![1, 256, 24, 24]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S1728x4 : Shape := ⟨2, ![1728, 4]⟩
abbrev S12 : Shape := ⟨1, ![12]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S6x256 : Shape := ⟨2, ![6, 256]⟩
abbrev S256x6 : Shape := ⟨2, ![256, 6]⟩
abbrev S256x3 : Shape := ⟨2, ![256, 3]⟩
abbrev S3 : Shape := ⟨1, ![3]⟩
abbrev S12x256x1x1 : Shape := ⟨4, ![12, 256, 1, 1]⟩
abbrev S12x256 : Shape := ⟨2, ![12, 256]⟩
abbrev S256x12 : Shape := ⟨2, ![256, 12]⟩
abbrev S_ : Shape := ⟨0, ![]⟩
abbrev S12x1 : Shape := ⟨2, ![12, 1]⟩
abbrev S256x24x24 : Shape := ⟨3, ![256, 24, 24]⟩
abbrev S24x24x256 : Shape := ⟨3, ![24, 24, 256]⟩
abbrev S26x26x256 : Shape := ⟨3, ![26, 26, 256]⟩
abbrev S576x3x4 : Shape := ⟨3, ![576, 3, 4]⟩
abbrev S576x3x1 : Shape := ⟨3, ![576, 3, 1]⟩
abbrev S576x3 : Shape := ⟨2, ![576, 3]⟩
abbrev S1x2 : Shape := ⟨2, ![1, 2]⟩
abbrev S288x3 : Shape := ⟨2, ![288, 3]⟩
abbrev S288x256 : Shape := ⟨2, ![288, 256]⟩
abbrev S12x24x256 : Shape := ⟨3, ![12, 24, 256]⟩
abbrev S1x256 : Shape := ⟨2, ![1, 256]⟩
abbrev S1x3 : Shape := ⟨2, ![1, 3]⟩
abbrev S288x12 : Shape := ⟨2, ![288, 12]⟩
abbrev S1x12 : Shape := ⟨2, ![1, 12]⟩
abbrev S1x1 : Shape := ⟨2, ![1, 1]⟩

abbrev nBuf : Space → Nat
  | .hbm => 91
  | .vmem => 28
  | .smem => 0
  | _ => 0

abbrev bufTy : (tb : Table) → Fin (tcTables nBuf tb) → BufTy
  | .hbm, ⟨0, _⟩ => ⟨S1x256x24x24, .f32⟩
  | .hbm, ⟨1, _⟩ => ⟨S1x6, .f32⟩
  | .hbm, ⟨2, _⟩ => ⟨S256x256x3x3, .f32⟩
  | .hbm, ⟨3, _⟩ => ⟨S256, .f32⟩
  | .hbm, ⟨4, _⟩ => ⟨S6x256x1x1, .f32⟩
  | .hbm, ⟨5, _⟩ => ⟨S6, .f32⟩
  | .hbm, ⟨6, _⟩ => ⟨S18x256x1x1, .f32⟩
  | .hbm, ⟨7, _⟩ => ⟨S18, .f32⟩
  | .hbm, ⟨8, _⟩ => ⟨S1728x4, .f32⟩
  | .hbm, ⟨9, _⟩ => ⟨S12, .i32⟩
  | .hbm, ⟨10, _⟩ => ⟨S12, .i1⟩
  | .hbm, ⟨11, _⟩ => ⟨S12, .i1⟩
  | .hbm, ⟨12, _⟩ => ⟨S256x256x1x1, .f32⟩
  | .hbm, ⟨13, _⟩ => ⟨S256x256, .f32⟩
  | .hbm, ⟨14, _⟩ => ⟨S256x256, .f32⟩
  | .hbm, ⟨15, _⟩ => ⟨S256x256x1x1, .f32⟩
  | .hbm, ⟨16, _⟩ => ⟨S256x256, .f32⟩
  | .hbm, ⟨17, _⟩ => ⟨S256x256, .f32⟩
  | .hbm, ⟨18, _⟩ => ⟨S256x256x1x1, .f32⟩
  | .hbm, ⟨19, _⟩ => ⟨S256x256, .f32⟩
  | .hbm, ⟨20, _⟩ => ⟨S256x256, .f32⟩
  | .hbm, ⟨21, _⟩ => ⟨S256x256x1x1, .f32⟩
  | .hbm, ⟨22, _⟩ => ⟨S256x256, .f32⟩
  | .hbm, ⟨23, _⟩ => ⟨S256x256, .f32⟩
  | .hbm, ⟨24, _⟩ => ⟨S256x256x1x1, .f32⟩
  | .hbm, ⟨25, _⟩ => ⟨S256x256, .f32⟩
  | .hbm, ⟨26, _⟩ => ⟨S256x256, .f32⟩
  | .hbm, ⟨27, _⟩ => ⟨S256x256x1x1, .f32⟩
  | .hbm, ⟨28, _⟩ => ⟨S256x256, .f32⟩
  | .hbm, ⟨29, _⟩ => ⟨S256x256, .f32⟩
  | .hbm, ⟨30, _⟩ => ⟨S256x256x1x1, .f32⟩
  | .hbm, ⟨31, _⟩ => ⟨S256x256, .f32⟩
  | .hbm, ⟨32, _⟩ => ⟨S256x256, .f32⟩
  | .hbm, ⟨33, _⟩ => ⟨S256x256x1x1, .f32⟩
  | .hbm, ⟨34, _⟩ => ⟨S256x256, .f32⟩
  | .hbm, ⟨35, _⟩ => ⟨S256x256, .f32⟩
  | .hbm, ⟨36, _⟩ => ⟨S256x256x1x1, .f32⟩
  | .hbm, ⟨37, _⟩ => ⟨S256x256, .f32⟩
  | .hbm, ⟨38, _⟩ => ⟨S256x256, .f32⟩
  | .hbm, ⟨39, _⟩ => ⟨S1x256x256, .f32⟩
  | .hbm, ⟨40, _⟩ => ⟨S1x256x256, .f32⟩
  | .hbm, ⟨41, _⟩ => ⟨S1x256x256, .f32⟩
  | .hbm, ⟨42, _⟩ => ⟨S1x256x256, .f32⟩
  | .hbm, ⟨43, _⟩ => ⟨S1x256x256, .f32⟩
  | .hbm, ⟨44, _⟩ => ⟨S1x256x256, .f32⟩
  | .hbm, ⟨45, _⟩ => ⟨S1x256x256, .f32⟩
  | .hbm, ⟨46, _⟩ => ⟨S1x256x256, .f32⟩
  | .hbm, ⟨47, _⟩ => ⟨S1x256x256, .f32⟩
  | .hbm, ⟨48, _⟩ => ⟨S9x256x256, .f32⟩
  | .hbm, ⟨49, _⟩ => ⟨S6x256, .f32⟩
  | .hbm, ⟨50, _⟩ => ⟨S256x6, .f32⟩
  | .hbm, ⟨51, _⟩ => ⟨S256x3, .f32⟩
  | .hbm, ⟨52, _⟩ => ⟨S256x3, .f32⟩
  | .hbm, ⟨53, _⟩ => ⟨S3, .f32⟩
  | .hbm, ⟨54, _⟩ => ⟨S3, .f32⟩
  | .hbm, ⟨55, _⟩ => ⟨S12x256x1x1, .f32⟩
  | .hbm, ⟨56, _⟩ => ⟨S12x256, .f32⟩
  | .hbm, ⟨57, _⟩ => ⟨S256x12, .f32⟩
  | .hbm, ⟨58, _⟩ => ⟨S_, .i32⟩
  | .hbm, ⟨59, _⟩ => ⟨S12, .i32⟩
  | .hbm, ⟨60, _⟩ => ⟨S12, .i32⟩
  | .hbm, ⟨61, _⟩ => ⟨S12, .i32⟩
  | .hbm, ⟨62, _⟩ => ⟨S12x1, .i32⟩
  | .hbm, ⟨63, _⟩ => ⟨S256x12, .f32⟩
  | .hbm, ⟨64, _⟩ => ⟨S12, .f32⟩
  | .hbm, ⟨65, _⟩ => ⟨S_, .i32⟩
  | .hbm, ⟨66, _⟩ => ⟨S12, .i32⟩
  | .hbm, ⟨67, _⟩ => ⟨S12, .i32⟩
  | .hbm, ⟨68, _⟩ => ⟨S12, .i32⟩
  | .hbm, ⟨69, _⟩ => ⟨S12x1, .i32⟩
  | .hbm, ⟨70, _⟩ => ⟨S12, .f32⟩
  | .hbm, ⟨71, _⟩ => ⟨S256x24x24, .f32⟩
  | .hbm, ⟨72, _⟩ => ⟨S24x24x256, .f32⟩
  | .hbm, ⟨73, _⟩ => ⟨S_, .i32⟩
  | .hbm, ⟨74, _⟩ => ⟨S_, .f32⟩
  | .hbm, ⟨75, _⟩ => ⟨S26x26x256, .f32⟩
  | .hbm, ⟨76, _⟩ => ⟨S576x3x4, .f32⟩
  | .hbm, ⟨77, _⟩ => ⟨S576x3x1, .f32⟩
  | .hbm, ⟨78, _⟩ => ⟨S576x3, .f32⟩
  | .hbm, ⟨79, _⟩ => ⟨S576x3x1, .f32⟩
  | .hbm, ⟨80, _⟩ => ⟨S576x3, .f32⟩
  | .hbm, ⟨81, _⟩ => ⟨S576x3x1, .f32⟩
  | .hbm, ⟨82, _⟩ => ⟨S576x3, .f32⟩
  | .hbm, ⟨83, _⟩ => ⟨S576x3x1, .f32⟩
  | .hbm, ⟨84, _⟩ => ⟨S576x3, .f32⟩
  | .hbm, ⟨85, _⟩ => ⟨S1x2, .f32⟩
  | .hbm, ⟨86, _⟩ => ⟨S576x3, .f32⟩
  | .hbm, ⟨87, _⟩ => ⟨S576x3, .f32⟩
  | .hbm, ⟨88, _⟩ => ⟨S576x3, .f32⟩
  | .hbm, ⟨89, _⟩ => ⟨S576x3, .f32⟩
  | .hbm, ⟨90, _⟩ => ⟨S576x3, .f32⟩
  | .local _ .vmem, ⟨0, _⟩ => ⟨S26x26x256, .f32⟩
  | .local _ .vmem, ⟨1, _⟩ => ⟨S9x256x256, .f32⟩
  | .local _ .vmem, ⟨2, _⟩ => ⟨S256, .f32⟩
  | .local _ .vmem, ⟨3, _⟩ => ⟨S256x3, .f32⟩
  | .local _ .vmem, ⟨4, _⟩ => ⟨S256x3, .f32⟩
  | .local _ .vmem, ⟨5, _⟩ => ⟨S3, .f32⟩
  | .local _ .vmem, ⟨6, _⟩ => ⟨S3, .f32⟩
  | .local _ .vmem, ⟨7, _⟩ => ⟨S256x12, .f32⟩
  | .local _ .vmem, ⟨8, _⟩ => ⟨S12, .f32⟩
  | .local _ .vmem, ⟨9, _⟩ => ⟨S288x3, .f32⟩
  | .local _ .vmem, ⟨10, _⟩ => ⟨S288x3, .f32⟩
  | .local _ .vmem, ⟨11, _⟩ => ⟨S288x3, .f32⟩
  | .local _ .vmem, ⟨12, _⟩ => ⟨S288x3, .f32⟩
  | .local _ .vmem, ⟨13, _⟩ => ⟨S288x3, .f32⟩
  | .local _ .vmem, ⟨14, _⟩ => ⟨S288x3, .f32⟩
  | .local _ .vmem, ⟨15, _⟩ => ⟨S288x3, .f32⟩
  | .local _ .vmem, ⟨16, _⟩ => ⟨S288x3, .f32⟩
  | .local _ .vmem, ⟨17, _⟩ => ⟨S1x2, .f32⟩
  | .local _ .vmem, ⟨18, _⟩ => ⟨S288x3, .f32⟩
  | .local _ .vmem, ⟨19, _⟩ => ⟨S288x3, .f32⟩
  | .local _ .vmem, ⟨20, _⟩ => ⟨S288x3, .f32⟩
  | .local _ .vmem, ⟨21, _⟩ => ⟨S288x3, .f32⟩
  | .local _ .vmem, ⟨22, _⟩ => ⟨S288x3, .f32⟩
  | .local _ .vmem, ⟨23, _⟩ => ⟨S288x3, .f32⟩
  | .local _ .vmem, ⟨24, _⟩ => ⟨S288x3, .f32⟩
  | .local _ .vmem, ⟨25, _⟩ => ⟨S288x3, .f32⟩
  | .local _ .vmem, ⟨26, _⟩ => ⟨S288x3, .f32⟩
  | .local _ .vmem, ⟨27, _⟩ => ⟨S288x3, .f32⟩
  | _, _ => ⟨S1x256x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_4 : Ref sig .tc := ⟨.hbm, 73, rfl⟩
abbrev main_call0_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v70_3 : Ref sig .tc := ⟨.hbm, 89, rfl⟩
abbrev main_v70_4 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 3 → Nat :=
  let arg0 : BitVec 32 := BitVec.ofNat 32 (i 0).val
  let c12_i32 : BitVec 32 := 12#32
  let v1 : BitVec 32 := Scalar.muli arg0 c12_i32
  let v2 : BitVec 32 := Scalar.addi v1 c0_i32
  let v3 : Index := Scalar.indexCast v2
  let c0 : Index := 0#32
  let c0_0 : Index := 0#32
  ![v3.toNat, 0, 0]
def k0_off2 (i : grid0.Coords) (c0_i32_6 : BitVec 32) : Fin 3 → Nat :=
  let arg0 : BitVec 32 := BitVec.ofNat 32 (i 0).val
  let c12_i32_5 : BitVec 32 := 12#32
  let v11 : BitVec 32 := Scalar.muli arg0 c12_i32_5
  let v12 : BitVec 32 := Scalar.addi v11 c0_i32_6
  let v13 : Index := Scalar.indexCast v12
  let c1 : Index := 1#32
  let c0_7 : Index := 0#32
  ![v13.toNat, 1, 0]
def k0_off3 (i : grid0.Coords) (c0_i32_13 : BitVec 32) : Fin 3 → Nat :=
  let arg0 : BitVec 32 := BitVec.ofNat 32 (i 0).val
  let c12_i32_12 : BitVec 32 := 12#32
  let v21 : BitVec 32 := Scalar.muli arg0 c12_i32_12
  let v22 : BitVec 32 := Scalar.addi v21 c0_i32_13
  let v23 : Index := Scalar.indexCast v22
  let c2 : Index := 2#32
  let c0_14 : Index := 0#32
  ![v23.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S26x26x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S288x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S288x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S288x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S288x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S288x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S288x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S288x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S288x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S288x3 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S1x256x24x24 : Shape := ⟨4, ![1, 256, 24, 24]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S1728x4 : Shape := ⟨2, ![1728, 4]⟩
abbrev S256x24x24 : Shape := ⟨3, ![256, 24, 24]⟩
abbrev S_ : Shape := ⟨0, ![]⟩
abbrev S256x26x26 : Shape := ⟨3, ![256, 26, 26]⟩
abbrev S256x256x1x1 : Shape := ⟨4, ![256, 256, 1, 1]⟩
abbrev S256x256 : Shape := ⟨2, ![256, 256]⟩
abbrev S256x1x1 : Shape := ⟨3, ![256, 1, 1]⟩
abbrev S6x256 : Shape := ⟨2, ![6, 256]⟩
abbrev S6x24x24 : Shape := ⟨3, ![6, 24, 24]⟩
abbrev S6x1x1 : Shape := ⟨3, ![6, 1, 1]⟩
abbrev S18x256 : Shape := ⟨2, ![18, 256]⟩
abbrev S18x24x24 : Shape := ⟨3, ![18, 24, 24]⟩
abbrev S18x1x1 : Shape := ⟨3, ![18, 1, 1]⟩
abbrev S12x24x24 : Shape := ⟨3, ![12, 24, 24]⟩
abbrev S24x24x12 : Shape := ⟨3, ![24, 24, 12]⟩
abbrev S24x24x6 : Shape := ⟨3, ![24, 24, 6]⟩
abbrev S1728x2 : Shape := ⟨2, ![1728, 2]⟩
abbrev S1728 : Shape := ⟨1, ![1728]⟩
abbrev S1728x1 : Shape := ⟨2, ![1728, 1]⟩
abbrev S1x1 : Shape := ⟨2, ![1, 1]⟩
abbrev S576x3 : Shape := ⟨2, ![576, 3]⟩

abbrev nBuf : Space → Nat
  | .hbm => 198
  | .vmem => 0
  | .smem => 0
  | _ => 0

abbrev hbmTy0_0 (i : Nat) : BufTy := match i % 128 with
  | 0 => ⟨S1x256x24x24, .f32⟩
  | 1 => ⟨S1x6, .f32⟩
  | 2 => ⟨S256x256x3x3, .f32⟩
  | 3 => ⟨S256, .f32⟩
  | 4 => ⟨S6x256x1x1, .f32⟩
  | 5 => ⟨S6, .f32⟩
  | 6 => ⟨S18x256x1x1, .f32⟩
  | 7 => ⟨S18, .f32⟩
  | 8 => ⟨S1728x4, .f32⟩
  | 9 => ⟨S256x24x24, .f32⟩
  | 10 => ⟨S_, .i32⟩
  | 11 => ⟨S_, .f32⟩
  | 12 => ⟨S256x26x26, .f32⟩
  | 13 => ⟨S_, .f32⟩
  | 14 => ⟨S256x24x24, .f32⟩
  | 15 => ⟨S256x256x1x1, .f32⟩
  | 16 => ⟨S256x256, .f32⟩
  | 17 => ⟨S256x24x24, .f32⟩
  | 18 => ⟨S256x24x24, .f32⟩
  | 19 => ⟨S256x24x24, .f32⟩
  | 20 => ⟨S256x256x1x1, .f32⟩
  | 21 => ⟨S256x256, .f32⟩
  | 22 => ⟨S256x24x24, .f32⟩
  | 23 => ⟨S256x24x24, .f32⟩
  | 24 => ⟨S256x24x24, .f32⟩
  | 25 => ⟨S256x256x1x1, .f32⟩
  | 26 => ⟨S256x256, .f32⟩
  | 27 => ⟨S256x24x24, .f32⟩
  | 28 => ⟨S256x24x24, .f32⟩
  | 29 => ⟨S256x24x24, .f32⟩
  | 30 => ⟨S256x256x1x1, .f32⟩
  | 31 => ⟨S256x256, .f32⟩
  | 32 => ⟨S256x24x24, .f32⟩
  | 33 => ⟨S256x24x24, .f32⟩
  | 34 => ⟨S256x24x24, .f32⟩
  | 35 => ⟨S256x256x1x1, .f32⟩
  | 36 => ⟨S256x256, .f32⟩
  | 37 => ⟨S256x24x24, .f32⟩
  | 38 => ⟨S256x24x24, .f32⟩
  | 39 => ⟨S256x24x24, .f32⟩
  | 40 => ⟨S256x256x1x1, .f32⟩
  | 41 => ⟨S256x256, .f32⟩
  | 42 => ⟨S256x24x24, .f32⟩
  | 43 => ⟨S256x24x24, .f32⟩
  | 44 => ⟨S256x24x24, .f32⟩
  | 45 => ⟨S256x256x1x1, .f32⟩
  | 46 => ⟨S256x256, .f32⟩
  | 47 => ⟨S256x24x24, .f32⟩
  | 48 => ⟨S256x24x24, .f32⟩
  | 49 => ⟨S256x24x24, .f32⟩
  | 50 => ⟨S256x256x1x1, .f32⟩
  | 51 => ⟨S256x256, .f32⟩
  | 52 => ⟨S256x24x24, .f32⟩
  | 53 => ⟨S256x24x24, .f32⟩
  | 54 => ⟨S256x24x24, .f32⟩
  | 55 => ⟨S256x256x1x1, .f32⟩
  | 56 => ⟨S256x256, .f32⟩
  | 57 => ⟨S256x24x24, .f32⟩
  | 58 => ⟨S256x24x24, .f32⟩
  | 59 => ⟨S256x24x24, .f32⟩
  | 60 => ⟨S256x1x1, .f32⟩
  | 61 => ⟨S256x24x24, .f32⟩
  | 62 => ⟨S256x24x24, .f32⟩
  | 63 => ⟨S_, .f32⟩
  | 64 => ⟨S256x24x24, .f32⟩
  | 65 => ⟨S256x24x24, .f32⟩
  | 66 => ⟨S6x256, .f32⟩
  | 67 => ⟨S6x24x24, .f32⟩
  | 68 => ⟨S6x1x1, .f32⟩
  | 69 => ⟨S6x24x24, .f32⟩
  | 70 => ⟨S6x24x24, .f32⟩
  | 71 => ⟨S18x256, .f32⟩
  | 72 => ⟨S18x24x24, .f32⟩
  | 73 => ⟨S18x1x1, .f32⟩
  | 74 => ⟨S18x24x24, .f32⟩
  | 75 => ⟨S18x24x24, .f32⟩
  | 76 => ⟨S12x24x24, .f32⟩
  | 77 => ⟨S24x24x12, .f32⟩
  | 78 => ⟨S1728x4, .f32⟩
  | 79 => ⟨S24x24x6, .f32⟩
  | 80 => ⟨S1728x2, .f32⟩
  | 81 => ⟨S_, .f32⟩
  | 82 => ⟨S1728, .f32⟩
  | 83 => ⟨S_, .f32⟩
  | 84 => ⟨S1728, .f32⟩
  | 85 => ⟨S1728, .f32⟩
  | 86 => ⟨S1728x1, .f32⟩
  | 87 => ⟨S1728x2, .f32⟩
  | 88 => ⟨S1728x2, .f32⟩
  | 89 => ⟨S1728x2, .f32⟩
  | 90 => ⟨S_, .f32⟩
  | 91 => ⟨S1728, .f32⟩
  | 92 => ⟨S1728x1, .f32⟩
  | 93 => ⟨S1728x2, .f32⟩
  | 94 => ⟨S1728x2, .f32⟩
  | 95 => ⟨S1728x1, .f32⟩
  | 96 => ⟨S1728, .f32⟩
  | 97 => ⟨S1728x1, .f32⟩
  | 98 => ⟨S1728, .f32⟩
  | 99 => ⟨S1728x1, .f32⟩
  | 100 => ⟨S1728, .f32⟩
  | 101 => ⟨S1728, .f32⟩
  | 102 => ⟨S1728x1, .f32⟩
  | 103 => ⟨S1728, .f32⟩
  | 104 => ⟨S1728x1, .f32⟩
  | 105 => ⟨S1728, .f32⟩
  | 106 => ⟨S1728, .f32⟩
  | 107 => ⟨S1728x1, .f32⟩
  | 108 => ⟨S1728, .f32⟩
  | 109 => ⟨S_, .f32⟩
  | 110 => ⟨S1728, .f32⟩
  | 111 => ⟨S1728, .f32⟩
  | 112 => ⟨S1728, .f32⟩
  | 113 => ⟨S1728x1, .f32⟩
  | 114 => ⟨S1728, .f32⟩
  | 115 => ⟨S_, .f32⟩
  | 116 => ⟨S1728, .f32⟩
  | 117 => ⟨S1728, .f32⟩
  | 118 => ⟨S1728, .f32⟩
  | 119 => ⟨S1728x1, .f32⟩
  | 120 => ⟨S1728, .f32⟩
  | 121 => ⟨S1728x1, .f32⟩
  | 122 => ⟨S1728, .f32⟩
  | 123 => ⟨S1728x1, .f32⟩
  | 124 => ⟨S1728, .f32⟩
  | 125 => ⟨S1728x1, .f32⟩
  | 126 => ⟨S1728, .f32⟩
  | 127 => ⟨S1728, .f32⟩
  | _ => ⟨S1x256x24x24, .f32⟩

abbrev hbmTy0_1 (i : Nat) : BufTy := match i % 128 with
  | 0 => ⟨S1728, .f32⟩
  | 1 => ⟨S1728, .f32⟩
  | 2 => ⟨S1728, .f32⟩
  | 3 => ⟨S_, .f32⟩
  | 4 => ⟨S1728, .f32⟩
  | 5 => ⟨S1728, .f32⟩
  | 6 => ⟨S1728, .f32⟩
  | 7 => ⟨S1728, .f32⟩
  | 8 => ⟨S_, .f32⟩
  | 9 => ⟨S1728, .f32⟩
  | 10 => ⟨S1728, .f32⟩
  | 11 => ⟨S1728, .f32⟩
  | 12 => ⟨S1728, .f32⟩
  | 13 => ⟨S1x1, .f32⟩
  | 14 => ⟨S_, .f32⟩
  | 15 => ⟨S1x1, .f32⟩
  | 16 => ⟨S_, .f32⟩
  | 17 => ⟨S_, .f32⟩
  | 18 => ⟨S1728, .f32⟩
  | 19 => ⟨S1728, .f32⟩
  | 20 => ⟨S1728, .f32⟩
  | 21 => ⟨S_, .f32⟩
  | 22 => ⟨S_, .f32⟩
  | 23 => ⟨S_, .f32⟩
  | 24 => ⟨S_, .f32⟩
  | 25 => ⟨S1728, .f32⟩
  | 26 => ⟨S1728, .f32⟩
  | 27 => ⟨S1728, .f32⟩
  | 28 => ⟨S1728, .f32⟩
  | 29 => ⟨S_, .f32⟩
  | 30 => ⟨S1728, .f32⟩
  | 31 => ⟨S1728, .f32⟩
  | 32 => ⟨S1728, .f32⟩
  | 33 => ⟨S_, .f32⟩
  | 34 => ⟨S_, .f32⟩
  | 35 => ⟨S_, .f32⟩
  | 36 => ⟨S_, .f32⟩
  | 37 => ⟨S1728, .f32⟩
  | 38 => ⟨S1728, .f32⟩
  | 39 => ⟨S1728, .f32⟩
  | 40 => ⟨S1728, .f32⟩
  | 41 => ⟨S_, .f32⟩
  | 42 => ⟨S1728, .f32⟩
  | 43 => ⟨S1728, .f32⟩
  | 44 => ⟨S1728, .f32⟩
  | 45 => ⟨S_, .f32⟩
  | 46 => ⟨S_, .f32⟩
  | 47 => ⟨S_, .f32⟩
  | 48 => ⟨S_, .f32⟩
  | 49 => ⟨S1728, .f32⟩
  | 50 => ⟨S1728, .f32⟩
  | 51 => ⟨S1728, .f32⟩
  | 52 => ⟨S1728, .f32⟩
  | 53 => ⟨S_, .f32⟩
  | 54 => ⟨S1728, .f32⟩
  | 55 => ⟨S1728, .f32⟩
  | 56 => ⟨S1728, .f32⟩
  | 57 => ⟨S_, .f32⟩
  | 58 => ⟨S_, .f32⟩
  | 59 => ⟨S_, .f32⟩
  | 60 => ⟨S_, .f32⟩
  | 61 => ⟨S1728, .f32⟩
  | 62 => ⟨S1728, .f32⟩
  | 63 => ⟨S1728, .f32⟩
  | 64 => ⟨S1728, .f32⟩
  | 65 => ⟨S576x3, .f32⟩
  | 66 => ⟨S576x3, .f32⟩
  | 67 => ⟨S576x3, .f32⟩
  | 68 => ⟨S576x3, .f32⟩
  | 69 => ⟨S576x3, .f32⟩
  | _ => ⟨S1x256x24x24, .f32⟩

abbrev hbmTy (i : Nat) : BufTy := match i / 128 with
  | 0 => hbmTy0_0 i
  | 1 => hbmTy0_1 i
  | _ => ⟨S1x256x24x24, .f32⟩

abbrev bufTy : (tb : Table) → Fin (tcTables nBuf tb) → BufTy
  | .hbm, ⟨i, _⟩ => hbmTy i
  | _, _ => ⟨S1x256x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call1_cst : Ref sig .tc := ⟨.hbm, 63, rfl⟩
abbrev main_call1_v0 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_0 : Ref sig .tc := ⟨.hbm, 81, rfl⟩
abbrev main_v67 : Ref sig .tc := ⟨.hbm, 82, rfl⟩
abbrev main_cst_1 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_2 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_3 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_4 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_5 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_6 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_7 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_8 : Ref sig .tc := ⟨.hbm, 149, rfl⟩
abbrev main_v127 : Ref sig .tc := ⟨.hbm, 150, rfl⟩
abbrev main_cst_9 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_v128 : Ref sig .tc := ⟨.hbm, 156, rfl⟩
abbrev main_cst_10 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_11 : Ref sig .tc := ⟨.hbm, 161, rfl⟩
abbrev main_v132 : Ref sig .tc := ⟨.hbm, 162, rfl⟩
abbrev main_cst_12 : Ref sig .tc := ⟨.hbm, 163, rfl⟩
abbrev main_call3_v0 : Ref sig .tc := ⟨.hbm, 164, rfl⟩
abbrev main_call3_v1 : Ref sig .tc := ⟨.hbm, 165, rfl⟩
abbrev main_call3_v2 : Ref sig .tc := ⟨.hbm, 166, rfl⟩
abbrev main_call3_v3 : Ref sig .tc := ⟨.hbm, 167, rfl⟩
abbrev main_v133 : Ref sig .tc := ⟨.hbm, 168, rfl⟩
abbrev main_cst_13 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_14 : Ref sig .tc := ⟨.hbm, 173, rfl⟩
abbrev main_v137 : Ref sig .tc := ⟨.hbm, 174, rfl⟩
abbrev main_cst_15 : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_v138 : Ref sig .tc := ⟨.hbm, 180, rfl⟩
abbrev main_cst_16 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_17 : Ref sig .tc := ⟨.hbm, 185, rfl⟩
abbrev main_v142 : Ref sig .tc := ⟨.hbm, 186, rfl⟩
abbrev main_cst_18 : Ref sig .tc := ⟨.hbm, 187, rfl⟩
abbrev main_call5_v0 : Ref sig .tc := ⟨.hbm, 188, rfl⟩
abbrev main_call5_v1 : Ref sig .tc := ⟨.hbm, 189, rfl⟩
abbrev main_call5_v2 : Ref sig .tc := ⟨.hbm, 190, rfl⟩
abbrev main_call5_v3 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩

abbrev nD : Nat := 1
abbrev τ : Topo := Topo.v7x

variable {F : FTy → Type} [FloatOps F]
-- ==== Kernel3.lean ====
abbrev S1x256x48x48 : Shape := ⟨4, ![1, 256, 48, 48]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S6912x4 : Shape := ⟨2, ![6912, 4]⟩
abbrev S12 : Shape := ⟨1, ![12]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S6x256 : Shape := ⟨2, ![6, 256]⟩
abbrev S256x6 : Shape := ⟨2, ![256, 6]⟩
abbrev S256x3 : Shape := ⟨2, ![256, 3]⟩
abbrev S3 : Shape := ⟨1, ![3]⟩
abbrev S12x256x1x1 : Shape := ⟨4, ![12, 256, 1, 1]⟩
abbrev S12x256 : Shape := ⟨2, ![12, 256]⟩
abbrev S256x12 : Shape := ⟨2, ![256, 12]⟩
abbrev S_ : Shape := ⟨0, ![]⟩
abbrev S12x1 : Shape := ⟨2, ![12, 1]⟩
abbrev S256x48x48 : Shape := ⟨3, ![256, 48, 48]⟩
abbrev S48x48x256 : Shape := ⟨3, ![48, 48, 256]⟩
abbrev S50x50x256 : Shape := ⟨3, ![50, 50, 256]⟩
abbrev S2304x3x4 : Shape := ⟨3, ![2304, 3, 4]⟩
abbrev S2304x3x1 : Shape := ⟨3, ![2304, 3, 1]⟩
abbrev S2304x3 : Shape := ⟨2, ![2304, 3]⟩
abbrev S1x2 : Shape := ⟨2, ![1, 2]⟩
abbrev S576x3 : Shape := ⟨2, ![576, 3]⟩
abbrev S576x256 : Shape := ⟨2, ![576, 256]⟩
abbrev S12x48x256 : Shape := ⟨3, ![12, 48, 256]⟩
abbrev S1x256 : Shape := ⟨2, ![1, 256]⟩
abbrev S1x3 : Shape := ⟨2, ![1, 3]⟩
abbrev S576x12 : Shape := ⟨2, ![576, 12]⟩
abbrev S1x12 : Shape := ⟨2, ![1, 12]⟩
abbrev S1x1 : Shape := ⟨2, ![1, 1]⟩

abbrev nBuf : Space → Nat
  | .hbm => 91
  | .vmem => 28
  | .smem => 0
  | _ => 0

abbrev bufTy : (tb : Table) → Fin (tcTables nBuf tb) → BufTy
  | .hbm, ⟨0, _⟩ => ⟨S1x256x48x48, .f32⟩
  | .hbm, ⟨1, _⟩ => ⟨S1x6, .f32⟩
  | .hbm, ⟨2, _⟩ => ⟨S256x256x3x3, .f32⟩
  | .hbm, ⟨3, _⟩ => ⟨S256, .f32⟩
  | .hbm, ⟨4, _⟩ => ⟨S6x256x1x1, .f32⟩
  | .hbm, ⟨5, _⟩ => ⟨S6, .f32⟩
  | .hbm, ⟨6, _⟩ => ⟨S18x256x1x1, .f32⟩
  | .hbm, ⟨7, _⟩ => ⟨S18, .f32⟩
  | .hbm, ⟨8, _⟩ => ⟨S6912x4, .f32⟩
  | .hbm, ⟨9, _⟩ => ⟨S12, .i32⟩
  | .hbm, ⟨10, _⟩ => ⟨S12, .i1⟩
  | .hbm, ⟨11, _⟩ => ⟨S12, .i1⟩
  | .hbm, ⟨12, _⟩ => ⟨S256x256x1x1, .f32⟩
  | .hbm, ⟨13, _⟩ => ⟨S256x256, .f32⟩
  | .hbm, ⟨14, _⟩ => ⟨S256x256, .f32⟩
  | .hbm, ⟨15, _⟩ => ⟨S256x256x1x1, .f32⟩
  | .hbm, ⟨16, _⟩ => ⟨S256x256, .f32⟩
  | .hbm, ⟨17, _⟩ => ⟨S256x256, .f32⟩
  | .hbm, ⟨18, _⟩ => ⟨S256x256x1x1, .f32⟩
  | .hbm, ⟨19, _⟩ => ⟨S256x256, .f32⟩
  | .hbm, ⟨20, _⟩ => ⟨S256x256, .f32⟩
  | .hbm, ⟨21, _⟩ => ⟨S256x256x1x1, .f32⟩
  | .hbm, ⟨22, _⟩ => ⟨S256x256, .f32⟩
  | .hbm, ⟨23, _⟩ => ⟨S256x256, .f32⟩
  | .hbm, ⟨24, _⟩ => ⟨S256x256x1x1, .f32⟩
  | .hbm, ⟨25, _⟩ => ⟨S256x256, .f32⟩
  | .hbm, ⟨26, _⟩ => ⟨S256x256, .f32⟩
  | .hbm, ⟨27, _⟩ => ⟨S256x256x1x1, .f32⟩
  | .hbm, ⟨28, _⟩ => ⟨S256x256, .f32⟩
  | .hbm, ⟨29, _⟩ => ⟨S256x256, .f32⟩
  | .hbm, ⟨30, _⟩ => ⟨S256x256x1x1, .f32⟩
  | .hbm, ⟨31, _⟩ => ⟨S256x256, .f32⟩
  | .hbm, ⟨32, _⟩ => ⟨S256x256, .f32⟩
  | .hbm, ⟨33, _⟩ => ⟨S256x256x1x1, .f32⟩
  | .hbm, ⟨34, _⟩ => ⟨S256x256, .f32⟩
  | .hbm, ⟨35, _⟩ => ⟨S256x256, .f32⟩
  | .hbm, ⟨36, _⟩ => ⟨S256x256x1x1, .f32⟩
  | .hbm, ⟨37, _⟩ => ⟨S256x256, .f32⟩
  | .hbm, ⟨38, _⟩ => ⟨S256x256, .f32⟩
  | .hbm, ⟨39, _⟩ => ⟨S1x256x256, .f32⟩
  | .hbm, ⟨40, _⟩ => ⟨S1x256x256, .f32⟩
  | .hbm, ⟨41, _⟩ => ⟨S1x256x256, .f32⟩
  | .hbm, ⟨42, _⟩ => ⟨S1x256x256, .f32⟩
  | .hbm, ⟨43, _⟩ => ⟨S1x256x256, .f32⟩
  | .hbm, ⟨44, _⟩ => ⟨S1x256x256, .f32⟩
  | .hbm, ⟨45, _⟩ => ⟨S1x256x256, .f32⟩
  | .hbm, ⟨46, _⟩ => ⟨S1x256x256, .f32⟩
  | .hbm, ⟨47, _⟩ => ⟨S1x256x256, .f32⟩
  | .hbm, ⟨48, _⟩ => ⟨S9x256x256, .f32⟩
  | .hbm, ⟨49, _⟩ => ⟨S6x256, .f32⟩
  | .hbm, ⟨50, _⟩ => ⟨S256x6, .f32⟩
  | .hbm, ⟨51, _⟩ => ⟨S256x3, .f32⟩
  | .hbm, ⟨52, _⟩ => ⟨S256x3, .f32⟩
  | .hbm, ⟨53, _⟩ => ⟨S3, .f32⟩
  | .hbm, ⟨54, _⟩ => ⟨S3, .f32⟩
  | .hbm, ⟨55, _⟩ => ⟨S12x256x1x1, .f32⟩
  | .hbm, ⟨56, _⟩ => ⟨S12x256, .f32⟩
  | .hbm, ⟨57, _⟩ => ⟨S256x12, .f32⟩
  | .hbm, ⟨58, _⟩ => ⟨S_, .i32⟩
  | .hbm, ⟨59, _⟩ => ⟨S12, .i32⟩
  | .hbm, ⟨60, _⟩ => ⟨S12, .i32⟩
  | .hbm, ⟨61, _⟩ => ⟨S12, .i32⟩
  | .hbm, ⟨62, _⟩ => ⟨S12x1, .i32⟩
  | .hbm, ⟨63, _⟩ => ⟨S256x12, .f32⟩
  | .hbm, ⟨64, _⟩ => ⟨S12, .f32⟩
  | .hbm, ⟨65, _⟩ => ⟨S_, .i32⟩
  | .hbm, ⟨66, _⟩ => ⟨S12, .i32⟩
  | .hbm, ⟨67, _⟩ => ⟨S12, .i32⟩
  | .hbm, ⟨68, _⟩ => ⟨S12, .i32⟩
  | .hbm, ⟨69, _⟩ => ⟨S12x1, .i32⟩
  | .hbm, ⟨70, _⟩ => ⟨S12, .f32⟩
  | .hbm, ⟨71, _⟩ => ⟨S256x48x48, .f32⟩
  | .hbm, ⟨72, _⟩ => ⟨S48x48x256, .f32⟩
  | .hbm, ⟨73, _⟩ => ⟨S_, .i32⟩
  | .hbm, ⟨74, _⟩ => ⟨S_, .f32⟩
  | .hbm, ⟨75, _⟩ => ⟨S50x50x256, .f32⟩
  | .hbm, ⟨76, _⟩ => ⟨S2304x3x4, .f32⟩
  | .hbm, ⟨77, _⟩ => ⟨S2304x3x1, .f32⟩
  | .hbm, ⟨78, _⟩ => ⟨S2304x3, .f32⟩
  | .hbm, ⟨79, _⟩ => ⟨S2304x3x1, .f32⟩
  | .hbm, ⟨80, _⟩ => ⟨S2304x3, .f32⟩
  | .hbm, ⟨81, _⟩ => ⟨S2304x3x1, .f32⟩
  | .hbm, ⟨82, _⟩ => ⟨S2304x3, .f32⟩
  | .hbm, ⟨83, _⟩ => ⟨S2304x3x1, .f32⟩
  | .hbm, ⟨84, _⟩ => ⟨S2304x3, .f32⟩
  | .hbm, ⟨85, _⟩ => ⟨S1x2, .f32⟩
  | .hbm, ⟨86, _⟩ => ⟨S2304x3, .f32⟩
  | .hbm, ⟨87, _⟩ => ⟨S2304x3, .f32⟩
  | .hbm, ⟨88, _⟩ => ⟨S2304x3, .f32⟩
  | .hbm, ⟨89, _⟩ => ⟨S2304x3, .f32⟩
  | .hbm, ⟨90, _⟩ => ⟨S2304x3, .f32⟩
  | .local _ .vmem, ⟨0, _⟩ => ⟨S50x50x256, .f32⟩
  | .local _ .vmem, ⟨1, _⟩ => ⟨S9x256x256, .f32⟩
  | .local _ .vmem, ⟨2, _⟩ => ⟨S256, .f32⟩
  | .local _ .vmem, ⟨3, _⟩ => ⟨S256x3, .f32⟩
  | .local _ .vmem, ⟨4, _⟩ => ⟨S256x3, .f32⟩
  | .local _ .vmem, ⟨5, _⟩ => ⟨S3, .f32⟩
  | .local _ .vmem, ⟨6, _⟩ => ⟨S3, .f32⟩
  | .local _ .vmem, ⟨7, _⟩ => ⟨S256x12, .f32⟩
  | .local _ .vmem, ⟨8, _⟩ => ⟨S12, .f32⟩
  | .local _ .vmem, ⟨9, _⟩ => ⟨S576x3, .f32⟩
  | .local _ .vmem, ⟨10, _⟩ => ⟨S576x3, .f32⟩
  | .local _ .vmem, ⟨11, _⟩ => ⟨S576x3, .f32⟩
  | .local _ .vmem, ⟨12, _⟩ => ⟨S576x3, .f32⟩
  | .local _ .vmem, ⟨13, _⟩ => ⟨S576x3, .f32⟩
  | .local _ .vmem, ⟨14, _⟩ => ⟨S576x3, .f32⟩
  | .local _ .vmem, ⟨15, _⟩ => ⟨S576x3, .f32⟩
  | .local _ .vmem, ⟨16, _⟩ => ⟨S576x3, .f32⟩
  | .local _ .vmem, ⟨17, _⟩ => ⟨S1x2, .f32⟩
  | .local _ .vmem, ⟨18, _⟩ => ⟨S576x3, .f32⟩
  | .local _ .vmem, ⟨19, _⟩ => ⟨S576x3, .f32⟩
  | .local _ .vmem, ⟨20, _⟩ => ⟨S576x3, .f32⟩
  | .local _ .vmem, ⟨21, _⟩ => ⟨S576x3, .f32⟩
  | .local _ .vmem, ⟨22, _⟩ => ⟨S576x3, .f32⟩
  | .local _ .vmem, ⟨23, _⟩ => ⟨S576x3, .f32⟩
  | .local _ .vmem, ⟨24, _⟩ => ⟨S576x3, .f32⟩
  | .local _ .vmem, ⟨25, _⟩ => ⟨S576x3, .f32⟩
  | .local _ .vmem, ⟨26, _⟩ => ⟨S576x3, .f32⟩
  | .local _ .vmem, ⟨27, _⟩ => ⟨S576x3, .f32⟩
  | _, _ => ⟨S1x256x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_4 : Ref sig .tc := ⟨.hbm, 73, rfl⟩
abbrev main_call0_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v70_3 : Ref sig .tc := ⟨.hbm, 89, rfl⟩
abbrev main_v70_4 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![4], ![false]⟩

def k0_off1 (i : grid0.Coords) (c0_i32 : BitVec 32) : Fin 3 → Nat :=
  let arg0 : BitVec 32 := BitVec.ofNat 32 (i 0).val
  let c12_i32 : BitVec 32 := 12#32
  let v1 : BitVec 32 := Scalar.muli arg0 c12_i32
  let v2 : BitVec 32 := Scalar.addi v1 c0_i32
  let v3 : Index := Scalar.indexCast v2
  let c0 : Index := 0#32
  let c0_0 : Index := 0#32
  ![v3.toNat, 0, 0]
def k0_off2 (i : grid0.Coords) (c0_i32_6 : BitVec 32) : Fin 3 → Nat :=
  let arg0 : BitVec 32 := BitVec.ofNat 32 (i 0).val
  let c12_i32_5 : BitVec 32 := 12#32
  let v11 : BitVec 32 := Scalar.muli arg0 c12_i32_5
  let v12 : BitVec 32 := Scalar.addi v11 c0_i32_6
  let v13 : Index := Scalar.indexCast v12
  let c1 : Index := 1#32
  let c0_7 : Index := 0#32
  ![v13.toNat, 1, 0]
def k0_off3 (i : grid0.Coords) (c0_i32_13 : BitVec 32) : Fin 3 → Nat :=
  let arg0 : BitVec 32 := BitVec.ofNat 32 (i 0).val
  let c12_i32_12 : BitVec 32 := 12#32
  let v21 : BitVec 32 := Scalar.muli arg0 c12_i32_12
  let v22 : BitVec 32 := Scalar.addi v21 c0_i32_13
  let v23 : Index := Scalar.indexCast v22
  let c2 : Index := 2#32
  let c0_14 : Index := 0#32
  ![v23.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S50x50x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S576x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S576x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S576x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S576x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S576x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S576x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S576x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S576x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S576x3 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel3Ideal.lean ====
abbrev S1x256x48x48 : Shape := ⟨4, ![1, 256, 48, 48]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S6912x4 : Shape := ⟨2, ![6912, 4]⟩
abbrev S12 : Shape := ⟨1, ![12]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S6x256 : Shape := ⟨2, ![6, 256]⟩
abbrev S256x6 : Shape := ⟨2, ![256, 6]⟩
abbrev S256x3 : Shape := ⟨2, ![256, 3]⟩
abbrev S3 : Shape := ⟨1, ![3]⟩
abbrev S12x256x1x1 : Shape := ⟨4, ![12, 256, 1, 1]⟩
abbrev S12x256 : Shape := ⟨2, ![12, 256]⟩
abbrev S256x12 : Shape := ⟨2, ![256, 12]⟩
abbrev S_ : Shape := ⟨0, ![]⟩
abbrev S12x1 : Shape := ⟨2, ![12, 1]⟩
abbrev S256x48x48 : Shape := ⟨3, ![256, 48, 48]⟩
abbrev S48x48x256 : Shape := ⟨3, ![48, 48, 256]⟩
abbrev S50x50x256 : Shape := ⟨3, ![50, 50, 256]⟩
abbrev S2304x3x4 : Shape := ⟨3, ![2304, 3, 4]⟩
abbrev S2304x3x1 : Shape := ⟨3, ![2304, 3, 1]⟩
abbrev S2304x3 : Shape := ⟨2, ![2304, 3]⟩
abbrev S1x2 : Shape := ⟨2, ![1, 2]⟩
abbrev S576x3 : Shape := ⟨2, ![576, 3]⟩
abbrev S576x256 : Shape := ⟨2, ![576, 256]⟩
abbrev S12x48x256 : Shape := ⟨3, ![12, 48, 256]⟩
abbrev S1x256 : Shape := ⟨2, ![1, 256]⟩
abbrev S1x3 : Shape := ⟨2, ![1, 3]⟩
abbrev S576x12 : Shape := ⟨2, ![576, 12]⟩
abbrev S1x12 : Shape := ⟨2, ![1, 12]⟩
abbrev S1x1 : Shape := ⟨2, ![1, 1]⟩

abbrev nBuf : Space → Nat
  | .hbm => 91
  | .vmem => 28
  | .smem => 0
  | _ => 0

abbrev bufTy : (tb : Table) → Fin (tcTables nBuf tb) → BufTy
  | .hbm, ⟨0, _⟩ => ⟨S1x256x48x48, .f32⟩
  | .hbm, ⟨1, _⟩ => ⟨S1x6, .f32⟩
  | .hbm, ⟨2, _⟩ => ⟨S256x256x3x3, .f32⟩
  | .hbm, ⟨3, _⟩ => ⟨S256, .f32⟩
  | .hbm, ⟨4, _⟩ => ⟨S6x256x1x1, .f32⟩
  | .hbm, ⟨5, _⟩ => ⟨S6, .f32⟩
  | .hbm, ⟨6, _⟩ => ⟨S18x256x1x1, .f32⟩
  | .hbm, ⟨7, _⟩ => ⟨S18, .f32⟩
  | .hbm, ⟨8, _⟩ => ⟨S6912x4, .f32⟩
  | .hbm, ⟨9, _⟩ => ⟨S12, .i32⟩
  | .hbm, ⟨10, _⟩ => ⟨S12, .i1⟩
  | .hbm, ⟨11, _⟩ => ⟨S12, .i1⟩
  | .hbm, ⟨12, _⟩ => ⟨S256x256x1x1, .f32⟩
  | .hbm, ⟨13, _⟩ => ⟨S256x256, .f32⟩
  | .hbm, ⟨14, _⟩ => ⟨S256x256, .f32⟩
  | .hbm, ⟨15, _⟩ => ⟨S256x256x1x1, .f32⟩
  | .hbm, ⟨16, _⟩ => ⟨S256x256, .f32⟩
  | .hbm, ⟨17, _⟩ => ⟨S256x256, .f32⟩
  | .hbm, ⟨18, _⟩ => ⟨S256x256x1x1, .f32⟩
  | .hbm, ⟨19, _⟩ => ⟨S256x256, .f32⟩
  | .hbm, ⟨20, _⟩ => ⟨S256x256, .f32⟩
  | .hbm, ⟨21, _⟩ => ⟨S256x256x1x1, .f32⟩
  | .hbm, ⟨22, _⟩ => ⟨S256x256, .f32⟩
  | .hbm, ⟨23, _⟩ => ⟨S256x256, .f32⟩
  | .hbm, ⟨24, _⟩ => ⟨S256x256x1x1, .f32⟩
  | .hbm, ⟨25, _⟩ => ⟨S256x256, .f32⟩
  | .hbm, ⟨26, _⟩ => ⟨S256x256, .f32⟩
  | .hbm, ⟨27, _⟩ => ⟨S256x256x1x1, .f32⟩
  | .hbm, ⟨28, _⟩ => ⟨S256x256, .f32⟩
  | .hbm, ⟨29, _⟩ => ⟨S256x256, .f32⟩
  | .hbm, ⟨30, _⟩ => ⟨S256x256x1x1, .f32⟩
  | .hbm, ⟨31, _⟩ => ⟨S256x256, .f32⟩
  | .hbm, ⟨32, _⟩ => ⟨S256x256, .f32⟩
  | .hbm, ⟨33, _⟩ => ⟨S256x256x1x1, .f32⟩
  | .hbm, ⟨34, _⟩ => ⟨S256x256, .f32⟩
  | .hbm, ⟨35, _⟩ => ⟨S256x256, .f32⟩
  | .hbm, ⟨36, _⟩ => ⟨S256x256x1x1, .f32⟩
  | .hbm, ⟨37, _⟩ => ⟨S256x256, .f32⟩
  | .hbm, ⟨38, _⟩ => ⟨S256x256, .f32⟩
  | .hbm, ⟨39, _⟩ => ⟨S1x256x256, .f32⟩
  | .hbm, ⟨40, _⟩ => ⟨S1x256x256, .f32⟩
  | .hbm, ⟨41, _⟩ => ⟨S1x256x256, .f32⟩
  | .hbm, ⟨42, _⟩ => ⟨S1x256x256, .f32⟩
  | .hbm, ⟨43, _⟩ => ⟨S1x256x256, .f32⟩
  | .hbm, ⟨44, _⟩ => ⟨S1x256x256, .f32⟩
  | .hbm, ⟨45, _⟩ => ⟨S1x256x256, .f32⟩
  | .hbm, ⟨46, _⟩ => ⟨S1x256x256, .f32⟩
  | .hbm, ⟨47, _⟩ => ⟨S1x256x256, .f32⟩
  | .hbm, ⟨48, _⟩ => ⟨S9x256x256, .f32⟩
  | .hbm, ⟨49, _⟩ => ⟨S6x256, .f32⟩
  | .hbm, ⟨50, _⟩ => ⟨S256x6, .f32⟩
  | .hbm, ⟨51, _⟩ => ⟨S256x3, .f32⟩
  | .hbm, ⟨52, _⟩ => ⟨S256x3, .f32⟩
  | .hbm, ⟨53, _⟩ => ⟨S3, .f32⟩
  | .hbm, ⟨54, _⟩ => ⟨S3, .f32⟩
  | .hbm, ⟨55, _⟩ => ⟨S12x256x1x1, .f32⟩
  | .hbm, ⟨56, _⟩ => ⟨S12x256, .f32⟩
  | .hbm, ⟨57, _⟩ => ⟨S256x12, .f32⟩
  | .hbm, ⟨58, _⟩ => ⟨S_, .i32⟩
  | .hbm, ⟨59, _⟩ => ⟨S12, .i32⟩
  | .hbm, ⟨60, _⟩ => ⟨S12, .i32⟩
  | .hbm, ⟨61, _⟩ => ⟨S12, .i32⟩
  | .hbm, ⟨62, _⟩ => ⟨S12x1, .i32⟩
  | .hbm, ⟨63, _⟩ => ⟨S256x12, .f32⟩
  | .hbm, ⟨64, _⟩ => ⟨S12, .f32⟩
  | .hbm, ⟨65, _⟩ => ⟨S_, .i32⟩
  | .hbm, ⟨66, _⟩ => ⟨S12, .i32⟩
  | .hbm, ⟨67, _⟩ => ⟨S12, .i32⟩
  | .hbm, ⟨68, _⟩ => ⟨S12, .i32⟩
  | .hbm, ⟨69, _⟩ => ⟨S12x1, .i32⟩
  | .hbm, ⟨70, _⟩ => ⟨S12, .f32⟩
  | .hbm, ⟨71, _⟩ => ⟨S256x48x48, .f32⟩
  | .hbm, ⟨72, _⟩ => ⟨S48x48x256, .f32⟩
  | .hbm, ⟨73, _⟩ => ⟨S_, .i32⟩
  | .hbm, ⟨74, _⟩ => ⟨S_, .f32⟩
  | .hbm, ⟨75, _⟩ => ⟨S50x50x256, .f32⟩
  | .hbm, ⟨76, _⟩ => ⟨S2304x3x4, .f32⟩
  | .hbm, ⟨77, _⟩ => ⟨S2304x3x1, .f32⟩
  | .hbm, ⟨78, _⟩ => ⟨S2304x3, .f32⟩
  | .hbm, ⟨79, _⟩ => ⟨S2304x3x1, .f32⟩
  | .hbm, ⟨80, _⟩ => ⟨S2304x3, .f32⟩
  | .hbm, ⟨81, _⟩ => ⟨S2304x3x1, .f32⟩
  | .hbm, ⟨82, _⟩ => ⟨S2304x3, .f32⟩
  | .hbm, ⟨83, _⟩ => ⟨S2304x3x1, .f32⟩
  | .hbm, ⟨84, _⟩ => ⟨S2304x3, .f32⟩
  | .hbm, ⟨85, _⟩ => ⟨S1x2, .f32⟩
  | .hbm, ⟨86, _⟩ => ⟨S2304x3, .f32⟩
  | .hbm, ⟨87, _⟩ => ⟨S2304x3, .f32⟩
  | .hbm, ⟨88, _⟩ => ⟨S2304x3, .f32⟩
  | .hbm, ⟨89, _⟩ => ⟨S2304x3, .f32⟩
  | .hbm, ⟨90, _⟩ => ⟨S2304x3, .f32⟩
  | .local _ .vmem, ⟨0, _⟩ => ⟨S50x50x256, .f32⟩
  | .local _ .vmem, ⟨1, _⟩ => ⟨S9x256x256, .f32⟩
  | .local _ .vmem, ⟨2, _⟩ => ⟨S256, .f32⟩
  | .local _ .vmem, ⟨3, _⟩ => ⟨S256x3, .f32⟩
  | .local _ .vmem, ⟨4, _⟩ => ⟨S256x3, .f32⟩
  | .local _ .vmem, ⟨5, _⟩ => ⟨S3, .f32⟩
  | .local _ .vmem, ⟨6, _⟩ => ⟨S3, .f32⟩
  | .local _ .vmem, ⟨7, _⟩ => ⟨S256x12, .f32⟩
  | .local _ .vmem, ⟨8, _⟩ => ⟨S12, .f32⟩
  | .local _ .vmem, ⟨9, _⟩ => ⟨S576x3, .f32⟩
  | .local _ .vmem, ⟨10, _⟩ => ⟨S576x3, .f32⟩
  | .local _ .vmem, ⟨11, _⟩ => ⟨S576x3, .f32⟩
  | .local _ .vmem, ⟨12, _⟩ => ⟨S576x3, .f32⟩
  | .local _ .vmem, ⟨13, _⟩ => ⟨S576x3, .f32⟩
  | .local _ .vmem, ⟨14, _⟩ => ⟨S576x3, .f32⟩
  | .local _ .vmem, ⟨15, _⟩ => ⟨S576x3, .f32⟩
  | .local _ .vmem, ⟨16, _⟩ => ⟨S576x3, .f32⟩
  | .local _ .vmem, ⟨17, _⟩ => ⟨S1x2, .f32⟩
  | .local _ .vmem, ⟨18, _⟩ => ⟨S576x3, .f32⟩
  | .local _ .vmem, ⟨19, _⟩ => ⟨S576x3, .f32⟩
  | .local _ .vmem, ⟨20, _⟩ => ⟨S576x3, .f32⟩
  | .local _ .vmem, ⟨21, _⟩ => ⟨S576x3, .f32⟩
  | .local _ .vmem, ⟨22, _⟩ => ⟨S576x3, .f32⟩
  | .local _ .vmem, ⟨23, _⟩ => ⟨S576x3, .f32⟩
  | .local _ .vmem, ⟨24, _⟩ => ⟨S576x3, .f32⟩
  | .local _ .vmem, ⟨25, _⟩ => ⟨S576x3, .f32⟩
  | .local _ .vmem, ⟨26, _⟩ => ⟨S576x3, .f32⟩
  | .local _ .vmem, ⟨27, _⟩ => ⟨S576x3, .f32⟩
  | _, _ => ⟨S1x256x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_4 : Ref sig .tc := ⟨.hbm, 73, rfl⟩
abbrev main_call0_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v70_3 : Ref sig .tc := ⟨.hbm, 89, rfl⟩
abbrev main_v70_4 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![4], ![false]⟩

def k0_off1 (i : grid0.Coords) (c0_i32 : BitVec 32) : Fin 3 → Nat :=
  let arg0 : BitVec 32 := BitVec.ofNat 32 (i 0).val
  let c12_i32 : BitVec 32 := 12#32
  let v1 : BitVec 32 := Scalar.muli arg0 c12_i32
  let v2 : BitVec 32 := Scalar.addi v1 c0_i32
  let v3 : Index := Scalar.indexCast v2
  let c0 : Index := 0#32
  let c0_0 : Index := 0#32
  ![v3.toNat, 0, 0]
def k0_off2 (i : grid0.Coords) (c0_i32_6 : BitVec 32) : Fin 3 → Nat :=
  let arg0 : BitVec 32 := BitVec.ofNat 32 (i 0).val
  let c12_i32_5 : BitVec 32 := 12#32
  let v11 : BitVec 32 := Scalar.muli arg0 c12_i32_5
  let v12 : BitVec 32 := Scalar.addi v11 c0_i32_6
  let v13 : Index := Scalar.indexCast v12
  let c1 : Index := 1#32
  let c0_7 : Index := 0#32
  ![v13.toNat, 1, 0]
def k0_off3 (i : grid0.Coords) (c0_i32_13 : BitVec 32) : Fin 3 → Nat :=
  let arg0 : BitVec 32 := BitVec.ofNat 32 (i 0).val
  let c12_i32_12 : BitVec 32 := 12#32
  let v21 : BitVec 32 := Scalar.muli arg0 c12_i32_12
  let v22 : BitVec 32 := Scalar.addi v21 c0_i32_13
  let v23 : Index := Scalar.indexCast v22
  let c2 : Index := 2#32
  let c0_14 : Index := 0#32
  ![v23.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S50x50x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S576x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S576x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S576x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S576x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S576x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S576x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S576x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S576x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S576x3 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S1x256x48x48 : Shape := ⟨4, ![1, 256, 48, 48]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S6912x4 : Shape := ⟨2, ![6912, 4]⟩
abbrev S256x48x48 : Shape := ⟨3, ![256, 48, 48]⟩
abbrev S_ : Shape := ⟨0, ![]⟩
abbrev S256x50x50 : Shape := ⟨3, ![256, 50, 50]⟩
abbrev S256x256x1x1 : Shape := ⟨4, ![256, 256, 1, 1]⟩
abbrev S256x256 : Shape := ⟨2, ![256, 256]⟩
abbrev S256x1x1 : Shape := ⟨3, ![256, 1, 1]⟩
abbrev S6x256 : Shape := ⟨2, ![6, 256]⟩
abbrev S6x48x48 : Shape := ⟨3, ![6, 48, 48]⟩
abbrev S6x1x1 : Shape := ⟨3, ![6, 1, 1]⟩
abbrev S18x256 : Shape := ⟨2, ![18, 256]⟩
abbrev S18x48x48 : Shape := ⟨3, ![18, 48, 48]⟩
abbrev S18x1x1 : Shape := ⟨3, ![18, 1, 1]⟩
abbrev S12x48x48 : Shape := ⟨3, ![12, 48, 48]⟩
abbrev S48x48x12 : Shape := ⟨3, ![48, 48, 12]⟩
abbrev S48x48x6 : Shape := ⟨3, ![48, 48, 6]⟩
abbrev S6912x2 : Shape := ⟨2, ![6912, 2]⟩
abbrev S6912 : Shape := ⟨1, ![6912]⟩
abbrev S6912x1 : Shape := ⟨2, ![6912, 1]⟩
abbrev S1x1 : Shape := ⟨2, ![1, 1]⟩
abbrev S2304x3 : Shape := ⟨2, ![2304, 3]⟩

abbrev nBuf : Space → Nat
  | .hbm => 198
  | .vmem => 0
  | .smem => 0
  | _ => 0

abbrev hbmTy0_0 (i : Nat) : BufTy := match i % 128 with
  | 0 => ⟨S1x256x48x48, .f32⟩
  | 1 => ⟨S1x6, .f32⟩
  | 2 => ⟨S256x256x3x3, .f32⟩
  | 3 => ⟨S256, .f32⟩
  | 4 => ⟨S6x256x1x1, .f32⟩
  | 5 => ⟨S6, .f32⟩
  | 6 => ⟨S18x256x1x1, .f32⟩
  | 7 => ⟨S18, .f32⟩
  | 8 => ⟨S6912x4, .f32⟩
  | 9 => ⟨S256x48x48, .f32⟩
  | 10 => ⟨S_, .i32⟩
  | 11 => ⟨S_, .f32⟩
  | 12 => ⟨S256x50x50, .f32⟩
  | 13 => ⟨S_, .f32⟩
  | 14 => ⟨S256x48x48, .f32⟩
  | 15 => ⟨S256x256x1x1, .f32⟩
  | 16 => ⟨S256x256, .f32⟩
  | 17 => ⟨S256x48x48, .f32⟩
  | 18 => ⟨S256x48x48, .f32⟩
  | 19 => ⟨S256x48x48, .f32⟩
  | 20 => ⟨S256x256x1x1, .f32⟩
  | 21 => ⟨S256x256, .f32⟩
  | 22 => ⟨S256x48x48, .f32⟩
  | 23 => ⟨S256x48x48, .f32⟩
  | 24 => ⟨S256x48x48, .f32⟩
  | 25 => ⟨S256x256x1x1, .f32⟩
  | 26 => ⟨S256x256, .f32⟩
  | 27 => ⟨S256x48x48, .f32⟩
  | 28 => ⟨S256x48x48, .f32⟩
  | 29 => ⟨S256x48x48, .f32⟩
  | 30 => ⟨S256x256x1x1, .f32⟩
  | 31 => ⟨S256x256, .f32⟩
  | 32 => ⟨S256x48x48, .f32⟩
  | 33 => ⟨S256x48x48, .f32⟩
  | 34 => ⟨S256x48x48, .f32⟩
  | 35 => ⟨S256x256x1x1, .f32⟩
  | 36 => ⟨S256x256, .f32⟩
  | 37 => ⟨S256x48x48, .f32⟩
  | 38 => ⟨S256x48x48, .f32⟩
  | 39 => ⟨S256x48x48, .f32⟩
  | 40 => ⟨S256x256x1x1, .f32⟩
  | 41 => ⟨S256x256, .f32⟩
  | 42 => ⟨S256x48x48, .f32⟩
  | 43 => ⟨S256x48x48, .f32⟩
  | 44 => ⟨S256x48x48, .f32⟩
  | 45 => ⟨S256x256x1x1, .f32⟩
  | 46 => ⟨S256x256, .f32⟩
  | 47 => ⟨S256x48x48, .f32⟩
  | 48 => ⟨S256x48x48, .f32⟩
  | 49 => ⟨S256x48x48, .f32⟩
  | 50 => ⟨S256x256x1x1, .f32⟩
  | 51 => ⟨S256x256, .f32⟩
  | 52 => ⟨S256x48x48, .f32⟩
  | 53 => ⟨S256x48x48, .f32⟩
  | 54 => ⟨S256x48x48, .f32⟩
  | 55 => ⟨S256x256x1x1, .f32⟩
  | 56 => ⟨S256x256, .f32⟩
  | 57 => ⟨S256x48x48, .f32⟩
  | 58 => ⟨S256x48x48, .f32⟩
  | 59 => ⟨S256x48x48, .f32⟩
  | 60 => ⟨S256x1x1, .f32⟩
  | 61 => ⟨S256x48x48, .f32⟩
  | 62 => ⟨S256x48x48, .f32⟩
  | 63 => ⟨S_, .f32⟩
  | 64 => ⟨S256x48x48, .f32⟩
  | 65 => ⟨S256x48x48, .f32⟩
  | 66 => ⟨S6x256, .f32⟩
  | 67 => ⟨S6x48x48, .f32⟩
  | 68 => ⟨S6x1x1, .f32⟩
  | 69 => ⟨S6x48x48, .f32⟩
  | 70 => ⟨S6x48x48, .f32⟩
  | 71 => ⟨S18x256, .f32⟩
  | 72 => ⟨S18x48x48, .f32⟩
  | 73 => ⟨S18x1x1, .f32⟩
  | 74 => ⟨S18x48x48, .f32⟩
  | 75 => ⟨S18x48x48, .f32⟩
  | 76 => ⟨S12x48x48, .f32⟩
  | 77 => ⟨S48x48x12, .f32⟩
  | 78 => ⟨S6912x4, .f32⟩
  | 79 => ⟨S48x48x6, .f32⟩
  | 80 => ⟨S6912x2, .f32⟩
  | 81 => ⟨S_, .f32⟩
  | 82 => ⟨S6912, .f32⟩
  | 83 => ⟨S_, .f32⟩
  | 84 => ⟨S6912, .f32⟩
  | 85 => ⟨S6912, .f32⟩
  | 86 => ⟨S6912x1, .f32⟩
  | 87 => ⟨S6912x2, .f32⟩
  | 88 => ⟨S6912x2, .f32⟩
  | 89 => ⟨S6912x2, .f32⟩
  | 90 => ⟨S_, .f32⟩
  | 91 => ⟨S6912, .f32⟩
  | 92 => ⟨S6912x1, .f32⟩
  | 93 => ⟨S6912x2, .f32⟩
  | 94 => ⟨S6912x2, .f32⟩
  | 95 => ⟨S6912x1, .f32⟩
  | 96 => ⟨S6912, .f32⟩
  | 97 => ⟨S6912x1, .f32⟩
  | 98 => ⟨S6912, .f32⟩
  | 99 => ⟨S6912x1, .f32⟩
  | 100 => ⟨S6912, .f32⟩
  | 101 => ⟨S6912, .f32⟩
  | 102 => ⟨S6912x1, .f32⟩
  | 103 => ⟨S6912, .f32⟩
  | 104 => ⟨S6912x1, .f32⟩
  | 105 => ⟨S6912, .f32⟩
  | 106 => ⟨S6912, .f32⟩
  | 107 => ⟨S6912x1, .f32⟩
  | 108 => ⟨S6912, .f32⟩
  | 109 => ⟨S_, .f32⟩
  | 110 => ⟨S6912, .f32⟩
  | 111 => ⟨S6912, .f32⟩
  | 112 => ⟨S6912, .f32⟩
  | 113 => ⟨S6912x1, .f32⟩
  | 114 => ⟨S6912, .f32⟩
  | 115 => ⟨S_, .f32⟩
  | 116 => ⟨S6912, .f32⟩
  | 117 => ⟨S6912, .f32⟩
  | 118 => ⟨S6912, .f32⟩
  | 119 => ⟨S6912x1, .f32⟩
  | 120 => ⟨S6912, .f32⟩
  | 121 => ⟨S6912x1, .f32⟩
  | 122 => ⟨S6912, .f32⟩
  | 123 => ⟨S6912x1, .f32⟩
  | 124 => ⟨S6912, .f32⟩
  | 125 => ⟨S6912x1, .f32⟩
  | 126 => ⟨S6912, .f32⟩
  | 127 => ⟨S6912, .f32⟩
  | _ => ⟨S1x256x48x48, .f32⟩

abbrev hbmTy0_1 (i : Nat) : BufTy := match i % 128 with
  | 0 => ⟨S6912, .f32⟩
  | 1 => ⟨S6912, .f32⟩
  | 2 => ⟨S6912, .f32⟩
  | 3 => ⟨S_, .f32⟩
  | 4 => ⟨S6912, .f32⟩
  | 5 => ⟨S6912, .f32⟩
  | 6 => ⟨S6912, .f32⟩
  | 7 => ⟨S6912, .f32⟩
  | 8 => ⟨S_, .f32⟩
  | 9 => ⟨S6912, .f32⟩
  | 10 => ⟨S6912, .f32⟩
  | 11 => ⟨S6912, .f32⟩
  | 12 => ⟨S6912, .f32⟩
  | 13 => ⟨S1x1, .f32⟩
  | 14 => ⟨S_, .f32⟩
  | 15 => ⟨S1x1, .f32⟩
  | 16 => ⟨S_, .f32⟩
  | 17 => ⟨S_, .f32⟩
  | 18 => ⟨S6912, .f32⟩
  | 19 => ⟨S6912, .f32⟩
  | 20 => ⟨S6912, .f32⟩
  | 21 => ⟨S_, .f32⟩
  | 22 => ⟨S_, .f32⟩
  | 23 => ⟨S_, .f32⟩
  | 24 => ⟨S_, .f32⟩
  | 25 => ⟨S6912, .f32⟩
  | 26 => ⟨S6912, .f32⟩
  | 27 => ⟨S6912, .f32⟩
  | 28 => ⟨S6912, .f32⟩
  | 29 => ⟨S_, .f32⟩
  | 30 => ⟨S6912, .f32⟩
  | 31 => ⟨S6912, .f32⟩
  | 32 => ⟨S6912, .f32⟩
  | 33 => ⟨S_, .f32⟩
  | 34 => ⟨S_, .f32⟩
  | 35 => ⟨S_, .f32⟩
  | 36 => ⟨S_, .f32⟩
  | 37 => ⟨S6912, .f32⟩
  | 38 => ⟨S6912, .f32⟩
  | 39 => ⟨S6912, .f32⟩
  | 40 => ⟨S6912, .f32⟩
  | 41 => ⟨S_, .f32⟩
  | 42 => ⟨S6912, .f32⟩
  | 43 => ⟨S6912, .f32⟩
  | 44 => ⟨S6912, .f32⟩
  | 45 => ⟨S_, .f32⟩
  | 46 => ⟨S_, .f32⟩
  | 47 => ⟨S_, .f32⟩
  | 48 => ⟨S_, .f32⟩
  | 49 => ⟨S6912, .f32⟩
  | 50 => ⟨S6912, .f32⟩
  | 51 => ⟨S6912, .f32⟩
  | 52 => ⟨S6912, .f32⟩
  | 53 => ⟨S_, .f32⟩
  | 54 => ⟨S6912, .f32⟩
  | 55 => ⟨S6912, .f32⟩
  | 56 => ⟨S6912, .f32⟩
  | 57 => ⟨S_, .f32⟩
  | 58 => ⟨S_, .f32⟩
  | 59 => ⟨S_, .f32⟩
  | 60 => ⟨S_, .f32⟩
  | 61 => ⟨S6912, .f32⟩
  | 62 => ⟨S6912, .f32⟩
  | 63 => ⟨S6912, .f32⟩
  | 64 => ⟨S6912, .f32⟩
  | 65 => ⟨S2304x3, .f32⟩
  | 66 => ⟨S2304x3, .f32⟩
  | 67 => ⟨S2304x3, .f32⟩
  | 68 => ⟨S2304x3, .f32⟩
  | 69 => ⟨S2304x3, .f32⟩
  | _ => ⟨S1x256x48x48, .f32⟩

abbrev hbmTy (i : Nat) : BufTy := match i / 128 with
  | 0 => hbmTy0_0 i
  | 1 => hbmTy0_1 i
  | _ => ⟨S1x256x48x48, .f32⟩

abbrev bufTy : (tb : Table) → Fin (tcTables nBuf tb) → BufTy
  | .hbm, ⟨i, _⟩ => hbmTy i
  | _, _ => ⟨S1x256x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call1_cst : Ref sig .tc := ⟨.hbm, 63, rfl⟩
abbrev main_call1_v0 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_0 : Ref sig .tc := ⟨.hbm, 81, rfl⟩
abbrev main_v67 : Ref sig .tc := ⟨.hbm, 82, rfl⟩
abbrev main_cst_1 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_2 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_3 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_4 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_5 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_6 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_7 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_8 : Ref sig .tc := ⟨.hbm, 149, rfl⟩
abbrev main_v127 : Ref sig .tc := ⟨.hbm, 150, rfl⟩
abbrev main_cst_9 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_v128 : Ref sig .tc := ⟨.hbm, 156, rfl⟩
abbrev main_cst_10 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_11 : Ref sig .tc := ⟨.hbm, 161, rfl⟩
abbrev main_v132 : Ref sig .tc := ⟨.hbm, 162, rfl⟩
abbrev main_cst_12 : Ref sig .tc := ⟨.hbm, 163, rfl⟩
abbrev main_call3_v0 : Ref sig .tc := ⟨.hbm, 164, rfl⟩
abbrev main_call3_v1 : Ref sig .tc := ⟨.hbm, 165, rfl⟩
abbrev main_call3_v2 : Ref sig .tc := ⟨.hbm, 166, rfl⟩
abbrev main_call3_v3 : Ref sig .tc := ⟨.hbm, 167, rfl⟩
abbrev main_v133 : Ref sig .tc := ⟨.hbm, 168, rfl⟩
abbrev main_cst_13 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_14 : Ref sig .tc := ⟨.hbm, 173, rfl⟩
abbrev main_v137 : Ref sig .tc := ⟨.hbm, 174, rfl⟩
abbrev main_cst_15 : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_v138 : Ref sig .tc := ⟨.hbm, 180, rfl⟩
abbrev main_cst_16 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_17 : Ref sig .tc := ⟨.hbm, 185, rfl⟩
abbrev main_v142 : Ref sig .tc := ⟨.hbm, 186, rfl⟩
abbrev main_cst_18 : Ref sig .tc := ⟨.hbm, 187, rfl⟩
abbrev main_call5_v0 : Ref sig .tc := ⟨.hbm, 188, rfl⟩
abbrev main_call5_v1 : Ref sig .tc := ⟨.hbm, 189, rfl⟩
abbrev main_call5_v2 : Ref sig .tc := ⟨.hbm, 190, rfl⟩
abbrev main_call5_v3 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩

abbrev nD : Nat := 1
abbrev τ : Topo := Topo.v7x

variable {F : FTy → Type} [FloatOps F]
-- ==== Kernel4.lean ====
abbrev S1x256x96x96 : Shape := ⟨4, ![1, 256, 96, 96]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S27648x4 : Shape := ⟨2, ![27648, 4]⟩
abbrev S12 : Shape := ⟨1, ![12]⟩
abbrev S256x256x1x1 : Shape := ⟨4, ![256, 256, 1, 1]⟩
abbrev S256x256 : Shape := ⟨2, ![256, 256]⟩
abbrev S1x256x256 : Shape := ⟨3, ![1, 256, 256]⟩
abbrev S9x256x256 : Shape := ⟨3, ![9, 256, 256]⟩
abbrev S6x256 : Shape := ⟨2, ![6, 256]⟩
abbrev S256x6 : Shape := ⟨2, ![256, 6]⟩
abbrev S256x3 : Shape := ⟨2, ![256, 3]⟩
abbrev S3 : Shape := ⟨1, ![3]⟩
abbrev S12x256x1x1 : Shape := ⟨4, ![12, 256, 1, 1]⟩
abbrev S12x256 : Shape := ⟨2, ![12, 256]⟩
abbrev S256x12 : Shape := ⟨2, ![256, 12]⟩
abbrev S_ : Shape := ⟨0, ![]⟩
abbrev S12x1 : Shape := ⟨2, ![12, 1]⟩
abbrev S256x96x96 : Shape := ⟨3, ![256, 96, 96]⟩
abbrev S96x96x256 : Shape := ⟨3, ![96, 96, 256]⟩
abbrev S98x98x256 : Shape := ⟨3, ![98, 98, 256]⟩
abbrev S9216x3x4 : Shape := ⟨3, ![9216, 3, 4]⟩
abbrev S9216x3x1 : Shape := ⟨3, ![9216, 3, 1]⟩
abbrev S9216x3 : Shape := ⟨2, ![9216, 3]⟩
abbrev S1x2 : Shape := ⟨2, ![1, 2]⟩
abbrev S1152x3 : Shape := ⟨2, ![1152, 3]⟩
abbrev S1152x256 : Shape := ⟨2, ![1152, 256]⟩
abbrev S12x96x256 : Shape := ⟨3, ![12, 96, 256]⟩
abbrev S1x256 : Shape := ⟨2, ![1, 256]⟩
abbrev S1x3 : Shape := ⟨2, ![1, 3]⟩
abbrev S1152x12 : Shape := ⟨2, ![1152, 12]⟩
abbrev S1x12 : Shape := ⟨2, ![1, 12]⟩
abbrev S1x1 : Shape := ⟨2, ![1, 1]⟩

abbrev nBuf : Space → Nat
  | .hbm => 91
  | .vmem => 28
  | .smem => 0
  | _ => 0

abbrev bufTy : (tb : Table) → Fin (tcTables nBuf tb) → BufTy
  | .hbm, ⟨0, _⟩ => ⟨S1x256x96x96, .f32⟩
  | .hbm, ⟨1, _⟩ => ⟨S1x6, .f32⟩
  | .hbm, ⟨2, _⟩ => ⟨S256x256x3x3, .f32⟩
  | .hbm, ⟨3, _⟩ => ⟨S256, .f32⟩
  | .hbm, ⟨4, _⟩ => ⟨S6x256x1x1, .f32⟩
  | .hbm, ⟨5, _⟩ => ⟨S6, .f32⟩
  | .hbm, ⟨6, _⟩ => ⟨S18x256x1x1, .f32⟩
  | .hbm, ⟨7, _⟩ => ⟨S18, .f32⟩
  | .hbm, ⟨8, _⟩ => ⟨S27648x4, .f32⟩
  | .hbm, ⟨9, _⟩ => ⟨S12, .i32⟩
  | .hbm, ⟨10, _⟩ => ⟨S12, .i1⟩
  | .hbm, ⟨11, _⟩ => ⟨S12, .i1⟩
  | .hbm, ⟨12, _⟩ => ⟨S256x256x1x1, .f32⟩
  | .hbm, ⟨13, _⟩ => ⟨S256x256, .f32⟩
  | .hbm, ⟨14, _⟩ => ⟨S256x256, .f32⟩
  | .hbm, ⟨15, _⟩ => ⟨S256x256x1x1, .f32⟩
  | .hbm, ⟨16, _⟩ => ⟨S256x256, .f32⟩
  | .hbm, ⟨17, _⟩ => ⟨S256x256, .f32⟩
  | .hbm, ⟨18, _⟩ => ⟨S256x256x1x1, .f32⟩
  | .hbm, ⟨19, _⟩ => ⟨S256x256, .f32⟩
  | .hbm, ⟨20, _⟩ => ⟨S256x256, .f32⟩
  | .hbm, ⟨21, _⟩ => ⟨S256x256x1x1, .f32⟩
  | .hbm, ⟨22, _⟩ => ⟨S256x256, .f32⟩
  | .hbm, ⟨23, _⟩ => ⟨S256x256, .f32⟩
  | .hbm, ⟨24, _⟩ => ⟨S256x256x1x1, .f32⟩
  | .hbm, ⟨25, _⟩ => ⟨S256x256, .f32⟩
  | .hbm, ⟨26, _⟩ => ⟨S256x256, .f32⟩
  | .hbm, ⟨27, _⟩ => ⟨S256x256x1x1, .f32⟩
  | .hbm, ⟨28, _⟩ => ⟨S256x256, .f32⟩
  | .hbm, ⟨29, _⟩ => ⟨S256x256, .f32⟩
  | .hbm, ⟨30, _⟩ => ⟨S256x256x1x1, .f32⟩
  | .hbm, ⟨31, _⟩ => ⟨S256x256, .f32⟩
  | .hbm, ⟨32, _⟩ => ⟨S256x256, .f32⟩
  | .hbm, ⟨33, _⟩ => ⟨S256x256x1x1, .f32⟩
  | .hbm, ⟨34, _⟩ => ⟨S256x256, .f32⟩
  | .hbm, ⟨35, _⟩ => ⟨S256x256, .f32⟩
  | .hbm, ⟨36, _⟩ => ⟨S256x256x1x1, .f32⟩
  | .hbm, ⟨37, _⟩ => ⟨S256x256, .f32⟩
  | .hbm, ⟨38, _⟩ => ⟨S256x256, .f32⟩
  | .hbm, ⟨39, _⟩ => ⟨S1x256x256, .f32⟩
  | .hbm, ⟨40, _⟩ => ⟨S1x256x256, .f32⟩
  | .hbm, ⟨41, _⟩ => ⟨S1x256x256, .f32⟩
  | .hbm, ⟨42, _⟩ => ⟨S1x256x256, .f32⟩
  | .hbm, ⟨43, _⟩ => ⟨S1x256x256, .f32⟩
  | .hbm, ⟨44, _⟩ => ⟨S1x256x256, .f32⟩
  | .hbm, ⟨45, _⟩ => ⟨S1x256x256, .f32⟩
  | .hbm, ⟨46, _⟩ => ⟨S1x256x256, .f32⟩
  | .hbm, ⟨47, _⟩ => ⟨S1x256x256, .f32⟩
  | .hbm, ⟨48, _⟩ => ⟨S9x256x256, .f32⟩
  | .hbm, ⟨49, _⟩ => ⟨S6x256, .f32⟩
  | .hbm, ⟨50, _⟩ => ⟨S256x6, .f32⟩
  | .hbm, ⟨51, _⟩ => ⟨S256x3, .f32⟩
  | .hbm, ⟨52, _⟩ => ⟨S256x3, .f32⟩
  | .hbm, ⟨53, _⟩ => ⟨S3, .f32⟩
  | .hbm, ⟨54, _⟩ => ⟨S3, .f32⟩
  | .hbm, ⟨55, _⟩ => ⟨S12x256x1x1, .f32⟩
  | .hbm, ⟨56, _⟩ => ⟨S12x256, .f32⟩
  | .hbm, ⟨57, _⟩ => ⟨S256x12, .f32⟩
  | .hbm, ⟨58, _⟩ => ⟨S_, .i32⟩
  | .hbm, ⟨59, _⟩ => ⟨S12, .i32⟩
  | .hbm, ⟨60, _⟩ => ⟨S12, .i32⟩
  | .hbm, ⟨61, _⟩ => ⟨S12, .i32⟩
  | .hbm, ⟨62, _⟩ => ⟨S12x1, .i32⟩
  | .hbm, ⟨63, _⟩ => ⟨S256x12, .f32⟩
  | .hbm, ⟨64, _⟩ => ⟨S12, .f32⟩
  | .hbm, ⟨65, _⟩ => ⟨S_, .i32⟩
  | .hbm, ⟨66, _⟩ => ⟨S12, .i32⟩
  | .hbm, ⟨67, _⟩ => ⟨S12, .i32⟩
  | .hbm, ⟨68, _⟩ => ⟨S12, .i32⟩
  | .hbm, ⟨69, _⟩ => ⟨S12x1, .i32⟩
  | .hbm, ⟨70, _⟩ => ⟨S12, .f32⟩
  | .hbm, ⟨71, _⟩ => ⟨S256x96x96, .f32⟩
  | .hbm, ⟨72, _⟩ => ⟨S96x96x256, .f32⟩
  | .hbm, ⟨73, _⟩ => ⟨S_, .i32⟩
  | .hbm, ⟨74, _⟩ => ⟨S_, .f32⟩
  | .hbm, ⟨75, _⟩ => ⟨S98x98x256, .f32⟩
  | .hbm, ⟨76, _⟩ => ⟨S9216x3x4, .f32⟩
  | .hbm, ⟨77, _⟩ => ⟨S9216x3x1, .f32⟩
  | .hbm, ⟨78, _⟩ => ⟨S9216x3, .f32⟩
  | .hbm, ⟨79, _⟩ => ⟨S9216x3x1, .f32⟩
  | .hbm, ⟨80, _⟩ => ⟨S9216x3, .f32⟩
  | .hbm, ⟨81, _⟩ => ⟨S9216x3x1, .f32⟩
  | .hbm, ⟨82, _⟩ => ⟨S9216x3, .f32⟩
  | .hbm, ⟨83, _⟩ => ⟨S9216x3x1, .f32⟩
  | .hbm, ⟨84, _⟩ => ⟨S9216x3, .f32⟩
  | .hbm, ⟨85, _⟩ => ⟨S1x2, .f32⟩
  | .hbm, ⟨86, _⟩ => ⟨S9216x3, .f32⟩
  | .hbm, ⟨87, _⟩ => ⟨S9216x3, .f32⟩
  | .hbm, ⟨88, _⟩ => ⟨S9216x3, .f32⟩
  | .hbm, ⟨89, _⟩ => ⟨S9216x3, .f32⟩
  | .hbm, ⟨90, _⟩ => ⟨S9216x3, .f32⟩
  | .local _ .vmem, ⟨0, _⟩ => ⟨S98x98x256, .f32⟩
  | .local _ .vmem, ⟨1, _⟩ => ⟨S9x256x256, .f32⟩
  | .local _ .vmem, ⟨2, _⟩ => ⟨S256, .f32⟩
  | .local _ .vmem, ⟨3, _⟩ => ⟨S256x3, .f32⟩
  | .local _ .vmem, ⟨4, _⟩ => ⟨S256x3, .f32⟩
  | .local _ .vmem, ⟨5, _⟩ => ⟨S3, .f32⟩
  | .local _ .vmem, ⟨6, _⟩ => ⟨S3, .f32⟩
  | .local _ .vmem, ⟨7, _⟩ => ⟨S256x12, .f32⟩
  | .local _ .vmem, ⟨8, _⟩ => ⟨S12, .f32⟩
  | .local _ .vmem, ⟨9, _⟩ => ⟨S1152x3, .f32⟩
  | .local _ .vmem, ⟨10, _⟩ => ⟨S1152x3, .f32⟩
  | .local _ .vmem, ⟨11, _⟩ => ⟨S1152x3, .f32⟩
  | .local _ .vmem, ⟨12, _⟩ => ⟨S1152x3, .f32⟩
  | .local _ .vmem, ⟨13, _⟩ => ⟨S1152x3, .f32⟩
  | .local _ .vmem, ⟨14, _⟩ => ⟨S1152x3, .f32⟩
  | .local _ .vmem, ⟨15, _⟩ => ⟨S1152x3, .f32⟩
  | .local _ .vmem, ⟨16, _⟩ => ⟨S1152x3, .f32⟩
  | .local _ .vmem, ⟨17, _⟩ => ⟨S1x2, .f32⟩
  | .local _ .vmem, ⟨18, _⟩ => ⟨S1152x3, .f32⟩
  | .local _ .vmem, ⟨19, _⟩ => ⟨S1152x3, .f32⟩
  | .local _ .vmem, ⟨20, _⟩ => ⟨S1152x3, .f32⟩
  | .local _ .vmem, ⟨21, _⟩ => ⟨S1152x3, .f32⟩
  | .local _ .vmem, ⟨22, _⟩ => ⟨S1152x3, .f32⟩
  | .local _ .vmem, ⟨23, _⟩ => ⟨S1152x3, .f32⟩
  | .local _ .vmem, ⟨24, _⟩ => ⟨S1152x3, .f32⟩
  | .local _ .vmem, ⟨25, _⟩ => ⟨S1152x3, .f32⟩
  | .local _ .vmem, ⟨26, _⟩ => ⟨S1152x3, .f32⟩
  | .local _ .vmem, ⟨27, _⟩ => ⟨S1152x3, .f32⟩
  | _, _ => ⟨S1x256x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_4 : Ref sig .tc := ⟨.hbm, 73, rfl⟩
abbrev main_call0_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v70_3 : Ref sig .tc := ⟨.hbm, 89, rfl⟩
abbrev main_v70_4 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 3 → Nat :=
  let arg0 : BitVec 32 := BitVec.ofNat 32 (i 0).val
  let c12_i32 : BitVec 32 := 12#32
  let v1 : BitVec 32 := Scalar.muli arg0 c12_i32
  let v2 : BitVec 32 := Scalar.addi v1 c0_i32
  let v3 : Index := Scalar.indexCast v2
  let c0 : Index := 0#32
  let c0_0 : Index := 0#32
  ![v3.toNat, 0, 0]
def k0_off2 (i : grid0.Coords) (c0_i32_6 : BitVec 32) : Fin 3 → Nat :=
  let arg0 : BitVec 32 := BitVec.ofNat 32 (i 0).val
  let c12_i32_5 : BitVec 32 := 12#32
  let v11 : BitVec 32 := Scalar.muli arg0 c12_i32_5
  let v12 : BitVec 32 := Scalar.addi v11 c0_i32_6
  let v13 : Index := Scalar.indexCast v12
  let c1 : Index := 1#32
  let c0_7 : Index := 0#32
  ![v13.toNat, 1, 0]
def k0_off3 (i : grid0.Coords) (c0_i32_13 : BitVec 32) : Fin 3 → Nat :=
  let arg0 : BitVec 32 := BitVec.ofNat 32 (i 0).val
  let c12_i32_12 : BitVec 32 := 12#32
  let v21 : BitVec 32 := Scalar.muli arg0 c12_i32_12
  let v22 : BitVec 32 := Scalar.addi v21 c0_i32_13
  let v23 : Index := Scalar.indexCast v22
  let c2 : Index := 2#32
  let c0_14 : Index := 0#32
  ![v23.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S98x98x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1152x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1152x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1152x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1152x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1152x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1152x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1152x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1152x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1152x3 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S1x256x96x96 : Shape := ⟨4, ![1, 256, 96, 96]⟩
abbrev S1x6 : Shape := ⟨2, ![1, 6]⟩
abbrev S256x256x3x3 : Shape := ⟨4, ![256, 256, 3, 3]⟩
abbrev S256 : Shape := ⟨1, ![256]⟩
abbrev S6x256x1x1 : Shape := ⟨4, ![6, 256, 1, 1]⟩
abbrev S6 : Shape := ⟨1, ![6]⟩
abbrev S18x256x1x1 : Shape := ⟨4, ![18, 256, 1, 1]⟩
abbrev S18 : Shape := ⟨1, ![18]⟩
abbrev S27648x4 : Shape := ⟨2, ![27648, 4]⟩
abbrev S256x96x96 : Shape := ⟨3, ![256, 96, 96]⟩
abbrev S_ : Shape := ⟨0, ![]⟩
abbrev S256x98x98 : Shape := ⟨3, ![256, 98, 98]⟩
abbrev S256x256x1x1 : Shape := ⟨4, ![256, 256, 1, 1]⟩
abbrev S256x256 : Shape := ⟨2, ![256, 256]⟩
abbrev S256x1x1 : Shape := ⟨3, ![256, 1, 1]⟩
abbrev S6x256 : Shape := ⟨2, ![6, 256]⟩
abbrev S6x96x96 : Shape := ⟨3, ![6, 96, 96]⟩
abbrev S6x1x1 : Shape := ⟨3, ![6, 1, 1]⟩
abbrev S18x256 : Shape := ⟨2, ![18, 256]⟩
abbrev S18x96x96 : Shape := ⟨3, ![18, 96, 96]⟩
abbrev S18x1x1 : Shape := ⟨3, ![18, 1, 1]⟩
abbrev S12x96x96 : Shape := ⟨3, ![12, 96, 96]⟩
abbrev S96x96x12 : Shape := ⟨3, ![96, 96, 12]⟩
abbrev S96x96x6 : Shape := ⟨3, ![96, 96, 6]⟩
abbrev S27648x2 : Shape := ⟨2, ![27648, 2]⟩
abbrev S27648 : Shape := ⟨1, ![27648]⟩
abbrev S27648x1 : Shape := ⟨2, ![27648, 1]⟩
abbrev S1x1 : Shape := ⟨2, ![1, 1]⟩
abbrev S9216x3 : Shape := ⟨2, ![9216, 3]⟩

abbrev nBuf : Space → Nat
  | .hbm => 198
  | .vmem => 0
  | .smem => 0
  | _ => 0

abbrev hbmTy0_0 (i : Nat) : BufTy := match i % 128 with
  | 0 => ⟨S1x256x96x96, .f32⟩
  | 1 => ⟨S1x6, .f32⟩
  | 2 => ⟨S256x256x3x3, .f32⟩
  | 3 => ⟨S256, .f32⟩
  | 4 => ⟨S6x256x1x1, .f32⟩
  | 5 => ⟨S6, .f32⟩
  | 6 => ⟨S18x256x1x1, .f32⟩
  | 7 => ⟨S18, .f32⟩
  | 8 => ⟨S27648x4, .f32⟩
  | 9 => ⟨S256x96x96, .f32⟩
  | 10 => ⟨S_, .i32⟩
  | 11 => ⟨S_, .f32⟩
  | 12 => ⟨S256x98x98, .f32⟩
  | 13 => ⟨S_, .f32⟩
  | 14 => ⟨S256x96x96, .f32⟩
  | 15 => ⟨S256x256x1x1, .f32⟩
  | 16 => ⟨S256x256, .f32⟩
  | 17 => ⟨S256x96x96, .f32⟩
  | 18 => ⟨S256x96x96, .f32⟩
  | 19 => ⟨S256x96x96, .f32⟩
  | 20 => ⟨S256x256x1x1, .f32⟩
  | 21 => ⟨S256x256, .f32⟩
  | 22 => ⟨S256x96x96, .f32⟩
  | 23 => ⟨S256x96x96, .f32⟩
  | 24 => ⟨S256x96x96, .f32⟩
  | 25 => ⟨S256x256x1x1, .f32⟩
  | 26 => ⟨S256x256, .f32⟩
  | 27 => ⟨S256x96x96, .f32⟩
  | 28 => ⟨S256x96x96, .f32⟩
  | 29 => ⟨S256x96x96, .f32⟩
  | 30 => ⟨S256x256x1x1, .f32⟩
  | 31 => ⟨S256x256, .f32⟩
  | 32 => ⟨S256x96x96, .f32⟩
  | 33 => ⟨S256x96x96, .f32⟩
  | 34 => ⟨S256x96x96, .f32⟩
  | 35 => ⟨S256x256x1x1, .f32⟩
  | 36 => ⟨S256x256, .f32⟩
  | 37 => ⟨S256x96x96, .f32⟩
  | 38 => ⟨S256x96x96, .f32⟩
  | 39 => ⟨S256x96x96, .f32⟩
  | 40 => ⟨S256x256x1x1, .f32⟩
  | 41 => ⟨S256x256, .f32⟩
  | 42 => ⟨S256x96x96, .f32⟩
  | 43 => ⟨S256x96x96, .f32⟩
  | 44 => ⟨S256x96x96, .f32⟩
  | 45 => ⟨S256x256x1x1, .f32⟩
  | 46 => ⟨S256x256, .f32⟩
  | 47 => ⟨S256x96x96, .f32⟩
  | 48 => ⟨S256x96x96, .f32⟩
  | 49 => ⟨S256x96x96, .f32⟩
  | 50 => ⟨S256x256x1x1, .f32⟩
  | 51 => ⟨S256x256, .f32⟩
  | 52 => ⟨S256x96x96, .f32⟩
  | 53 => ⟨S256x96x96, .f32⟩
  | 54 => ⟨S256x96x96, .f32⟩
  | 55 => ⟨S256x256x1x1, .f32⟩
  | 56 => ⟨S256x256, .f32⟩
  | 57 => ⟨S256x96x96, .f32⟩
  | 58 => ⟨S256x96x96, .f32⟩
  | 59 => ⟨S256x96x96, .f32⟩
  | 60 => ⟨S256x1x1, .f32⟩
  | 61 => ⟨S256x96x96, .f32⟩
  | 62 => ⟨S256x96x96, .f32⟩
  | 63 => ⟨S_, .f32⟩
  | 64 => ⟨S256x96x96, .f32⟩
  | 65 => ⟨S256x96x96, .f32⟩
  | 66 => ⟨S6x256, .f32⟩
  | 67 => ⟨S6x96x96, .f32⟩
  | 68 => ⟨S6x1x1, .f32⟩
  | 69 => ⟨S6x96x96, .f32⟩
  | 70 => ⟨S6x96x96, .f32⟩
  | 71 => ⟨S18x256, .f32⟩
  | 72 => ⟨S18x96x96, .f32⟩
  | 73 => ⟨S18x1x1, .f32⟩
  | 74 => ⟨S18x96x96, .f32⟩
  | 75 => ⟨S18x96x96, .f32⟩
  | 76 => ⟨S12x96x96, .f32⟩
  | 77 => ⟨S96x96x12, .f32⟩
  | 78 => ⟨S27648x4, .f32⟩
  | 79 => ⟨S96x96x6, .f32⟩
  | 80 => ⟨S27648x2, .f32⟩
  | 81 => ⟨S_, .f32⟩
  | 82 => ⟨S27648, .f32⟩
  | 83 => ⟨S_, .f32⟩
  | 84 => ⟨S27648, .f32⟩
  | 85 => ⟨S27648, .f32⟩
  | 86 => ⟨S27648x1, .f32⟩
  | 87 => ⟨S27648x2, .f32⟩
  | 88 => ⟨S27648x2, .f32⟩
  | 89 => ⟨S27648x2, .f32⟩
  | 90 => ⟨S_, .f32⟩
  | 91 => ⟨S27648, .f32⟩
  | 92 => ⟨S27648x1, .f32⟩
  | 93 => ⟨S27648x2, .f32⟩
  | 94 => ⟨S27648x2, .f32⟩
  | 95 => ⟨S27648x1, .f32⟩
  | 96 => ⟨S27648, .f32⟩
  | 97 => ⟨S27648x1, .f32⟩
  | 98 => ⟨S27648, .f32⟩
  | 99 => ⟨S27648x1, .f32⟩
  | 100 => ⟨S27648, .f32⟩
  | 101 => ⟨S27648, .f32⟩
  | 102 => ⟨S27648x1, .f32⟩
  | 103 => ⟨S27648, .f32⟩
  | 104 => ⟨S27648x1, .f32⟩
  | 105 => ⟨S27648, .f32⟩
  | 106 => ⟨S27648, .f32⟩
  | 107 => ⟨S27648x1, .f32⟩
  | 108 => ⟨S27648, .f32⟩
  | 109 => ⟨S_, .f32⟩
  | 110 => ⟨S27648, .f32⟩
  | 111 => ⟨S27648, .f32⟩
  | 112 => ⟨S27648, .f32⟩
  | 113 => ⟨S27648x1, .f32⟩
  | 114 => ⟨S27648, .f32⟩
  | 115 => ⟨S_, .f32⟩
  | 116 => ⟨S27648, .f32⟩
  | 117 => ⟨S27648, .f32⟩
  | 118 => ⟨S27648, .f32⟩
  | 119 => ⟨S27648x1, .f32⟩
  | 120 => ⟨S27648, .f32⟩
  | 121 => ⟨S27648x1, .f32⟩
  | 122 => ⟨S27648, .f32⟩
  | 123 => ⟨S27648x1, .f32⟩
  | 124 => ⟨S27648, .f32⟩
  | 125 => ⟨S27648x1, .f32⟩
  | 126 => ⟨S27648, .f32⟩
  | 127 => ⟨S27648, .f32⟩
  | _ => ⟨S1x256x96x96, .f32⟩

abbrev hbmTy0_1 (i : Nat) : BufTy := match i % 128 with
  | 0 => ⟨S27648, .f32⟩
  | 1 => ⟨S27648, .f32⟩
  | 2 => ⟨S27648, .f32⟩
  | 3 => ⟨S_, .f32⟩
  | 4 => ⟨S27648, .f32⟩
  | 5 => ⟨S27648, .f32⟩
  | 6 => ⟨S27648, .f32⟩
  | 7 => ⟨S27648, .f32⟩
  | 8 => ⟨S_, .f32⟩
  | 9 => ⟨S27648, .f32⟩
  | 10 => ⟨S27648, .f32⟩
  | 11 => ⟨S27648, .f32⟩
  | 12 => ⟨S27648, .f32⟩
  | 13 => ⟨S1x1, .f32⟩
  | 14 => ⟨S_, .f32⟩
  | 15 => ⟨S1x1, .f32⟩
  | 16 => ⟨S_, .f32⟩
  | 17 => ⟨S_, .f32⟩
  | 18 => ⟨S27648, .f32⟩
  | 19 => ⟨S27648, .f32⟩
  | 20 => ⟨S27648, .f32⟩
  | 21 => ⟨S_, .f32⟩
  | 22 => ⟨S_, .f32⟩
  | 23 => ⟨S_, .f32⟩
  | 24 => ⟨S_, .f32⟩
  | 25 => ⟨S27648, .f32⟩
  | 26 => ⟨S27648, .f32⟩
  | 27 => ⟨S27648, .f32⟩
  | 28 => ⟨S27648, .f32⟩
  | 29 => ⟨S_, .f32⟩
  | 30 => ⟨S27648, .f32⟩
  | 31 => ⟨S27648, .f32⟩
  | 32 => ⟨S27648, .f32⟩
  | 33 => ⟨S_, .f32⟩
  | 34 => ⟨S_, .f32⟩
  | 35 => ⟨S_, .f32⟩
  | 36 => ⟨S_, .f32⟩
  | 37 => ⟨S27648, .f32⟩
  | 38 => ⟨S27648, .f32⟩
  | 39 => ⟨S27648, .f32⟩
  | 40 => ⟨S27648, .f32⟩
  | 41 => ⟨S_, .f32⟩
  | 42 => ⟨S27648, .f32⟩
  | 43 => ⟨S27648, .f32⟩
  | 44 => ⟨S27648, .f32⟩
  | 45 => ⟨S_, .f32⟩
  | 46 => ⟨S_, .f32⟩
  | 47 => ⟨S_, .f32⟩
  | 48 => ⟨S_, .f32⟩
  | 49 => ⟨S27648, .f32⟩
  | 50 => ⟨S27648, .f32⟩
  | 51 => ⟨S27648, .f32⟩
  | 52 => ⟨S27648, .f32⟩
  | 53 => ⟨S_, .f32⟩
  | 54 => ⟨S27648, .f32⟩
  | 55 => ⟨S27648, .f32⟩
  | 56 => ⟨S27648, .f32⟩
  | 57 => ⟨S_, .f32⟩
  | 58 => ⟨S_, .f32⟩
  | 59 => ⟨S_, .f32⟩
  | 60 => ⟨S_, .f32⟩
  | 61 => ⟨S27648, .f32⟩
  | 62 => ⟨S27648, .f32⟩
  | 63 => ⟨S27648, .f32⟩
  | 64 => ⟨S27648, .f32⟩
  | 65 => ⟨S9216x3, .f32⟩
  | 66 => ⟨S9216x3, .f32⟩
  | 67 => ⟨S9216x3, .f32⟩
  | 68 => ⟨S9216x3, .f32⟩
  | 69 => ⟨S9216x3, .f32⟩
  | _ => ⟨S1x256x96x96, .f32⟩

abbrev hbmTy (i : Nat) : BufTy := match i / 128 with
  | 0 => hbmTy0_0 i
  | 1 => hbmTy0_1 i
  | _ => ⟨S1x256x96x96, .f32⟩

abbrev bufTy : (tb : Table) → Fin (tcTables nBuf tb) → BufTy
  | .hbm, ⟨i, _⟩ => hbmTy i
  | _, _ => ⟨S1x256x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call1_cst : Ref sig .tc := ⟨.hbm, 63, rfl⟩
abbrev main_call1_v0 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_0 : Ref sig .tc := ⟨.hbm, 81, rfl⟩
abbrev main_v67 : Ref sig .tc := ⟨.hbm, 82, rfl⟩
abbrev main_cst_1 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_2 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_3 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_4 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_5 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_6 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_7 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_8 : Ref sig .tc := ⟨.hbm, 149, rfl⟩
abbrev main_v127 : Ref sig .tc := ⟨.hbm, 150, rfl⟩
abbrev main_cst_9 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_v128 : Ref sig .tc := ⟨.hbm, 156, rfl⟩
abbrev main_cst_10 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_11 : Ref sig .tc := ⟨.hbm, 161, rfl⟩
abbrev main_v132 : Ref sig .tc := ⟨.hbm, 162, rfl⟩
abbrev main_cst_12 : Ref sig .tc := ⟨.hbm, 163, rfl⟩
abbrev main_call3_v0 : Ref sig .tc := ⟨.hbm, 164, rfl⟩
abbrev main_call3_v1 : Ref sig .tc := ⟨.hbm, 165, rfl⟩
abbrev main_call3_v2 : Ref sig .tc := ⟨.hbm, 166, rfl⟩
abbrev main_call3_v3 : Ref sig .tc := ⟨.hbm, 167, rfl⟩
abbrev main_v133 : Ref sig .tc := ⟨.hbm, 168, rfl⟩
abbrev main_cst_13 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_14 : Ref sig .tc := ⟨.hbm, 173, rfl⟩
abbrev main_v137 : Ref sig .tc := ⟨.hbm, 174, rfl⟩
abbrev main_cst_15 : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_v138 : Ref sig .tc := ⟨.hbm, 180, rfl⟩
abbrev main_cst_16 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_17 : Ref sig .tc := ⟨.hbm, 185, rfl⟩
abbrev main_v142 : Ref sig .tc := ⟨.hbm, 186, rfl⟩
abbrev main_cst_18 : Ref sig .tc := ⟨.hbm, 187, rfl⟩
abbrev main_call5_v0 : Ref sig .tc := ⟨.hbm, 188, rfl⟩
abbrev main_call5_v1 : Ref sig .tc := ⟨.hbm, 189, rfl⟩
abbrev main_call5_v2 : Ref sig .tc := ⟨.hbm, 190, rfl⟩
abbrev main_call5_v3 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩

abbrev nD : Nat := 1
abbrev τ : Topo := Topo.v7x

variable {F : FTy → Type} [FloatOps F]
-- ==== Proposals.lean ====
abbrev S288x128 : Shape := ⟨2, ![288, 128]⟩
abbrev S1024x8 : Shape := ⟨2, ![1024, 8]⟩
abbrev S1x288x128 : Shape := ⟨3, ![1, 288, 128]⟩
abbrev S1 : Shape := ⟨1, ![1]⟩
abbrev S1x1x1 : Shape := ⟨3, ![1, 1, 1]⟩
abbrev S1x1 : Shape := ⟨2, ![1, 1]⟩
abbrev S1x4 : Shape := ⟨2, ![1, 4]⟩
abbrev S1x8 : Shape := ⟨2, ![1, 8]⟩

abbrev nBuf : Space → Nat
  | .hbm => 8
  | .vmem => 8
  | .smem => 0
  | _ => 0

abbrev bufTy : (tb : Table) → Fin (tcTables nBuf tb) → BufTy
  | .hbm, ⟨0, _⟩ => ⟨S288x128, .f32⟩
  | .hbm, ⟨1, _⟩ => ⟨S288x128, .i32⟩
  | .hbm, ⟨2, _⟩ => ⟨S288x128, .f32⟩
  | .hbm, ⟨3, _⟩ => ⟨S288x128, .f32⟩
  | .hbm, ⟨4, _⟩ => ⟨S288x128, .f32⟩
  | .hbm, ⟨5, _⟩ => ⟨S288x128, .f32⟩
  | .hbm, ⟨6, _⟩ => ⟨S288x128, .i32⟩
  | .hbm, ⟨7, _⟩ => ⟨S1024x8, .f32⟩
  | .local _ .vmem, ⟨0, _⟩ => ⟨S288x128, .f32⟩
  | .local _ .vmem, ⟨1, _⟩ => ⟨S288x128, .i32⟩
  | .local _ .vmem, ⟨2, _⟩ => ⟨S288x128, .f32⟩
  | .local _ .vmem, ⟨3, _⟩ => ⟨S288x128, .f32⟩
  | .local _ .vmem, ⟨4, _⟩ => ⟨S288x128, .f32⟩
  | .local _ .vmem, ⟨5, _⟩ => ⟨S288x128, .f32⟩
  | .local _ .vmem, ⟨6, _⟩ => ⟨S288x128, .i32⟩
  | .local _ .vmem, ⟨7, _⟩ => ⟨S1024x8, .f32⟩
  | _, _ => ⟨S288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_15 : BitVec 32 := 0#32
  let c31_i32 : BitVec 32 := 31#32
  let v22 : BitVec 32 := Scalar.addi c0_i32_15 c31_i32
  let c1_i32_16 : BitVec 32 := 1#32
  ⟨c0_i32_15, v22, c1_i32_16⟩
@[reducible] def k0_t2_loop : Scf.Loop 32 :=
  let c0_i32_21 : BitVec 32 := 0#32
  let c16_i32 : BitVec 32 := 16#32
  let v38 : BitVec 32 := Scalar.addi c0_i32_21 c16_i32
  let c1_i32_22 : BitVec 32 := 1#32
  ⟨c0_i32_21, v38, c1_i32_22⟩
@[reducible] def k0_t3_loop : Scf.Loop 32 :=
  let c0_i32_27 : BitVec 32 := 0#32
  let c31_i32_28 : BitVec 32 := 31#32
  let v53 : BitVec 32 := Scalar.addi c0_i32_27 c31_i32_28
  let c1_i32_29 : BitVec 32 := 1#32
  ⟨c0_i32_27, v53, c1_i32_29⟩
@[reducible] def k0_t4_loop : Scf.Loop 32 :=
  let c0_i32_35 : BitVec 32 := 0#32
  let c16_i32_36 : BitVec 32 := 16#32
  let v69 : BitVec 32 := Scalar.addi c0_i32_35 c16_i32_36
  let c1_i32_37 : BitVec 32 := 1#32
  ⟨c0_i32_35, v69, c1_i32_37⟩
@[reducible] def k0_t5_loop : Scf.Loop 32 :=
  let c0_i32_42 : BitVec 32 := 0#32
  let c31_i32_43 : BitVec 32 := 31#32
  let v84 : BitVec 32 := Scalar.addi c0_i32_42 c31_i32_43
  let c1_i32_44 : BitVec 32 := 1#32
  ⟨c0_i32_42, v84, c1_i32_44⟩
@[reducible] def k0_t6_loop : Scf.Loop 32 :=
  let c0_i32_50 : BitVec 32 := 0#32
  let c16_i32_51 : BitVec 32 := 16#32
  let v100 : BitVec 32 := Scalar.addi c0_i32_50 c16_i32_51
  let c1_i32_52 : BitVec 32 := 1#32
  ⟨c0_i32_50, v100, c1_i32_52⟩
def k0_off1 (arg8 : BitVec 32) : Fin 2 → Nat :=
  let v176 : Index := Scalar.indexCast arg8
  let c0_76 : Index := 0#32
  ![v176.toNat, 0]

def k0_chk1 (arg8 : BitVec 32) : Prop :=
  (∀ a, (k0_off1 arg8) a + S1x8.size a ≤ S1024x8.size a)
theorem k0_off1_inb : ∀ (arg8 : BitVec 32) (k0_hw1 : k0_chk1 arg8), ∀ a, (k0_off1 arg8) a + S1x8.size a ≤ S1024x8.size a := fun arg8 k0_hw1 => k0_hw1

abbrev stage0_0 : Fin 1 → Memref sig .tc .vmem S288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S288x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S288x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Spec.lean ====
/- The head of one pyramid level on plain functions of coordinates, for any side length: the padded picture, the 3 x 3
   convolution with its bias and rectifier, the two 1 x 1 convolutions, the score of an anchor and the four clipped edges
   of its box; the modules of the levels show that both programs compute these functions. Then the readings of the
   operands that are laid out alike at every level: the weights of a shift, and the reordered columns of the box offsets. -/
module

public import Idealize.ShloMosaic.Lib.Pipeline.ValueKit
public import Idealize.ShloMosaic.Lib.Pointwise

@[expose] public section

set_option maxRecDepth 16384

noncomputable section

namespace Cert.Proof.Spec

open Idealize.ShloMosaic

/-- The arguments of a level of side `n` with `N` anchors, each as a function of its coordinates. -/
structure Args (n N : ℕ) where
  /-- the picture, channel by channel -/
  x : Fin 256 → Fin n → Fin n → Ideal .f32
  /-- height and width of the image -/
  im : Fin 6 → Ideal .f32
  /-- the 3 x 3 weights: output channel, input channel, row, column -/
  w : Fin 256 → Fin 256 → Fin 3 → Fin 3 → Ideal .f32
  /-- the bias of the 3 x 3 convolution -/
  b : Fin 256 → Ideal .f32
  /-- weights and bias of the class scores -/
  cw : Fin 6 → Fin 256 → Ideal .f32
  cb : Fin 6 → Ideal .f32
  /-- weights and bias of the box offsets -/
  bw : Fin 18 → Fin 256 → Ideal .f32
  bb : Fin 18 → Ideal .f32
  /-- the anchor boxes -/
  an : Fin N → Fin 4 → Ideal .f32

variable {n N : ℕ}

/-- The picture with one ring of zeros around it, at row `i` and column `j` of the larger picture. -/
def pad (x : Fin 256 → Fin n → Fin n → Ideal .f32) (i j : ℕ) (c : Fin 256) : Ideal .f32 :=
  if h : (1 ≤ i ∧ i - 1 < n) ∧ 1 ≤ j ∧ j - 1 < n then x c ⟨i - 1, h.1.2⟩ ⟨j - 1, h.2.2⟩ else 0

/-- The product of one of the nine shifts of the padded picture with its matrix of weights. -/
def tap (A : Args n N) (k l : Fin 3) (h v : ℕ) (o : Fin 256) : Ideal .f32 :=
  ∑ c : Fin 256, pad A.x (h + k.val) (v + l.val) c * A.w o c k l

/-- The rectified 3 x 3 convolution at pixel `(h, v)`, channel `o`. -/
def feat (A : Args n N) (h v : ℕ) (o : Fin 256) : Ideal .f32 :=
  max (tap A 0 0 h v o + tap A 0 1 h v o + tap A 0 2 h v o + tap A 1 0 h v o + tap A 1 1 h v o + tap A 1 2 h v o
    + tap A 2 0 h v o + tap A 2 1 h v o + tap A 2 2 h v o + A.b o) 0

/-- One channel of a 1 x 1 convolution over the features `f`. -/
def lin (f : Fin 256 → Ideal .f32) (w : Fin 256 → Ideal .f32) (b : Ideal .f32) : Ideal .f32 := ∑ c : Fin 256, f c * w c + b

/-- The class score `q` (0: background, 1: object) of anchor `r`, its pixel being `r / 3` and its shape `r % 3`. -/
def logit (A : Args n N) (r q : ℕ) (hq : q < 2) : Ideal .f32 :=
  lin (feat A (r / (3 * n)) (r / 3 % n)) (A.cw ⟨r % 3 * 2 + q, by omega⟩) (A.cb ⟨r % 3 * 2 + q, by omega⟩)

/-- The box offset `q` (0, 1: centre; 2, 3: logarithm of the size) of anchor `r`. -/
def delta (A : Args n N) (r q : ℕ) (hq : q < 4) : Ideal .f32 :=
  lin (feat A (r / (3 * n)) (r / 3 % n)) (A.bw ⟨r % 3 * 4 + q, by omega⟩) (A.bb ⟨r % 3 * 4 + q, by omega⟩)

/-- The probability of the second of two classes. -/
def soft (l0 l1 : Ideal .f32) : Ideal .f32 :=
  Ideal.div (Ideal.exp (l1 - max l0 l1)) (Ideal.exp (l0 - max l0 l1) + Ideal.exp (l1 - max l0 l1))

/-- The lower edge of a box on one axis: centre offset `d`, size offset `s`, anchor edges `lo` and `hi`, clipped to the
    image of extent `e`. -/
def lower (d s lo hi e : Ideal .f32) : Ideal .f32 :=
  min (e - 1) (max 0 (d * (hi - lo) + (lo + Ideal.ofBits FTy.f32 1056964608#32 * (hi - lo))
    - Ideal.ofBits FTy.f32 1056964608#32 * (Ideal.exp (min s (Ideal.ofBits FTy.f32 1082130432#32)) * (hi - lo))))

/-- The upper edge of a box on one axis, likewise. -/
def upper (d s lo hi e : Ideal .f32) : Ideal .f32 :=
  min (e - 1) (max 0 (d * (hi - lo) + (lo + Ideal.ofBits FTy.f32 1056964608#32 * (hi - lo))
    + Ideal.ofBits FTy.f32 1056964608#32 * (Ideal.exp (min s (Ideal.ofBits FTy.f32 1082130432#32)) * (hi - lo))))

/-- The score of anchor `r`. -/
def score (A : Args n N) (r : Fin N) : Ideal .f32 := soft (logit A r 0 (by omega)) (logit A r 1 (by omega))
/-- The left edge of anchor `r`'s box. -/
def left (A : Args n N) (r : Fin N) : Ideal .f32 :=
  lower (delta A r 0 (by omega)) (delta A r 2 (by omega)) (A.an r 0) (A.an r 2) (A.im 1)
/-- The top edge of anchor `r`'s box. -/
def top (A : Args n N) (r : Fin N) : Ideal .f32 :=
  lower (delta A r 1 (by omega)) (delta A r 3 (by omega)) (A.an r 1) (A.an r 3) (A.im 0)
/-- The right edge of anchor `r`'s box. -/
def right (A : Args n N) (r : Fin N) : Ideal .f32 :=
  upper (delta A r 0 (by omega)) (delta A r 2 (by omega)) (A.an r 0) (A.an r 2) (A.im 1)
/-- The bottom edge of anchor `r`'s box. -/
def bottom (A : Args n N) (r : Fin N) : Ideal .f32 :=
  upper (delta A r 1 (by omega)) (delta A r 3 (by omega)) (A.an r 1) (A.an r 3) (A.im 0)

/-- The word the reductions start from is minus infinity. -/
theorem ofBits_bot : Ideal.ofBits FTy.f32 4286578688#32 = ⊥ := by simp [Ideal.ofBits, Ideal.ieee]

/-- Of two class scores the maximum a reduction from minus infinity finds is the larger one. -/
theorem fold_max_two (f : Fin 2 → Ideal .f32) :
    Finset.fold max (Ideal.ofBits FTy.f32 4286578688#32) f Finset.univ = max (f 0) (f 1) := by
  rw [ofBits_bot]
  have h : (Finset.univ : Finset (Fin 2)) = {0, 1} := rfl
  rw [h, Finset.fold_insert (by decide), Finset.fold_singleton]
  exact congrArg _ (max_bot_right _)

/-- Minus infinity is below everything. -/
theorem bot_max (a : Ideal .f32) : max (Ideal.ofBits FTy.f32 4286578688#32) a = a := by
  rw [ofBits_bot]; exact max_bot_left a

/-- A gather read at an index `j`: the operand at the index `k` whose coordinates the dimension numbers give. -/
theorem gather_at {s si t : Shape} {w : ℕ} {α : Type} (d : GatherDims s si t) (x : s.Idx → α) (idx : IVec si w) (j : t.Idx)
    (k : s.Idx) (h : ∀ a, d.start j idx a + d.batchCoord j a + d.offCoord j a = (k a).val) : Host.gather d x idx j = x k := by
  unfold Host.gather
  exact congrArg x (funext fun a => Fin.ext (h a))

/-- A shift's product over the pixels and weights as the kernel addresses them. -/
theorem tap_eq (A : Args n N) (k l : Fin 3) (h v : ℕ) (o : Fin 256) {i j z : ℕ} {a b : Fin 3} (hz : ∀ x : Fin 256, z + x.val < 256)
    (hi : i = h + k.val) (hj : j = v + l.val) (h0 : z = 0) (ha : a = k) (hb : b = l) :
    ∑ x : Fin 256, pad A.x i j ⟨z + x.val, hz x⟩ * A.w o x a b = tap A k l h v o := by
  subst hi hj h0 ha hb
  unfold tap
  refine Finset.sum_congr rfl fun x _ => ?_
  have e : (⟨0 + x.val, hz x⟩ : Fin 256) = x := Fin.ext (Nat.zero_add _)
  rw [e]

/-- The anchor in row `i 0`, column `i 1` of a result array of `P` pixels and three shapes. -/
def row {P N : ℕ} (h : P * 3 = N) (i : (⟨2, ![P, 3]⟩ : Shape).Idx) : Fin N :=
  ⟨(i 0).val * 3 + (i 1).val, by have h0 : (i 0).val < P := (i 0).isLt; have h1 : (i 1).val < 3 := (i 1).isLt; omega⟩

/-- A column of the twelve: `z` past one of three. -/
theorem col_lt (z : ℕ) (hz : z ≤ 9) (a : Fin 3) : z + a.val < 12 := by omega

/-- A class score from the features, weights and bias as a program addresses them; `j` is the channel. -/
theorem logit_of (A : Args n N) (r q : ℕ) (hq : q < 2) (j : Fin 6) (hj : j.val = r % 3 * 2 + q) {f w : Fin 256 → Ideal .f32}
    {b : Ideal .f32} (hf : ∀ k, f k = feat A (r / (3 * n)) (r / 3 % n) k) (hw : ∀ k, w k = A.cw j k) (hb : b = A.cb j) :
    ∑ k : Fin 256, f k * w k + b = logit A r q hq := by
  have e : (⟨r % 3 * 2 + q, by omega⟩ : Fin 6) = j := Fin.ext hj.symm
  unfold logit lin
  rw [hb, e]
  exact congrArg (· + _) (Finset.sum_congr rfl fun k _ => by rw [hf, hw])

/-- A box offset from the features, weights and bias as a program addresses them; `j` is the channel. -/
theorem delta_of (A : Args n N) (r q : ℕ) (hq : q < 4) (j : Fin 18) (hj : j.val = r % 3 * 4 + q) {f w : Fin 256 → Ideal .f32}
    {b : Ideal .f32} (hf : ∀ k, f k = feat A (r / (3 * n)) (r / 3 % n) k) (hw : ∀ k, w k = A.bw j k) (hb : b = A.bb j) :
    ∑ k : Fin 256, f k * w k + b = delta A r q hq := by
  have e : (⟨r % 3 * 4 + q, by omega⟩ : Fin 18) = j := Fin.ext hj.symm
  unfold delta lin
  rw [hb, e]
  exact congrArg (· + _) (Finset.sum_congr rfl fun k _ => by rw [hf, hw])

/-- Equal offsets, anchor edges and extents give equal lower edges. -/
theorem lower_congr {d d' s s' lo lo' hi hi' e e' : Ideal .f32} (hd : d = d') (hs : s = s') (hl : lo = lo') (hh : hi = hi')
    (he : e = e') : lower d s lo hi e = lower d' s' lo' hi' e' := by rw [hd, hs, hl, hh, he]

/-- Equal offsets, anchor edges and extents give equal upper edges. -/
theorem upper_congr {d d' s s' lo lo' hi hi' e e' : Ideal .f32} (hd : d = d') (hs : s = s') (hl : lo = lo') (hh : hi = hi')
    (he : e = e') : upper d s lo hi e = upper d' s' lo' hi' e' := by rw [hd, hs, hl, hh, he]

/-- A shift's product with its factors in the other order. -/
theorem tap_rev (A : Args n N) (k l : Fin 3) (h v : ℕ) (o : Fin 256) {i j : ℕ} (hi : i = h + k.val) (hj : j = v + l.val) :
    ∑ x : Fin 256, A.w o x k l * pad A.x i j x = tap A k l h v o := by
  subst hi hj
  exact Finset.sum_congr rfl fun x _ => mul_comm (G := EReal) _ _

/-- A 1 x 1 convolution with its factors in the other order. -/
theorem lin_rev (f w : Fin 256 → Ideal .f32) (b : Ideal .f32) : ∑ c : Fin 256, w c * f c + b = lin f w b :=
  congrArg (· + b) (Finset.sum_congr rfl fun x _ => mul_comm (G := EReal) _ _)

/-- The integer zero is the real zero: what the pictures are padded with. -/
theorem sitofp_zero : (FloatOps.sitofp .f32 0#32 : Ideal .f32) = 0 := by simp [FloatOps.sitofp]

/-- The dimension numbers of the reordering of a matrix's columns by a table of column numbers. -/
def colDims (wf : GatherDims.WF ⟨2, ![256, 12]⟩ ⟨2, ![12, 1]⟩ ⟨2, ![256, 12]⟩ [0] [1] [] [1] [] 1 ![256, 1]) :
    GatherDims ⟨2, ![256, 12]⟩ ⟨2, ![12, 1]⟩ ⟨2, ![256, 12]⟩ where
  offsetDims := [0]
  collapsedSliceDims := [1]
  operandBatchingDims := []
  startIndicesBatchingDims := []
  startIndexMap := [1]
  indexVectorDim := 1
  sliceSizes := ![256, 1]
  wf := wf

/-- The reordered matrix at row `k` and column `q` is the matrix at row `k` and the column the table holds for `q`. -/
theorem gather_col {α : Type} (wf) (x : (⟨2, ![256, 12]⟩ : Shape).Idx → α) (idx : IVec ⟨2, ![12, 1]⟩ 32) (k : Fin 256) (q p : Fin 12)
    (hp : (idx (ix2 q 0)).toInt.toNat = p.val) : Host.gather (colDims wf) x idx (ix2 k q) = x (ix2 k p) := by
  refine gather_at _ _ _ _ _ fun a => ?_
  rw [GatherDims.batchCoord_eq_zero _ _ _ List.not_mem_nil]
  match a with
  | ⟨0, _⟩ =>
    unfold GatherDims.start
    rw [dif_neg (show (⟨0, by decide⟩ : Fin 2) ∉ (colDims wf).startIndexMap from
      (by decide : (0 : Fin 2) ∉ ([1] : List (Fin 2))))]
    show 0 + 0 + (k.val : ℕ) = k.val
    omega
  | ⟨1, _⟩ =>
    rw [GatherDims.offCoord_eq_zero _ _ _ (show (1 : Fin 2) ∉ (⟨2, ![256, 12]⟩ : Shape).kept ([1] ++ []) from by decide)]
    unfold GatherDims.start
    rw [dif_pos (show (⟨1, by decide⟩ : Fin 2) ∈ (colDims wf).startIndexMap from List.mem_singleton.mpr rfl)]
    have hsi : ∀ c, (colDims wf).siIdx (ix2 k q) c = ix2 q 0 := by
      intro c
      funext b
      refine Fin.ext ?_
      match b with
      | ⟨0, _⟩ => rfl
      | ⟨1, _⟩ => have := c.isLt; show c.val = 0; change c.val < 1 at this; omega
    rw [hsi, hp]
    show min p.val (12 - 1) + 0 + 0 = p.val
    omega

/-- The dimension numbers of the reordering of a vector by a table of positions. -/
def vecDims (wf : GatherDims.WF ⟨1, ![12]⟩ ⟨2, ![12, 1]⟩ ⟨1, ![12]⟩ [] [0] [] [0] [] 1 ![1]) :
    GatherDims ⟨1, ![12]⟩ ⟨2, ![12, 1]⟩ ⟨1, ![12]⟩ where
  offsetDims := []
  collapsedSliceDims := [0]
  operandBatchingDims := []
  startIndicesBatchingDims := []
  startIndexMap := [0]
  indexVectorDim := 1
  sliceSizes := ![1]
  wf := wf

/-- The reordered vector at position `q` is the vector at the position the table holds for `q`. -/
theorem gather_vec {α : Type} (wf) (x : (⟨1, ![12]⟩ : Shape).Idx → α) (idx : IVec ⟨2, ![12, 1]⟩ 32) (q p : Fin 12)
    (hp : (idx (ix2 q 0)).toInt.toNat = p.val) : Host.gather (vecDims wf) x idx (ix1 q) = x (ix1 p) := by
  refine gather_at _ _ _ _ _ fun a => ?_
  obtain rfl : a = ⟨0, by decide⟩ := Subsingleton.elim (α := Fin 1) _ _
  rw [GatherDims.batchCoord_eq_zero _ _ _ List.not_mem_nil,
    GatherDims.offCoord_eq_zero _ _ _ (show (0 : Fin 1) ∉ (⟨1, ![12]⟩ : Shape).kept ([0] ++ []) from by decide)]
  unfold GatherDims.start
  rw [dif_pos (show (⟨0, by decide⟩ : Fin 1) ∈ (vecDims wf).startIndexMap from List.mem_singleton.mpr rfl)]
  have hsi : ∀ c, (vecDims wf).siIdx (ix1 q) c = ix2 q 0 := by
    intro c
    funext b
    refine Fin.ext ?_
    match b with
    | ⟨0, _⟩ => rfl
    | ⟨1, _⟩ => have := c.isLt; show c.val = 0; change c.val < 1 at this; omega
  rw [hsi, hp]
  show min p.val (12 - 1) + 0 + 0 = p.val
  omega

/-- The channel of the box offsets that column `q` of the kernel's matrix holds. -/
def chan (q : Fin 12) : Fin 18 := ⟨q.val % 3 * 4 + q.val / 3, by omega⟩

/-- That channel as one of the twelve the kernel uses. -/
def chan12 (q : Fin 12) : Fin 12 := ⟨q.val % 3 * 4 + q.val / 3, by omega⟩

/-- One shift's matrix of weights, input channels first. -/
theorem mat_at (W : FVec Ideal ⟨4, ![256, 256, 3, 3]⟩ .f32) (a b : Fin 3)
    (h : Shape.Slices ⟨4, ![256, 256, 3, 3]⟩ ![0, 0, a.val, b.val] ⟨4, ![256, 256, 1, 1]⟩)
    (h1 : Shape.ShapeCasts ⟨4, ![256, 256, 1, 1]⟩ ⟨2, ![256, 256]⟩) (h2 : Shape.Transposes ⟨2, ![256, 256]⟩ [1, 0] ⟨2, ![256, 256]⟩)
    (h3)
    (i : (⟨3, ![1, 256, 256]⟩ : Shape).Idx) (q : Fin 9) (k o : Fin 256)
    (hq : q.val = 3 * a.val + b.val) (hk : (i 1).val = k.val) (ho : (i 2).val = o.val) :
    broadcastInDim ⟨3, ![1, 256, 256]⟩ ![1, 2] h3
      (transpose ⟨2, ![256, 256]⟩ [1, 0] (shapeCast ⟨2, ![256, 256]⟩
        (extractStridedSlice ⟨4, ![256, 256, 1, 1]⟩ ![0, 0, a.val, b.val] W h) h1) h2) i =
    W (ix4 o k ⟨q.val / 3, by omega⟩ ⟨q.val % 3, by omega⟩) := by
  pointwise
  obtain rfl : i 1 = k := Fin.ext hk
  obtain rfl : i 2 = o := Fin.ext ho
  have ea : (⟨q.val / 3, by omega⟩ : Fin 3) = a := Fin.ext (by show q.val / 3 = a.val; omega)
  have eb : (⟨q.val % 3, by omega⟩ : Fin 3) = b := Fin.ext (by show q.val % 3 = b.val; omega)
  rw [ea, eb]

end Cert.Proof.Spec

end
-- ==== Proof.Kernel0.lean ====
/- Level 0 (6 x 6): what the kernel leaves in its five result arrays, as the functions of Spec.lean of its arguments. -/
module

public import proofs.«01_k».proof.Proof.Gen.Kernel0Ideal.Value
public import proofs.«01_k».proof.Proof.Spec
public import Idealize.ShloMosaic.Lib.Tactic.CleanTypes

@[expose] public section

set_option maxRecDepth 16384

noncomputable section

namespace Cert.Proof.Kernel0

open Cert.Kernel0Ideal Cert.Kernel0Ideal.Gen Idealize.ShloMosaic Idealize.ShloMosaic.TcCoe Idealize.SL.Sem
open Idealize.ShloMosaic.Pipeline (Dat)

variable (m : (ℓ : Loc nD τ sig) → Buf (Elt Ideal) ℓ)

/-- The arguments of the level, read off the launch memory. -/
def args (c : Dev nD) : Spec.Args 6 108 where
  x k h v := (m ((c : Thread nD τ).loc main_arg0) : FVec Ideal S1x256x6x6 .f32) (ix4 0 k h v)
  im k := (m ((c : Thread nD τ).loc main_arg1) : FVec Ideal S1x6 .f32) (ix2 0 k)
  w o k i j := (m ((c : Thread nD τ).loc main_arg2) : FVec Ideal S256x256x3x3 .f32) (ix4 o k i j)
  b o := (m ((c : Thread nD τ).loc main_arg3) : FVec Ideal S256 .f32) (ix1 o)
  cw q k := (m ((c : Thread nD τ).loc main_arg4) : FVec Ideal S6x256x1x1 .f32) (ix4 q k 0 0)
  cb q := (m ((c : Thread nD τ).loc main_arg5) : FVec Ideal S6 .f32) (ix1 q)
  bw q k := (m ((c : Thread nD τ).loc main_arg6) : FVec Ideal S18x256x1x1 .f32) (ix4 q k 0 0)
  bb q := (m ((c : Thread nD τ).loc main_arg7) : FVec Ideal S18 .f32) (ix1 q)
  an r q := (m ((c : Thread nD τ).loc main_arg8) : FVec Ideal S108x4 .f32) (ix2 r q)

/-! ## The operands the host prepares -/

/-- A picture laid pixels first and surrounded by a border of zeros. -/
theorem pad_at (X : FVec Ideal S1x256x6x6 .f32) (i j : Fin 8) (k : Fin 256) :
    pad S8x8x256 ![1, 1, 0] ![1, 1, 0] ![0, 0, 0]
      (transpose S6x6x256 [1, 2, 0] (shapeCast S256x6x6 X shapeCasts_S1x256x6x6_S256x6x6) transposes_S256x6x6_S6x6x256_1_2_0)
      (sitofp (F := Ideal) .f32 (constantI S_ 32 0#32)) pads_S6x6x256_S8x8x256_110_110_000 h_S_ (ix3 i j k) =
    Spec.pad (fun k h v => X (ix4 0 k h v)) i.val j.val k := by
  pointwise
  rw [Spec.sitofp_zero]
  rfl

/-- The padded picture, pixels first. -/
theorem V_pad (c : Dev nD) (i j : Fin 8) (k : Fin 256) :
    (V m c main_v59 : FVec Ideal S8x8x256 .f32) (ix3 i j k) = Spec.pad (args m c).x i.val j.val k := by
  have e : (V m c main_v59 : FVec Ideal S8x8x256 .f32) = pad S8x8x256 ![1, 1, 0] ![1, 1, 0] ![0, 0, 0]
      (transpose S6x6x256 [1, 2, 0] (shapeCast S256x6x6 (m ((c : Thread nD τ).loc main_arg0) : FVec Ideal S1x256x6x6 .f32) shapeCasts_S1x256x6x6_S256x6x6) transposes_S256x6x6_S6x6x256_1_2_0)
      (sitofp (F := Ideal) .f32 (constantI S_ 32 0#32)) pads_S6x6x256_S8x8x256_110_110_000 h_S_ := by
    unfold V
    simp only [hostOps0, hostOps0_1, hostOps0_2, List.flatten_cons, List.flatten_nil, List.cons_append, List.nil_append, List.append_nil]
    entry_read
    rfl
  rw [e]
  exact pad_at _ i j k

set_option maxHeartbeats 1600000 in
/-- The nine matrices of weights, input channels first. -/
theorem V_wk (c : Dev nD) (q : Fin 9) (k o : Fin 256) :
    (V m c main_v36 : FVec Ideal S9x256x256 .f32) (ix3 q k o) = (args m c).w o k ⟨q.val / 3, by omega⟩ ⟨q.val % 3, by omega⟩ := by
  unfold V
  simp only [hostOps0, hostOps0_1, hostOps0_2, List.flatten_cons, List.flatten_nil, List.cons_append, List.nil_append, List.append_nil]
  simp only [StableHlo.after_cons, StableHlo.after_nil]
  after_results_simp
  concat_tiles i h
  all_goals
    dsimp only [Matrix.cons_val]
    after_results_simp
    first
      | exact Spec.mat_at _ 0 0 _ _ _ _ i q k o h h1 h2
      | exact Spec.mat_at _ 0 1 _ _ _ _ i q k o h h1 h2
      | exact Spec.mat_at _ 0 2 _ _ _ _ i q k o h h1 h2
      | exact Spec.mat_at _ 1 0 _ _ _ _ i q k o h h1 h2
      | exact Spec.mat_at _ 1 1 _ _ _ _ i q k o h h1 h2
      | exact Spec.mat_at _ 1 2 _ _ _ _ i q k o h h1 h2
      | exact Spec.mat_at _ 2 0 _ _ _ _ i q k o h h1 h2
      | exact Spec.mat_at _ 2 1 _ _ _ _ i q k o h h1 h2
      | exact Spec.mat_at _ 2 2 _ _ _ _ i q k o h h1 h2

/-- The table of column numbers holds each column's channel. -/
theorem chan_word : ∀ q : Fin 12, (broadcastInDim S12x1 ![0] bcast_S12_S12x1_0
        (select (constantI S12 1 0#1)
          (addi (fun i => lit0 (S12.rowMajor i)) (broadcastInDim S12 ![] bcast_S_S12 (constantI S_ 32 12#32))) fun i =>
          lit0 (S12.rowMajor i)) (ix2 q 0)).toInt.toNat = (Spec.chan12 q).val := by decide +kernel

/-- The weights of the box offsets, columns in the kernel's order. -/
theorem V_wb (c : Dev nD) (k : Fin 256) (q : Fin 12) :
    (V m c main_v50 : FVec Ideal S256x12 .f32) (ix2 k q) = (args m c).bw (Spec.chan q) k := by
  unfold V
  simp only [hostOps0, hostOps0_1, hostOps0_2, List.flatten_cons, List.flatten_nil, List.cons_append, List.nil_append, List.append_nil]
  entry_read
  refine (Spec.gather_col _ _ _ k q (Spec.chan12 q) (chan_word q)).trans ?_
  pointwise
  rfl

/-- The biases of the box offsets, in the kernel's order. -/
theorem V_bb (c : Dev nD) (q : Fin 12) :
    (V m c main_v56 : FVec Ideal S12 .f32) (ix1 q) = (args m c).bb (Spec.chan q) := by
  unfold V
  simp only [hostOps0, hostOps0_1, hostOps0_2, List.flatten_cons, List.flatten_nil, List.cons_append, List.nil_append, List.append_nil]
  entry_read
  refine (Spec.gather_vec _ _ _ q (Spec.chan12 q) (chan_word q)).trans ?_
  pointwise
  rfl

/-- The score weights of the background class. -/
theorem V_wc0 (c : Dev nD) (k : Fin 256) (a : Fin 3) :
    (V m c main_v39 : FVec Ideal S256x3 .f32) (ix2 k a) = (args m c).cw ⟨2 * a.val, by omega⟩ k := by
  unfold V
  simp only [hostOps0, hostOps0_1, hostOps0_2, List.flatten_cons, List.flatten_nil, List.cons_append, List.nil_append, List.append_nil]
  entry_read
  clean_types
  pointwise
  rfl

/-- The score weights of the foreground class. -/
theorem V_wc1 (c : Dev nD) (k : Fin 256) (a : Fin 3) :
    (V m c main_v40 : FVec Ideal S256x3 .f32) (ix2 k a) = (args m c).cw ⟨1 + 2 * a.val, by omega⟩ k := by
  unfold V
  simp only [hostOps0, hostOps0_1, hostOps0_2, List.flatten_cons, List.flatten_nil, List.cons_append, List.nil_append, List.append_nil]
  entry_read
  clean_types
  pointwise
  rfl

/-- The score biases of the background class. -/
theorem V_bc0 (c : Dev nD) (a : Fin 3) :
    (V m c main_v41 : FVec Ideal S3 .f32) (ix1 a) = (args m c).cb ⟨2 * a.val, by omega⟩ := by
  unfold V
  simp only [hostOps0, hostOps0_1, hostOps0_2, List.flatten_cons, List.flatten_nil, List.cons_append, List.nil_append, List.append_nil]
  entry_read
  clean_types
  pointwise
  rfl

/-- The score biases of the foreground class. -/
theorem V_bc1 (c : Dev nD) (a : Fin 3) :
    (V m c main_v42 : FVec Ideal S3 .f32) (ix1 a) = (args m c).cb ⟨1 + 2 * a.val, by omega⟩ := by
  unfold V
  simp only [hostOps0, hostOps0_1, hostOps0_2, List.flatten_cons, List.flatten_nil, List.cons_append, List.nil_append, List.append_nil]
  entry_read
  clean_types
  pointwise
  rfl

/-- The left edges of the anchors, one row per pixel. -/
theorem V_an0 (c : Dev nD) (p : Fin 36) (a : Fin 3) :
    (V m c main_v62 : FVec Ideal S36x3 .f32) (ix2 p a) = (args m c).an ⟨p.val * 3 + a.val, by omega⟩ 0 := by
  unfold V
  simp only [hostOps0, hostOps0_1, hostOps0_2, List.flatten_cons, List.flatten_nil, List.cons_append, List.nil_append, List.append_nil]
  entry_read
  clean_types
  pointwise
  rfl

/-- The top edges of the anchors, one row per pixel. -/
theorem V_an1 (c : Dev nD) (p : Fin 36) (a : Fin 3) :
    (V m c main_v64 : FVec Ideal S36x3 .f32) (ix2 p a) = (args m c).an ⟨p.val * 3 + a.val, by omega⟩ 1 := by
  unfold V
  simp only [hostOps0, hostOps0_1, hostOps0_2, List.flatten_cons, List.flatten_nil, List.cons_append, List.nil_append, List.append_nil]
  entry_read
  clean_types
  pointwise
  rfl

/-- The right edges of the anchors, one row per pixel. -/
theorem V_an2 (c : Dev nD) (p : Fin 36) (a : Fin 3) :
    (V m c main_v66 : FVec Ideal S36x3 .f32) (ix2 p a) = (args m c).an ⟨p.val * 3 + a.val, by omega⟩ 2 := by
  unfold V
  simp only [hostOps0, hostOps0_1, hostOps0_2, List.flatten_cons, List.flatten_nil, List.cons_append, List.nil_append, List.append_nil]
  entry_read
  clean_types
  pointwise
  rfl

/-- The bottom edges of the anchors, one row per pixel. -/
theorem V_an3 (c : Dev nD) (p : Fin 36) (a : Fin 3) :
    (V m c main_v68 : FVec Ideal S36x3 .f32) (ix2 p a) = (args m c).an ⟨p.val * 3 + a.val, by omega⟩ 3 := by
  unfold V
  simp only [hostOps0, hostOps0_1, hostOps0_2, List.flatten_cons, List.flatten_nil, List.cons_append, List.nil_append, List.append_nil]
  entry_read
  clean_types
  pointwise
  rfl

/-- The height and width of the picture. -/
theorem V_hw (c : Dev nD) (q : Fin 2) :
    (V m c main_v69 : FVec Ideal S1x2 .f32) (ix2 0 q) = (args m c).im ⟨q.val, by omega⟩ := by
  unfold V
  simp only [hostOps0, hostOps0_1, hostOps0_2, List.flatten_cons, List.flatten_nil, List.cons_append, List.nil_append, List.append_nil]
  entry_read
  clean_types
  pointwise
  rfl

/-! ## The blocks of a grid point -/

/-- Where the blocks of the point `t` lie: the anchors and the results move with it, everything else is whole. -/
theorem idx : ∀ t : Fin cfg0.N, win0_0.index t = ![0, 0, 0] ∧ win0_1.index t = ![0, 0, 0] ∧ win0_2.index t = ![0]
    ∧ win0_3.index t = ![0, 0] ∧ win0_4.index t = ![0, 0] ∧ win0_5.index t = ![0] ∧ win0_6.index t = ![0]
    ∧ win0_7.index t = ![0, 0] ∧ win0_8.index t = ![0] ∧ win0_9.index t = ![t.val, 0] ∧ win0_10.index t = ![t.val, 0]
    ∧ win0_11.index t = ![t.val, 0] ∧ win0_12.index t = ![t.val, 0] ∧ win0_13.index t = ![0, 0]
    ∧ win0_14.index t = ![t.val, 0] ∧ win0_15.index t = ![t.val, 0] ∧ win0_16.index t = ![t.val, 0]
    ∧ win0_17.index t = ![t.val, 0] ∧ win0_18.index t = ![t.val, 0] := by decide +kernel

/-- The grid is one axis. -/
theorem coords0 : ∀ t : Fin cfg0.N, (grid0.coords t 0).val = t.val := by decide +kernel

/-- The number of grid points. -/
theorem point_lt (t : Fin cfg0.N) : t.val < 1 := t.isLt

/-- The padded picture in a point. -/
theorem blk0 (c : Dev nD) (t : Fin cfg0.N) (i j : Fin 8) (k : Fin 256) :
    (iblk m c 0 t : FVec Ideal S8x8x256 .f32) (ix3 i j k) = Spec.pad (args m c).x i.val j.val k := by
  refine Eq.trans ?_ (V_pad m c i j k)
  blk_ext [iblk, idx t]

/-- The weights in a point. -/
theorem blk1 (c : Dev nD) (t : Fin cfg0.N) (q : Fin 9) (k o : Fin 256) :
    (iblk m c 1 t : FVec Ideal S9x256x256 .f32) (ix3 q k o) = (args m c).w o k ⟨q.val / 3, by omega⟩ ⟨q.val % 3, by omega⟩ := by
  refine Eq.trans ?_ (V_wk m c q k o)
  blk_ext [iblk, idx t]

/-- The biases in a point. -/
theorem blk2 (c : Dev nD) (t : Fin cfg0.N) (o : Fin 256) :
    (iblk m c 2 t : FVec Ideal S256 .f32) (ix1 o) = (args m c).b o := by
  refine Eq.trans ?_ ((V_main_arg3 m c ▸ rfl : (V m c main_arg3 : FVec Ideal S256 .f32) (ix1 o) = (args m c).b o))
  blk_ext [iblk, idx t]

/-- Score weights in a point. -/
theorem blk3 (c : Dev nD) (t : Fin cfg0.N) (k : Fin 256) (a : Fin 3) :
    (iblk m c 3 t : FVec Ideal S256x3 .f32) (ix2 k a) = (args m c).cw ⟨2 * a.val, by omega⟩ k := by
  refine Eq.trans ?_ (V_wc0 m c k a)
  blk_ext [iblk, idx t]

/-- Score weights in a point. -/
theorem blk4 (c : Dev nD) (t : Fin cfg0.N) (k : Fin 256) (a : Fin 3) :
    (iblk m c 4 t : FVec Ideal S256x3 .f32) (ix2 k a) = (args m c).cw ⟨1 + 2 * a.val, by omega⟩ k := by
  refine Eq.trans ?_ (V_wc1 m c k a)
  blk_ext [iblk, idx t]

/-- Score biases in a point. -/
theorem blk5 (c : Dev nD) (t : Fin cfg0.N) (a : Fin 3) :
    (iblk m c 5 t : FVec Ideal S3 .f32) (ix1 a) = (args m c).cb ⟨2 * a.val, by omega⟩ := by
  refine Eq.trans ?_ (V_bc0 m c a)
  blk_ext [iblk, idx t]

/-- Score biases in a point. -/
theorem blk6 (c : Dev nD) (t : Fin cfg0.N) (a : Fin 3) :
    (iblk m c 6 t : FVec Ideal S3 .f32) (ix1 a) = (args m c).cb ⟨1 + 2 * a.val, by omega⟩ := by
  refine Eq.trans ?_ (V_bc1 m c a)
  blk_ext [iblk, idx t]

/-- The weights of the box offsets in a point. -/
theorem blk7 (c : Dev nD) (t : Fin cfg0.N) (k : Fin 256) (q : Fin 12) :
    (iblk m c 7 t : FVec Ideal S256x12 .f32) (ix2 k q) = (args m c).bw (Spec.chan q) k := by
  refine Eq.trans ?_ (V_wb m c k q)
  blk_ext [iblk, idx t]

/-- The biases of the box offsets in a point. -/
theorem blk8 (c : Dev nD) (t : Fin cfg0.N) (q : Fin 12) :
    (iblk m c 8 t : FVec Ideal S12 .f32) (ix1 q) = (args m c).bb (Spec.chan q) := by
  refine Eq.trans ?_ (V_bb m c q)
  blk_ext [iblk, idx t]

/-- Anchor edges in a point. -/
theorem blk9 (c : Dev nD) (t : Fin cfg0.N) (p : Fin 36) (a : Fin 3) :
    (iblk m c 9 t : FVec Ideal S36x3 .f32) (ix2 p a) = (args m c).an ⟨(36 * t.val + p.val) * 3 + a.val, by have := point_lt t; omega⟩ 0 := by
  have ht := point_lt t
  refine Eq.trans ?_ (V_an0 m c ⟨36 * t.val + p.val, by omega⟩ a)
  blk_ext [iblk, idx t]

/-- Anchor edges in a point. -/
theorem blk10 (c : Dev nD) (t : Fin cfg0.N) (p : Fin 36) (a : Fin 3) :
    (iblk m c 10 t : FVec Ideal S36x3 .f32) (ix2 p a) = (args m c).an ⟨(36 * t.val + p.val) * 3 + a.val, by have := point_lt t; omega⟩ 1 := by
  have ht := point_lt t
  refine Eq.trans ?_ (V_an1 m c ⟨36 * t.val + p.val, by omega⟩ a)
  blk_ext [iblk, idx t]

/-- Anchor edges in a point. -/
theorem blk11 (c : Dev nD) (t : Fin cfg0.N) (p : Fin 36) (a : Fin 3) :
    (iblk m c 11 t : FVec Ideal S36x3 .f32) (ix2 p a) = (args m c).an ⟨(36 * t.val + p.val) * 3 + a.val, by have := point_lt t; omega⟩ 2 := by
  have ht := point_lt t
  refine Eq.trans ?_ (V_an2 m c ⟨36 * t.val + p.val, by omega⟩ a)
  blk_ext [iblk, idx t]

/-- Anchor edges in a point. -/
theorem blk12 (c : Dev nD) (t : Fin cfg0.N) (p : Fin 36) (a : Fin 3) :
    (iblk m c 12 t : FVec Ideal S36x3 .f32) (ix2 p a) = (args m c).an ⟨(36 * t.val + p.val) * 3 + a.val, by have := point_lt t; omega⟩ 3 := by
  have ht := point_lt t
  refine Eq.trans ?_ (V_an3 m c ⟨36 * t.val + p.val, by omega⟩ a)
  blk_ext [iblk, idx t]

/-- The extent of the picture in a point. -/
theorem blk13 (c : Dev nD) (t : Fin cfg0.N) (q : Fin 2) :
    (iblk m c 13 t : FVec Ideal S1x2 .f32) (ix2 0 q) = (args m c).im ⟨q.val, by omega⟩ := by
  refine Eq.trans ?_ (V_hw m c q)
  blk_ext [iblk, idx t]

/-! ## The features -/

/-- The features of grid point `t`, over the padded picture `X`, the nine matrices `W` and the biases `B`: what the body
    computes from its loads. -/
def feats (X : FVec Ideal S8x8x256 .f32) (W : FVec Ideal S9x256x256 .f32) (B : FVec Ideal S256 .f32) (t : Fin cfg0.N) :
    FVec Ideal S36x256 .f32 :=
  k0_pay6
    (k0_pay4
      (k0_pay3 (View.ld (S := S8x8x256) X (Rect.unit (s := S8x8x256) (k0_off1 (grid0.coords t) 0#32) S6x6x256.size (k0_off1_inb _ 0)))
        (View.ld (S := S9x256x256) W (Rect.unit (s := S9x256x256) ![0, 0, 0] S1x256x256.size inb_S9x256x256_S1x256x256_0_0_0))
        (View.ld (S := S8x8x256) X (Rect.unit (s := S8x8x256) (k0_off2 (grid0.coords t) 0#32) S6x6x256.size (k0_off2_inb _ 0)))
        (View.ld (S := S9x256x256) W (Rect.unit (s := S9x256x256) ![1, 0, 0] S1x256x256.size inb_S9x256x256_S1x256x256_1_0_0))
        (View.ld (S := S8x8x256) X (Rect.unit (s := S8x8x256) (k0_off3 (grid0.coords t) 0#32) S6x6x256.size (k0_off3_inb _ 0)))
        (View.ld (S := S9x256x256) W (Rect.unit (s := S9x256x256) ![2, 0, 0] S1x256x256.size inb_S9x256x256_S1x256x256_2_0_0)))
      (View.ld (S := S8x8x256) X (Rect.unit (s := S8x8x256) (k0_off1 (grid0.coords t) 1#32) S6x6x256.size (k0_off1_inb _ 1)))
      (View.ld (S := S9x256x256) W (Rect.unit (s := S9x256x256) ![3, 0, 0] S1x256x256.size inb_S9x256x256_S1x256x256_3_0_0))
      (View.ld (S := S8x8x256) X (Rect.unit (s := S8x8x256) (k0_off2 (grid0.coords t) 1#32) S6x6x256.size (k0_off2_inb _ 1)))
      (View.ld (S := S9x256x256) W (Rect.unit (s := S9x256x256) ![4, 0, 0] S1x256x256.size inb_S9x256x256_S1x256x256_4_0_0))
      (View.ld (S := S8x8x256) X (Rect.unit (s := S8x8x256) (k0_off3 (grid0.coords t) 1#32) S6x6x256.size (k0_off3_inb _ 1)))
      (View.ld (S := S9x256x256) W (Rect.unit (s := S9x256x256) ![5, 0, 0] S1x256x256.size inb_S9x256x256_S1x256x256_5_0_0)))
    (k0_pay5 (View.ld (S := S8x8x256) X (Rect.unit (s := S8x8x256) (k0_off1 (grid0.coords t) 2#32) S6x6x256.size (k0_off1_inb _ 2))))
    (View.ld (S := S9x256x256) W (Rect.unit (s := S9x256x256) ![6, 0, 0] S1x256x256.size inb_S9x256x256_S1x256x256_6_0_0))
    (View.ld (S := S8x8x256) X (Rect.unit (s := S8x8x256) (k0_off2 (grid0.coords t) 2#32) S6x6x256.size (k0_off2_inb _ 2)))
    (View.ld (S := S9x256x256) W (Rect.unit (s := S9x256x256) ![7, 0, 0] S1x256x256.size inb_S9x256x256_S1x256x256_7_0_0))
    (View.ld (S := S8x8x256) X (Rect.unit (s := S8x8x256) (k0_off3 (grid0.coords t) 2#32) S6x6x256.size (k0_off3_inb _ 2)))
    (View.ld (S := S9x256x256) W (Rect.unit (s := S9x256x256) ![8, 0, 0] S1x256x256.size inb_S9x256x256_S1x256x256_8_0_0)) B

/-- They are the rectified convolution at the pixels of the point's rows. -/
theorem feats_at (A : Spec.Args 6 108) (X : FVec Ideal S8x8x256 .f32) (W : FVec Ideal S9x256x256 .f32) (B : FVec Ideal S256 .f32)
    (t : Fin cfg0.N) (hX : ∀ i j k, X (ix3 i j k) = Spec.pad A.x i.val j.val k)
    (hW : ∀ q k o, W (ix3 q k o) = A.w o k ⟨q.val / 3, by omega⟩ ⟨q.val % 3, by omega⟩)
    (hB : ∀ o, B (ix1 o) = A.b o) (p : Fin 36) (o : Fin 256) :
    feats X W B t (ix2 p o) = Spec.feat A (6 * t.val + p.val / 6) (p.val % 6) o := by
  have c0 := coords0 t
  generalize hH : 6 * t.val + p.val / 6 = H
  pointwise [feats, k0_pay6, k0_pay5, k0_pay4, k0_pay3]
  simp only [hX, hW, hB]
  have o1 : ∀ r : Fin 3, k0_off1 (grid0.coords t) (BitVec.ofNat 32 r.val) = ![6 * t.val + r.val, 0, 0] := fun r => by rw [k0_off1_eq, c0]
  have o2 : ∀ r : Fin 3, k0_off2 (grid0.coords t) (BitVec.ofNat 32 r.val) = ![6 * t.val + r.val, 1, 0] := fun r => by rw [k0_off2_eq, c0]
  have o3 : ∀ r : Fin 3, k0_off3 (grid0.coords t) (BitVec.ofNat 32 r.val) = ![6 * t.val + r.val, 2, 0] := fun r => by rw [k0_off3_eq, c0]
  have tap1 := fun k : Fin 3 => Spec.tap_eq A k 0 H (p.val % 6) o (a := k) (b := 0)
    (i := k0_off1 (grid0.coords t) (BitVec.ofNat 32 k.val) 0 + p.val / 6) (j := k0_off1 (grid0.coords t) (BitVec.ofNat 32 k.val) 1 + p.val % 6)
    (z := k0_off1 (grid0.coords t) (BitVec.ofNat 32 k.val) 2) (by intro x; rw [o1]; show 0 + x.val < 256; omega)
    (by rw [o1]; show 6 * t.val + k.val + p.val / 6 = H + k.val; omega) (by rw [o1]; exact Nat.add_comm 0 _) (by rw [o1]; rfl) rfl rfl
  have tap2 := fun k : Fin 3 => Spec.tap_eq A k 1 H (p.val % 6) o (a := k) (b := 1)
    (i := k0_off2 (grid0.coords t) (BitVec.ofNat 32 k.val) 0 + p.val / 6) (j := k0_off2 (grid0.coords t) (BitVec.ofNat 32 k.val) 1 + p.val % 6)
    (z := k0_off2 (grid0.coords t) (BitVec.ofNat 32 k.val) 2) (by intro x; rw [o2]; show 0 + x.val < 256; omega)
    (by rw [o2]; show 6 * t.val + k.val + p.val / 6 = H + k.val; omega) (by rw [o2]; exact Nat.add_comm 1 _) (by rw [o2]; rfl) rfl rfl
  have tap3 := fun k : Fin 3 => Spec.tap_eq A k 2 H (p.val % 6) o (a := k) (b := 2)
    (i := k0_off3 (grid0.coords t) (BitVec.ofNat 32 k.val) 0 + p.val / 6) (j := k0_off3 (grid0.coords t) (BitVec.ofNat 32 k.val) 1 + p.val % 6)
    (z := k0_off3 (grid0.coords t) (BitVec.ofNat 32 k.val) 2) (by intro x; rw [o3]; show 0 + x.val < 256; omega)
    (by rw [o3]; show 6 * t.val + k.val + p.val / 6 = H + k.val; omega) (by rw [o3]; exact Nat.add_comm 2 _) (by rw [o3]; rfl) rfl rfl
  unfold Spec.feat
  rw [← tap1 0, ← tap2 0, ← tap3 0, ← tap1 1, ← tap2 1, ← tap3 1, ← tap1 2, ← tap2 2, ← tap3 2]
  rfl

/-! ## What the body stores, over its operands -/

/-- The scores: the probability of the second class, from the two products of the features. -/
theorem score_pay (a b c d e f g h) (w0 : FVec Ideal S256x3 .f32) (b0 : FVec Ideal S3 .f32) (w1 : FVec Ideal S256x3 .f32)
    (b1 : FVec Ideal S3 .f32) (y : S36x3.Idx) :
    k0_pay8 (F := Ideal) (k0_pay6 a b c d e f g h) (k0_pay7 a b c d e f g h w0) b0 w1 b1 y =
      Spec.soft (∑ k : Fin 256, k0_pay6 a b c d e f g h (ix2 (y 0) k) * w0 (ix2 k (y 1)) + b0 (ix1 (y 1)))
        (∑ k : Fin 256, k0_pay6 a b c d e f g h (ix2 (y 0) k) * w1 (ix2 k (y 1)) + b1 (ix1 (y 1))) := by
  pointwise [k0_pay8, k0_pay7]
  rfl

/-- The left edges. -/
theorem left_pay (T : FVec Ideal S36x256 .f32) (W : FVec Ideal S256x12 .f32) (B : FVec Ideal S12 .f32) (lo hi : FVec Ideal S36x3 .f32)
    (I : FVec Ideal S1x2 .f32) (y : S36x3.Idx) :
    k0_pay26 (F := Ideal) (k0_pay10 T W B) (k0_pay12 T W B) (k0_pay14 lo) (k0_pay16 hi) (View.ld (S := S1x2) I (Rect.unit (s := S1x2) ![0, 1] S1x1.size inb_S1x2_S1x1_0_1)) y =
      Spec.lower (∑ k : Fin 256, T (ix2 (y 0) k) * W (ix2 k ⟨0 + (y 1).val, Spec.col_lt 0 (by decide) (y 1)⟩) + B (ix1 ⟨0 + (y 1).val, Spec.col_lt 0 (by decide) (y 1)⟩))
        (∑ k : Fin 256, T (ix2 (y 0) k) * W (ix2 k ⟨6 + (y 1).val, Spec.col_lt 6 (by decide) (y 1)⟩) + B (ix1 ⟨6 + (y 1).val, Spec.col_lt 6 (by decide) (y 1)⟩))
        (lo y) (hi y) (I (ix2 0 1)) := by
  pointwise [k0_pay26, k0_pay25, k0_pay20, k0_pay22, k0_pay18, k0_pay10, k0_pay12, k0_pay14, k0_pay16, k0_pay9]
  rfl

/-- The top edges. -/
theorem top_pay (T : FVec Ideal S36x256 .f32) (W : FVec Ideal S256x12 .f32) (B : FVec Ideal S12 .f32) (lo hi : FVec Ideal S36x3 .f32)
    (I : FVec Ideal S1x2 .f32) (y : S36x3.Idx) :
    k0_pay27 (F := Ideal) (k0_pay11 T W B) (k0_pay13 T W B) (k0_pay15 lo) (k0_pay17 hi) (View.ld (S := S1x2) I (Rect.unit (s := S1x2) ![0, 0] S1x1.size inb_S1x2_S1x1_0_0)) y =
      Spec.lower (∑ k : Fin 256, T (ix2 (y 0) k) * W (ix2 k ⟨3 + (y 1).val, Spec.col_lt 3 (by decide) (y 1)⟩) + B (ix1 ⟨3 + (y 1).val, Spec.col_lt 3 (by decide) (y 1)⟩))
        (∑ k : Fin 256, T (ix2 (y 0) k) * W (ix2 k ⟨9 + (y 1).val, Spec.col_lt 9 (by decide) (y 1)⟩) + B (ix1 ⟨9 + (y 1).val, Spec.col_lt 9 (by decide) (y 1)⟩))
        (lo y) (hi y) (I (ix2 0 0)) := by
  pointwise [k0_pay27, k0_pay24, k0_pay21, k0_pay23, k0_pay19, k0_pay11, k0_pay13, k0_pay15, k0_pay17, k0_pay9]
  rfl

/-- The right edges. -/
theorem right_pay (T : FVec Ideal S36x256 .f32) (W : FVec Ideal S256x12 .f32) (B : FVec Ideal S12 .f32) (lo hi : FVec Ideal S36x3 .f32)
    (I : FVec Ideal S1x2 .f32) (y : S36x3.Idx) :
    k0_pay1 (F := Ideal) (k0_pay20 (k0_pay10 T W B) (k0_pay14 lo) (k0_pay16 hi)) (k0_pay22 (k0_pay12 T W B) (k0_pay14 lo) (k0_pay16 hi)) (k0_pay25 (View.ld (S := S1x2) I (Rect.unit (s := S1x2) ![0, 1] S1x1.size inb_S1x2_S1x1_0_1))) y =
      Spec.upper (∑ k : Fin 256, T (ix2 (y 0) k) * W (ix2 k ⟨0 + (y 1).val, Spec.col_lt 0 (by decide) (y 1)⟩) + B (ix1 ⟨0 + (y 1).val, Spec.col_lt 0 (by decide) (y 1)⟩))
        (∑ k : Fin 256, T (ix2 (y 0) k) * W (ix2 k ⟨6 + (y 1).val, Spec.col_lt 6 (by decide) (y 1)⟩) + B (ix1 ⟨6 + (y 1).val, Spec.col_lt 6 (by decide) (y 1)⟩))
        (lo y) (hi y) (I (ix2 0 1)) := by
  pointwise [k0_pay1, k0_pay25, k0_pay20, k0_pay22, k0_pay18, k0_pay10, k0_pay12, k0_pay14, k0_pay16, k0_pay9]
  rfl

/-- The bottom edges. -/
theorem bottom_pay (T : FVec Ideal S36x256 .f32) (W : FVec Ideal S256x12 .f32) (B : FVec Ideal S12 .f32) (lo hi : FVec Ideal S36x3 .f32)
    (I : FVec Ideal S1x2 .f32) (y : S36x3.Idx) :
    k0_pay2 (F := Ideal) (k0_pay21 (k0_pay11 T W B) (k0_pay15 lo) (k0_pay17 hi)) (k0_pay23 (k0_pay13 T W B) (k0_pay15 lo) (k0_pay17 hi)) (k0_pay24 (View.ld (S := S1x2) I (Rect.unit (s := S1x2) ![0, 0] S1x1.size inb_S1x2_S1x1_0_0))) y =
      Spec.upper (∑ k : Fin 256, T (ix2 (y 0) k) * W (ix2 k ⟨3 + (y 1).val, Spec.col_lt 3 (by decide) (y 1)⟩) + B (ix1 ⟨3 + (y 1).val, Spec.col_lt 3 (by decide) (y 1)⟩))
        (∑ k : Fin 256, T (ix2 (y 0) k) * W (ix2 k ⟨9 + (y 1).val, Spec.col_lt 9 (by decide) (y 1)⟩) + B (ix1 ⟨9 + (y 1).val, Spec.col_lt 9 (by decide) (y 1)⟩))
        (lo y) (hi y) (I (ix2 0 0)) := by
  pointwise [k0_pay2, k0_pay24, k0_pay21, k0_pay23, k0_pay19, k0_pay11, k0_pay13, k0_pay15, k0_pay17, k0_pay9]
  rfl

/-! ## The five result arrays -/

/-- The features of a point, on the blocks it reads. -/
theorem feats_blk (c : Dev nD) (t : Fin cfg0.N) (p : Fin 36) (a : Fin 3) (r : ℕ) (hr : r = (36 * t.val + p.val) * 3 + a.val) (k : Fin 256) :
    feats (iblk m c 0 t) (iblk m c 1 t) (iblk m c 2 t) t (ix2 p k) = Spec.feat (args m c) (r / (3 * 6)) (r / 3 % 6) k := by
  rw [feats_at (args m c) _ _ _ t (blk0 m c t) (blk1 m c t) (blk2 m c t)]
  have e1 : r / (3 * 6) = 6 * t.val + p.val / 6 := by omega
  have e2 : r / 3 % 6 = p.val % 6 := by omega
  rw [e1, e2]

/-- The first result holds the scores. -/
theorem final14 (c : Dev nD) : (dats m 0 c).arrAt 14 cfg0.N =
    (fun i => Spec.score (args m c) (Spec.row (by decide) i) : FVec Ideal S36x3 .f32) := by
  refine (dats m 0 c).arrAt_eq_of_covers 14 _ (by decide +kernel) fun t hf y => ?_
  blk_simp
  rw [after0_14]
  dsimp only [outsAt0]
  frame_out
  have hr : (Spec.row (N := 108) (P := 36) (by decide) (((View.whole main_v70_0).slice (win0_14.rect t)).emb y)).val =
      (36 * t.val + (y 0).val) * 3 + (y 1).val := by
    unfold Spec.row
    blk_simp [idx t]
    show (y 0).val * 3 + (y 1).val = (36 * 0 + (y 0).val) * 3 + (y 1).val
    omega
  generalize Spec.row (N := 108) (P := 36) _ _ = r at hr ⊢
  have ha : r.val % 3 = (y 1).val := by have h1 : (y 1).val < 3 := (y 1).isLt; omega
  refine (score_pay _ _ _ _ _ _ _ _ _ _ _ _ y).trans ?_
  exact congrArg₂ Spec.soft
    (Spec.logit_of _ _ 0 _ ⟨2 * (y 1).val, by omega⟩ (by show 2 * (y 1).val = _; omega) (feats_blk m c t (y 0) (y 1) r hr)
      (fun k => blk3 m c t k (y 1)) (blk5 m c t (y 1)))
    (Spec.logit_of _ _ 1 _ ⟨1 + 2 * (y 1).val, by omega⟩ (by show 1 + 2 * (y 1).val = _; omega) (feats_blk m c t (y 0) (y 1) r hr)
      (fun k => blk4 m c t k (y 1)) (blk6 m c t (y 1)))

/-- An edge of the anchor of a row of the point. -/
theorem anchor0 (c : Dev nD) (t : Fin cfg0.N) (y : S36x3.Idx) (r : Fin 108) (hr : r.val = (36 * t.val + (y 0).val) * 3 + (y 1).val) :
    (iblk m c 9 t : FVec Ideal S36x3 .f32) y = (args m c).an r 0 := by
  have e : y = ix2 (y 0) (y 1) := by funext i; match i with | ⟨0, _⟩ => rfl | ⟨1, _⟩ => rfl
  exact (congrArg (iblk m c 9 t : FVec Ideal S36x3 .f32) e).trans
    ((blk9 m c t (y 0) (y 1)).trans (congrArg (fun r => (args m c).an r 0) (Fin.ext hr.symm)))

/-- An edge of the anchor of a row of the point. -/
theorem anchor1 (c : Dev nD) (t : Fin cfg0.N) (y : S36x3.Idx) (r : Fin 108) (hr : r.val = (36 * t.val + (y 0).val) * 3 + (y 1).val) :
    (iblk m c 10 t : FVec Ideal S36x3 .f32) y = (args m c).an r 1 := by
  have e : y = ix2 (y 0) (y 1) := by funext i; match i with | ⟨0, _⟩ => rfl | ⟨1, _⟩ => rfl
  exact (congrArg (iblk m c 10 t : FVec Ideal S36x3 .f32) e).trans
    ((blk10 m c t (y 0) (y 1)).trans (congrArg (fun r => (args m c).an r 1) (Fin.ext hr.symm)))

/-- An edge of the anchor of a row of the point. -/
theorem anchor2 (c : Dev nD) (t : Fin cfg0.N) (y : S36x3.Idx) (r : Fin 108) (hr : r.val = (36 * t.val + (y 0).val) * 3 + (y 1).val) :
    (iblk m c 11 t : FVec Ideal S36x3 .f32) y = (args m c).an r 2 := by
  have e : y = ix2 (y 0) (y 1) := by funext i; match i with | ⟨0, _⟩ => rfl | ⟨1, _⟩ => rfl
  exact (congrArg (iblk m c 11 t : FVec Ideal S36x3 .f32) e).trans
    ((blk11 m c t (y 0) (y 1)).trans (congrArg (fun r => (args m c).an r 2) (Fin.ext hr.symm)))

/-- An edge of the anchor of a row of the point. -/
theorem anchor3 (c : Dev nD) (t : Fin cfg0.N) (y : S36x3.Idx) (r : Fin 108) (hr : r.val = (36 * t.val + (y 0).val) * 3 + (y 1).val) :
    (iblk m c 12 t : FVec Ideal S36x3 .f32) y = (args m c).an r 3 := by
  have e : y = ix2 (y 0) (y 1) := by funext i; match i with | ⟨0, _⟩ => rfl | ⟨1, _⟩ => rfl
  exact (congrArg (iblk m c 12 t : FVec Ideal S36x3 .f32) e).trans
    ((blk12 m c t (y 0) (y 1)).trans (congrArg (fun r => (args m c).an r 3) (Fin.ext hr.symm)))

/-- The second result holds the left edges of the boxes. -/
theorem final15 (c : Dev nD) : (dats m 0 c).arrAt 15 cfg0.N =
    (fun i => Spec.left (args m c) (Spec.row (by decide) i) : FVec Ideal S36x3 .f32) := by
  refine (dats m 0 c).arrAt_eq_of_covers 15 _ (by decide +kernel) fun t hf y => ?_
  blk_simp
  rw [after0_15]
  dsimp only [outsAt0]
  frame_out
  have hr : (Spec.row (N := 108) (P := 36) (by decide) (((View.whole main_v70_1).slice (win0_15.rect t)).emb y)).val =
      (36 * t.val + (y 0).val) * 3 + (y 1).val := by
    unfold Spec.row
    blk_simp [idx t]
    show (y 0).val * 3 + (y 1).val = (36 * 0 + (y 0).val) * 3 + (y 1).val
    omega
  generalize Spec.row (N := 108) (P := 36) _ _ = r at hr ⊢
  have ha : r.val % 3 = (y 1).val := by have h1 : (y 1).val < 3 := (y 1).isLt; omega
  refine (left_pay _ _ _ _ _ _ y).trans ?_
  exact Spec.lower_congr
    (Spec.delta_of _ _ 0 _ (Spec.chan ⟨0 + (y 1).val, Spec.col_lt 0 (by decide) (y 1)⟩)
      (by show (0 + (y 1).val) % 3 * 4 + (0 + (y 1).val) / 3 = _; omega)
      (feats_blk m c t (y 0) (y 1) r hr) (fun k => blk7 m c t k _) (blk8 m c t _))
    (Spec.delta_of _ _ 2 _ (Spec.chan ⟨6 + (y 1).val, Spec.col_lt 6 (by decide) (y 1)⟩)
      (by show (6 + (y 1).val) % 3 * 4 + (6 + (y 1).val) / 3 = _; omega)
      (feats_blk m c t (y 0) (y 1) r hr) (fun k => blk7 m c t k _) (blk8 m c t _))
    (anchor0 m c t y r hr) (anchor2 m c t y r hr) (blk13 m c t 1)

/-- The third result holds the top edges. -/
theorem final16 (c : Dev nD) : (dats m 0 c).arrAt 16 cfg0.N =
    (fun i => Spec.top (args m c) (Spec.row (by decide) i) : FVec Ideal S36x3 .f32) := by
  refine (dats m 0 c).arrAt_eq_of_covers 16 _ (by decide +kernel) fun t hf y => ?_
  blk_simp
  rw [after0_16]
  dsimp only [outsAt0]
  frame_out
  have hr : (Spec.row (N := 108) (P := 36) (by decide) (((View.whole main_v70_2).slice (win0_16.rect t)).emb y)).val =
      (36 * t.val + (y 0).val) * 3 + (y 1).val := by
    unfold Spec.row
    blk_simp [idx t]
    show (y 0).val * 3 + (y 1).val = (36 * 0 + (y 0).val) * 3 + (y 1).val
    omega
  generalize Spec.row (N := 108) (P := 36) _ _ = r at hr ⊢
  have ha : r.val % 3 = (y 1).val := by have h1 : (y 1).val < 3 := (y 1).isLt; omega
  refine (top_pay _ _ _ _ _ _ y).trans ?_
  exact Spec.lower_congr
    (Spec.delta_of _ _ 1 _ (Spec.chan ⟨3 + (y 1).val, Spec.col_lt 3 (by decide) (y 1)⟩)
      (by show (3 + (y 1).val) % 3 * 4 + (3 + (y 1).val) / 3 = _; omega)
      (feats_blk m c t (y 0) (y 1) r hr) (fun k => blk7 m c t k _) (blk8 m c t _))
    (Spec.delta_of _ _ 3 _ (Spec.chan ⟨9 + (y 1).val, Spec.col_lt 9 (by decide) (y 1)⟩)
      (by show (9 + (y 1).val) % 3 * 4 + (9 + (y 1).val) / 3 = _; omega)
      (feats_blk m c t (y 0) (y 1) r hr) (fun k => blk7 m c t k _) (blk8 m c t _))
    (anchor1 m c t y r hr) (anchor3 m c t y r hr) (blk13 m c t 0)

/-- The fourth result holds the right edges. -/
theorem final17 (c : Dev nD) : (dats m 0 c).arrAt 17 cfg0.N =
    (fun i => Spec.right (args m c) (Spec.row (by decide) i) : FVec Ideal S36x3 .f32) := by
  refine (dats m 0 c).arrAt_eq_of_covers 17 _ (by decide +kernel) fun t hf y => ?_
  blk_simp
  rw [after0_17]
  dsimp only [outsAt0]
  frame_out
  have hr : (Spec.row (N := 108) (P := 36) (by decide) (((View.whole main_v70_3).slice (win0_17.rect t)).emb y)).val =
      (36 * t.val + (y 0).val) * 3 + (y 1).val := by
    unfold Spec.row
    blk_simp [idx t]
    show (y 0).val * 3 + (y 1).val = (36 * 0 + (y 0).val) * 3 + (y 1).val
    omega
  generalize Spec.row (N := 108) (P := 36) _ _ = r at hr ⊢
  have ha : r.val % 3 = (y 1).val := by have h1 : (y 1).val < 3 := (y 1).isLt; omega
  refine (right_pay _ _ _ _ _ _ y).trans ?_
  exact Spec.upper_congr
    (Spec.delta_of _ _ 0 _ (Spec.chan ⟨0 + (y 1).val, Spec.col_lt 0 (by decide) (y 1)⟩)
      (by show (0 + (y 1).val) % 3 * 4 + (0 + (y 1).val) / 3 = _; omega)
      (feats_blk m c t (y 0) (y 1) r hr) (fun k => blk7 m c t k _) (blk8 m c t _))
    (Spec.delta_of _ _ 2 _ (Spec.chan ⟨6 + (y 1).val, Spec.col_lt 6 (by decide) (y 1)⟩)
      (by show (6 + (y 1).val) % 3 * 4 + (6 + (y 1).val) / 3 = _; omega)
      (feats_blk m c t (y 0) (y 1) r hr) (fun k => blk7 m c t k _) (blk8 m c t _))
    (anchor0 m c t y r hr) (anchor2 m c t y r hr) (blk13 m c t 1)

/-- The fifth result holds the bottom edges. -/
theorem final18 (c : Dev nD) : (dats m 0 c).arrAt 18 cfg0.N =
    (fun i => Spec.bottom (args m c) (Spec.row (by decide) i) : FVec Ideal S36x3 .f32) := by
  refine (dats m 0 c).arrAt_eq_of_covers 18 _ (by decide +kernel) fun t hf y => ?_
  blk_simp
  rw [after0_18]
  dsimp only [outsAt0]
  frame_out
  have hr : (Spec.row (N := 108) (P := 36) (by decide) (((View.whole main_v70_4).slice (win0_18.rect t)).emb y)).val =
      (36 * t.val + (y 0).val) * 3 + (y 1).val := by
    unfold Spec.row
    blk_simp [idx t]
    show (y 0).val * 3 + (y 1).val = (36 * 0 + (y 0).val) * 3 + (y 1).val
    omega
  generalize Spec.row (N := 108) (P := 36) _ _ = r at hr ⊢
  have ha : r.val % 3 = (y 1).val := by have h1 : (y 1).val < 3 := (y 1).isLt; omega
  refine (bottom_pay _ _ _ _ _ _ y).trans ?_
  exact Spec.upper_congr
    (Spec.delta_of _ _ 1 _ (Spec.chan ⟨3 + (y 1).val, Spec.col_lt 3 (by decide) (y 1)⟩)
      (by show (3 + (y 1).val) % 3 * 4 + (3 + (y 1).val) / 3 = _; omega)
      (feats_blk m c t (y 0) (y 1) r hr) (fun k => blk7 m c t k _) (blk8 m c t _))
    (Spec.delta_of _ _ 3 _ (Spec.chan ⟨9 + (y 1).val, Spec.col_lt 9 (by decide) (y 1)⟩)
      (by show (9 + (y 1).val) % 3 * 4 + (9 + (y 1).val) / 3 = _; omega)
      (feats_blk m c t (y 0) (y 1) r hr) (fun k => blk7 m c t k _) (blk8 m c t _))
    (anchor1 m c t y r hr) (anchor3 m c t y r hr) (blk13 m c t 0)

end Cert.Proof.Kernel0

end
-- ==== Proof.Reference0.lean ====
/- Level 0 (6 x 6): what the reference leaves in its five results, as the functions of Spec.lean of its arguments. -/
module

public import proofs.«01_k».proof.Proof.Gen.Reference0Ideal.Run
public import proofs.«01_k».proof.Proof.Spec
public import Idealize.ShloMosaic.Lib.Tactic.CleanTypes

@[expose] public section

set_option maxRecDepth 16384

noncomputable section

namespace Cert.Proof.Reference0

open Cert.Reference0Ideal Cert.Reference0Ideal.Gen Cert.Reference0Ideal.Value Idealize.ShloMosaic Idealize.ShloMosaic.TcCoe
open Idealize.SL.Sem StableHlo

/-- The arguments of the level, read off a valuation of the reference's buffers. -/
def args (V0 : Valuation τ sig (Elt Ideal)) : Spec.Args 6 108 where
  x k h v := (V0 (Proc.devRef .tc main_arg0) : FVec Ideal S1x256x6x6 .f32) (ix4 0 k h v)
  im k := (V0 (Proc.devRef .tc main_arg1) : FVec Ideal S1x6 .f32) (ix2 0 k)
  w o k i j := (V0 (Proc.devRef .tc main_arg2) : FVec Ideal S256x256x3x3 .f32) (ix4 o k i j)
  b o := (V0 (Proc.devRef .tc main_arg3) : FVec Ideal S256 .f32) (ix1 o)
  cw q k := (V0 (Proc.devRef .tc main_arg4) : FVec Ideal S6x256x1x1 .f32) (ix4 q k 0 0)
  cb q := (V0 (Proc.devRef .tc main_arg5) : FVec Ideal S6 .f32) (ix1 q)
  bw q k := (V0 (Proc.devRef .tc main_arg6) : FVec Ideal S18x256x1x1 .f32) (ix4 q k 0 0)
  bb q := (V0 (Proc.devRef .tc main_arg7) : FVec Ideal S18 .f32) (ix1 q)
  an r q := (V0 (Proc.devRef .tc main_arg8) : FVec Ideal S108x4 .f32) (ix2 r q)

variable (V0 : Valuation τ sig (Elt Ideal))

/-- The padded picture. -/
theorem pad_at (k : Fin 256) (i j : Fin 8) :
    (res_main_v1 V0 : FVec Ideal S256x8x8 .f32) (ix3 k i j) = Spec.pad (args V0).x i.val j.val k := by
  unfold res_main_v1
  clean_types
  pointwise
  rw [Spec.sitofp_zero]
  rfl

/-- The features. -/
theorem feat_at (o : Fin 256) (h v : Fin 6) :
    (res_main_v51 V0 : FVec Ideal S256x6x6 .f32) (ix3 o h v) = Spec.feat (args V0) h.val v.val o := by
  unfold res_main_v51
  clean_types
  pointwise
  simp only [pad_at]
  have T := fun (k l : Fin 3) (i j : ℕ) (hi : i = h.val + k.val) (hj : j = v.val + l.val) =>
    Spec.tap_rev (args V0) k l h.val v.val o hi hj
  have n0 := fun a : ℕ => Nat.add_comm 1 a
  have n1 := fun a : ℕ => Nat.add_comm 2 a
  unfold Spec.feat
  rw [← T 0 0 h.val v.val rfl rfl, ← T 0 1 h.val (1 + v.val) rfl (n0 _), ← T 0 2 h.val (2 + v.val) rfl (n1 _),
    ← T 1 0 (1 + h.val) v.val (n0 _) rfl, ← T 1 1 (1 + h.val) (1 + v.val) (n0 _) (n0 _), ← T 1 2 (1 + h.val) (2 + v.val) (n0 _) (n1 _),
    ← T 2 0 (2 + h.val) v.val (n1 _) rfl, ← T 2 1 (2 + h.val) (1 + v.val) (n1 _) (n0 _), ← T 2 2 (2 + h.val) (2 + v.val) (n1 _) (n1 _)]
  rfl

/-- The class scores. -/
theorem logit_at (r : Fin 108) (q : Fin 2) :
    (res_main_v66 V0 : FVec Ideal S108x2 .f32) (ix2 r q) = Spec.logit (args V0) r.val q.val q.isLt := by
  unfold res_main_v66
  clean_types
  pointwise
  simp only [feat_at]
  exact Spec.lin_rev _ _ _

/-- The box offsets. -/
theorem delta_at (r : Fin 108) (q : Fin 4) :
    (res_main_v64 V0 : FVec Ideal S108x4 .f32) (ix2 r q) = Spec.delta (args V0) r.val q.val q.isLt := by
  unfold res_main_v64
  clean_types
  pointwise
  simp only [feat_at]
  exact Spec.lin_rev _ _ _

/-- The exponentials of the class scores, their larger one taken off. -/
theorem exp_at (r : Fin 108) (q : Fin 2) :
    (res_main_v73 V0 : FVec Ideal S108x2 .f32) (ix2 r q) = Ideal.exp (Spec.logit (args V0) r.val q.val q.isLt
      - max (Spec.logit (args V0) r.val 0 (by decide)) (Spec.logit (args V0) r.val 1 (by decide))) := by
  unfold res_main_v73
  clean_types
  pointwise
  simp only [logit_at]
  rw [Spec.fold_max_two, Spec.bot_max]
  rfl

/-- The lower bound of the clipping is zero. -/
theorem zero_at : (id (constant (F := Ideal) S_ .f32 0#32) ix0 : Ideal .f32) = 0 := by
  show Ideal.ofBits FTy.f32 0#32 = 0
  simp [Ideal.ofBits, Ideal.ieee]

/-- The scores. -/
theorem result144 (y : S36x3.Idx) : (after ops V0 (Proc.devRef .tc main_v144) : FVec Ideal S36x3 .f32) y =
    Spec.score (args V0) (Spec.row (by decide) y) := by
  rw [after_ops, val3_main_v144]
  clean_types
  pointwise
  simp only [exp_at]
  rw [Fin.sum_univ_two]
  rfl

/-- The left edges. -/
theorem result145 (y : S36x3.Idx) : (after ops V0 (Proc.devRef .tc main_v145) : FVec Ideal S36x3 .f32) y =
    Spec.left (args V0) (Spec.row (by decide) y) := by
  rw [after_ops, val3_main_v145]
  unfold res_main_v123 res_main_v109 res_main_v115 res_main_v84
  clean_types
  pointwise
  simp only [delta_at]
  rw [zero_at]
  rfl

/-- The top edges. -/
theorem result146 (y : S36x3.Idx) : (after ops V0 (Proc.devRef .tc main_v146) : FVec Ideal S36x3 .f32) y =
    Spec.top (args V0) (Spec.row (by decide) y) := by
  rw [after_ops, val3_main_v146]
  unfold res_main_v121 res_main_v111 res_main_v119 res_main_v89
  clean_types
  pointwise
  simp only [delta_at]
  rw [zero_at]
  rfl

/-- The right edges. -/
theorem result147 (y : S36x3.Idx) : (after ops V0 (Proc.devRef .tc main_v147) : FVec Ideal S36x3 .f32) y =
    Spec.right (args V0) (Spec.row (by decide) y) := by
  rw [after_ops, val3_main_v147]
  unfold res_main_v123 res_main_v109 res_main_v115 res_main_v84
  clean_types
  pointwise
  simp only [delta_at]
  rw [zero_at]
  rfl

/-- The bottom edges. -/
theorem result148 (y : S36x3.Idx) : (after ops V0 (Proc.devRef .tc main_v148) : FVec Ideal S36x3 .f32) y =
    Spec.bottom (args V0) (Spec.row (by decide) y) := by
  rw [after_ops, val3_main_v148]
  unfold res_main_v121 res_main_v111 res_main_v119 res_main_v89
  clean_types
  pointwise
  simp only [delta_at]
  rw [zero_at]
  rfl

end Cert.Proof.Reference0

end
-- ==== Proof.Level0.lean ====
/- Level 0 (6 x 6): the kernel and the reference, run from the same arguments, end with the same five results. -/
module

public import proofs.«01_k».proof.Defs
public import proofs.«01_k».proof.Proof.Kernel0
public import proofs.«01_k».proof.Proof.Reference0

@[expose] public section

set_option maxRecDepth 16384

noncomputable section

namespace Cert.Proof.Level0

open Idealize.ShloMosaic Idealize.ShloMosaic.TcCoe Idealize.SL.Sem StableHlo

section KernelRun
open Cert.Kernel0Ideal Cert.Kernel0Ideal.Gen Cert.Kernel0Ideal.Value

/-- Every run of the kernel ends with the scores and the four edges of the boxes in its five results, and with its
    arguments as they were. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v70_0) = (fun i => Spec.score (Kernel0.args m c) (Spec.row (by decide) i) : FVec Ideal S36x3 .f32)
      ∧ r.2.mem ((c.tc : Thread nD τ).loc main_v70_1) = (fun i => Spec.left (Kernel0.args m c) (Spec.row (by decide) i) : FVec Ideal S36x3 .f32)
      ∧ r.2.mem ((c.tc : Thread nD τ).loc main_v70_2) = (fun i => Spec.top (Kernel0.args m c) (Spec.row (by decide) i) : FVec Ideal S36x3 .f32)
      ∧ r.2.mem ((c.tc : Thread nD τ).loc main_v70_3) = (fun i => Spec.right (Kernel0.args m c) (Spec.row (by decide) i) : FVec Ideal S36x3 .f32)
      ∧ r.2.mem ((c.tc : Thread nD τ).loc main_v70_4) = (fun i => Spec.bottom (Kernel0.args m c) (Spec.row (by decide) i) : FVec Ideal S36x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).1 14).trans (Kernel0.final14 m c), ((h c).1 15).trans (Kernel0.final15 m c),
      ((h c).1 16).trans (Kernel0.final16 m c), ((h c).1 17).trans (Kernel0.final17 m c),
      ((h c).1 18).trans (Kernel0.final18 m c), kept_main_arg0 m r h c, kept_main_arg1 m r h c, kept_main_arg2 m r h c,
      kept_main_arg3 m r h c, kept_main_arg4 m r h c, kept_main_arg5 m r h c, kept_main_arg6 m r h c,
      kept_main_arg7 m r h c, kept_main_arg8 m r h c⟩) (run_main m g)

end KernelRun

section ReferenceRun
open Cert.Reference0Ideal Cert.Reference0Ideal.Gen Cert.Reference0Ideal.Value

/-- Every run of the reference whose arguments read as `A` ends with the scores and the four edges of the boxes of `A`
    in its five results, and with its arguments as they were. -/
theorem reference_run (m : (ℓ : Loc nD τ sig) → Buf (Elt Ideal) ℓ) (g : Dev nD → PrngReg)
    (A : Dev nD → Spec.Args 6 108) (hA : ∀ c, Reference0.args (launchContents m c) = A c) :
    θ_run defs (onTc (τ := τ) (main (F := Ideal))) ⟨m, fun _ => 0, g⟩ (fun r => ∀ c : Dev nD,
      r.2.mem ((c.tc : Thread nD τ).loc main_v144) = (fun i => Spec.score (A c) (Spec.row (by decide) i) : FVec Ideal S36x3 .f32)
      ∧ r.2.mem ((c.tc : Thread nD τ).loc main_v145) = (fun i => Spec.left (A c) (Spec.row (by decide) i) : FVec Ideal S36x3 .f32)
      ∧ r.2.mem ((c.tc : Thread nD τ).loc main_v146) = (fun i => Spec.top (A c) (Spec.row (by decide) i) : FVec Ideal S36x3 .f32)
      ∧ r.2.mem ((c.tc : Thread nD τ).loc main_v147) = (fun i => Spec.right (A c) (Spec.row (by decide) i) : FVec Ideal S36x3 .f32)
      ∧ r.2.mem ((c.tc : Thread nD τ).loc main_v148) = (fun i => Spec.bottom (A c) (Spec.row (by decide) i) : FVec Ideal S36x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hk (V0 : Valuation τ sig (Elt Ideal)) (b) : after ops V0 b = val3 V0 b := congrFun (after_ops V0) b
  refine (θ_run defs _ _).mono (fun r h c => ?_)
    (run_seq scopedRefs_eq scopedSems_eq defs main (fun _ => ops) main_eq (fun _ => ops_sub) m g fun _ => ops_fresh)
  rw [← hA c]
  exact ⟨(h c main_v144).trans (funext (Reference0.result144 _)), (h c main_v145).trans (funext (Reference0.result145 _)),
    (h c main_v146).trans (funext (Reference0.result146 _)), (h c main_v147).trans (funext (Reference0.result147 _)),
    (h c main_v148).trans (funext (Reference0.result148 _)),
    (h c main_arg0).trans ((hk _ _).trans (val3_main_arg0 _)), (h c main_arg1).trans ((hk _ _).trans (val3_main_arg1 _)),
    (h c main_arg2).trans ((hk _ _).trans (val3_main_arg2 _)), (h c main_arg3).trans ((hk _ _).trans (val3_main_arg3 _)),
    (h c main_arg4).trans ((hk _ _).trans (val3_main_arg4 _)), (h c main_arg5).trans ((hk _ _).trans (val3_main_arg5 _)),
    (h c main_arg6).trans ((hk _ _).trans (val3_main_arg6 _)), (h c main_arg7).trans ((hk _ _).trans (val3_main_arg7 _)),
    (h c main_arg8).trans ((hk _ _).trans (val3_main_arg8 _))⟩

end ReferenceRun

/-- Over the extended reals the kernel and the reference of this level compute the same five results. -/
theorem algebraic : algebraic_Kernel0Ideal_Reference0Ideal (hKernel0Ideal := Cert.Kernel0Ideal.Gen.facts)
    (hReference0Ideal := Cert.Reference0Ideal.Gen.facts) := by
  intro m g m' g' _ hagree
  refine ⟨_, _, _, _, _, kernel_run m g, reference_run m' g' (fun c => Kernel0.args m c) fun c => ?_⟩
  obtain ⟨h0, h1, h2, h3, h4, h5, h6, h7, h8⟩ := hagree c
  show Spec.Args.mk _ _ _ _ _ _ _ _ _ = Spec.Args.mk _ _ _ _ _ _ _ _ _
  congr 1
  · funext k h v; exact congrFun h0 _
  · funext k; exact congrFun h1 _
  · funext o k i j; exact congrFun h2 _
  · funext o; exact congrFun h3 _
  · funext q k; exact congrFun h4 _
  · funext q; exact congrFun h5 _
  · funext q k; exact congrFun h6 _
  · funext q; exact congrFun h7 _
  · funext r q; exact congrFun h8 _

end Cert.Proof.Level0

end
-- ==== Proof.Kernel1.lean ====
/- Level 1 (12 x 12): what the kernel leaves in its five result arrays, as the functions of Spec.lean of its arguments. -/
module

public import proofs.«01_k».proof.Proof.Gen.Kernel1Ideal.Value
public import proofs.«01_k».proof.Proof.Spec
public import Idealize.ShloMosaic.Lib.Tactic.CleanTypes

@[expose] public section

set_option maxRecDepth 16384

noncomputable section

namespace Cert.Proof.Kernel1

open Cert.Kernel1Ideal Cert.Kernel1Ideal.Gen Idealize.ShloMosaic Idealize.ShloMosaic.TcCoe Idealize.SL.Sem
open Idealize.ShloMosaic.Pipeline (Dat)

variable (m : (ℓ : Loc nD τ sig) → Buf (Elt Ideal) ℓ)

/-- The arguments of the level, read off the launch memory. -/
def args (c : Dev nD) : Spec.Args 12 432 where
  x k h v := (m ((c : Thread nD τ).loc main_arg0) : FVec Ideal S1x256x12x12 .f32) (ix4 0 k h v)
  im k := (m ((c : Thread nD τ).loc main_arg1) : FVec Ideal S1x6 .f32) (ix2 0 k)
  w o k i j := (m ((c : Thread nD τ).loc main_arg2) : FVec Ideal S256x256x3x3 .f32) (ix4 o k i j)
  b o := (m ((c : Thread nD τ).loc main_arg3) : FVec Ideal S256 .f32) (ix1 o)
  cw q k := (m ((c : Thread nD τ).loc main_arg4) : FVec Ideal S6x256x1x1 .f32) (ix4 q k 0 0)
  cb q := (m ((c : Thread nD τ).loc main_arg5) : FVec Ideal S6 .f32) (ix1 q)
  bw q k := (m ((c : Thread nD τ).loc main_arg6) : FVec Ideal S18x256x1x1 .f32) (ix4 q k 0 0)
  bb q := (m ((c : Thread nD τ).loc main_arg7) : FVec Ideal S18 .f32) (ix1 q)
  an r q := (m ((c : Thread nD τ).loc main_arg8) : FVec Ideal S432x4 .f32) (ix2 r q)

/-! ## The operands the host prepares -/

/-- A picture laid pixels first and surrounded by a border of zeros. -/
theorem pad_at (X : FVec Ideal S1x256x12x12 .f32) (i j : Fin 14) (k : Fin 256) :
    pad S14x14x256 ![1, 1, 0] ![1, 1, 0] ![0, 0, 0]
      (transpose S12x12x256 [1, 2, 0] (shapeCast S256x12x12 X shapeCasts_S1x256x12x12_S256x12x12) transposes_S256x12x12_S12x12x256_1_2_0)
      (sitofp (F := Ideal) .f32 (constantI S_ 32 0#32)) pads_S12x12x256_S14x14x256_110_110_000 h_S_ (ix3 i j k) =
    Spec.pad (fun k h v => X (ix4 0 k h v)) i.val j.val k := by
  pointwise
  rw [Spec.sitofp_zero]
  rfl

/-- The padded picture, pixels first. -/
theorem V_pad (c : Dev nD) (i j : Fin 14) (k : Fin 256) :
    (V m c main_v59 : FVec Ideal S14x14x256 .f32) (ix3 i j k) = Spec.pad (args m c).x i.val j.val k := by
  have e : (V m c main_v59 : FVec Ideal S14x14x256 .f32) = pad S14x14x256 ![1, 1, 0] ![1, 1, 0] ![0, 0, 0]
      (transpose S12x12x256 [1, 2, 0] (shapeCast S256x12x12 (m ((c : Thread nD τ).loc main_arg0) : FVec Ideal S1x256x12x12 .f32) shapeCasts_S1x256x12x12_S256x12x12) transposes_S256x12x12_S12x12x256_1_2_0)
      (sitofp (F := Ideal) .f32 (constantI S_ 32 0#32)) pads_S12x12x256_S14x14x256_110_110_000 h_S_ := by
    unfold V
    simp only [hostOps0, hostOps0_1, hostOps0_2, List.flatten_cons, List.flatten_nil, List.cons_append, List.nil_append, List.append_nil]
    entry_read
    rfl
  rw [e]
  exact pad_at _ i j k

set_option maxHeartbeats 1600000 in
/-- The nine matrices of weights, input channels first. -/
theorem V_wk (c : Dev nD) (q : Fin 9) (k o : Fin 256) :
    (V m c main_v36 : FVec Ideal S9x256x256 .f32) (ix3 q k o) = (args m c).w o k ⟨q.val / 3, by omega⟩ ⟨q.val % 3, by omega⟩ := by
  unfold V
  simp only [hostOps0, hostOps0_1, hostOps0_2, List.flatten_cons, List.flatten_nil, List.cons_append, List.nil_append, List.append_nil]
  simp only [StableHlo.after_cons, StableHlo.after_nil]
  after_results_simp
  concat_tiles i h
  all_goals
    dsimp only [Matrix.cons_val]
    after_results_simp
    first
      | exact Spec.mat_at _ 0 0 _ _ _ _ i q k o h h1 h2
      | exact Spec.mat_at _ 0 1 _ _ _ _ i q k o h h1 h2
      | exact Spec.mat_at _ 0 2 _ _ _ _ i q k o h h1 h2
      | exact Spec.mat_at _ 1 0 _ _ _ _ i q k o h h1 h2
      | exact Spec.mat_at _ 1 1 _ _ _ _ i q k o h h1 h2
      | exact Spec.mat_at _ 1 2 _ _ _ _ i q k o h h1 h2
      | exact Spec.mat_at _ 2 0 _ _ _ _ i q k o h h1 h2
      | exact Spec.mat_at _ 2 1 _ _ _ _ i q k o h h1 h2
      | exact Spec.mat_at _ 2 2 _ _ _ _ i q k o h h1 h2

/-- The table of column numbers holds each column's channel. -/
theorem chan_word : ∀ q : Fin 12, (broadcastInDim S12x1 ![0] bcast_S12_S12x1_0
        (select (constantI S12 1 0#1)
          (addi (fun i => lit0 (S12.rowMajor i)) (broadcastInDim S12 ![] bcast_S_S12 (constantI S_ 32 12#32))) fun i =>
          lit0 (S12.rowMajor i)) (ix2 q 0)).toInt.toNat = (Spec.chan12 q).val := by decide +kernel

/-- The weights of the box offsets, columns in the kernel's order. -/
theorem V_wb (c : Dev nD) (k : Fin 256) (q : Fin 12) :
    (V m c main_v50 : FVec Ideal S256x12 .f32) (ix2 k q) = (args m c).bw (Spec.chan q) k := by
  unfold V
  simp only [hostOps0, hostOps0_1, hostOps0_2, List.flatten_cons, List.flatten_nil, List.cons_append, List.nil_append, List.append_nil]
  entry_read
  refine (Spec.gather_col _ _ _ k q (Spec.chan12 q) (chan_word q)).trans ?_
  pointwise
  rfl

/-- The biases of the box offsets, in the kernel's order. -/
theorem V_bb (c : Dev nD) (q : Fin 12) :
    (V m c main_v56 : FVec Ideal S12 .f32) (ix1 q) = (args m c).bb (Spec.chan q) := by
  unfold V
  simp only [hostOps0, hostOps0_1, hostOps0_2, List.flatten_cons, List.flatten_nil, List.cons_append, List.nil_append, List.append_nil]
  entry_read
  refine (Spec.gather_vec _ _ _ q (Spec.chan12 q) (chan_word q)).trans ?_
  pointwise
  rfl

/-- The score weights of the background class. -/
theorem V_wc0 (c : Dev nD) (k : Fin 256) (a : Fin 3) :
    (V m c main_v39 : FVec Ideal S256x3 .f32) (ix2 k a) = (args m c).cw ⟨2 * a.val, by omega⟩ k := by
  unfold V
  simp only [hostOps0, hostOps0_1, hostOps0_2, List.flatten_cons, List.flatten_nil, List.cons_append, List.nil_append, List.append_nil]
  entry_read
  clean_types
  pointwise
  rfl

/-- The score weights of the foreground class. -/
theorem V_wc1 (c : Dev nD) (k : Fin 256) (a : Fin 3) :
    (V m c main_v40 : FVec Ideal S256x3 .f32) (ix2 k a) = (args m c).cw ⟨1 + 2 * a.val, by omega⟩ k := by
  unfold V
  simp only [hostOps0, hostOps0_1, hostOps0_2, List.flatten_cons, List.flatten_nil, List.cons_append, List.nil_append, List.append_nil]
  entry_read
  clean_types
  pointwise
  rfl

/-- The score biases of the background class. -/
theorem V_bc0 (c : Dev nD) (a : Fin 3) :
    (V m c main_v41 : FVec Ideal S3 .f32) (ix1 a) = (args m c).cb ⟨2 * a.val, by omega⟩ := by
  unfold V
  simp only [hostOps0, hostOps0_1, hostOps0_2, List.flatten_cons, List.flatten_nil, List.cons_append, List.nil_append, List.append_nil]
  entry_read
  clean_types
  pointwise
  rfl

/-- The score biases of the foreground class. -/
theorem V_bc1 (c : Dev nD) (a : Fin 3) :
    (V m c main_v42 : FVec Ideal S3 .f32) (ix1 a) = (args m c).cb ⟨1 + 2 * a.val, by omega⟩ := by
  unfold V
  simp only [hostOps0, hostOps0_1, hostOps0_2, List.flatten_cons, List.flatten_nil, List.cons_append, List.nil_append, List.append_nil]
  entry_read
  clean_types
  pointwise
  rfl

/-- The left edges of the anchors, one row per pixel. -/
theorem V_an0 (c : Dev nD) (p : Fin 144) (a : Fin 3) :
    (V m c main_v62 : FVec Ideal S144x3 .f32) (ix2 p a) = (args m c).an ⟨p.val * 3 + a.val, by omega⟩ 0 := by
  unfold V
  simp only [hostOps0, hostOps0_1, hostOps0_2, List.flatten_cons, List.flatten_nil, List.cons_append, List.nil_append, List.append_nil]
  entry_read
  clean_types
  pointwise
  rfl

/-- The top edges of the anchors, one row per pixel. -/
theorem V_an1 (c : Dev nD) (p : Fin 144) (a : Fin 3) :
    (V m c main_v64 : FVec Ideal S144x3 .f32) (ix2 p a) = (args m c).an ⟨p.val * 3 + a.val, by omega⟩ 1 := by
  unfold V
  simp only [hostOps0, hostOps0_1, hostOps0_2, List.flatten_cons, List.flatten_nil, List.cons_append, List.nil_append, List.append_nil]
  entry_read
  clean_types
  pointwise
  rfl

/-- The right edges of the anchors, one row per pixel. -/
theorem V_an2 (c : Dev nD) (p : Fin 144) (a : Fin 3) :
    (V m c main_v66 : FVec Ideal S144x3 .f32) (ix2 p a) = (args m c).an ⟨p.val * 3 + a.val, by omega⟩ 2 := by
  unfold V
  simp only [hostOps0, hostOps0_1, hostOps0_2, List.flatten_cons, List.flatten_nil, List.cons_append, List.nil_append, List.append_nil]
  entry_read
  clean_types
  pointwise
  rfl

/-- The bottom edges of the anchors, one row per pixel. -/
theorem V_an3 (c : Dev nD) (p : Fin 144) (a : Fin 3) :
    (V m c main_v68 : FVec Ideal S144x3 .f32) (ix2 p a) = (args m c).an ⟨p.val * 3 + a.val, by omega⟩ 3 := by
  unfold V
  simp only [hostOps0, hostOps0_1, hostOps0_2, List.flatten_cons, List.flatten_nil, List.cons_append, List.nil_append, List.append_nil]
  entry_read
  clean_types
  pointwise
  rfl

/-- The height and width of the picture. -/
theorem V_hw (c : Dev nD) (q : Fin 2) :
    (V m c main_v69 : FVec Ideal S1x2 .f32) (ix2 0 q) = (args m c).im ⟨q.val, by omega⟩ := by
  unfold V
  simp only [hostOps0, hostOps0_1, hostOps0_2, List.flatten_cons, List.flatten_nil, List.cons_append, List.nil_append, List.append_nil]
  entry_read
  clean_types
  pointwise
  rfl

/-! ## The blocks of a grid point -/

/-- Where the blocks of the point `t` lie: the anchors and the results move with it, everything else is whole. -/
theorem idx : ∀ t : Fin cfg0.N, win0_0.index t = ![0, 0, 0] ∧ win0_1.index t = ![0, 0, 0] ∧ win0_2.index t = ![0]
    ∧ win0_3.index t = ![0, 0] ∧ win0_4.index t = ![0, 0] ∧ win0_5.index t = ![0] ∧ win0_6.index t = ![0]
    ∧ win0_7.index t = ![0, 0] ∧ win0_8.index t = ![0] ∧ win0_9.index t = ![t.val, 0] ∧ win0_10.index t = ![t.val, 0]
    ∧ win0_11.index t = ![t.val, 0] ∧ win0_12.index t = ![t.val, 0] ∧ win0_13.index t = ![0, 0]
    ∧ win0_14.index t = ![t.val, 0] ∧ win0_15.index t = ![t.val, 0] ∧ win0_16.index t = ![t.val, 0]
    ∧ win0_17.index t = ![t.val, 0] ∧ win0_18.index t = ![t.val, 0] := by decide +kernel

/-- The grid is one axis. -/
theorem coords0 : ∀ t : Fin cfg0.N, (grid0.coords t 0).val = t.val := by decide +kernel

/-- The number of grid points. -/
theorem point_lt (t : Fin cfg0.N) : t.val < 1 := t.isLt

/-- The padded picture in a point. -/
theorem blk0 (c : Dev nD) (t : Fin cfg0.N) (i j : Fin 14) (k : Fin 256) :
    (iblk m c 0 t : FVec Ideal S14x14x256 .f32) (ix3 i j k) = Spec.pad (args m c).x i.val j.val k := by
  refine Eq.trans ?_ (V_pad m c i j k)
  blk_ext [iblk, idx t]

/-- The weights in a point. -/
theorem blk1 (c : Dev nD) (t : Fin cfg0.N) (q : Fin 9) (k o : Fin 256) :
    (iblk m c 1 t : FVec Ideal S9x256x256 .f32) (ix3 q k o) = (args m c).w o k ⟨q.val / 3, by omega⟩ ⟨q.val % 3, by omega⟩ := by
  refine Eq.trans ?_ (V_wk m c q k o)
  blk_ext [iblk, idx t]

/-- The biases in a point. -/
theorem blk2 (c : Dev nD) (t : Fin cfg0.N) (o : Fin 256) :
    (iblk m c 2 t : FVec Ideal S256 .f32) (ix1 o) = (args m c).b o := by
  refine Eq.trans ?_ ((V_main_arg3 m c ▸ rfl : (V m c main_arg3 : FVec Ideal S256 .f32) (ix1 o) = (args m c).b o))
  blk_ext [iblk, idx t]

/-- Score weights in a point. -/
theorem blk3 (c : Dev nD) (t : Fin cfg0.N) (k : Fin 256) (a : Fin 3) :
    (iblk m c 3 t : FVec Ideal S256x3 .f32) (ix2 k a) = (args m c).cw ⟨2 * a.val, by omega⟩ k := by
  refine Eq.trans ?_ (V_wc0 m c k a)
  blk_ext [iblk, idx t]

/-- Score weights in a point. -/
theorem blk4 (c : Dev nD) (t : Fin cfg0.N) (k : Fin 256) (a : Fin 3) :
    (iblk m c 4 t : FVec Ideal S256x3 .f32) (ix2 k a) = (args m c).cw ⟨1 + 2 * a.val, by omega⟩ k := by
  refine Eq.trans ?_ (V_wc1 m c k a)
  blk_ext [iblk, idx t]

/-- Score biases in a point. -/
theorem blk5 (c : Dev nD) (t : Fin cfg0.N) (a : Fin 3) :
    (iblk m c 5 t : FVec Ideal S3 .f32) (ix1 a) = (args m c).cb ⟨2 * a.val, by omega⟩ := by
  refine Eq.trans ?_ (V_bc0 m c a)
  blk_ext [iblk, idx t]

/-- Score biases in a point. -/
theorem blk6 (c : Dev nD) (t : Fin cfg0.N) (a : Fin 3) :
    (iblk m c 6 t : FVec Ideal S3 .f32) (ix1 a) = (args m c).cb ⟨1 + 2 * a.val, by omega⟩ := by
  refine Eq.trans ?_ (V_bc1 m c a)
  blk_ext [iblk, idx t]

/-- The weights of the box offsets in a point. -/
theorem blk7 (c : Dev nD) (t : Fin cfg0.N) (k : Fin 256) (q : Fin 12) :
    (iblk m c 7 t : FVec Ideal S256x12 .f32) (ix2 k q) = (args m c).bw (Spec.chan q) k := by
  refine Eq.trans ?_ (V_wb m c k q)
  blk_ext [iblk, idx t]

/-- The biases of the box offsets in a point. -/
theorem blk8 (c : Dev nD) (t : Fin cfg0.N) (q : Fin 12) :
    (iblk m c 8 t : FVec Ideal S12 .f32) (ix1 q) = (args m c).bb (Spec.chan q) := by
  refine Eq.trans ?_ (V_bb m c q)
  blk_ext [iblk, idx t]

/-- Anchor edges in a point. -/
theorem blk9 (c : Dev nD) (t : Fin cfg0.N) (p : Fin 144) (a : Fin 3) :
    (iblk m c 9 t : FVec Ideal S144x3 .f32) (ix2 p a) = (args m c).an ⟨(144 * t.val + p.val) * 3 + a.val, by have := point_lt t; omega⟩ 0 := by
  have ht := point_lt t
  refine Eq.trans ?_ (V_an0 m c ⟨144 * t.val + p.val, by omega⟩ a)
  blk_ext [iblk, idx t]

/-- Anchor edges in a point. -/
theorem blk10 (c : Dev nD) (t : Fin cfg0.N) (p : Fin 144) (a : Fin 3) :
    (iblk m c 10 t : FVec Ideal S144x3 .f32) (ix2 p a) = (args m c).an ⟨(144 * t.val + p.val) * 3 + a.val, by have := point_lt t; omega⟩ 1 := by
  have ht := point_lt t
  refine Eq.trans ?_ (V_an1 m c ⟨144 * t.val + p.val, by omega⟩ a)
  blk_ext [iblk, idx t]

/-- Anchor edges in a point. -/
theorem blk11 (c : Dev nD) (t : Fin cfg0.N) (p : Fin 144) (a : Fin 3) :
    (iblk m c 11 t : FVec Ideal S144x3 .f32) (ix2 p a) = (args m c).an ⟨(144 * t.val + p.val) * 3 + a.val, by have := point_lt t; omega⟩ 2 := by
  have ht := point_lt t
  refine Eq.trans ?_ (V_an2 m c ⟨144 * t.val + p.val, by omega⟩ a)
  blk_ext [iblk, idx t]

/-- Anchor edges in a point. -/
theorem blk12 (c : Dev nD) (t : Fin cfg0.N) (p : Fin 144) (a : Fin 3) :
    (iblk m c 12 t : FVec Ideal S144x3 .f32) (ix2 p a) = (args m c).an ⟨(144 * t.val + p.val) * 3 + a.val, by have := point_lt t; omega⟩ 3 := by
  have ht := point_lt t
  refine Eq.trans ?_ (V_an3 m c ⟨144 * t.val + p.val, by omega⟩ a)
  blk_ext [iblk, idx t]

/-- The extent of the picture in a point. -/
theorem blk13 (c : Dev nD) (t : Fin cfg0.N) (q : Fin 2) :
    (iblk m c 13 t : FVec Ideal S1x2 .f32) (ix2 0 q) = (args m c).im ⟨q.val, by omega⟩ := by
  refine Eq.trans ?_ (V_hw m c q)
  blk_ext [iblk, idx t]

/-! ## The features -/

/-- The features of grid point `t`, over the padded picture `X`, the nine matrices `W` and the biases `B`: what the body
    computes from its loads. -/
def feats (X : FVec Ideal S14x14x256 .f32) (W : FVec Ideal S9x256x256 .f32) (B : FVec Ideal S256 .f32) (t : Fin cfg0.N) :
    FVec Ideal S144x256 .f32 :=
  k0_pay6
    (k0_pay4
      (k0_pay3 (View.ld (S := S14x14x256) X (Rect.unit (s := S14x14x256) (k0_off1 (grid0.coords t) 0#32) S12x12x256.size (k0_off1_inb _ 0)))
        (View.ld (S := S9x256x256) W (Rect.unit (s := S9x256x256) ![0, 0, 0] S1x256x256.size inb_S9x256x256_S1x256x256_0_0_0))
        (View.ld (S := S14x14x256) X (Rect.unit (s := S14x14x256) (k0_off2 (grid0.coords t) 0#32) S12x12x256.size (k0_off2_inb _ 0)))
        (View.ld (S := S9x256x256) W (Rect.unit (s := S9x256x256) ![1, 0, 0] S1x256x256.size inb_S9x256x256_S1x256x256_1_0_0))
        (View.ld (S := S14x14x256) X (Rect.unit (s := S14x14x256) (k0_off3 (grid0.coords t) 0#32) S12x12x256.size (k0_off3_inb _ 0)))
        (View.ld (S := S9x256x256) W (Rect.unit (s := S9x256x256) ![2, 0, 0] S1x256x256.size inb_S9x256x256_S1x256x256_2_0_0)))
      (View.ld (S := S14x14x256) X (Rect.unit (s := S14x14x256) (k0_off1 (grid0.coords t) 1#32) S12x12x256.size (k0_off1_inb _ 1)))
      (View.ld (S := S9x256x256) W (Rect.unit (s := S9x256x256) ![3, 0, 0] S1x256x256.size inb_S9x256x256_S1x256x256_3_0_0))
      (View.ld (S := S14x14x256) X (Rect.unit (s := S14x14x256) (k0_off2 (grid0.coords t) 1#32) S12x12x256.size (k0_off2_inb _ 1)))
      (View.ld (S := S9x256x256) W (Rect.unit (s := S9x256x256) ![4, 0, 0] S1x256x256.size inb_S9x256x256_S1x256x256_4_0_0))
      (View.ld (S := S14x14x256) X (Rect.unit (s := S14x14x256) (k0_off3 (grid0.coords t) 1#32) S12x12x256.size (k0_off3_inb _ 1)))
      (View.ld (S := S9x256x256) W (Rect.unit (s := S9x256x256) ![5, 0, 0] S1x256x256.size inb_S9x256x256_S1x256x256_5_0_0)))
    (k0_pay5 (View.ld (S := S14x14x256) X (Rect.unit (s := S14x14x256) (k0_off1 (grid0.coords t) 2#32) S12x12x256.size (k0_off1_inb _ 2))))
    (View.ld (S := S9x256x256) W (Rect.unit (s := S9x256x256) ![6, 0, 0] S1x256x256.size inb_S9x256x256_S1x256x256_6_0_0))
    (View.ld (S := S14x14x256) X (Rect.unit (s := S14x14x256) (k0_off2 (grid0.coords t) 2#32) S12x12x256.size (k0_off2_inb _ 2)))
    (View.ld (S := S9x256x256) W (Rect.unit (s := S9x256x256) ![7, 0, 0] S1x256x256.size inb_S9x256x256_S1x256x256_7_0_0))
    (View.ld (S := S14x14x256) X (Rect.unit (s := S14x14x256) (k0_off3 (grid0.coords t) 2#32) S12x12x256.size (k0_off3_inb _ 2)))
    (View.ld (S := S9x256x256) W (Rect.unit (s := S9x256x256) ![8, 0, 0] S1x256x256.size inb_S9x256x256_S1x256x256_8_0_0)) B

/-- They are the rectified convolution at the pixels of the point's rows. -/
theorem feats_at (A : Spec.Args 12 432) (X : FVec Ideal S14x14x256 .f32) (W : FVec Ideal S9x256x256 .f32) (B : FVec Ideal S256 .f32)
    (t : Fin cfg0.N) (hX : ∀ i j k, X (ix3 i j k) = Spec.pad A.x i.val j.val k)
    (hW : ∀ q k o, W (ix3 q k o) = A.w o k ⟨q.val / 3, by omega⟩ ⟨q.val % 3, by omega⟩)
    (hB : ∀ o, B (ix1 o) = A.b o) (p : Fin 144) (o : Fin 256) :
    feats X W B t (ix2 p o) = Spec.feat A (12 * t.val + p.val / 12) (p.val % 12) o := by
  have c0 := coords0 t
  generalize hH : 12 * t.val + p.val / 12 = H
  pointwise [feats, k0_pay6, k0_pay5, k0_pay4, k0_pay3]
  simp only [hX, hW, hB]
  have o1 : ∀ r : Fin 3, k0_off1 (grid0.coords t) (BitVec.ofNat 32 r.val) = ![12 * t.val + r.val, 0, 0] := fun r => by rw [k0_off1_eq, c0]
  have o2 : ∀ r : Fin 3, k0_off2 (grid0.coords t) (BitVec.ofNat 32 r.val) = ![12 * t.val + r.val, 1, 0] := fun r => by rw [k0_off2_eq, c0]
  have o3 : ∀ r : Fin 3, k0_off3 (grid0.coords t) (BitVec.ofNat 32 r.val) = ![12 * t.val + r.val, 2, 0] := fun r => by rw [k0_off3_eq, c0]
  have tap1 := fun k : Fin 3 => Spec.tap_eq A k 0 H (p.val % 12) o (a := k) (b := 0)
    (i := k0_off1 (grid0.coords t) (BitVec.ofNat 32 k.val) 0 + p.val / 12) (j := k0_off1 (grid0.coords t) (BitVec.ofNat 32 k.val) 1 + p.val % 12)
    (z := k0_off1 (grid0.coords t) (BitVec.ofNat 32 k.val) 2) (by intro x; rw [o1]; show 0 + x.val < 256; omega)
    (by rw [o1]; show 12 * t.val + k.val + p.val / 12 = H + k.val; omega) (by rw [o1]; exact Nat.add_comm 0 _) (by rw [o1]; rfl) rfl rfl
  have tap2 := fun k : Fin 3 => Spec.tap_eq A k 1 H (p.val % 12) o (a := k) (b := 1)
    (i := k0_off2 (grid0.coords t) (BitVec.ofNat 32 k.val) 0 + p.val / 12) (j := k0_off2 (grid0.coords t) (BitVec.ofNat 32 k.val) 1 + p.val % 12)
    (z := k0_off2 (grid0.coords t) (BitVec.ofNat 32 k.val) 2) (by intro x; rw [o2]; show 0 + x.val < 256; omega)
    (by rw [o2]; show 12 * t.val + k.val + p.val / 12 = H + k.val; omega) (by rw [o2]; exact Nat.add_comm 1 _) (by rw [o2]; rfl) rfl rfl
  have tap3 := fun k : Fin 3 => Spec.tap_eq A k 2 H (p.val % 12) o (a := k) (b := 2)
    (i := k0_off3 (grid0.coords t) (BitVec.ofNat 32 k.val) 0 + p.val / 12) (j := k0_off3 (grid0.coords t) (BitVec.ofNat 32 k.val) 1 + p.val % 12)
    (z := k0_off3 (grid0.coords t) (BitVec.ofNat 32 k.val) 2) (by intro x; rw [o3]; show 0 + x.val < 256; omega)
    (by rw [o3]; show 12 * t.val + k.val + p.val / 12 = H + k.val; omega) (by rw [o3]; exact Nat.add_comm 2 _) (by rw [o3]; rfl) rfl rfl
  unfold Spec.feat
  rw [← tap1 0, ← tap2 0, ← tap3 0, ← tap1 1, ← tap2 1, ← tap3 1, ← tap1 2, ← tap2 2, ← tap3 2]
  rfl

/-! ## What the body stores, over its operands -/

/-- The scores: the probability of the second class, from the two products of the features. -/
theorem score_pay (a b c d e f g h) (w0 : FVec Ideal S256x3 .f32) (b0 : FVec Ideal S3 .f32) (w1 : FVec Ideal S256x3 .f32)
    (b1 : FVec Ideal S3 .f32) (y : S144x3.Idx) :
    k0_pay8 (F := Ideal) (k0_pay6 a b c d e f g h) (k0_pay7 a b c d e f g h w0) b0 w1 b1 y =
      Spec.soft (∑ k : Fin 256, k0_pay6 a b c d e f g h (ix2 (y 0) k) * w0 (ix2 k (y 1)) + b0 (ix1 (y 1)))
        (∑ k : Fin 256, k0_pay6 a b c d e f g h (ix2 (y 0) k) * w1 (ix2 k (y 1)) + b1 (ix1 (y 1))) := by
  pointwise [k0_pay8, k0_pay7]
  rfl

/-- The left edges. -/
theorem left_pay (T : FVec Ideal S144x256 .f32) (W : FVec Ideal S256x12 .f32) (B : FVec Ideal S12 .f32) (lo hi : FVec Ideal S144x3 .f32)
    (I : FVec Ideal S1x2 .f32) (y : S144x3.Idx) :
    k0_pay26 (F := Ideal) (k0_pay10 T W B) (k0_pay12 T W B) (k0_pay14 lo) (k0_pay16 hi) (View.ld (S := S1x2) I (Rect.unit (s := S1x2) ![0, 1] S1x1.size inb_S1x2_S1x1_0_1)) y =
      Spec.lower (∑ k : Fin 256, T (ix2 (y 0) k) * W (ix2 k ⟨0 + (y 1).val, Spec.col_lt 0 (by decide) (y 1)⟩) + B (ix1 ⟨0 + (y 1).val, Spec.col_lt 0 (by decide) (y 1)⟩))
        (∑ k : Fin 256, T (ix2 (y 0) k) * W (ix2 k ⟨6 + (y 1).val, Spec.col_lt 6 (by decide) (y 1)⟩) + B (ix1 ⟨6 + (y 1).val, Spec.col_lt 6 (by decide) (y 1)⟩))
        (lo y) (hi y) (I (ix2 0 1)) := by
  pointwise [k0_pay26, k0_pay25, k0_pay20, k0_pay22, k0_pay18, k0_pay10, k0_pay12, k0_pay14, k0_pay16, k0_pay9]
  rfl

/-- The top edges. -/
theorem top_pay (T : FVec Ideal S144x256 .f32) (W : FVec Ideal S256x12 .f32) (B : FVec Ideal S12 .f32) (lo hi : FVec Ideal S144x3 .f32)
    (I : FVec Ideal S1x2 .f32) (y : S144x3.Idx) :
    k0_pay27 (F := Ideal) (k0_pay11 T W B) (k0_pay13 T W B) (k0_pay15 lo) (k0_pay17 hi) (View.ld (S := S1x2) I (Rect.unit (s := S1x2) ![0, 0] S1x1.size inb_S1x2_S1x1_0_0)) y =
      Spec.lower (∑ k : Fin 256, T (ix2 (y 0) k) * W (ix2 k ⟨3 + (y 1).val, Spec.col_lt 3 (by decide) (y 1)⟩) + B (ix1 ⟨3 + (y 1).val, Spec.col_lt 3 (by decide) (y 1)⟩))
        (∑ k : Fin 256, T (ix2 (y 0) k) * W (ix2 k ⟨9 + (y 1).val, Spec.col_lt 9 (by decide) (y 1)⟩) + B (ix1 ⟨9 + (y 1).val, Spec.col_lt 9 (by decide) (y 1)⟩))
        (lo y) (hi y) (I (ix2 0 0)) := by
  pointwise [k0_pay27, k0_pay24, k0_pay21, k0_pay23, k0_pay19, k0_pay11, k0_pay13, k0_pay15, k0_pay17, k0_pay9]
  rfl

/-- The right edges. -/
theorem right_pay (T : FVec Ideal S144x256 .f32) (W : FVec Ideal S256x12 .f32) (B : FVec Ideal S12 .f32) (lo hi : FVec Ideal S144x3 .f32)
    (I : FVec Ideal S1x2 .f32) (y : S144x3.Idx) :
    k0_pay1 (F := Ideal) (k0_pay20 (k0_pay10 T W B) (k0_pay14 lo) (k0_pay16 hi)) (k0_pay22 (k0_pay12 T W B) (k0_pay14 lo) (k0_pay16 hi)) (k0_pay25 (View.ld (S := S1x2) I (Rect.unit (s := S1x2) ![0, 1] S1x1.size inb_S1x2_S1x1_0_1))) y =
      Spec.upper (∑ k : Fin 256, T (ix2 (y 0) k) * W (ix2 k ⟨0 + (y 1).val, Spec.col_lt 0 (by decide) (y 1)⟩) + B (ix1 ⟨0 + (y 1).val, Spec.col_lt 0 (by decide) (y 1)⟩))
        (∑ k : Fin 256, T (ix2 (y 0) k) * W (ix2 k ⟨6 + (y 1).val, Spec.col_lt 6 (by decide) (y 1)⟩) + B (ix1 ⟨6 + (y 1).val, Spec.col_lt 6 (by decide) (y 1)⟩))
        (lo y) (hi y) (I (ix2 0 1)) := by
  pointwise [k0_pay1, k0_pay25, k0_pay20, k0_pay22, k0_pay18, k0_pay10, k0_pay12, k0_pay14, k0_pay16, k0_pay9]
  rfl

/-- The bottom edges. -/
theorem bottom_pay (T : FVec Ideal S144x256 .f32) (W : FVec Ideal S256x12 .f32) (B : FVec Ideal S12 .f32) (lo hi : FVec Ideal S144x3 .f32)
    (I : FVec Ideal S1x2 .f32) (y : S144x3.Idx) :
    k0_pay2 (F := Ideal) (k0_pay21 (k0_pay11 T W B) (k0_pay15 lo) (k0_pay17 hi)) (k0_pay23 (k0_pay13 T W B) (k0_pay15 lo) (k0_pay17 hi)) (k0_pay24 (View.ld (S := S1x2) I (Rect.unit (s := S1x2) ![0, 0] S1x1.size inb_S1x2_S1x1_0_0))) y =
      Spec.upper (∑ k : Fin 256, T (ix2 (y 0) k) * W (ix2 k ⟨3 + (y 1).val, Spec.col_lt 3 (by decide) (y 1)⟩) + B (ix1 ⟨3 + (y 1).val, Spec.col_lt 3 (by decide) (y 1)⟩))
        (∑ k : Fin 256, T (ix2 (y 0) k) * W (ix2 k ⟨9 + (y 1).val, Spec.col_lt 9 (by decide) (y 1)⟩) + B (ix1 ⟨9 + (y 1).val, Spec.col_lt 9 (by decide) (y 1)⟩))
        (lo y) (hi y) (I (ix2 0 0)) := by
  pointwise [k0_pay2, k0_pay24, k0_pay21, k0_pay23, k0_pay19, k0_pay11, k0_pay13, k0_pay15, k0_pay17, k0_pay9]
  rfl

/-! ## The five result arrays -/

/-- The features of a point, on the blocks it reads. -/
theorem feats_blk (c : Dev nD) (t : Fin cfg0.N) (p : Fin 144) (a : Fin 3) (r : ℕ) (hr : r = (144 * t.val + p.val) * 3 + a.val) (k : Fin 256) :
    feats (iblk m c 0 t) (iblk m c 1 t) (iblk m c 2 t) t (ix2 p k) = Spec.feat (args m c) (r / (3 * 12)) (r / 3 % 12) k := by
  rw [feats_at (args m c) _ _ _ t (blk0 m c t) (blk1 m c t) (blk2 m c t)]
  have e1 : r / (3 * 12) = 12 * t.val + p.val / 12 := by omega
  have e2 : r / 3 % 12 = p.val % 12 := by omega
  rw [e1, e2]

/-- The first result holds the scores. -/
theorem final14 (c : Dev nD) : (dats m 0 c).arrAt 14 cfg0.N =
    (fun i => Spec.score (args m c) (Spec.row (by decide) i) : FVec Ideal S144x3 .f32) := by
  refine (dats m 0 c).arrAt_eq_of_covers 14 _ (by decide +kernel) fun t hf y => ?_
  blk_simp
  rw [after0_14]
  dsimp only [outsAt0]
  frame_out
  have hr : (Spec.row (N := 432) (P := 144) (by decide) (((View.whole main_v70_0).slice (win0_14.rect t)).emb y)).val =
      (144 * t.val + (y 0).val) * 3 + (y 1).val := by
    unfold Spec.row
    blk_simp [idx t]
    show (y 0).val * 3 + (y 1).val = (144 * 0 + (y 0).val) * 3 + (y 1).val
    omega
  generalize Spec.row (N := 432) (P := 144) _ _ = r at hr ⊢
  have ha : r.val % 3 = (y 1).val := by have h1 : (y 1).val < 3 := (y 1).isLt; omega
  refine (score_pay _ _ _ _ _ _ _ _ _ _ _ _ y).trans ?_
  exact congrArg₂ Spec.soft
    (Spec.logit_of _ _ 0 _ ⟨2 * (y 1).val, by omega⟩ (by show 2 * (y 1).val = _; omega) (feats_blk m c t (y 0) (y 1) r hr)
      (fun k => blk3 m c t k (y 1)) (blk5 m c t (y 1)))
    (Spec.logit_of _ _ 1 _ ⟨1 + 2 * (y 1).val, by omega⟩ (by show 1 + 2 * (y 1).val = _; omega) (feats_blk m c t (y 0) (y 1) r hr)
      (fun k => blk4 m c t k (y 1)) (blk6 m c t (y 1)))

/-- An edge of the anchor of a row of the point. -/
theorem anchor0 (c : Dev nD) (t : Fin cfg0.N) (y : S144x3.Idx) (r : Fin 432) (hr : r.val = (144 * t.val + (y 0).val) * 3 + (y 1).val) :
    (iblk m c 9 t : FVec Ideal S144x3 .f32) y = (args m c).an r 0 := by
  have e : y = ix2 (y 0) (y 1) := by funext i; match i with | ⟨0, _⟩ => rfl | ⟨1, _⟩ => rfl
  exact (congrArg (iblk m c 9 t : FVec Ideal S144x3 .f32) e).trans
    ((blk9 m c t (y 0) (y 1)).trans (congrArg (fun r => (args m c).an r 0) (Fin.ext hr.symm)))

/-- An edge of the anchor of a row of the point. -/
theorem anchor1 (c : Dev nD) (t : Fin cfg0.N) (y : S144x3.Idx) (r : Fin 432) (hr : r.val = (144 * t.val + (y 0).val) * 3 + (y 1).val) :
    (iblk m c 10 t : FVec Ideal S144x3 .f32) y = (args m c).an r 1 := by
  have e : y = ix2 (y 0) (y 1) := by funext i; match i with | ⟨0, _⟩ => rfl | ⟨1, _⟩ => rfl
  exact (congrArg (iblk m c 10 t : FVec Ideal S144x3 .f32) e).trans
    ((blk10 m c t (y 0) (y 1)).trans (congrArg (fun r => (args m c).an r 1) (Fin.ext hr.symm)))

/-- An edge of the anchor of a row of the point. -/
theorem anchor2 (c : Dev nD) (t : Fin cfg0.N) (y : S144x3.Idx) (r : Fin 432) (hr : r.val = (144 * t.val + (y 0).val) * 3 + (y 1).val) :
    (iblk m c 11 t : FVec Ideal S144x3 .f32) y = (args m c).an r 2 := by
  have e : y = ix2 (y 0) (y 1) := by funext i; match i with | ⟨0, _⟩ => rfl | ⟨1, _⟩ => rfl
  exact (congrArg (iblk m c 11 t : FVec Ideal S144x3 .f32) e).trans
    ((blk11 m c t (y 0) (y 1)).trans (congrArg (fun r => (args m c).an r 2) (Fin.ext hr.symm)))

/-- An edge of the anchor of a row of the point. -/
theorem anchor3 (c : Dev nD) (t : Fin cfg0.N) (y : S144x3.Idx) (r : Fin 432) (hr : r.val = (144 * t.val + (y 0).val) * 3 + (y 1).val) :
    (iblk m c 12 t : FVec Ideal S144x3 .f32) y = (args m c).an r 3 := by
  have e : y = ix2 (y 0) (y 1) := by funext i; match i with | ⟨0, _⟩ => rfl | ⟨1, _⟩ => rfl
  exact (congrArg (iblk m c 12 t : FVec Ideal S144x3 .f32) e).trans
    ((blk12 m c t (y 0) (y 1)).trans (congrArg (fun r => (args m c).an r 3) (Fin.ext hr.symm)))

/-- The second result holds the left edges of the boxes. -/
theorem final15 (c : Dev nD) : (dats m 0 c).arrAt 15 cfg0.N =
    (fun i => Spec.left (args m c) (Spec.row (by decide) i) : FVec Ideal S144x3 .f32) := by
  refine (dats m 0 c).arrAt_eq_of_covers 15 _ (by decide +kernel) fun t hf y => ?_
  blk_simp
  rw [after0_15]
  dsimp only [outsAt0]
  frame_out
  have hr : (Spec.row (N := 432) (P := 144) (by decide) (((View.whole main_v70_1).slice (win0_15.rect t)).emb y)).val =
      (144 * t.val + (y 0).val) * 3 + (y 1).val := by
    unfold Spec.row
    blk_simp [idx t]
    show (y 0).val * 3 + (y 1).val = (144 * 0 + (y 0).val) * 3 + (y 1).val
    omega
  generalize Spec.row (N := 432) (P := 144) _ _ = r at hr ⊢
  have ha : r.val % 3 = (y 1).val := by have h1 : (y 1).val < 3 := (y 1).isLt; omega
  refine (left_pay _ _ _ _ _ _ y).trans ?_
  exact Spec.lower_congr
    (Spec.delta_of _ _ 0 _ (Spec.chan ⟨0 + (y 1).val, Spec.col_lt 0 (by decide) (y 1)⟩)
      (by show (0 + (y 1).val) % 3 * 4 + (0 + (y 1).val) / 3 = _; omega)
      (feats_blk m c t (y 0) (y 1) r hr) (fun k => blk7 m c t k _) (blk8 m c t _))
    (Spec.delta_of _ _ 2 _ (Spec.chan ⟨6 + (y 1).val, Spec.col_lt 6 (by decide) (y 1)⟩)
      (by show (6 + (y 1).val) % 3 * 4 + (6 + (y 1).val) / 3 = _; omega)
      (feats_blk m c t (y 0) (y 1) r hr) (fun k => blk7 m c t k _) (blk8 m c t _))
    (anchor0 m c t y r hr) (anchor2 m c t y r hr) (blk13 m c t 1)

/-- The third result holds the top edges. -/
theorem final16 (c : Dev nD) : (dats m 0 c).arrAt 16 cfg0.N =
    (fun i => Spec.top (args m c) (Spec.row (by decide) i) : FVec Ideal S144x3 .f32) := by
  refine (dats m 0 c).arrAt_eq_of_covers 16 _ (by decide +kernel) fun t hf y => ?_
  blk_simp
  rw [after0_16]
  dsimp only [outsAt0]
  frame_out
  have hr : (Spec.row (N := 432) (P := 144) (by decide) (((View.whole main_v70_2).slice (win0_16.rect t)).emb y)).val =
      (144 * t.val + (y 0).val) * 3 + (y 1).val := by
    unfold Spec.row
    blk_simp [idx t]
    show (y 0).val * 3 + (y 1).val = (144 * 0 + (y 0).val) * 3 + (y 1).val
    omega
  generalize Spec.row (N := 432) (P := 144) _ _ = r at hr ⊢
  have ha : r.val % 3 = (y 1).val := by have h1 : (y 1).val < 3 := (y 1).isLt; omega
  refine (top_pay _ _ _ _ _ _ y).trans ?_
  exact Spec.lower_congr
    (Spec.delta_of _ _ 1 _ (Spec.chan ⟨3 + (y 1).val, Spec.col_lt 3 (by decide) (y 1)⟩)
      (by show (3 + (y 1).val) % 3 * 4 + (3 + (y 1).val) / 3 = _; omega)
      (feats_blk m c t (y 0) (y 1) r hr) (fun k => blk7 m c t k _) (blk8 m c t _))
    (Spec.delta_of _ _ 3 _ (Spec.chan ⟨9 + (y 1).val, Spec.col_lt 9 (by decide) (y 1)⟩)
      (by show (9 + (y 1).val) % 3 * 4 + (9 + (y 1).val) / 3 = _; omega)
      (feats_blk m c t (y 0) (y 1) r hr) (fun k => blk7 m c t k _) (blk8 m c t _))
    (anchor1 m c t y r hr) (anchor3 m c t y r hr) (blk13 m c t 0)

/-- The fourth result holds the right edges. -/
theorem final17 (c : Dev nD) : (dats m 0 c).arrAt 17 cfg0.N =
    (fun i => Spec.right (args m c) (Spec.row (by decide) i) : FVec Ideal S144x3 .f32) := by
  refine (dats m 0 c).arrAt_eq_of_covers 17 _ (by decide +kernel) fun t hf y => ?_
  blk_simp
  rw [after0_17]
  dsimp only [outsAt0]
  frame_out
  have hr : (Spec.row (N := 432) (P := 144) (by decide) (((View.whole main_v70_3).slice (win0_17.rect t)).emb y)).val =
      (144 * t.val + (y 0).val) * 3 + (y 1).val := by
    unfold Spec.row
    blk_simp [idx t]
    show (y 0).val * 3 + (y 1).val = (144 * 0 + (y 0).val) * 3 + (y 1).val
    omega
  generalize Spec.row (N := 432) (P := 144) _ _ = r at hr ⊢
  have ha : r.val % 3 = (y 1).val := by have h1 : (y 1).val < 3 := (y 1).isLt; omega
  refine (right_pay _ _ _ _ _ _ y).trans ?_
  exact Spec.upper_congr
    (Spec.delta_of _ _ 0 _ (Spec.chan ⟨0 + (y 1).val, Spec.col_lt 0 (by decide) (y 1)⟩)
      (by show (0 + (y 1).val) % 3 * 4 + (0 + (y 1).val) / 3 = _; omega)
      (feats_blk m c t (y 0) (y 1) r hr) (fun k => blk7 m c t k _) (blk8 m c t _))
    (Spec.delta_of _ _ 2 _ (Spec.chan ⟨6 + (y 1).val, Spec.col_lt 6 (by decide) (y 1)⟩)
      (by show (6 + (y 1).val) % 3 * 4 + (6 + (y 1).val) / 3 = _; omega)
      (feats_blk m c t (y 0) (y 1) r hr) (fun k => blk7 m c t k _) (blk8 m c t _))
    (anchor0 m c t y r hr) (anchor2 m c t y r hr) (blk13 m c t 1)

/-- The fifth result holds the bottom edges. -/
theorem final18 (c : Dev nD) : (dats m 0 c).arrAt 18 cfg0.N =
    (fun i => Spec.bottom (args m c) (Spec.row (by decide) i) : FVec Ideal S144x3 .f32) := by
  refine (dats m 0 c).arrAt_eq_of_covers 18 _ (by decide +kernel) fun t hf y => ?_
  blk_simp
  rw [after0_18]
  dsimp only [outsAt0]
  frame_out
  have hr : (Spec.row (N := 432) (P := 144) (by decide) (((View.whole main_v70_4).slice (win0_18.rect t)).emb y)).val =
      (144 * t.val + (y 0).val) * 3 + (y 1).val := by
    unfold Spec.row
    blk_simp [idx t]
    show (y 0).val * 3 + (y 1).val = (144 * 0 + (y 0).val) * 3 + (y 1).val
    omega
  generalize Spec.row (N := 432) (P := 144) _ _ = r at hr ⊢
  have ha : r.val % 3 = (y 1).val := by have h1 : (y 1).val < 3 := (y 1).isLt; omega
  refine (bottom_pay _ _ _ _ _ _ y).trans ?_
  exact Spec.upper_congr
    (Spec.delta_of _ _ 1 _ (Spec.chan ⟨3 + (y 1).val, Spec.col_lt 3 (by decide) (y 1)⟩)
      (by show (3 + (y 1).val) % 3 * 4 + (3 + (y 1).val) / 3 = _; omega)
      (feats_blk m c t (y 0) (y 1) r hr) (fun k => blk7 m c t k _) (blk8 m c t _))
    (Spec.delta_of _ _ 3 _ (Spec.chan ⟨9 + (y 1).val, Spec.col_lt 9 (by decide) (y 1)⟩)
      (by show (9 + (y 1).val) % 3 * 4 + (9 + (y 1).val) / 3 = _; omega)
      (feats_blk m c t (y 0) (y 1) r hr) (fun k => blk7 m c t k _) (blk8 m c t _))
    (anchor1 m c t y r hr) (anchor3 m c t y r hr) (blk13 m c t 0)

end Cert.Proof.Kernel1

end
-- ==== Proof.Reference1.lean ====
/- Level 1 (12 x 12): what the reference leaves in its five results, as the functions of Spec.lean of its arguments. -/
module

public import proofs.«01_k».proof.Proof.Gen.Reference1Ideal.Run
public import proofs.«01_k».proof.Proof.Spec
public import Idealize.ShloMosaic.Lib.Tactic.CleanTypes

@[expose] public section

set_option maxRecDepth 16384

noncomputable section

namespace Cert.Proof.Reference1

open Cert.Reference1Ideal Cert.Reference1Ideal.Gen Cert.Reference1Ideal.Value Idealize.ShloMosaic Idealize.ShloMosaic.TcCoe
open Idealize.SL.Sem StableHlo

/-- The arguments of the level, read off a valuation of the reference's buffers. -/
def args (V0 : Valuation τ sig (Elt Ideal)) : Spec.Args 12 432 where
  x k h v := (V0 (Proc.devRef .tc main_arg0) : FVec Ideal S1x256x12x12 .f32) (ix4 0 k h v)
  im k := (V0 (Proc.devRef .tc main_arg1) : FVec Ideal S1x6 .f32) (ix2 0 k)
  w o k i j := (V0 (Proc.devRef .tc main_arg2) : FVec Ideal S256x256x3x3 .f32) (ix4 o k i j)
  b o := (V0 (Proc.devRef .tc main_arg3) : FVec Ideal S256 .f32) (ix1 o)
  cw q k := (V0 (Proc.devRef .tc main_arg4) : FVec Ideal S6x256x1x1 .f32) (ix4 q k 0 0)
  cb q := (V0 (Proc.devRef .tc main_arg5) : FVec Ideal S6 .f32) (ix1 q)
  bw q k := (V0 (Proc.devRef .tc main_arg6) : FVec Ideal S18x256x1x1 .f32) (ix4 q k 0 0)
  bb q := (V0 (Proc.devRef .tc main_arg7) : FVec Ideal S18 .f32) (ix1 q)
  an r q := (V0 (Proc.devRef .tc main_arg8) : FVec Ideal S432x4 .f32) (ix2 r q)

variable (V0 : Valuation τ sig (Elt Ideal))

/-- The padded picture. -/
theorem pad_at (k : Fin 256) (i j : Fin 14) :
    (res_main_v1 V0 : FVec Ideal S256x14x14 .f32) (ix3 k i j) = Spec.pad (args V0).x i.val j.val k := by
  unfold res_main_v1
  clean_types
  pointwise
  rw [Spec.sitofp_zero]
  rfl

/-- The features. -/
theorem feat_at (o : Fin 256) (h v : Fin 12) :
    (res_main_v51 V0 : FVec Ideal S256x12x12 .f32) (ix3 o h v) = Spec.feat (args V0) h.val v.val o := by
  unfold res_main_v51
  clean_types
  pointwise
  simp only [pad_at]
  have T := fun (k l : Fin 3) (i j : ℕ) (hi : i = h.val + k.val) (hj : j = v.val + l.val) =>
    Spec.tap_rev (args V0) k l h.val v.val o hi hj
  have n0 := fun a : ℕ => Nat.add_comm 1 a
  have n1 := fun a : ℕ => Nat.add_comm 2 a
  unfold Spec.feat
  rw [← T 0 0 h.val v.val rfl rfl, ← T 0 1 h.val (1 + v.val) rfl (n0 _), ← T 0 2 h.val (2 + v.val) rfl (n1 _),
    ← T 1 0 (1 + h.val) v.val (n0 _) rfl, ← T 1 1 (1 + h.val) (1 + v.val) (n0 _) (n0 _), ← T 1 2 (1 + h.val) (2 + v.val) (n0 _) (n1 _),
    ← T 2 0 (2 + h.val) v.val (n1 _) rfl, ← T 2 1 (2 + h.val) (1 + v.val) (n1 _) (n0 _), ← T 2 2 (2 + h.val) (2 + v.val) (n1 _) (n1 _)]
  rfl

/-- The class scores. -/
theorem logit_at (r : Fin 432) (q : Fin 2) :
    (res_main_v66 V0 : FVec Ideal S432x2 .f32) (ix2 r q) = Spec.logit (args V0) r.val q.val q.isLt := by
  unfold res_main_v66
  clean_types
  pointwise
  simp only [feat_at]
  exact Spec.lin_rev _ _ _

/-- The box offsets. -/
theorem delta_at (r : Fin 432) (q : Fin 4) :
    (res_main_v64 V0 : FVec Ideal S432x4 .f32) (ix2 r q) = Spec.delta (args V0) r.val q.val q.isLt := by
  unfold res_main_v64
  clean_types
  pointwise
  simp only [feat_at]
  exact Spec.lin_rev _ _ _

/-- The exponentials of the class scores, their larger one taken off. -/
theorem exp_at (r : Fin 432) (q : Fin 2) :
    (res_main_v73 V0 : FVec Ideal S432x2 .f32) (ix2 r q) = Ideal.exp (Spec.logit (args V0) r.val q.val q.isLt
      - max (Spec.logit (args V0) r.val 0 (by decide)) (Spec.logit (args V0) r.val 1 (by decide))) := by
  unfold res_main_v73
  clean_types
  pointwise
  simp only [logit_at]
  rw [Spec.fold_max_two, Spec.bot_max]
  rfl

/-- The lower bound of the clipping is zero. -/
theorem zero_at : (id (constant (F := Ideal) S_ .f32 0#32) ix0 : Ideal .f32) = 0 := by
  show Ideal.ofBits FTy.f32 0#32 = 0
  simp [Ideal.ofBits, Ideal.ieee]

/-- The scores. -/
theorem result144 (y : S144x3.Idx) : (after ops V0 (Proc.devRef .tc main_v144) : FVec Ideal S144x3 .f32) y =
    Spec.score (args V0) (Spec.row (by decide) y) := by
  rw [after_ops, val3_main_v144]
  clean_types
  pointwise
  simp only [exp_at]
  rw [Fin.sum_univ_two]
  rfl

/-- The left edges. -/
theorem result145 (y : S144x3.Idx) : (after ops V0 (Proc.devRef .tc main_v145) : FVec Ideal S144x3 .f32) y =
    Spec.left (args V0) (Spec.row (by decide) y) := by
  rw [after_ops, val3_main_v145]
  unfold res_main_v123 res_main_v109 res_main_v115 res_main_v84
  clean_types
  pointwise
  simp only [delta_at]
  rw [zero_at]
  rfl

/-- The top edges. -/
theorem result146 (y : S144x3.Idx) : (after ops V0 (Proc.devRef .tc main_v146) : FVec Ideal S144x3 .f32) y =
    Spec.top (args V0) (Spec.row (by decide) y) := by
  rw [after_ops, val3_main_v146]
  unfold res_main_v121 res_main_v111 res_main_v119 res_main_v89
  clean_types
  pointwise
  simp only [delta_at]
  rw [zero_at]
  rfl

/-- The right edges. -/
theorem result147 (y : S144x3.Idx) : (after ops V0 (Proc.devRef .tc main_v147) : FVec Ideal S144x3 .f32) y =
    Spec.right (args V0) (Spec.row (by decide) y) := by
  rw [after_ops, val3_main_v147]
  unfold res_main_v123 res_main_v109 res_main_v115 res_main_v84
  clean_types
  pointwise
  simp only [delta_at]
  rw [zero_at]
  rfl

/-- The bottom edges. -/
theorem result148 (y : S144x3.Idx) : (after ops V0 (Proc.devRef .tc main_v148) : FVec Ideal S144x3 .f32) y =
    Spec.bottom (args V0) (Spec.row (by decide) y) := by
  rw [after_ops, val3_main_v148]
  unfold res_main_v121 res_main_v111 res_main_v119 res_main_v89
  clean_types
  pointwise
  simp only [delta_at]
  rw [zero_at]
  rfl

end Cert.Proof.Reference1

end
-- ==== Proof.Level1.lean ====
/- Level 1 (12 x 12): the kernel and the reference, run from the same arguments, end with the same five results. -/
module

public import proofs.«01_k».proof.Defs
public import proofs.«01_k».proof.Proof.Kernel1
public import proofs.«01_k».proof.Proof.Reference1

@[expose] public section

set_option maxRecDepth 16384

noncomputable section

namespace Cert.Proof.Level1

open Idealize.ShloMosaic Idealize.ShloMosaic.TcCoe Idealize.SL.Sem StableHlo

section KernelRun
open Cert.Kernel1Ideal Cert.Kernel1Ideal.Gen Cert.Kernel1Ideal.Value

/-- Every run of the kernel ends with the scores and the four edges of the boxes in its five results, and with its
    arguments as they were. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v70_0) = (fun i => Spec.score (Kernel1.args m c) (Spec.row (by decide) i) : FVec Ideal S144x3 .f32)
      ∧ r.2.mem ((c.tc : Thread nD τ).loc main_v70_1) = (fun i => Spec.left (Kernel1.args m c) (Spec.row (by decide) i) : FVec Ideal S144x3 .f32)
      ∧ r.2.mem ((c.tc : Thread nD τ).loc main_v70_2) = (fun i => Spec.top (Kernel1.args m c) (Spec.row (by decide) i) : FVec Ideal S144x3 .f32)
      ∧ r.2.mem ((c.tc : Thread nD τ).loc main_v70_3) = (fun i => Spec.right (Kernel1.args m c) (Spec.row (by decide) i) : FVec Ideal S144x3 .f32)
      ∧ r.2.mem ((c.tc : Thread nD τ).loc main_v70_4) = (fun i => Spec.bottom (Kernel1.args m c) (Spec.row (by decide) i) : FVec Ideal S144x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).1 14).trans (Kernel1.final14 m c), ((h c).1 15).trans (Kernel1.final15 m c),
      ((h c).1 16).trans (Kernel1.final16 m c), ((h c).1 17).trans (Kernel1.final17 m c),
      ((h c).1 18).trans (Kernel1.final18 m c), kept_main_arg0 m r h c, kept_main_arg1 m r h c, kept_main_arg2 m r h c,
      kept_main_arg3 m r h c, kept_main_arg4 m r h c, kept_main_arg5 m r h c, kept_main_arg6 m r h c,
      kept_main_arg7 m r h c, kept_main_arg8 m r h c⟩) (run_main m g)

end KernelRun

section ReferenceRun
open Cert.Reference1Ideal Cert.Reference1Ideal.Gen Cert.Reference1Ideal.Value

/-- Every run of the reference whose arguments read as `A` ends with the scores and the four edges of the boxes of `A`
    in its five results, and with its arguments as they were. -/
theorem reference_run (m : (ℓ : Loc nD τ sig) → Buf (Elt Ideal) ℓ) (g : Dev nD → PrngReg)
    (A : Dev nD → Spec.Args 12 432) (hA : ∀ c, Reference1.args (launchContents m c) = A c) :
    θ_run defs (onTc (τ := τ) (main (F := Ideal))) ⟨m, fun _ => 0, g⟩ (fun r => ∀ c : Dev nD,
      r.2.mem ((c.tc : Thread nD τ).loc main_v144) = (fun i => Spec.score (A c) (Spec.row (by decide) i) : FVec Ideal S144x3 .f32)
      ∧ r.2.mem ((c.tc : Thread nD τ).loc main_v145) = (fun i => Spec.left (A c) (Spec.row (by decide) i) : FVec Ideal S144x3 .f32)
      ∧ r.2.mem ((c.tc : Thread nD τ).loc main_v146) = (fun i => Spec.top (A c) (Spec.row (by decide) i) : FVec Ideal S144x3 .f32)
      ∧ r.2.mem ((c.tc : Thread nD τ).loc main_v147) = (fun i => Spec.right (A c) (Spec.row (by decide) i) : FVec Ideal S144x3 .f32)
      ∧ r.2.mem ((c.tc : Thread nD τ).loc main_v148) = (fun i => Spec.bottom (A c) (Spec.row (by decide) i) : FVec Ideal S144x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hk (V0 : Valuation τ sig (Elt Ideal)) (b) : after ops V0 b = val3 V0 b := congrFun (after_ops V0) b
  refine (θ_run defs _ _).mono (fun r h c => ?_)
    (run_seq scopedRefs_eq scopedSems_eq defs main (fun _ => ops) main_eq (fun _ => ops_sub) m g fun _ => ops_fresh)
  rw [← hA c]
  exact ⟨(h c main_v144).trans (funext (Reference1.result144 _)), (h c main_v145).trans (funext (Reference1.result145 _)),
    (h c main_v146).trans (funext (Reference1.result146 _)), (h c main_v147).trans (funext (Reference1.result147 _)),
    (h c main_v148).trans (funext (Reference1.result148 _)),
    (h c main_arg0).trans ((hk _ _).trans (val3_main_arg0 _)), (h c main_arg1).trans ((hk _ _).trans (val3_main_arg1 _)),
    (h c main_arg2).trans ((hk _ _).trans (val3_main_arg2 _)), (h c main_arg3).trans ((hk _ _).trans (val3_main_arg3 _)),
    (h c main_arg4).trans ((hk _ _).trans (val3_main_arg4 _)), (h c main_arg5).trans ((hk _ _).trans (val3_main_arg5 _)),
    (h c main_arg6).trans ((hk _ _).trans (val3_main_arg6 _)), (h c main_arg7).trans ((hk _ _).trans (val3_main_arg7 _)),
    (h c main_arg8).trans ((hk _ _).trans (val3_main_arg8 _))⟩

end ReferenceRun

/-- Over the extended reals the kernel and the reference of this level compute the same five results. -/
theorem algebraic : algebraic_Kernel1Ideal_Reference1Ideal (hKernel1Ideal := Cert.Kernel1Ideal.Gen.facts)
    (hReference1Ideal := Cert.Reference1Ideal.Gen.facts) := by
  intro m g m' g' _ hagree
  refine ⟨_, _, _, _, _, kernel_run m g, reference_run m' g' (fun c => Kernel1.args m c) fun c => ?_⟩
  obtain ⟨h0, h1, h2, h3, h4, h5, h6, h7, h8⟩ := hagree c
  show Spec.Args.mk _ _ _ _ _ _ _ _ _ = Spec.Args.mk _ _ _ _ _ _ _ _ _
  congr 1
  · funext k h v; exact congrFun h0 _
  · funext k; exact congrFun h1 _
  · funext o k i j; exact congrFun h2 _
  · funext o; exact congrFun h3 _
  · funext q k; exact congrFun h4 _
  · funext q; exact congrFun h5 _
  · funext q k; exact congrFun h6 _
  · funext q; exact congrFun h7 _
  · funext r q; exact congrFun h8 _

end Cert.Proof.Level1

end
-- ==== Proof.Kernel2.lean ====
/- Level 2 (24 x 24): what the kernel leaves in its five result arrays, as the functions of Spec.lean of its arguments. -/
module

public import proofs.«01_k».proof.Proof.Gen.Kernel2Ideal.Value
public import proofs.«01_k».proof.Proof.Spec
public import Idealize.ShloMosaic.Lib.Tactic.CleanTypes

@[expose] public section

set_option maxRecDepth 16384

noncomputable section

namespace Cert.Proof.Kernel2

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The arguments of the level, read off the launch memory. -/
def args (c : Dev nD) : Spec.Args 24 1728 where
  x k h v := (m ((c : Thread nD τ).loc main_arg0) : FVec Ideal S1x256x24x24 .f32) (ix4 0 k h v)
  im k := (m ((c : Thread nD τ).loc main_arg1) : FVec Ideal S1x6 .f32) (ix2 0 k)
  w o k i j := (m ((c : Thread nD τ).loc main_arg2) : FVec Ideal S256x256x3x3 .f32) (ix4 o k i j)
  b o := (m ((c : Thread nD τ).loc main_arg3) : FVec Ideal S256 .f32) (ix1 o)
  cw q k := (m ((c : Thread nD τ).loc main_arg4) : FVec Ideal S6x256x1x1 .f32) (ix4 q k 0 0)
  cb q := (m ((c : Thread nD τ).loc main_arg5) : FVec Ideal S6 .f32) (ix1 q)
  bw q k := (m ((c : Thread nD τ).loc main_arg6) : FVec Ideal S18x256x1x1 .f32) (ix4 q k 0 0)
  bb q := (m ((c : Thread nD τ).loc main_arg7) : FVec Ideal S18 .f32) (ix1 q)
  an r q := (m ((c : Thread nD τ).loc main_arg8) : FVec Ideal S1728x4 .f32) (ix2 r q)

/-! ## The operands the host prepares -/

/-- A picture laid pixels first and surrounded by a border of zeros. -/
theorem pad_at (X : FVec Ideal S1x256x24x24 .f32) (i j : Fin 26) (k : Fin 256) :
    pad S26x26x256 ![1, 1, 0] ![1, 1, 0] ![0, 0, 0]
      (transpose S24x24x256 [1, 2, 0] (shapeCast S256x24x24 X shapeCasts_S1x256x24x24_S256x24x24) transposes_S256x24x24_S24x24x256_1_2_0)
      (sitofp (F := Ideal) .f32 (constantI S_ 32 0#32)) pads_S24x24x256_S26x26x256_110_110_000 h_S_ (ix3 i j k) =
    Spec.pad (fun k h v => X (ix4 0 k h v)) i.val j.val k := by
  pointwise
  rw [Spec.sitofp_zero]
  rfl

/-- The padded picture, pixels first. -/
theorem V_pad (c : Dev nD) (i j : Fin 26) (k : Fin 256) :
    (V m c main_v59 : FVec Ideal S26x26x256 .f32) (ix3 i j k) = Spec.pad (args m c).x i.val j.val k := by
  have e : (V m c main_v59 : FVec Ideal S26x26x256 .f32) = pad S26x26x256 ![1, 1, 0] ![1, 1, 0] ![0, 0, 0]
      (transpose S24x24x256 [1, 2, 0] (shapeCast S256x24x24 (m ((c : Thread nD τ).loc main_arg0) : FVec Ideal S1x256x24x24 .f32) shapeCasts_S1x256x24x24_S256x24x24) transposes_S256x24x24_S24x24x256_1_2_0)
      (sitofp (F := Ideal) .f32 (constantI S_ 32 0#32)) pads_S24x24x256_S26x26x256_110_110_000 h_S_ := by
    unfold V
    simp only [hostOps0, hostOps0_1, hostOps0_2, List.flatten_cons, List.flatten_nil, List.cons_append, List.nil_append, List.append_nil]
    entry_read
    rfl
  rw [e]
  exact pad_at _ i j k

set_option maxHeartbeats 1600000 in
/-- The nine matrices of weights, input channels first. -/
theorem V_wk (c : Dev nD) (q : Fin 9) (k o : Fin 256) :
    (V m c main_v36 : FVec Ideal S9x256x256 .f32) (ix3 q k o) = (args m c).w o k ⟨q.val / 3, by omega⟩ ⟨q.val % 3, by omega⟩ := by
  unfold V
  simp only [hostOps0, hostOps0_1, hostOps0_2, List.flatten_cons, List.flatten_nil, List.cons_append, List.nil_append, List.append_nil]
  simp only [StableHlo.after_cons, StableHlo.after_nil]
  after_results_simp
  concat_tiles i h
  all_goals
    dsimp only [Matrix.cons_val]
    after_results_simp
    first
      | exact Spec.mat_at _ 0 0 _ _ _ _ i q k o h h1 h2
      | exact Spec.mat_at _ 0 1 _ _ _ _ i q k o h h1 h2
      | exact Spec.mat_at _ 0 2 _ _ _ _ i q k o h h1 h2
      | exact Spec.mat_at _ 1 0 _ _ _ _ i q k o h h1 h2
      | exact Spec.mat_at _ 1 1 _ _ _ _ i q k o h h1 h2
      | exact Spec.mat_at _ 1 2 _ _ _ _ i q k o h h1 h2
      | exact Spec.mat_at _ 2 0 _ _ _ _ i q k o h h1 h2
      | exact Spec.mat_at _ 2 1 _ _ _ _ i q k o h h1 h2
      | exact Spec.mat_at _ 2 2 _ _ _ _ i q k o h h1 h2

/-- The table of column numbers holds each column's channel. -/
theorem chan_word : ∀ q : Fin 12, (broadcastInDim S12x1 ![0] bcast_S12_S12x1_0
        (select (constantI S12 1 0#1)
          (addi (fun i => lit0 (S12.rowMajor i)) (broadcastInDim S12 ![] bcast_S_S12 (constantI S_ 32 12#32))) fun i =>
          lit0 (S12.rowMajor i)) (ix2 q 0)).toInt.toNat = (Spec.chan12 q).val := by decide +kernel

/-- The weights of the box offsets, columns in the kernel's order. -/
theorem V_wb (c : Dev nD) (k : Fin 256) (q : Fin 12) :
    (V m c main_v50 : FVec Ideal S256x12 .f32) (ix2 k q) = (args m c).bw (Spec.chan q) k := by
  unfold V
  simp only [hostOps0, hostOps0_1, hostOps0_2, List.flatten_cons, List.flatten_nil, List.cons_append, List.nil_append, List.append_nil]
  entry_read
  refine (Spec.gather_col _ _ _ k q (Spec.chan12 q) (chan_word q)).trans ?_
  pointwise
  rfl

/-- The biases of the box offsets, in the kernel's order. -/
theorem V_bb (c : Dev nD) (q : Fin 12) :
    (V m c main_v56 : FVec Ideal S12 .f32) (ix1 q) = (args m c).bb (Spec.chan q) := by
  unfold V
  simp only [hostOps0, hostOps0_1, hostOps0_2, List.flatten_cons, List.flatten_nil, List.cons_append, List.nil_append, List.append_nil]
  entry_read
  refine (Spec.gather_vec _ _ _ q (Spec.chan12 q) (chan_word q)).trans ?_
  pointwise
  rfl

/-- The score weights of the background class. -/
theorem V_wc0 (c : Dev nD) (k : Fin 256) (a : Fin 3) :
    (V m c main_v39 : FVec Ideal S256x3 .f32) (ix2 k a) = (args m c).cw ⟨2 * a.val, by omega⟩ k := by
  unfold V
  simp only [hostOps0, hostOps0_1, hostOps0_2, List.flatten_cons, List.flatten_nil, List.cons_append, List.nil_append, List.append_nil]
  entry_read
  clean_types
  pointwise
  rfl

/-- The score weights of the foreground class. -/
theorem V_wc1 (c : Dev nD) (k : Fin 256) (a : Fin 3) :
    (V m c main_v40 : FVec Ideal S256x3 .f32) (ix2 k a) = (args m c).cw ⟨1 + 2 * a.val, by omega⟩ k := by
  unfold V
  simp only [hostOps0, hostOps0_1, hostOps0_2, List.flatten_cons, List.flatten_nil, List.cons_append, List.nil_append, List.append_nil]
  entry_read
  clean_types
  pointwise
  rfl

/-- The score biases of the background class. -/
theorem V_bc0 (c : Dev nD) (a : Fin 3) :
    (V m c main_v41 : FVec Ideal S3 .f32) (ix1 a) = (args m c).cb ⟨2 * a.val, by omega⟩ := by
  unfold V
  simp only [hostOps0, hostOps0_1, hostOps0_2, List.flatten_cons, List.flatten_nil, List.cons_append, List.nil_append, List.append_nil]
  entry_read
  clean_types
  pointwise
  rfl

/-- The score biases of the foreground class. -/
theorem V_bc1 (c : Dev nD) (a : Fin 3) :
    (V m c main_v42 : FVec Ideal S3 .f32) (ix1 a) = (args m c).cb ⟨1 + 2 * a.val, by omega⟩ := by
  unfold V
  simp only [hostOps0, hostOps0_1, hostOps0_2, List.flatten_cons, List.flatten_nil, List.cons_append, List.nil_append, List.append_nil]
  entry_read
  clean_types
  pointwise
  rfl

/-- The left edges of the anchors, one row per pixel. -/
theorem V_an0 (c : Dev nD) (p : Fin 576) (a : Fin 3) :
    (V m c main_v62 : FVec Ideal S576x3 .f32) (ix2 p a) = (args m c).an ⟨p.val * 3 + a.val, by omega⟩ 0 := by
  unfold V
  simp only [hostOps0, hostOps0_1, hostOps0_2, List.flatten_cons, List.flatten_nil, List.cons_append, List.nil_append, List.append_nil]
  entry_read
  clean_types
  pointwise
  rfl

/-- The top edges of the anchors, one row per pixel. -/
theorem V_an1 (c : Dev nD) (p : Fin 576) (a : Fin 3) :
    (V m c main_v64 : FVec Ideal S576x3 .f32) (ix2 p a) = (args m c).an ⟨p.val * 3 + a.val, by omega⟩ 1 := by
  unfold V
  simp only [hostOps0, hostOps0_1, hostOps0_2, List.flatten_cons, List.flatten_nil, List.cons_append, List.nil_append, List.append_nil]
  entry_read
  clean_types
  pointwise
  rfl

/-- The right edges of the anchors, one row per pixel. -/
theorem V_an2 (c : Dev nD) (p : Fin 576) (a : Fin 3) :
    (V m c main_v66 : FVec Ideal S576x3 .f32) (ix2 p a) = (args m c).an ⟨p.val * 3 + a.val, by omega⟩ 2 := by
  unfold V
  simp only [hostOps0, hostOps0_1, hostOps0_2, List.flatten_cons, List.flatten_nil, List.cons_append, List.nil_append, List.append_nil]
  entry_read
  clean_types
  pointwise
  rfl

/-- The bottom edges of the anchors, one row per pixel. -/
theorem V_an3 (c : Dev nD) (p : Fin 576) (a : Fin 3) :
    (V m c main_v68 : FVec Ideal S576x3 .f32) (ix2 p a) = (args m c).an ⟨p.val * 3 + a.val, by omega⟩ 3 := by
  unfold V
  simp only [hostOps0, hostOps0_1, hostOps0_2, List.flatten_cons, List.flatten_nil, List.cons_append, List.nil_append, List.append_nil]
  entry_read
  clean_types
  pointwise
  rfl

/-- The height and width of the picture. -/
theorem V_hw (c : Dev nD) (q : Fin 2) :
    (V m c main_v69 : FVec Ideal S1x2 .f32) (ix2 0 q) = (args m c).im ⟨q.val, by omega⟩ := by
  unfold V
  simp only [hostOps0, hostOps0_1, hostOps0_2, List.flatten_cons, List.flatten_nil, List.cons_append, List.nil_append, List.append_nil]
  entry_read
  clean_types
  pointwise
  rfl

/-! ## The blocks of a grid point -/

/-- Where the blocks of the point `t` lie: the anchors and the results move with it, everything else is whole. -/
theorem idx : ∀ t : Fin cfg0.N, win0_0.index t = ![0, 0, 0] ∧ win0_1.index t = ![0, 0, 0] ∧ win0_2.index t = ![0]
    ∧ win0_3.index t = ![0, 0] ∧ win0_4.index t = ![0, 0] ∧ win0_5.index t = ![0] ∧ win0_6.index t = ![0]
    ∧ win0_7.index t = ![0, 0] ∧ win0_8.index t = ![0] ∧ win0_9.index t = ![t.val, 0] ∧ win0_10.index t = ![t.val, 0]
    ∧ win0_11.index t = ![t.val, 0] ∧ win0_12.index t = ![t.val, 0] ∧ win0_13.index t = ![0, 0]
    ∧ win0_14.index t = ![t.val, 0] ∧ win0_15.index t = ![t.val, 0] ∧ win0_16.index t = ![t.val, 0]
    ∧ win0_17.index t = ![t.val, 0] ∧ win0_18.index t = ![t.val, 0] := by decide +kernel

/-- The grid is one axis. -/
theorem coords0 : ∀ t : Fin cfg0.N, (grid0.coords t 0).val = t.val := by decide +kernel

/-- The number of grid points. -/
theorem point_lt (t : Fin cfg0.N) : t.val < 2 := t.isLt

/-- The padded picture in a point. -/
theorem blk0 (c : Dev nD) (t : Fin cfg0.N) (i j : Fin 26) (k : Fin 256) :
    (iblk m c 0 t : FVec Ideal S26x26x256 .f32) (ix3 i j k) = Spec.pad (args m c).x i.val j.val k := by
  refine Eq.trans ?_ (V_pad m c i j k)
  blk_ext [iblk, idx t]

/-- The weights in a point. -/
theorem blk1 (c : Dev nD) (t : Fin cfg0.N) (q : Fin 9) (k o : Fin 256) :
    (iblk m c 1 t : FVec Ideal S9x256x256 .f32) (ix3 q k o) = (args m c).w o k ⟨q.val / 3, by omega⟩ ⟨q.val % 3, by omega⟩ := by
  refine Eq.trans ?_ (V_wk m c q k o)
  blk_ext [iblk, idx t]

/-- The biases in a point. -/
theorem blk2 (c : Dev nD) (t : Fin cfg0.N) (o : Fin 256) :
    (iblk m c 2 t : FVec Ideal S256 .f32) (ix1 o) = (args m c).b o := by
  refine Eq.trans ?_ ((V_main_arg3 m c ▸ rfl : (V m c main_arg3 : FVec Ideal S256 .f32) (ix1 o) = (args m c).b o))
  blk_ext [iblk, idx t]

/-- Score weights in a point. -/
theorem blk3 (c : Dev nD) (t : Fin cfg0.N) (k : Fin 256) (a : Fin 3) :
    (iblk m c 3 t : FVec Ideal S256x3 .f32) (ix2 k a) = (args m c).cw ⟨2 * a.val, by omega⟩ k := by
  refine Eq.trans ?_ (V_wc0 m c k a)
  blk_ext [iblk, idx t]

/-- Score weights in a point. -/
theorem blk4 (c : Dev nD) (t : Fin cfg0.N) (k : Fin 256) (a : Fin 3) :
    (iblk m c 4 t : FVec Ideal S256x3 .f32) (ix2 k a) = (args m c).cw ⟨1 + 2 * a.val, by omega⟩ k := by
  refine Eq.trans ?_ (V_wc1 m c k a)
  blk_ext [iblk, idx t]

/-- Score biases in a point. -/
theorem blk5 (c : Dev nD) (t : Fin cfg0.N) (a : Fin 3) :
    (iblk m c 5 t : FVec Ideal S3 .f32) (ix1 a) = (args m c).cb ⟨2 * a.val, by omega⟩ := by
  refine Eq.trans ?_ (V_bc0 m c a)
  blk_ext [iblk, idx t]

/-- Score biases in a point. -/
theorem blk6 (c : Dev nD) (t : Fin cfg0.N) (a : Fin 3) :
    (iblk m c 6 t : FVec Ideal S3 .f32) (ix1 a) = (args m c).cb ⟨1 + 2 * a.val, by omega⟩ := by
  refine Eq.trans ?_ (V_bc1 m c a)
  blk_ext [iblk, idx t]

/-- The weights of the box offsets in a point. -/
theorem blk7 (c : Dev nD) (t : Fin cfg0.N) (k : Fin 256) (q : Fin 12) :
    (iblk m c 7 t : FVec Ideal S256x12 .f32) (ix2 k q) = (args m c).bw (Spec.chan q) k := by
  refine Eq.trans ?_ (V_wb m c k q)
  blk_ext [iblk, idx t]

/-- The biases of the box offsets in a point. -/
theorem blk8 (c : Dev nD) (t : Fin cfg0.N) (q : Fin 12) :
    (iblk m c 8 t : FVec Ideal S12 .f32) (ix1 q) = (args m c).bb (Spec.chan q) := by
  refine Eq.trans ?_ (V_bb m c q)
  blk_ext [iblk, idx t]

/-- Anchor edges in a point. -/
theorem blk9 (c : Dev nD) (t : Fin cfg0.N) (p : Fin 288) (a : Fin 3) :
    (iblk m c 9 t : FVec Ideal S288x3 .f32) (ix2 p a) = (args m c).an ⟨(288 * t.val + p.val) * 3 + a.val, by have := point_lt t; omega⟩ 0 := by
  have ht := point_lt t
  refine Eq.trans ?_ (V_an0 m c ⟨288 * t.val + p.val, by omega⟩ a)
  blk_ext [iblk, idx t]

/-- Anchor edges in a point. -/
theorem blk10 (c : Dev nD) (t : Fin cfg0.N) (p : Fin 288) (a : Fin 3) :
    (iblk m c 10 t : FVec Ideal S288x3 .f32) (ix2 p a) = (args m c).an ⟨(288 * t.val + p.val) * 3 + a.val, by have := point_lt t; omega⟩ 1 := by
  have ht := point_lt t
  refine Eq.trans ?_ (V_an1 m c ⟨288 * t.val + p.val, by omega⟩ a)
  blk_ext [iblk, idx t]

/-- Anchor edges in a point. -/
theorem blk11 (c : Dev nD) (t : Fin cfg0.N) (p : Fin 288) (a : Fin 3) :
    (iblk m c 11 t : FVec Ideal S288x3 .f32) (ix2 p a) = (args m c).an ⟨(288 * t.val + p.val) * 3 + a.val, by have := point_lt t; omega⟩ 2 := by
  have ht := point_lt t
  refine Eq.trans ?_ (V_an2 m c ⟨288 * t.val + p.val, by omega⟩ a)
  blk_ext [iblk, idx t]

/-- Anchor edges in a point. -/
theorem blk12 (c : Dev nD) (t : Fin cfg0.N) (p : Fin 288) (a : Fin 3) :
    (iblk m c 12 t : FVec Ideal S288x3 .f32) (ix2 p a) = (args m c).an ⟨(288 * t.val + p.val) * 3 + a.val, by have := point_lt t; omega⟩ 3 := by
  have ht := point_lt t
  refine Eq.trans ?_ (V_an3 m c ⟨288 * t.val + p.val, by omega⟩ a)
  blk_ext [iblk, idx t]

/-- The extent of the picture in a point. -/
theorem blk13 (c : Dev nD) (t : Fin cfg0.N) (q : Fin 2) :
    (iblk m c 13 t : FVec Ideal S1x2 .f32) (ix2 0 q) = (args m c).im ⟨q.val, by omega⟩ := by
  refine Eq.trans ?_ (V_hw m c q)
  blk_ext [iblk, idx t]

/-! ## The features -/

/-- The features of grid point `t`, over the padded picture `X`, the nine matrices `W` and the biases `B`: what the body
    computes from its loads. -/
def feats (X : FVec Ideal S26x26x256 .f32) (W : FVec Ideal S9x256x256 .f32) (B : FVec Ideal S256 .f32) (t : Fin cfg0.N) :
    FVec Ideal S288x256 .f32 :=
  k0_pay6
    (k0_pay4
      (k0_pay3 (View.ld (S := S26x26x256) X (Rect.unit (s := S26x26x256) (k0_off1 (grid0.coords t) 0#32) S12x24x256.size (k0_off1_inb _ 0)))
        (View.ld (S := S9x256x256) W (Rect.unit (s := S9x256x256) ![0, 0, 0] S1x256x256.size inb_S9x256x256_S1x256x256_0_0_0))
        (View.ld (S := S26x26x256) X (Rect.unit (s := S26x26x256) (k0_off2 (grid0.coords t) 0#32) S12x24x256.size (k0_off2_inb _ 0)))
        (View.ld (S := S9x256x256) W (Rect.unit (s := S9x256x256) ![1, 0, 0] S1x256x256.size inb_S9x256x256_S1x256x256_1_0_0))
        (View.ld (S := S26x26x256) X (Rect.unit (s := S26x26x256) (k0_off3 (grid0.coords t) 0#32) S12x24x256.size (k0_off3_inb _ 0)))
        (View.ld (S := S9x256x256) W (Rect.unit (s := S9x256x256) ![2, 0, 0] S1x256x256.size inb_S9x256x256_S1x256x256_2_0_0)))
      (View.ld (S := S26x26x256) X (Rect.unit (s := S26x26x256) (k0_off1 (grid0.coords t) 1#32) S12x24x256.size (k0_off1_inb _ 1)))
      (View.ld (S := S9x256x256) W (Rect.unit (s := S9x256x256) ![3, 0, 0] S1x256x256.size inb_S9x256x256_S1x256x256_3_0_0))
      (View.ld (S := S26x26x256) X (Rect.unit (s := S26x26x256) (k0_off2 (grid0.coords t) 1#32) S12x24x256.size (k0_off2_inb _ 1)))
      (View.ld (S := S9x256x256) W (Rect.unit (s := S9x256x256) ![4, 0, 0] S1x256x256.size inb_S9x256x256_S1x256x256_4_0_0))
      (View.ld (S := S26x26x256) X (Rect.unit (s := S26x26x256) (k0_off3 (grid0.coords t) 1#32) S12x24x256.size (k0_off3_inb _ 1)))
      (View.ld (S := S9x256x256) W (Rect.unit (s := S9x256x256) ![5, 0, 0] S1x256x256.size inb_S9x256x256_S1x256x256_5_0_0)))
    (k0_pay5 (View.ld (S := S26x26x256) X (Rect.unit (s := S26x26x256) (k0_off1 (grid0.coords t) 2#32) S12x24x256.size (k0_off1_inb _ 2))))
    (View.ld (S := S9x256x256) W (Rect.unit (s := S9x256x256) ![6, 0, 0] S1x256x256.size inb_S9x256x256_S1x256x256_6_0_0))
    (View.ld (S := S26x26x256) X (Rect.unit (s := S26x26x256) (k0_off2 (grid0.coords t) 2#32) S12x24x256.size (k0_off2_inb _ 2)))
    (View.ld (S := S9x256x256) W (Rect.unit (s := S9x256x256) ![7, 0, 0] S1x256x256.size inb_S9x256x256_S1x256x256_7_0_0))
    (View.ld (S := S26x26x256) X (Rect.unit (s := S26x26x256) (k0_off3 (grid0.coords t) 2#32) S12x24x256.size (k0_off3_inb _ 2)))
    (View.ld (S := S9x256x256) W (Rect.unit (s := S9x256x256) ![8, 0, 0] S1x256x256.size inb_S9x256x256_S1x256x256_8_0_0)) B

/-- They are the rectified convolution at the pixels of the point's rows. -/
theorem feats_at (A : Spec.Args 24 1728) (X : FVec Ideal S26x26x256 .f32) (W : FVec Ideal S9x256x256 .f32) (B : FVec Ideal S256 .f32)
    (t : Fin cfg0.N) (hX : ∀ i j k, X (ix3 i j k) = Spec.pad A.x i.val j.val k)
    (hW : ∀ q k o, W (ix3 q k o) = A.w o k ⟨q.val / 3, by omega⟩ ⟨q.val % 3, by omega⟩)
    (hB : ∀ o, B (ix1 o) = A.b o) (p : Fin 288) (o : Fin 256) :
    feats X W B t (ix2 p o) = Spec.feat A (12 * t.val + p.val / 24) (p.val % 24) o := by
  have c0 := coords0 t
  pointwise [feats, k0_pay6, k0_pay5, k0_pay4, k0_pay3]
  simp only [hX, hW, hB]
  have o1 : ∀ r : Fin 3, k0_off1 (grid0.coords t) (BitVec.ofNat 32 r.val) = ![12 * t.val + r.val, 0, 0] := fun r => by rw [k0_off1_eq, c0]
  have o2 : ∀ r : Fin 3, k0_off2 (grid0.coords t) (BitVec.ofNat 32 r.val) = ![12 * t.val + r.val, 1, 0] := fun r => by rw [k0_off2_eq, c0]
  have o3 : ∀ r : Fin 3, k0_off3 (grid0.coords t) (BitVec.ofNat 32 r.val) = ![12 * t.val + r.val, 2, 0] := fun r => by rw [k0_off3_eq, c0]
  have tap1 := fun k : Fin 3 => Spec.tap_eq A k 0 (12 * t.val + p.val / 24) (p.val % 24) o (a := k) (b := 0)
    (i := k0_off1 (grid0.coords t) (BitVec.ofNat 32 k.val) 0 + p.val / 24) (j := k0_off1 (grid0.coords t) (BitVec.ofNat 32 k.val) 1 + p.val % 24)
    (z := k0_off1 (grid0.coords t) (BitVec.ofNat 32 k.val) 2) (by intro x; rw [o1]; show 0 + x.val < 256; omega)
    (by rw [o1]; show 12 * t.val + k.val + p.val / 24 = _; omega) (by rw [o1]; exact Nat.add_comm 0 _) (by rw [o1]; rfl) rfl rfl
  have tap2 := fun k : Fin 3 => Spec.tap_eq A k 1 (12 * t.val + p.val / 24) (p.val % 24) o (a := k) (b := 1)
    (i := k0_off2 (grid0.coords t) (BitVec.ofNat 32 k.val) 0 + p.val / 24) (j := k0_off2 (grid0.coords t) (BitVec.ofNat 32 k.val) 1 + p.val % 24)
    (z := k0_off2 (grid0.coords t) (BitVec.ofNat 32 k.val) 2) (by intro x; rw [o2]; show 0 + x.val < 256; omega)
    (by rw [o2]; show 12 * t.val + k.val + p.val / 24 = _; omega) (by rw [o2]; exact Nat.add_comm 1 _) (by rw [o2]; rfl) rfl rfl
  have tap3 := fun k : Fin 3 => Spec.tap_eq A k 2 (12 * t.val + p.val / 24) (p.val % 24) o (a := k) (b := 2)
    (i := k0_off3 (grid0.coords t) (BitVec.ofNat 32 k.val) 0 + p.val / 24) (j := k0_off3 (grid0.coords t) (BitVec.ofNat 32 k.val) 1 + p.val % 24)
    (z := k0_off3 (grid0.coords t) (BitVec.ofNat 32 k.val) 2) (by intro x; rw [o3]; show 0 + x.val < 256; omega)
    (by rw [o3]; show 12 * t.val + k.val + p.val / 24 = _; omega) (by rw [o3]; exact Nat.add_comm 2 _) (by rw [o3]; rfl) rfl rfl
  unfold Spec.feat
  rw [← tap1 0, ← tap2 0, ← tap3 0, ← tap1 1, ← tap2 1, ← tap3 1, ← tap1 2, ← tap2 2, ← tap3 2]
  rfl

/-! ## What the body stores, over its operands -/

/-- The scores: the probability of the second class, from the two products of the features. -/
theorem score_pay (a b c d e f g h) (w0 : FVec Ideal S256x3 .f32) (b0 : FVec Ideal S3 .f32) (w1 : FVec Ideal S256x3 .f32)
    (b1 : FVec Ideal S3 .f32) (y : S288x3.Idx) :
    k0_pay8 (F := Ideal) (k0_pay6 a b c d e f g h) (k0_pay7 a b c d e f g h w0) b0 w1 b1 y =
      Spec.soft (∑ k : Fin 256, k0_pay6 a b c d e f g h (ix2 (y 0) k) * w0 (ix2 k (y 1)) + b0 (ix1 (y 1)))
        (∑ k : Fin 256, k0_pay6 a b c d e f g h (ix2 (y 0) k) * w1 (ix2 k (y 1)) + b1 (ix1 (y 1))) := by
  pointwise [k0_pay8, k0_pay7]
  rfl

/-- The left edges. -/
theorem left_pay (T : FVec Ideal S288x256 .f32) (W : FVec Ideal S256x12 .f32) (B : FVec Ideal S12 .f32) (lo hi : FVec Ideal S288x3 .f32)
    (I : FVec Ideal S1x2 .f32) (y : S288x3.Idx) :
    k0_pay26 (F := Ideal) (k0_pay10 T W B) (k0_pay12 T W B) (k0_pay14 lo) (k0_pay16 hi) (View.ld (S := S1x2) I (Rect.unit (s := S1x2) ![0, 1] S1x1.size inb_S1x2_S1x1_0_1)) y =
      Spec.lower (∑ k : Fin 256, T (ix2 (y 0) k) * W (ix2 k ⟨0 + (y 1).val, Spec.col_lt 0 (by decide) (y 1)⟩) + B (ix1 ⟨0 + (y 1).val, Spec.col_lt 0 (by decide) (y 1)⟩))
        (∑ k : Fin 256, T (ix2 (y 0) k) * W (ix2 k ⟨6 + (y 1).val, Spec.col_lt 6 (by decide) (y 1)⟩) + B (ix1 ⟨6 + (y 1).val, Spec.col_lt 6 (by decide) (y 1)⟩))
        (lo y) (hi y) (I (ix2 0 1)) := by
  pointwise [k0_pay26, k0_pay25, k0_pay20, k0_pay22, k0_pay18, k0_pay10, k0_pay12, k0_pay14, k0_pay16, k0_pay9]
  rfl

/-- The top edges. -/
theorem top_pay (T : FVec Ideal S288x256 .f32) (W : FVec Ideal S256x12 .f32) (B : FVec Ideal S12 .f32) (lo hi : FVec Ideal S288x3 .f32)
    (I : FVec Ideal S1x2 .f32) (y : S288x3.Idx) :
    k0_pay27 (F := Ideal) (k0_pay11 T W B) (k0_pay13 T W B) (k0_pay15 lo) (k0_pay17 hi) (View.ld (S := S1x2) I (Rect.unit (s := S1x2) ![0, 0] S1x1.size inb_S1x2_S1x1_0_0)) y =
      Spec.lower (∑ k : Fin 256, T (ix2 (y 0) k) * W (ix2 k ⟨3 + (y 1).val, Spec.col_lt 3 (by decide) (y 1)⟩) + B (ix1 ⟨3 + (y 1).val, Spec.col_lt 3 (by decide) (y 1)⟩))
        (∑ k : Fin 256, T (ix2 (y 0) k) * W (ix2 k ⟨9 + (y 1).val, Spec.col_lt 9 (by decide) (y 1)⟩) + B (ix1 ⟨9 + (y 1).val, Spec.col_lt 9 (by decide) (y 1)⟩))
        (lo y) (hi y) (I (ix2 0 0)) := by
  pointwise [k0_pay27, k0_pay24, k0_pay21, k0_pay23, k0_pay19, k0_pay11, k0_pay13, k0_pay15, k0_pay17, k0_pay9]
  rfl

/-- The right edges. -/
theorem right_pay (T : FVec Ideal S288x256 .f32) (W : FVec Ideal S256x12 .f32) (B : FVec Ideal S12 .f32) (lo hi : FVec Ideal S288x3 .f32)
    (I : FVec Ideal S1x2 .f32) (y : S288x3.Idx) :
    k0_pay1 (F := Ideal) (k0_pay20 (k0_pay10 T W B) (k0_pay14 lo) (k0_pay16 hi)) (k0_pay22 (k0_pay12 T W B) (k0_pay14 lo) (k0_pay16 hi)) (k0_pay25 (View.ld (S := S1x2) I (Rect.unit (s := S1x2) ![0, 1] S1x1.size inb_S1x2_S1x1_0_1))) y =
      Spec.upper (∑ k : Fin 256, T (ix2 (y 0) k) * W (ix2 k ⟨0 + (y 1).val, Spec.col_lt 0 (by decide) (y 1)⟩) + B (ix1 ⟨0 + (y 1).val, Spec.col_lt 0 (by decide) (y 1)⟩))
        (∑ k : Fin 256, T (ix2 (y 0) k) * W (ix2 k ⟨6 + (y 1).val, Spec.col_lt 6 (by decide) (y 1)⟩) + B (ix1 ⟨6 + (y 1).val, Spec.col_lt 6 (by decide) (y 1)⟩))
        (lo y) (hi y) (I (ix2 0 1)) := by
  pointwise [k0_pay1, k0_pay25, k0_pay20, k0_pay22, k0_pay18, k0_pay10, k0_pay12, k0_pay14, k0_pay16, k0_pay9]
  rfl

/-- The bottom edges. -/
theorem bottom_pay (T : FVec Ideal S288x256 .f32) (W : FVec Ideal S256x12 .f32) (B : FVec Ideal S12 .f32) (lo hi : FVec Ideal S288x3 .f32)
    (I : FVec Ideal S1x2 .f32) (y : S288x3.Idx) :
    k0_pay2 (F := Ideal) (k0_pay21 (k0_pay11 T W B) (k0_pay15 lo) (k0_pay17 hi)) (k0_pay23 (k0_pay13 T W B) (k0_pay15 lo) (k0_pay17 hi)) (k0_pay24 (View.ld (S := S1x2) I (Rect.unit (s := S1x2) ![0, 0] S1x1.size inb_S1x2_S1x1_0_0))) y =
      Spec.upper (∑ k : Fin 256, T (ix2 (y 0) k) * W (ix2 k ⟨3 + (y 1).val, Spec.col_lt 3 (by decide) (y 1)⟩) + B (ix1 ⟨3 + (y 1).val, Spec.col_lt 3 (by decide) (y 1)⟩))
        (∑ k : Fin 256, T (ix2 (y 0) k) * W (ix2 k ⟨9 + (y 1).val, Spec.col_lt 9 (by decide) (y 1)⟩) + B (ix1 ⟨9 + (y 1).val, Spec.col_lt 9 (by decide) (y 1)⟩))
        (lo y) (hi y) (I (ix2 0 0)) := by
  pointwise [k0_pay2, k0_pay24, k0_pay21, k0_pay23, k0_pay19, k0_pay11, k0_pay13, k0_pay15, k0_pay17, k0_pay9]
  rfl

/-! ## The five result arrays -/

/-- The features of a point, on the blocks it reads. -/
theorem feats_blk (c : Dev nD) (t : Fin cfg0.N) (p : Fin 288) (a : Fin 3) (r : ℕ) (hr : r = (288 * t.val + p.val) * 3 + a.val) (k : Fin 256) :
    feats (iblk m c 0 t) (iblk m c 1 t) (iblk m c 2 t) t (ix2 p k) = Spec.feat (args m c) (r / (3 * 24)) (r / 3 % 24) k := by
  rw [feats_at (args m c) _ _ _ t (blk0 m c t) (blk1 m c t) (blk2 m c t)]
  have e1 : r / (3 * 24) = 12 * t.val + p.val / 24 := by omega
  have e2 : r / 3 % 24 = p.val % 24 := by omega
  rw [e1, e2]

/-- The first result holds the scores. -/
theorem final14 (c : Dev nD) : (dats m 0 c).arrAt 14 cfg0.N =
    (fun i => Spec.score (args m c) (Spec.row (by decide) i) : FVec Ideal S576x3 .f32) := by
  refine (dats m 0 c).arrAt_eq_of_covers 14 _ (by decide +kernel) fun t hf y => ?_
  blk_simp
  rw [after0_14]
  dsimp only [outsAt0]
  frame_out
  have hr : (Spec.row (N := 1728) (P := 576) (by decide) (((View.whole main_v70_0).slice (win0_14.rect t)).emb y)).val =
      (288 * t.val + (y 0).val) * 3 + (y 1).val := by
    unfold Spec.row
    blk_simp [idx t]
    show (t.val * 288 + (y 0).val) * 3 + (y 1).val = (288 * t.val + (y 0).val) * 3 + (y 1).val
    omega
  generalize Spec.row (N := 1728) (P := 576) _ _ = r at hr ⊢
  have ha : r.val % 3 = (y 1).val := by have h1 : (y 1).val < 3 := (y 1).isLt; omega
  refine (score_pay _ _ _ _ _ _ _ _ _ _ _ _ y).trans ?_
  exact congrArg₂ Spec.soft
    (Spec.logit_of _ _ 0 _ ⟨2 * (y 1).val, by omega⟩ (by show 2 * (y 1).val = _; omega) (feats_blk m c t (y 0) (y 1) r hr)
      (fun k => blk3 m c t k (y 1)) (blk5 m c t (y 1)))
    (Spec.logit_of _ _ 1 _ ⟨1 + 2 * (y 1).val, by omega⟩ (by show 1 + 2 * (y 1).val = _; omega) (feats_blk m c t (y 0) (y 1) r hr)
      (fun k => blk4 m c t k (y 1)) (blk6 m c t (y 1)))

/-- An edge of the anchor of a row of the point. -/
theorem anchor0 (c : Dev nD) (t : Fin cfg0.N) (y : S288x3.Idx) (r : Fin 1728) (hr : r.val = (288 * t.val + (y 0).val) * 3 + (y 1).val) :
    (iblk m c 9 t : FVec Ideal S288x3 .f32) y = (args m c).an r 0 := by
  have e : y = ix2 (y 0) (y 1) := by funext i; match i with | ⟨0, _⟩ => rfl | ⟨1, _⟩ => rfl
  exact (congrArg (iblk m c 9 t : FVec Ideal S288x3 .f32) e).trans
    ((blk9 m c t (y 0) (y 1)).trans (congrArg (fun r => (args m c).an r 0) (Fin.ext hr.symm)))

/-- An edge of the anchor of a row of the point. -/
theorem anchor1 (c : Dev nD) (t : Fin cfg0.N) (y : S288x3.Idx) (r : Fin 1728) (hr : r.val = (288 * t.val + (y 0).val) * 3 + (y 1).val) :
    (iblk m c 10 t : FVec Ideal S288x3 .f32) y = (args m c).an r 1 := by
  have e : y = ix2 (y 0) (y 1) := by funext i; match i with | ⟨0, _⟩ => rfl | ⟨1, _⟩ => rfl
  exact (congrArg (iblk m c 10 t : FVec Ideal S288x3 .f32) e).trans
    ((blk10 m c t (y 0) (y 1)).trans (congrArg (fun r => (args m c).an r 1) (Fin.ext hr.symm)))

/-- An edge of the anchor of a row of the point. -/
theorem anchor2 (c : Dev nD) (t : Fin cfg0.N) (y : S288x3.Idx) (r : Fin 1728) (hr : r.val = (288 * t.val + (y 0).val) * 3 + (y 1).val) :
    (iblk m c 11 t : FVec Ideal S288x3 .f32) y = (args m c).an r 2 := by
  have e : y = ix2 (y 0) (y 1) := by funext i; match i with | ⟨0, _⟩ => rfl | ⟨1, _⟩ => rfl
  exact (congrArg (iblk m c 11 t : FVec Ideal S288x3 .f32) e).trans
    ((blk11 m c t (y 0) (y 1)).trans (congrArg (fun r => (args m c).an r 2) (Fin.ext hr.symm)))

/-- An edge of the anchor of a row of the point. -/
theorem anchor3 (c : Dev nD) (t : Fin cfg0.N) (y : S288x3.Idx) (r : Fin 1728) (hr : r.val = (288 * t.val + (y 0).val) * 3 + (y 1).val) :
    (iblk m c 12 t : FVec Ideal S288x3 .f32) y = (args m c).an r 3 := by
  have e : y = ix2 (y 0) (y 1) := by funext i; match i with | ⟨0, _⟩ => rfl | ⟨1, _⟩ => rfl
  exact (congrArg (iblk m c 12 t : FVec Ideal S288x3 .f32) e).trans
    ((blk12 m c t (y 0) (y 1)).trans (congrArg (fun r => (args m c).an r 3) (Fin.ext hr.symm)))

/-- The second result holds the left edges of the boxes. -/
theorem final15 (c : Dev nD) : (dats m 0 c).arrAt 15 cfg0.N =
    (fun i => Spec.left (args m c) (Spec.row (by decide) i) : FVec Ideal S576x3 .f32) := by
  refine (dats m 0 c).arrAt_eq_of_covers 15 _ (by decide +kernel) fun t hf y => ?_
  blk_simp
  rw [after0_15]
  dsimp only [outsAt0]
  frame_out
  have hr : (Spec.row (N := 1728) (P := 576) (by decide) (((View.whole main_v70_1).slice (win0_15.rect t)).emb y)).val =
      (288 * t.val + (y 0).val) * 3 + (y 1).val := by
    unfold Spec.row
    blk_simp [idx t]
    show (t.val * 288 + (y 0).val) * 3 + (y 1).val = (288 * t.val + (y 0).val) * 3 + (y 1).val
    omega
  generalize Spec.row (N := 1728) (P := 576) _ _ = r at hr ⊢
  have ha : r.val % 3 = (y 1).val := by have h1 : (y 1).val < 3 := (y 1).isLt; omega
  refine (left_pay _ _ _ _ _ _ y).trans ?_
  exact Spec.lower_congr
    (Spec.delta_of _ _ 0 _ (Spec.chan ⟨0 + (y 1).val, Spec.col_lt 0 (by decide) (y 1)⟩)
      (by show (0 + (y 1).val) % 3 * 4 + (0 + (y 1).val) / 3 = _; omega)
      (feats_blk m c t (y 0) (y 1) r hr) (fun k => blk7 m c t k _) (blk8 m c t _))
    (Spec.delta_of _ _ 2 _ (Spec.chan ⟨6 + (y 1).val, Spec.col_lt 6 (by decide) (y 1)⟩)
      (by show (6 + (y 1).val) % 3 * 4 + (6 + (y 1).val) / 3 = _; omega)
      (feats_blk m c t (y 0) (y 1) r hr) (fun k => blk7 m c t k _) (blk8 m c t _))
    (anchor0 m c t y r hr) (anchor2 m c t y r hr) (blk13 m c t 1)

/-- The third result holds the top edges. -/
theorem final16 (c : Dev nD) : (dats m 0 c).arrAt 16 cfg0.N =
    (fun i => Spec.top (args m c) (Spec.row (by decide) i) : FVec Ideal S576x3 .f32) := by
  refine (dats m 0 c).arrAt_eq_of_covers 16 _ (by decide +kernel) fun t hf y => ?_
  blk_simp
  rw [after0_16]
  dsimp only [outsAt0]
  frame_out
  have hr : (Spec.row (N := 1728) (P := 576) (by decide) (((View.whole main_v70_2).slice (win0_16.rect t)).emb y)).val =
      (288 * t.val + (y 0).val) * 3 + (y 1).val := by
    unfold Spec.row
    blk_simp [idx t]
    show (t.val * 288 + (y 0).val) * 3 + (y 1).val = (288 * t.val + (y 0).val) * 3 + (y 1).val
    omega
  generalize Spec.row (N := 1728) (P := 576) _ _ = r at hr ⊢
  have ha : r.val % 3 = (y 1).val := by have h1 : (y 1).val < 3 := (y 1).isLt; omega
  refine (top_pay _ _ _ _ _ _ y).trans ?_
  exact Spec.lower_congr
    (Spec.delta_of _ _ 1 _ (Spec.chan ⟨3 + (y 1).val, Spec.col_lt 3 (by decide) (y 1)⟩)
      (by show (3 + (y 1).val) % 3 * 4 + (3 + (y 1).val) / 3 = _; omega)
      (feats_blk m c t (y 0) (y 1) r hr) (fun k => blk7 m c t k _) (blk8 m c t _))
    (Spec.delta_of _ _ 3 _ (Spec.chan ⟨9 + (y 1).val, Spec.col_lt 9 (by decide) (y 1)⟩)
      (by show (9 + (y 1).val) % 3 * 4 + (9 + (y 1).val) / 3 = _; omega)
      (feats_blk m c t (y 0) (y 1) r hr) (fun k => blk7 m c t k _) (blk8 m c t _))
    (anchor1 m c t y r hr) (anchor3 m c t y r hr) (blk13 m c t 0)

/-- The fourth result holds the right edges. -/
theorem final17 (c : Dev nD) : (dats m 0 c).arrAt 17 cfg0.N =
    (fun i => Spec.right (args m c) (Spec.row (by decide) i) : FVec Ideal S576x3 .f32) := by
  refine (dats m 0 c).arrAt_eq_of_covers 17 _ (by decide +kernel) fun t hf y => ?_
  blk_simp
  rw [after0_17]
  dsimp only [outsAt0]
  frame_out
  have hr : (Spec.row (N := 1728) (P := 576) (by decide) (((View.whole main_v70_3).slice (win0_17.rect t)).emb y)).val =
      (288 * t.val + (y 0).val) * 3 + (y 1).val := by
    unfold Spec.row
    blk_simp [idx t]
    show (t.val * 288 + (y 0).val) * 3 + (y 1).val = (288 * t.val + (y 0).val) * 3 + (y 1).val
    omega
  generalize Spec.row (N := 1728) (P := 576) _ _ = r at hr ⊢
  have ha : r.val % 3 = (y 1).val := by have h1 : (y 1).val < 3 := (y 1).isLt; omega
  refine (right_pay _ _ _ _ _ _ y).trans ?_
  exact Spec.upper_congr
    (Spec.delta_of _ _ 0 _ (Spec.chan ⟨0 + (y 1).val, Spec.col_lt 0 (by decide) (y 1)⟩)
      (by show (0 + (y 1).val) % 3 * 4 + (0 + (y 1).val) / 3 = _; omega)
      (feats_blk m c t (y 0) (y 1) r hr) (fun k => blk7 m c t k _) (blk8 m c t _))
    (Spec.delta_of _ _ 2 _ (Spec.chan ⟨6 + (y 1).val, Spec.col_lt 6 (by decide) (y 1)⟩)
      (by show (6 + (y 1).val) % 3 * 4 + (6 + (y 1).val) / 3 = _; omega)
      (feats_blk m c t (y 0) (y 1) r hr) (fun k => blk7 m c t k _) (blk8 m c t _))
    (anchor0 m c t y r hr) (anchor2 m c t y r hr) (blk13 m c t 1)

/-- The fifth result holds the bottom edges. -/
theorem final18 (c : Dev nD) : (dats m 0 c).arrAt 18 cfg0.N =
    (fun i => Spec.bottom (args m c) (Spec.row (by decide) i) : FVec Ideal S576x3 .f32) := by
  refine (dats m 0 c).arrAt_eq_of_covers 18 _ (by decide +kernel) fun t hf y => ?_
  blk_simp
  rw [after0_18]
  dsimp only [outsAt0]
  frame_out
  have hr : (Spec.row (N := 1728) (P := 576) (by decide) (((View.whole main_v70_4).slice (win0_18.rect t)).emb y)).val =
      (288 * t.val + (y 0).val) * 3 + (y 1).val := by
    unfold Spec.row
    blk_simp [idx t]
    show (t.val * 288 + (y 0).val) * 3 + (y 1).val = (288 * t.val + (y 0).val) * 3 + (y 1).val
    omega
  generalize Spec.row (N := 1728) (P := 576) _ _ = r at hr ⊢
  have ha : r.val % 3 = (y 1).val := by have h1 : (y 1).val < 3 := (y 1).isLt; omega
  refine (bottom_pay _ _ _ _ _ _ y).trans ?_
  exact Spec.upper_congr
    (Spec.delta_of _ _ 1 _ (Spec.chan ⟨3 + (y 1).val, Spec.col_lt 3 (by decide) (y 1)⟩)
      (by show (3 + (y 1).val) % 3 * 4 + (3 + (y 1).val) / 3 = _; omega)
      (feats_blk m c t (y 0) (y 1) r hr) (fun k => blk7 m c t k _) (blk8 m c t _))
    (Spec.delta_of _ _ 3 _ (Spec.chan ⟨9 + (y 1).val, Spec.col_lt 9 (by decide) (y 1)⟩)
      (by show (9 + (y 1).val) % 3 * 4 + (9 + (y 1).val) / 3 = _; omega)
      (feats_blk m c t (y 0) (y 1) r hr) (fun k => blk7 m c t k _) (blk8 m c t _))
    (anchor1 m c t y r hr) (anchor3 m c t y r hr) (blk13 m c t 0)

end Cert.Proof.Kernel2

end
-- ==== Proof.Reference2.lean ====
/- Level 2 (24 x 24): what the reference leaves in its five results, as the functions of Spec.lean of its arguments. -/
module

public import proofs.«01_k».proof.Proof.Gen.Reference2Ideal.Run
public import proofs.«01_k».proof.Proof.Spec
public import Idealize.ShloMosaic.Lib.Tactic.CleanTypes

@[expose] public section

set_option maxRecDepth 16384

noncomputable section

namespace Cert.Proof.Reference2

open Cert.Reference2Ideal Cert.Reference2Ideal.Gen Cert.Reference2Ideal.Value Idealize.ShloMosaic Idealize.ShloMosaic.TcCoe
open Idealize.SL.Sem StableHlo

/-- The arguments of the level, read off a valuation of the reference's buffers. -/
def args (V0 : Valuation τ sig (Elt Ideal)) : Spec.Args 24 1728 where
  x k h v := (V0 (Proc.devRef .tc main_arg0) : FVec Ideal S1x256x24x24 .f32) (ix4 0 k h v)
  im k := (V0 (Proc.devRef .tc main_arg1) : FVec Ideal S1x6 .f32) (ix2 0 k)
  w o k i j := (V0 (Proc.devRef .tc main_arg2) : FVec Ideal S256x256x3x3 .f32) (ix4 o k i j)
  b o := (V0 (Proc.devRef .tc main_arg3) : FVec Ideal S256 .f32) (ix1 o)
  cw q k := (V0 (Proc.devRef .tc main_arg4) : FVec Ideal S6x256x1x1 .f32) (ix4 q k 0 0)
  cb q := (V0 (Proc.devRef .tc main_arg5) : FVec Ideal S6 .f32) (ix1 q)
  bw q k := (V0 (Proc.devRef .tc main_arg6) : FVec Ideal S18x256x1x1 .f32) (ix4 q k 0 0)
  bb q := (V0 (Proc.devRef .tc main_arg7) : FVec Ideal S18 .f32) (ix1 q)
  an r q := (V0 (Proc.devRef .tc main_arg8) : FVec Ideal S1728x4 .f32) (ix2 r q)

variable (V0 : Valuation τ sig (Elt Ideal))

/-- The padded picture. -/
theorem pad_at (k : Fin 256) (i j : Fin 26) :
    (res_main_v1 V0 : FVec Ideal S256x26x26 .f32) (ix3 k i j) = Spec.pad (args V0).x i.val j.val k := by
  unfold res_main_v1
  clean_types
  pointwise
  rw [Spec.sitofp_zero]
  rfl

/-- The features. -/
theorem feat_at (o : Fin 256) (h v : Fin 24) :
    (res_main_v51 V0 : FVec Ideal S256x24x24 .f32) (ix3 o h v) = Spec.feat (args V0) h.val v.val o := by
  unfold res_main_v51
  clean_types
  pointwise
  simp only [pad_at]
  have T := fun (k l : Fin 3) (i j : ℕ) (hi : i = h.val + k.val) (hj : j = v.val + l.val) =>
    Spec.tap_rev (args V0) k l h.val v.val o hi hj
  have n0 := fun a : ℕ => Nat.add_comm 1 a
  have n1 := fun a : ℕ => Nat.add_comm 2 a
  unfold Spec.feat
  rw [← T 0 0 h.val v.val rfl rfl, ← T 0 1 h.val (1 + v.val) rfl (n0 _), ← T 0 2 h.val (2 + v.val) rfl (n1 _),
    ← T 1 0 (1 + h.val) v.val (n0 _) rfl, ← T 1 1 (1 + h.val) (1 + v.val) (n0 _) (n0 _), ← T 1 2 (1 + h.val) (2 + v.val) (n0 _) (n1 _),
    ← T 2 0 (2 + h.val) v.val (n1 _) rfl, ← T 2 1 (2 + h.val) (1 + v.val) (n1 _) (n0 _), ← T 2 2 (2 + h.val) (2 + v.val) (n1 _) (n1 _)]
  rfl

/-- The class scores. -/
theorem logit_at (r : Fin 1728) (q : Fin 2) :
    (res_main_v66 V0 : FVec Ideal S1728x2 .f32) (ix2 r q) = Spec.logit (args V0) r.val q.val q.isLt := by
  unfold res_main_v66
  clean_types
  pointwise
  simp only [feat_at]
  exact Spec.lin_rev _ _ _

/-- The box offsets. -/
theorem delta_at (r : Fin 1728) (q : Fin 4) :
    (res_main_v64 V0 : FVec Ideal S1728x4 .f32) (ix2 r q) = Spec.delta (args V0) r.val q.val q.isLt := by
  unfold res_main_v64
  clean_types
  pointwise
  simp only [feat_at]
  exact Spec.lin_rev _ _ _

/-- The exponentials of the class scores, their larger one taken off. -/
theorem exp_at (r : Fin 1728) (q : Fin 2) :
    (res_main_v73 V0 : FVec Ideal S1728x2 .f32) (ix2 r q) = Ideal.exp (Spec.logit (args V0) r.val q.val q.isLt
      - max (Spec.logit (args V0) r.val 0 (by decide)) (Spec.logit (args V0) r.val 1 (by decide))) := by
  unfold res_main_v73
  clean_types
  pointwise
  simp only [logit_at]
  rw [Spec.fold_max_two, Spec.bot_max]
  rfl

/-- The lower bound of the clipping is zero. -/
theorem zero_at : (id (constant (F := Ideal) S_ .f32 0#32) ix0 : Ideal .f32) = 0 := by
  show Ideal.ofBits FTy.f32 0#32 = 0
  simp [Ideal.ofBits, Ideal.ieee]

/-- The scores. -/
theorem result144 (y : S576x3.Idx) : (after ops V0 (Proc.devRef .tc main_v144) : FVec Ideal S576x3 .f32) y =
    Spec.score (args V0) (Spec.row (by decide) y) := by
  rw [after_ops, val3_main_v144]
  clean_types
  pointwise
  simp only [exp_at]
  rw [Fin.sum_univ_two]
  rfl

/-- The left edges. -/
theorem result145 (y : S576x3.Idx) : (after ops V0 (Proc.devRef .tc main_v145) : FVec Ideal S576x3 .f32) y =
    Spec.left (args V0) (Spec.row (by decide) y) := by
  rw [after_ops, val3_main_v145]
  unfold res_main_v123 res_main_v109 res_main_v115 res_main_v84
  clean_types
  pointwise
  simp only [delta_at]
  rw [zero_at]
  rfl

/-- The top edges. -/
theorem result146 (y : S576x3.Idx) : (after ops V0 (Proc.devRef .tc main_v146) : FVec Ideal S576x3 .f32) y =
    Spec.top (args V0) (Spec.row (by decide) y) := by
  rw [after_ops, val3_main_v146]
  unfold res_main_v121 res_main_v111 res_main_v119 res_main_v89
  clean_types
  pointwise
  simp only [delta_at]
  rw [zero_at]
  rfl

/-- The right edges. -/
theorem result147 (y : S576x3.Idx) : (after ops V0 (Proc.devRef .tc main_v147) : FVec Ideal S576x3 .f32) y =
    Spec.right (args V0) (Spec.row (by decide) y) := by
  rw [after_ops, val3_main_v147]
  unfold res_main_v123 res_main_v109 res_main_v115 res_main_v84
  clean_types
  pointwise
  simp only [delta_at]
  rw [zero_at]
  rfl

/-- The bottom edges. -/
theorem result148 (y : S576x3.Idx) : (after ops V0 (Proc.devRef .tc main_v148) : FVec Ideal S576x3 .f32) y =
    Spec.bottom (args V0) (Spec.row (by decide) y) := by
  rw [after_ops, val3_main_v148]
  unfold res_main_v121 res_main_v111 res_main_v119 res_main_v89
  clean_types
  pointwise
  simp only [delta_at]
  rw [zero_at]
  rfl

end Cert.Proof.Reference2

end
-- ==== Proof.Level2.lean ====
/- Level 2 (24 x 24): the kernel and the reference, run from the same arguments, end with the same five results. -/
module

public import proofs.«01_k».proof.Defs
public import proofs.«01_k».proof.Proof.Kernel2
public import proofs.«01_k».proof.Proof.Reference2

@[expose] public section

set_option maxRecDepth 16384

noncomputable section

namespace Cert.Proof.Level2

open Idealize.ShloMosaic Idealize.ShloMosaic.TcCoe Idealize.SL.Sem StableHlo

section KernelRun
open Cert.Kernel2Ideal Cert.Kernel2Ideal.Gen Cert.Kernel2Ideal.Value

/-- Every run of the kernel ends with the scores and the four edges of the boxes in its five results, and with its
    arguments as they were. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v70_0) = (fun i => Spec.score (Kernel2.args m c) (Spec.row (by decide) i) : FVec Ideal S576x3 .f32)
      ∧ r.2.mem ((c.tc : Thread nD τ).loc main_v70_1) = (fun i => Spec.left (Kernel2.args m c) (Spec.row (by decide) i) : FVec Ideal S576x3 .f32)
      ∧ r.2.mem ((c.tc : Thread nD τ).loc main_v70_2) = (fun i => Spec.top (Kernel2.args m c) (Spec.row (by decide) i) : FVec Ideal S576x3 .f32)
      ∧ r.2.mem ((c.tc : Thread nD τ).loc main_v70_3) = (fun i => Spec.right (Kernel2.args m c) (Spec.row (by decide) i) : FVec Ideal S576x3 .f32)
      ∧ r.2.mem ((c.tc : Thread nD τ).loc main_v70_4) = (fun i => Spec.bottom (Kernel2.args m c) (Spec.row (by decide) i) : FVec Ideal S576x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).1 14).trans (Kernel2.final14 m c), ((h c).1 15).trans (Kernel2.final15 m c),
      ((h c).1 16).trans (Kernel2.final16 m c), ((h c).1 17).trans (Kernel2.final17 m c),
      ((h c).1 18).trans (Kernel2.final18 m c), kept_main_arg0 m r h c, kept_main_arg1 m r h c, kept_main_arg2 m r h c,
      kept_main_arg3 m r h c, kept_main_arg4 m r h c, kept_main_arg5 m r h c, kept_main_arg6 m r h c,
      kept_main_arg7 m r h c, kept_main_arg8 m r h c⟩) (run_main m g)

end KernelRun

section ReferenceRun
open Cert.Reference2Ideal Cert.Reference2Ideal.Gen Cert.Reference2Ideal.Value

/-- Every run of the reference whose arguments read as `A` ends with the scores and the four edges of the boxes of `A`
    in its five results, and with its arguments as they were. -/
theorem reference_run (m : (ℓ : Loc nD τ sig) → Buf (Elt Ideal) ℓ) (g : Dev nD → PrngReg)
    (A : Dev nD → Spec.Args 24 1728) (hA : ∀ c, Reference2.args (launchContents m c) = A c) :
    θ_run defs (onTc (τ := τ) (main (F := Ideal))) ⟨m, fun _ => 0, g⟩ (fun r => ∀ c : Dev nD,
      r.2.mem ((c.tc : Thread nD τ).loc main_v144) = (fun i => Spec.score (A c) (Spec.row (by decide) i) : FVec Ideal S576x3 .f32)
      ∧ r.2.mem ((c.tc : Thread nD τ).loc main_v145) = (fun i => Spec.left (A c) (Spec.row (by decide) i) : FVec Ideal S576x3 .f32)
      ∧ r.2.mem ((c.tc : Thread nD τ).loc main_v146) = (fun i => Spec.top (A c) (Spec.row (by decide) i) : FVec Ideal S576x3 .f32)
      ∧ r.2.mem ((c.tc : Thread nD τ).loc main_v147) = (fun i => Spec.right (A c) (Spec.row (by decide) i) : FVec Ideal S576x3 .f32)
      ∧ r.2.mem ((c.tc : Thread nD τ).loc main_v148) = (fun i => Spec.bottom (A c) (Spec.row (by decide) i) : FVec Ideal S576x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hk (V0 : Valuation τ sig (Elt Ideal)) (b) : after ops V0 b = val3 V0 b := congrFun (after_ops V0) b
  refine (θ_run defs _ _).mono (fun r h c => ?_)
    (run_seq scopedRefs_eq scopedSems_eq defs main (fun _ => ops) main_eq (fun _ => ops_sub) m g fun _ => ops_fresh)
  rw [← hA c]
  exact ⟨(h c main_v144).trans (funext (Reference2.result144 _)), (h c main_v145).trans (funext (Reference2.result145 _)),
    (h c main_v146).trans (funext (Reference2.result146 _)), (h c main_v147).trans (funext (Reference2.result147 _)),
    (h c main_v148).trans (funext (Reference2.result148 _)),
    (h c main_arg0).trans ((hk _ _).trans (val3_main_arg0 _)), (h c main_arg1).trans ((hk _ _).trans (val3_main_arg1 _)),
    (h c main_arg2).trans ((hk _ _).trans (val3_main_arg2 _)), (h c main_arg3).trans ((hk _ _).trans (val3_main_arg3 _)),
    (h c main_arg4).trans ((hk _ _).trans (val3_main_arg4 _)), (h c main_arg5).trans ((hk _ _).trans (val3_main_arg5 _)),
    (h c main_arg6).trans ((hk _ _).trans (val3_main_arg6 _)), (h c main_arg7).trans ((hk _ _).trans (val3_main_arg7 _)),
    (h c main_arg8).trans ((hk _ _).trans (val3_main_arg8 _))⟩

end ReferenceRun

/-- Over the extended reals the kernel and the reference of this level compute the same five results. -/
theorem algebraic : algebraic_Kernel2Ideal_Reference2Ideal (hKernel2Ideal := Cert.Kernel2Ideal.Gen.facts)
    (hReference2Ideal := Cert.Reference2Ideal.Gen.facts) := by
  intro m g m' g' _ hagree
  refine ⟨_, _, _, _, _, kernel_run m g, reference_run m' g' (fun c => Kernel2.args m c) fun c => ?_⟩
  obtain ⟨h0, h1, h2, h3, h4, h5, h6, h7, h8⟩ := hagree c
  show Spec.Args.mk _ _ _ _ _ _ _ _ _ = Spec.Args.mk _ _ _ _ _ _ _ _ _
  congr 1
  · funext k h v; exact congrFun h0 _
  · funext k; exact congrFun h1 _
  · funext o k i j; exact congrFun h2 _
  · funext o; exact congrFun h3 _
  · funext q k; exact congrFun h4 _
  · funext q; exact congrFun h5 _
  · funext q k; exact congrFun h6 _
  · funext q; exact congrFun h7 _
  · funext r q; exact congrFun h8 _

end Cert.Proof.Level2

end
-- ==== Proof.Kernel3.lean ====
/- Level 3 (48 x 48): what the kernel leaves in its five result arrays, as the functions of Spec.lean of its arguments. -/
module

public import proofs.«01_k».proof.Proof.Gen.Kernel3Ideal.Value
public import proofs.«01_k».proof.Proof.Spec
public import Idealize.ShloMosaic.Lib.Tactic.CleanTypes

@[expose] public section

set_option maxRecDepth 16384

noncomputable section

namespace Cert.Proof.Kernel3

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The arguments of the level, read off the launch memory. -/
def args (c : Dev nD) : Spec.Args 48 6912 where
  x k h v := (m ((c : Thread nD τ).loc main_arg0) : FVec Ideal S1x256x48x48 .f32) (ix4 0 k h v)
  im k := (m ((c : Thread nD τ).loc main_arg1) : FVec Ideal S1x6 .f32) (ix2 0 k)
  w o k i j := (m ((c : Thread nD τ).loc main_arg2) : FVec Ideal S256x256x3x3 .f32) (ix4 o k i j)
  b o := (m ((c : Thread nD τ).loc main_arg3) : FVec Ideal S256 .f32) (ix1 o)
  cw q k := (m ((c : Thread nD τ).loc main_arg4) : FVec Ideal S6x256x1x1 .f32) (ix4 q k 0 0)
  cb q := (m ((c : Thread nD τ).loc main_arg5) : FVec Ideal S6 .f32) (ix1 q)
  bw q k := (m ((c : Thread nD τ).loc main_arg6) : FVec Ideal S18x256x1x1 .f32) (ix4 q k 0 0)
  bb q := (m ((c : Thread nD τ).loc main_arg7) : FVec Ideal S18 .f32) (ix1 q)
  an r q := (m ((c : Thread nD τ).loc main_arg8) : FVec Ideal S6912x4 .f32) (ix2 r q)

/-! ## The operands the host prepares -/

/-- A picture laid pixels first and surrounded by a border of zeros. -/
theorem pad_at (X : FVec Ideal S1x256x48x48 .f32) (i j : Fin 50) (k : Fin 256) :
    pad S50x50x256 ![1, 1, 0] ![1, 1, 0] ![0, 0, 0]
      (transpose S48x48x256 [1, 2, 0] (shapeCast S256x48x48 X shapeCasts_S1x256x48x48_S256x48x48) transposes_S256x48x48_S48x48x256_1_2_0)
      (sitofp (F := Ideal) .f32 (constantI S_ 32 0#32)) pads_S48x48x256_S50x50x256_110_110_000 h_S_ (ix3 i j k) =
    Spec.pad (fun k h v => X (ix4 0 k h v)) i.val j.val k := by
  pointwise
  rw [Spec.sitofp_zero]
  rfl

/-- The padded picture, pixels first. -/
theorem V_pad (c : Dev nD) (i j : Fin 50) (k : Fin 256) :
    (V m c main_v59 : FVec Ideal S50x50x256 .f32) (ix3 i j k) = Spec.pad (args m c).x i.val j.val k := by
  have e : (V m c main_v59 : FVec Ideal S50x50x256 .f32) = pad S50x50x256 ![1, 1, 0] ![1, 1, 0] ![0, 0, 0]
      (transpose S48x48x256 [1, 2, 0] (shapeCast S256x48x48 (m ((c : Thread nD τ).loc main_arg0) : FVec Ideal S1x256x48x48 .f32) shapeCasts_S1x256x48x48_S256x48x48) transposes_S256x48x48_S48x48x256_1_2_0)
      (sitofp (F := Ideal) .f32 (constantI S_ 32 0#32)) pads_S48x48x256_S50x50x256_110_110_000 h_S_ := by
    unfold V
    simp only [hostOps0, hostOps0_1, hostOps0_2, List.flatten_cons, List.flatten_nil, List.cons_append, List.nil_append, List.append_nil]
    entry_read
    rfl
  rw [e]
  exact pad_at _ i j k

set_option maxHeartbeats 1600000 in
/-- The nine matrices of weights, input channels first. -/
theorem V_wk (c : Dev nD) (q : Fin 9) (k o : Fin 256) :
    (V m c main_v36 : FVec Ideal S9x256x256 .f32) (ix3 q k o) = (args m c).w o k ⟨q.val / 3, by omega⟩ ⟨q.val % 3, by omega⟩ := by
  unfold V
  simp only [hostOps0, hostOps0_1, hostOps0_2, List.flatten_cons, List.flatten_nil, List.cons_append, List.nil_append, List.append_nil]
  simp only [StableHlo.after_cons, StableHlo.after_nil]
  after_results_simp
  concat_tiles i h
  all_goals
    dsimp only [Matrix.cons_val]
    after_results_simp
    first
      | exact Spec.mat_at _ 0 0 _ _ _ _ i q k o h h1 h2
      | exact Spec.mat_at _ 0 1 _ _ _ _ i q k o h h1 h2
      | exact Spec.mat_at _ 0 2 _ _ _ _ i q k o h h1 h2
      | exact Spec.mat_at _ 1 0 _ _ _ _ i q k o h h1 h2
      | exact Spec.mat_at _ 1 1 _ _ _ _ i q k o h h1 h2
      | exact Spec.mat_at _ 1 2 _ _ _ _ i q k o h h1 h2
      | exact Spec.mat_at _ 2 0 _ _ _ _ i q k o h h1 h2
      | exact Spec.mat_at _ 2 1 _ _ _ _ i q k o h h1 h2
      | exact Spec.mat_at _ 2 2 _ _ _ _ i q k o h h1 h2

/-- The table of column numbers holds each column's channel. -/
theorem chan_word : ∀ q : Fin 12, (broadcastInDim S12x1 ![0] bcast_S12_S12x1_0
        (select (constantI S12 1 0#1)
          (addi (fun i => lit0 (S12.rowMajor i)) (broadcastInDim S12 ![] bcast_S_S12 (constantI S_ 32 12#32))) fun i =>
          lit0 (S12.rowMajor i)) (ix2 q 0)).toInt.toNat = (Spec.chan12 q).val := by decide +kernel

/-- The weights of the box offsets, columns in the kernel's order. -/
theorem V_wb (c : Dev nD) (k : Fin 256) (q : Fin 12) :
    (V m c main_v50 : FVec Ideal S256x12 .f32) (ix2 k q) = (args m c).bw (Spec.chan q) k := by
  unfold V
  simp only [hostOps0, hostOps0_1, hostOps0_2, List.flatten_cons, List.flatten_nil, List.cons_append, List.nil_append, List.append_nil]
  entry_read
  refine (Spec.gather_col _ _ _ k q (Spec.chan12 q) (chan_word q)).trans ?_
  pointwise
  rfl

/-- The biases of the box offsets, in the kernel's order. -/
theorem V_bb (c : Dev nD) (q : Fin 12) :
    (V m c main_v56 : FVec Ideal S12 .f32) (ix1 q) = (args m c).bb (Spec.chan q) := by
  unfold V
  simp only [hostOps0, hostOps0_1, hostOps0_2, List.flatten_cons, List.flatten_nil, List.cons_append, List.nil_append, List.append_nil]
  entry_read
  refine (Spec.gather_vec _ _ _ q (Spec.chan12 q) (chan_word q)).trans ?_
  pointwise
  rfl

/-- The score weights of the background class. -/
theorem V_wc0 (c : Dev nD) (k : Fin 256) (a : Fin 3) :
    (V m c main_v39 : FVec Ideal S256x3 .f32) (ix2 k a) = (args m c).cw ⟨2 * a.val, by omega⟩ k := by
  unfold V
  simp only [hostOps0, hostOps0_1, hostOps0_2, List.flatten_cons, List.flatten_nil, List.cons_append, List.nil_append, List.append_nil]
  entry_read
  clean_types
  pointwise
  rfl

/-- The score weights of the foreground class. -/
theorem V_wc1 (c : Dev nD) (k : Fin 256) (a : Fin 3) :
    (V m c main_v40 : FVec Ideal S256x3 .f32) (ix2 k a) = (args m c).cw ⟨1 + 2 * a.val, by omega⟩ k := by
  unfold V
  simp only [hostOps0, hostOps0_1, hostOps0_2, List.flatten_cons, List.flatten_nil, List.cons_append, List.nil_append, List.append_nil]
  entry_read
  clean_types
  pointwise
  rfl

/-- The score biases of the background class. -/
theorem V_bc0 (c : Dev nD) (a : Fin 3) :
    (V m c main_v41 : FVec Ideal S3 .f32) (ix1 a) = (args m c).cb ⟨2 * a.val, by omega⟩ := by
  unfold V
  simp only [hostOps0, hostOps0_1, hostOps0_2, List.flatten_cons, List.flatten_nil, List.cons_append, List.nil_append, List.append_nil]
  entry_read
  clean_types
  pointwise
  rfl

/-- The score biases of the foreground class. -/
theorem V_bc1 (c : Dev nD) (a : Fin 3) :
    (V m c main_v42 : FVec Ideal S3 .f32) (ix1 a) = (args m c).cb ⟨1 + 2 * a.val, by omega⟩ := by
  unfold V
  simp only [hostOps0, hostOps0_1, hostOps0_2, List.flatten_cons, List.flatten_nil, List.cons_append, List.nil_append, List.append_nil]
  entry_read
  clean_types
  pointwise
  rfl

/-- The left edges of the anchors, one row per pixel. -/
theorem V_an0 (c : Dev nD) (p : Fin 2304) (a : Fin 3) :
    (V m c main_v62 : FVec Ideal S2304x3 .f32) (ix2 p a) = (args m c).an ⟨p.val * 3 + a.val, by omega⟩ 0 := by
  unfold V
  simp only [hostOps0, hostOps0_1, hostOps0_2, List.flatten_cons, List.flatten_nil, List.cons_append, List.nil_append, List.append_nil]
  entry_read
  clean_types
  pointwise
  rfl

/-- The top edges of the anchors, one row per pixel. -/
theorem V_an1 (c : Dev nD) (p : Fin 2304) (a : Fin 3) :
    (V m c main_v64 : FVec Ideal S2304x3 .f32) (ix2 p a) = (args m c).an ⟨p.val * 3 + a.val, by omega⟩ 1 := by
  unfold V
  simp only [hostOps0, hostOps0_1, hostOps0_2, List.flatten_cons, List.flatten_nil, List.cons_append, List.nil_append, List.append_nil]
  entry_read
  clean_types
  pointwise
  rfl

/-- The right edges of the anchors, one row per pixel. -/
theorem V_an2 (c : Dev nD) (p : Fin 2304) (a : Fin 3) :
    (V m c main_v66 : FVec Ideal S2304x3 .f32) (ix2 p a) = (args m c).an ⟨p.val * 3 + a.val, by omega⟩ 2 := by
  unfold V
  simp only [hostOps0, hostOps0_1, hostOps0_2, List.flatten_cons, List.flatten_nil, List.cons_append, List.nil_append, List.append_nil]
  entry_read
  clean_types
  pointwise
  rfl

/-- The bottom edges of the anchors, one row per pixel. -/
theorem V_an3 (c : Dev nD) (p : Fin 2304) (a : Fin 3) :
    (V m c main_v68 : FVec Ideal S2304x3 .f32) (ix2 p a) = (args m c).an ⟨p.val * 3 + a.val, by omega⟩ 3 := by
  unfold V
  simp only [hostOps0, hostOps0_1, hostOps0_2, List.flatten_cons, List.flatten_nil, List.cons_append, List.nil_append, List.append_nil]
  entry_read
  clean_types
  pointwise
  rfl

/-- The height and width of the picture. -/
theorem V_hw (c : Dev nD) (q : Fin 2) :
    (V m c main_v69 : FVec Ideal S1x2 .f32) (ix2 0 q) = (args m c).im ⟨q.val, by omega⟩ := by
  unfold V
  simp only [hostOps0, hostOps0_1, hostOps0_2, List.flatten_cons, List.flatten_nil, List.cons_append, List.nil_append, List.append_nil]
  entry_read
  clean_types
  pointwise
  rfl

/-! ## The blocks of a grid point -/

/-- Where the blocks of the point `t` lie: the anchors and the results move with it, everything else is whole. -/
theorem idx : ∀ t : Fin cfg0.N, win0_0.index t = ![0, 0, 0] ∧ win0_1.index t = ![0, 0, 0] ∧ win0_2.index t = ![0]
    ∧ win0_3.index t = ![0, 0] ∧ win0_4.index t = ![0, 0] ∧ win0_5.index t = ![0] ∧ win0_6.index t = ![0]
    ∧ win0_7.index t = ![0, 0] ∧ win0_8.index t = ![0] ∧ win0_9.index t = ![t.val, 0] ∧ win0_10.index t = ![t.val, 0]
    ∧ win0_11.index t = ![t.val, 0] ∧ win0_12.index t = ![t.val, 0] ∧ win0_13.index t = ![0, 0]
    ∧ win0_14.index t = ![t.val, 0] ∧ win0_15.index t = ![t.val, 0] ∧ win0_16.index t = ![t.val, 0]
    ∧ win0_17.index t = ![t.val, 0] ∧ win0_18.index t = ![t.val, 0] := by decide +kernel

/-- The grid is one axis. -/
theorem coords0 : ∀ t : Fin cfg0.N, (grid0.coords t 0).val = t.val := by decide +kernel

/-- The number of grid points. -/
theorem point_lt (t : Fin cfg0.N) : t.val < 4 := t.isLt

/-- The padded picture in a point. -/
theorem blk0 (c : Dev nD) (t : Fin cfg0.N) (i j : Fin 50) (k : Fin 256) :
    (iblk m c 0 t : FVec Ideal S50x50x256 .f32) (ix3 i j k) = Spec.pad (args m c).x i.val j.val k := by
  refine Eq.trans ?_ (V_pad m c i j k)
  blk_ext [iblk, idx t]

/-- The weights in a point. -/
theorem blk1 (c : Dev nD) (t : Fin cfg0.N) (q : Fin 9) (k o : Fin 256) :
    (iblk m c 1 t : FVec Ideal S9x256x256 .f32) (ix3 q k o) = (args m c).w o k ⟨q.val / 3, by omega⟩ ⟨q.val % 3, by omega⟩ := by
  refine Eq.trans ?_ (V_wk m c q k o)
  blk_ext [iblk, idx t]

/-- The biases in a point. -/
theorem blk2 (c : Dev nD) (t : Fin cfg0.N) (o : Fin 256) :
    (iblk m c 2 t : FVec Ideal S256 .f32) (ix1 o) = (args m c).b o := by
  refine Eq.trans ?_ ((V_main_arg3 m c ▸ rfl : (V m c main_arg3 : FVec Ideal S256 .f32) (ix1 o) = (args m c).b o))
  blk_ext [iblk, idx t]

/-- Score weights in a point. -/
theorem blk3 (c : Dev nD) (t : Fin cfg0.N) (k : Fin 256) (a : Fin 3) :
    (iblk m c 3 t : FVec Ideal S256x3 .f32) (ix2 k a) = (args m c).cw ⟨2 * a.val, by omega⟩ k := by
  refine Eq.trans ?_ (V_wc0 m c k a)
  blk_ext [iblk, idx t]

/-- Score weights in a point. -/
theorem blk4 (c : Dev nD) (t : Fin cfg0.N) (k : Fin 256) (a : Fin 3) :
    (iblk m c 4 t : FVec Ideal S256x3 .f32) (ix2 k a) = (args m c).cw ⟨1 + 2 * a.val, by omega⟩ k := by
  refine Eq.trans ?_ (V_wc1 m c k a)
  blk_ext [iblk, idx t]

/-- Score biases in a point. -/
theorem blk5 (c : Dev nD) (t : Fin cfg0.N) (a : Fin 3) :
    (iblk m c 5 t : FVec Ideal S3 .f32) (ix1 a) = (args m c).cb ⟨2 * a.val, by omega⟩ := by
  refine Eq.trans ?_ (V_bc0 m c a)
  blk_ext [iblk, idx t]

/-- Score biases in a point. -/
theorem blk6 (c : Dev nD) (t : Fin cfg0.N) (a : Fin 3) :
    (iblk m c 6 t : FVec Ideal S3 .f32) (ix1 a) = (args m c).cb ⟨1 + 2 * a.val, by omega⟩ := by
  refine Eq.trans ?_ (V_bc1 m c a)
  blk_ext [iblk, idx t]

/-- The weights of the box offsets in a point. -/
theorem blk7 (c : Dev nD) (t : Fin cfg0.N) (k : Fin 256) (q : Fin 12) :
    (iblk m c 7 t : FVec Ideal S256x12 .f32) (ix2 k q) = (args m c).bw (Spec.chan q) k := by
  refine Eq.trans ?_ (V_wb m c k q)
  blk_ext [iblk, idx t]

/-- The biases of the box offsets in a point. -/
theorem blk8 (c : Dev nD) (t : Fin cfg0.N) (q : Fin 12) :
    (iblk m c 8 t : FVec Ideal S12 .f32) (ix1 q) = (args m c).bb (Spec.chan q) := by
  refine Eq.trans ?_ (V_bb m c q)
  blk_ext [iblk, idx t]

/-- Anchor edges in a point. -/
theorem blk9 (c : Dev nD) (t : Fin cfg0.N) (p : Fin 576) (a : Fin 3) :
    (iblk m c 9 t : FVec Ideal S576x3 .f32) (ix2 p a) = (args m c).an ⟨(576 * t.val + p.val) * 3 + a.val, by have := point_lt t; omega⟩ 0 := by
  have ht := point_lt t
  refine Eq.trans ?_ (V_an0 m c ⟨576 * t.val + p.val, by omega⟩ a)
  blk_ext [iblk, idx t]

/-- Anchor edges in a point. -/
theorem blk10 (c : Dev nD) (t : Fin cfg0.N) (p : Fin 576) (a : Fin 3) :
    (iblk m c 10 t : FVec Ideal S576x3 .f32) (ix2 p a) = (args m c).an ⟨(576 * t.val + p.val) * 3 + a.val, by have := point_lt t; omega⟩ 1 := by
  have ht := point_lt t
  refine Eq.trans ?_ (V_an1 m c ⟨576 * t.val + p.val, by omega⟩ a)
  blk_ext [iblk, idx t]

/-- Anchor edges in a point. -/
theorem blk11 (c : Dev nD) (t : Fin cfg0.N) (p : Fin 576) (a : Fin 3) :
    (iblk m c 11 t : FVec Ideal S576x3 .f32) (ix2 p a) = (args m c).an ⟨(576 * t.val + p.val) * 3 + a.val, by have := point_lt t; omega⟩ 2 := by
  have ht := point_lt t
  refine Eq.trans ?_ (V_an2 m c ⟨576 * t.val + p.val, by omega⟩ a)
  blk_ext [iblk, idx t]

/-- Anchor edges in a point. -/
theorem blk12 (c : Dev nD) (t : Fin cfg0.N) (p : Fin 576) (a : Fin 3) :
    (iblk m c 12 t : FVec Ideal S576x3 .f32) (ix2 p a) = (args m c).an ⟨(576 * t.val + p.val) * 3 + a.val, by have := point_lt t; omega⟩ 3 := by
  have ht := point_lt t
  refine Eq.trans ?_ (V_an3 m c ⟨576 * t.val + p.val, by omega⟩ a)
  blk_ext [iblk, idx t]

/-- The extent of the picture in a point. -/
theorem blk13 (c : Dev nD) (t : Fin cfg0.N) (q : Fin 2) :
    (iblk m c 13 t : FVec Ideal S1x2 .f32) (ix2 0 q) = (args m c).im ⟨q.val, by omega⟩ := by
  refine Eq.trans ?_ (V_hw m c q)
  blk_ext [iblk, idx t]

/-! ## The features -/

/-- The features of grid point `t`, over the padded picture `X`, the nine matrices `W` and the biases `B`: what the body
    computes from its loads. -/
def feats (X : FVec Ideal S50x50x256 .f32) (W : FVec Ideal S9x256x256 .f32) (B : FVec Ideal S256 .f32) (t : Fin cfg0.N) :
    FVec Ideal S576x256 .f32 :=
  k0_pay6
    (k0_pay4
      (k0_pay3 (View.ld (S := S50x50x256) X (Rect.unit (s := S50x50x256) (k0_off1 (grid0.coords t) 0#32) S12x48x256.size (k0_off1_inb _ 0)))
        (View.ld (S := S9x256x256) W (Rect.unit (s := S9x256x256) ![0, 0, 0] S1x256x256.size inb_S9x256x256_S1x256x256_0_0_0))
        (View.ld (S := S50x50x256) X (Rect.unit (s := S50x50x256) (k0_off2 (grid0.coords t) 0#32) S12x48x256.size (k0_off2_inb _ 0)))
        (View.ld (S := S9x256x256) W (Rect.unit (s := S9x256x256) ![1, 0, 0] S1x256x256.size inb_S9x256x256_S1x256x256_1_0_0))
        (View.ld (S := S50x50x256) X (Rect.unit (s := S50x50x256) (k0_off3 (grid0.coords t) 0#32) S12x48x256.size (k0_off3_inb _ 0)))
        (View.ld (S := S9x256x256) W (Rect.unit (s := S9x256x256) ![2, 0, 0] S1x256x256.size inb_S9x256x256_S1x256x256_2_0_0)))
      (View.ld (S := S50x50x256) X (Rect.unit (s := S50x50x256) (k0_off1 (grid0.coords t) 1#32) S12x48x256.size (k0_off1_inb _ 1)))
      (View.ld (S := S9x256x256) W (Rect.unit (s := S9x256x256) ![3, 0, 0] S1x256x256.size inb_S9x256x256_S1x256x256_3_0_0))
      (View.ld (S := S50x50x256) X (Rect.unit (s := S50x50x256) (k0_off2 (grid0.coords t) 1#32) S12x48x256.size (k0_off2_inb _ 1)))
      (View.ld (S := S9x256x256) W (Rect.unit (s := S9x256x256) ![4, 0, 0] S1x256x256.size inb_S9x256x256_S1x256x256_4_0_0))
      (View.ld (S := S50x50x256) X (Rect.unit (s := S50x50x256) (k0_off3 (grid0.coords t) 1#32) S12x48x256.size (k0_off3_inb _ 1)))
      (View.ld (S := S9x256x256) W (Rect.unit (s := S9x256x256) ![5, 0, 0] S1x256x256.size inb_S9x256x256_S1x256x256_5_0_0)))
    (k0_pay5 (View.ld (S := S50x50x256) X (Rect.unit (s := S50x50x256) (k0_off1 (grid0.coords t) 2#32) S12x48x256.size (k0_off1_inb _ 2))))
    (View.ld (S := S9x256x256) W (Rect.unit (s := S9x256x256) ![6, 0, 0] S1x256x256.size inb_S9x256x256_S1x256x256_6_0_0))
    (View.ld (S := S50x50x256) X (Rect.unit (s := S50x50x256) (k0_off2 (grid0.coords t) 2#32) S12x48x256.size (k0_off2_inb _ 2)))
    (View.ld (S := S9x256x256) W (Rect.unit (s := S9x256x256) ![7, 0, 0] S1x256x256.size inb_S9x256x256_S1x256x256_7_0_0))
    (View.ld (S := S50x50x256) X (Rect.unit (s := S50x50x256) (k0_off3 (grid0.coords t) 2#32) S12x48x256.size (k0_off3_inb _ 2)))
    (View.ld (S := S9x256x256) W (Rect.unit (s := S9x256x256) ![8, 0, 0] S1x256x256.size inb_S9x256x256_S1x256x256_8_0_0)) B

/-- They are the rectified convolution at the pixels of the point's rows. -/
theorem feats_at (A : Spec.Args 48 6912) (X : FVec Ideal S50x50x256 .f32) (W : FVec Ideal S9x256x256 .f32) (B : FVec Ideal S256 .f32)
    (t : Fin cfg0.N) (hX : ∀ i j k, X (ix3 i j k) = Spec.pad A.x i.val j.val k)
    (hW : ∀ q k o, W (ix3 q k o) = A.w o k ⟨q.val / 3, by omega⟩ ⟨q.val % 3, by omega⟩)
    (hB : ∀ o, B (ix1 o) = A.b o) (p : Fin 576) (o : Fin 256) :
    feats X W B t (ix2 p o) = Spec.feat A (12 * t.val + p.val / 48) (p.val % 48) o := by
  have c0 := coords0 t
  pointwise [feats, k0_pay6, k0_pay5, k0_pay4, k0_pay3]
  simp only [hX, hW, hB]
  have o1 : ∀ r : Fin 3, k0_off1 (grid0.coords t) (BitVec.ofNat 32 r.val) = ![12 * t.val + r.val, 0, 0] := fun r => by rw [k0_off1_eq, c0]
  have o2 : ∀ r : Fin 3, k0_off2 (grid0.coords t) (BitVec.ofNat 32 r.val) = ![12 * t.val + r.val, 1, 0] := fun r => by rw [k0_off2_eq, c0]
  have o3 : ∀ r : Fin 3, k0_off3 (grid0.coords t) (BitVec.ofNat 32 r.val) = ![12 * t.val + r.val, 2, 0] := fun r => by rw [k0_off3_eq, c0]
  have tap1 := fun k : Fin 3 => Spec.tap_eq A k 0 (12 * t.val + p.val / 48) (p.val % 48) o (a := k) (b := 0)
    (i := k0_off1 (grid0.coords t) (BitVec.ofNat 32 k.val) 0 + p.val / 48) (j := k0_off1 (grid0.coords t) (BitVec.ofNat 32 k.val) 1 + p.val % 48)
    (z := k0_off1 (grid0.coords t) (BitVec.ofNat 32 k.val) 2) (by intro x; rw [o1]; show 0 + x.val < 256; omega)
    (by rw [o1]; show 12 * t.val + k.val + p.val / 48 = _; omega) (by rw [o1]; exact Nat.add_comm 0 _) (by rw [o1]; rfl) rfl rfl
  have tap2 := fun k : Fin 3 => Spec.tap_eq A k 1 (12 * t.val + p.val / 48) (p.val % 48) o (a := k) (b := 1)
    (i := k0_off2 (grid0.coords t) (BitVec.ofNat 32 k.val) 0 + p.val / 48) (j := k0_off2 (grid0.coords t) (BitVec.ofNat 32 k.val) 1 + p.val % 48)
    (z := k0_off2 (grid0.coords t) (BitVec.ofNat 32 k.val) 2) (by intro x; rw [o2]; show 0 + x.val < 256; omega)
    (by rw [o2]; show 12 * t.val + k.val + p.val / 48 = _; omega) (by rw [o2]; exact Nat.add_comm 1 _) (by rw [o2]; rfl) rfl rfl
  have tap3 := fun k : Fin 3 => Spec.tap_eq A k 2 (12 * t.val + p.val / 48) (p.val % 48) o (a := k) (b := 2)
    (i := k0_off3 (grid0.coords t) (BitVec.ofNat 32 k.val) 0 + p.val / 48) (j := k0_off3 (grid0.coords t) (BitVec.ofNat 32 k.val) 1 + p.val % 48)
    (z := k0_off3 (grid0.coords t) (BitVec.ofNat 32 k.val) 2) (by intro x; rw [o3]; show 0 + x.val < 256; omega)
    (by rw [o3]; show 12 * t.val + k.val + p.val / 48 = _; omega) (by rw [o3]; exact Nat.add_comm 2 _) (by rw [o3]; rfl) rfl rfl
  unfold Spec.feat
  rw [← tap1 0, ← tap2 0, ← tap3 0, ← tap1 1, ← tap2 1, ← tap3 1, ← tap1 2, ← tap2 2, ← tap3 2]
  rfl

/-! ## What the body stores, over its operands -/

/-- The scores: the probability of the second class, from the two products of the features. -/
theorem score_pay (a b c d e f g h) (w0 : FVec Ideal S256x3 .f32) (b0 : FVec Ideal S3 .f32) (w1 : FVec Ideal S256x3 .f32)
    (b1 : FVec Ideal S3 .f32) (y : S576x3.Idx) :
    k0_pay8 (F := Ideal) (k0_pay6 a b c d e f g h) (k0_pay7 a b c d e f g h w0) b0 w1 b1 y =
      Spec.soft (∑ k : Fin 256, k0_pay6 a b c d e f g h (ix2 (y 0) k) * w0 (ix2 k (y 1)) + b0 (ix1 (y 1)))
        (∑ k : Fin 256, k0_pay6 a b c d e f g h (ix2 (y 0) k) * w1 (ix2 k (y 1)) + b1 (ix1 (y 1))) := by
  pointwise [k0_pay8, k0_pay7]
  rfl

/-- The left edges. -/
theorem left_pay (T : FVec Ideal S576x256 .f32) (W : FVec Ideal S256x12 .f32) (B : FVec Ideal S12 .f32) (lo hi : FVec Ideal S576x3 .f32)
    (I : FVec Ideal S1x2 .f32) (y : S576x3.Idx) :
    k0_pay26 (F := Ideal) (k0_pay10 T W B) (k0_pay12 T W B) (k0_pay14 lo) (k0_pay16 hi) (View.ld (S := S1x2) I (Rect.unit (s := S1x2) ![0, 1] S1x1.size inb_S1x2_S1x1_0_1)) y =
      Spec.lower (∑ k : Fin 256, T (ix2 (y 0) k) * W (ix2 k ⟨0 + (y 1).val, Spec.col_lt 0 (by decide) (y 1)⟩) + B (ix1 ⟨0 + (y 1).val, Spec.col_lt 0 (by decide) (y 1)⟩))
        (∑ k : Fin 256, T (ix2 (y 0) k) * W (ix2 k ⟨6 + (y 1).val, Spec.col_lt 6 (by decide) (y 1)⟩) + B (ix1 ⟨6 + (y 1).val, Spec.col_lt 6 (by decide) (y 1)⟩))
        (lo y) (hi y) (I (ix2 0 1)) := by
  pointwise [k0_pay26, k0_pay25, k0_pay20, k0_pay22, k0_pay18, k0_pay10, k0_pay12, k0_pay14, k0_pay16, k0_pay9]
  rfl

/-- The top edges. -/
theorem top_pay (T : FVec Ideal S576x256 .f32) (W : FVec Ideal S256x12 .f32) (B : FVec Ideal S12 .f32) (lo hi : FVec Ideal S576x3 .f32)
    (I : FVec Ideal S1x2 .f32) (y : S576x3.Idx) :
    k0_pay27 (F := Ideal) (k0_pay11 T W B) (k0_pay13 T W B) (k0_pay15 lo) (k0_pay17 hi) (View.ld (S := S1x2) I (Rect.unit (s := S1x2) ![0, 0] S1x1.size inb_S1x2_S1x1_0_0)) y =
      Spec.lower (∑ k : Fin 256, T (ix2 (y 0) k) * W (ix2 k ⟨3 + (y 1).val, Spec.col_lt 3 (by decide) (y 1)⟩) + B (ix1 ⟨3 + (y 1).val, Spec.col_lt 3 (by decide) (y 1)⟩))
        (∑ k : Fin 256, T (ix2 (y 0) k) * W (ix2 k ⟨9 + (y 1).val, Spec.col_lt 9 (by decide) (y 1)⟩) + B (ix1 ⟨9 + (y 1).val, Spec.col_lt 9 (by decide) (y 1)⟩))
        (lo y) (hi y) (I (ix2 0 0)) := by
  pointwise [k0_pay27, k0_pay24, k0_pay21, k0_pay23, k0_pay19, k0_pay11, k0_pay13, k0_pay15, k0_pay17, k0_pay9]
  rfl

/-- The right edges. -/
theorem right_pay (T : FVec Ideal S576x256 .f32) (W : FVec Ideal S256x12 .f32) (B : FVec Ideal S12 .f32) (lo hi : FVec Ideal S576x3 .f32)
    (I : FVec Ideal S1x2 .f32) (y : S576x3.Idx) :
    k0_pay1 (F := Ideal) (k0_pay20 (k0_pay10 T W B) (k0_pay14 lo) (k0_pay16 hi)) (k0_pay22 (k0_pay12 T W B) (k0_pay14 lo) (k0_pay16 hi)) (k0_pay25 (View.ld (S := S1x2) I (Rect.unit (s := S1x2) ![0, 1] S1x1.size inb_S1x2_S1x1_0_1))) y =
      Spec.upper (∑ k : Fin 256, T (ix2 (y 0) k) * W (ix2 k ⟨0 + (y 1).val, Spec.col_lt 0 (by decide) (y 1)⟩) + B (ix1 ⟨0 + (y 1).val, Spec.col_lt 0 (by decide) (y 1)⟩))
        (∑ k : Fin 256, T (ix2 (y 0) k) * W (ix2 k ⟨6 + (y 1).val, Spec.col_lt 6 (by decide) (y 1)⟩) + B (ix1 ⟨6 + (y 1).val, Spec.col_lt 6 (by decide) (y 1)⟩))
        (lo y) (hi y) (I (ix2 0 1)) := by
  pointwise [k0_pay1, k0_pay25, k0_pay20, k0_pay22, k0_pay18, k0_pay10, k0_pay12, k0_pay14, k0_pay16, k0_pay9]
  rfl

/-- The bottom edges. -/
theorem bottom_pay (T : FVec Ideal S576x256 .f32) (W : FVec Ideal S256x12 .f32) (B : FVec Ideal S12 .f32) (lo hi : FVec Ideal S576x3 .f32)
    (I : FVec Ideal S1x2 .f32) (y : S576x3.Idx) :
    k0_pay2 (F := Ideal) (k0_pay21 (k0_pay11 T W B) (k0_pay15 lo) (k0_pay17 hi)) (k0_pay23 (k0_pay13 T W B) (k0_pay15 lo) (k0_pay17 hi)) (k0_pay24 (View.ld (S := S1x2) I (Rect.unit (s := S1x2) ![0, 0] S1x1.size inb_S1x2_S1x1_0_0))) y =
      Spec.upper (∑ k : Fin 256, T (ix2 (y 0) k) * W (ix2 k ⟨3 + (y 1).val, Spec.col_lt 3 (by decide) (y 1)⟩) + B (ix1 ⟨3 + (y 1).val, Spec.col_lt 3 (by decide) (y 1)⟩))
        (∑ k : Fin 256, T (ix2 (y 0) k) * W (ix2 k ⟨9 + (y 1).val, Spec.col_lt 9 (by decide) (y 1)⟩) + B (ix1 ⟨9 + (y 1).val, Spec.col_lt 9 (by decide) (y 1)⟩))
        (lo y) (hi y) (I (ix2 0 0)) := by
  pointwise [k0_pay2, k0_pay24, k0_pay21, k0_pay23, k0_pay19, k0_pay11, k0_pay13, k0_pay15, k0_pay17, k0_pay9]
  rfl

/-! ## The five result arrays -/

/-- The features of a point, on the blocks it reads. -/
theorem feats_blk (c : Dev nD) (t : Fin cfg0.N) (p : Fin 576) (a : Fin 3) (r : ℕ) (hr : r = (576 * t.val + p.val) * 3 + a.val) (k : Fin 256) :
    feats (iblk m c 0 t) (iblk m c 1 t) (iblk m c 2 t) t (ix2 p k) = Spec.feat (args m c) (r / (3 * 48)) (r / 3 % 48) k := by
  rw [feats_at (args m c) _ _ _ t (blk0 m c t) (blk1 m c t) (blk2 m c t)]
  have e1 : r / (3 * 48) = 12 * t.val + p.val / 48 := by omega
  have e2 : r / 3 % 48 = p.val % 48 := by omega
  rw [e1, e2]

/-- The first result holds the scores. -/
theorem final14 (c : Dev nD) : (dats m 0 c).arrAt 14 cfg0.N =
    (fun i => Spec.score (args m c) (Spec.row (by decide) i) : FVec Ideal S2304x3 .f32) := by
  refine (dats m 0 c).arrAt_eq_of_covers 14 _ (by decide +kernel) fun t hf y => ?_
  blk_simp
  rw [after0_14]
  dsimp only [outsAt0]
  frame_out
  have hr : (Spec.row (N := 6912) (P := 2304) (by decide) (((View.whole main_v70_0).slice (win0_14.rect t)).emb y)).val =
      (576 * t.val + (y 0).val) * 3 + (y 1).val := by
    unfold Spec.row
    blk_simp [idx t]
    show (t.val * 576 + (y 0).val) * 3 + (y 1).val = (576 * t.val + (y 0).val) * 3 + (y 1).val
    omega
  generalize Spec.row (N := 6912) (P := 2304) _ _ = r at hr ⊢
  have ha : r.val % 3 = (y 1).val := by have h1 : (y 1).val < 3 := (y 1).isLt; omega
  refine (score_pay _ _ _ _ _ _ _ _ _ _ _ _ y).trans ?_
  exact congrArg₂ Spec.soft
    (Spec.logit_of _ _ 0 _ ⟨2 * (y 1).val, by omega⟩ (by show 2 * (y 1).val = _; omega) (feats_blk m c t (y 0) (y 1) r hr)
      (fun k => blk3 m c t k (y 1)) (blk5 m c t (y 1)))
    (Spec.logit_of _ _ 1 _ ⟨1 + 2 * (y 1).val, by omega⟩ (by show 1 + 2 * (y 1).val = _; omega) (feats_blk m c t (y 0) (y 1) r hr)
      (fun k => blk4 m c t k (y 1)) (blk6 m c t (y 1)))

/-- An edge of the anchor of a row of the point. -/
theorem anchor0 (c : Dev nD) (t : Fin cfg0.N) (y : S576x3.Idx) (r : Fin 6912) (hr : r.val = (576 * t.val + (y 0).val) * 3 + (y 1).val) :
    (iblk m c 9 t : FVec Ideal S576x3 .f32) y = (args m c).an r 0 := by
  have e : y = ix2 (y 0) (y 1) := by funext i; match i with | ⟨0, _⟩ => rfl | ⟨1, _⟩ => rfl
  exact (congrArg (iblk m c 9 t : FVec Ideal S576x3 .f32) e).trans
    ((blk9 m c t (y 0) (y 1)).trans (congrArg (fun r => (args m c).an r 0) (Fin.ext hr.symm)))

/-- An edge of the anchor of a row of the point. -/
theorem anchor1 (c : Dev nD) (t : Fin cfg0.N) (y : S576x3.Idx) (r : Fin 6912) (hr : r.val = (576 * t.val + (y 0).val) * 3 + (y 1).val) :
    (iblk m c 10 t : FVec Ideal S576x3 .f32) y = (args m c).an r 1 := by
  have e : y = ix2 (y 0) (y 1) := by funext i; match i with | ⟨0, _⟩ => rfl | ⟨1, _⟩ => rfl
  exact (congrArg (iblk m c 10 t : FVec Ideal S576x3 .f32) e).trans
    ((blk10 m c t (y 0) (y 1)).trans (congrArg (fun r => (args m c).an r 1) (Fin.ext hr.symm)))

/-- An edge of the anchor of a row of the point. -/
theorem anchor2 (c : Dev nD) (t : Fin cfg0.N) (y : S576x3.Idx) (r : Fin 6912) (hr : r.val = (576 * t.val + (y 0).val) * 3 + (y 1).val) :
    (iblk m c 11 t : FVec Ideal S576x3 .f32) y = (args m c).an r 2 := by
  have e : y = ix2 (y 0) (y 1) := by funext i; match i with | ⟨0, _⟩ => rfl | ⟨1, _⟩ => rfl
  exact (congrArg (iblk m c 11 t : FVec Ideal S576x3 .f32) e).trans
    ((blk11 m c t (y 0) (y 1)).trans (congrArg (fun r => (args m c).an r 2) (Fin.ext hr.symm)))

/-- An edge of the anchor of a row of the point. -/
theorem anchor3 (c : Dev nD) (t : Fin cfg0.N) (y : S576x3.Idx) (r : Fin 6912) (hr : r.val = (576 * t.val + (y 0).val) * 3 + (y 1).val) :
    (iblk m c 12 t : FVec Ideal S576x3 .f32) y = (args m c).an r 3 := by
  have e : y = ix2 (y 0) (y 1) := by funext i; match i with | ⟨0, _⟩ => rfl | ⟨1, _⟩ => rfl
  exact (congrArg (iblk m c 12 t : FVec Ideal S576x3 .f32) e).trans
    ((blk12 m c t (y 0) (y 1)).trans (congrArg (fun r => (args m c).an r 3) (Fin.ext hr.symm)))

/-- The second result holds the left edges of the boxes. -/
theorem final15 (c : Dev nD) : (dats m 0 c).arrAt 15 cfg0.N =
    (fun i => Spec.left (args m c) (Spec.row (by decide) i) : FVec Ideal S2304x3 .f32) := by
  refine (dats m 0 c).arrAt_eq_of_covers 15 _ (by decide +kernel) fun t hf y => ?_
  blk_simp
  rw [after0_15]
  dsimp only [outsAt0]
  frame_out
  have hr : (Spec.row (N := 6912) (P := 2304) (by decide) (((View.whole main_v70_1).slice (win0_15.rect t)).emb y)).val =
      (576 * t.val + (y 0).val) * 3 + (y 1).val := by
    unfold Spec.row
    blk_simp [idx t]
    show (t.val * 576 + (y 0).val) * 3 + (y 1).val = (576 * t.val + (y 0).val) * 3 + (y 1).val
    omega
  generalize Spec.row (N := 6912) (P := 2304) _ _ = r at hr ⊢
  have ha : r.val % 3 = (y 1).val := by have h1 : (y 1).val < 3 := (y 1).isLt; omega
  refine (left_pay _ _ _ _ _ _ y).trans ?_
  exact Spec.lower_congr
    (Spec.delta_of _ _ 0 _ (Spec.chan ⟨0 + (y 1).val, Spec.col_lt 0 (by decide) (y 1)⟩)
      (by show (0 + (y 1).val) % 3 * 4 + (0 + (y 1).val) / 3 = _; omega)
      (feats_blk m c t (y 0) (y 1) r hr) (fun k => blk7 m c t k _) (blk8 m c t _))
    (Spec.delta_of _ _ 2 _ (Spec.chan ⟨6 + (y 1).val, Spec.col_lt 6 (by decide) (y 1)⟩)
      (by show (6 + (y 1).val) % 3 * 4 + (6 + (y 1).val) / 3 = _; omega)
      (feats_blk m c t (y 0) (y 1) r hr) (fun k => blk7 m c t k _) (blk8 m c t _))
    (anchor0 m c t y r hr) (anchor2 m c t y r hr) (blk13 m c t 1)

/-- The third result holds the top edges. -/
theorem final16 (c : Dev nD) : (dats m 0 c).arrAt 16 cfg0.N =
    (fun i => Spec.top (args m c) (Spec.row (by decide) i) : FVec Ideal S2304x3 .f32) := by
  refine (dats m 0 c).arrAt_eq_of_covers 16 _ (by decide +kernel) fun t hf y => ?_
  blk_simp
  rw [after0_16]
  dsimp only [outsAt0]
  frame_out
  have hr : (Spec.row (N := 6912) (P := 2304) (by decide) (((View.whole main_v70_2).slice (win0_16.rect t)).emb y)).val =
      (576 * t.val + (y 0).val) * 3 + (y 1).val := by
    unfold Spec.row
    blk_simp [idx t]
    show (t.val * 576 + (y 0).val) * 3 + (y 1).val = (576 * t.val + (y 0).val) * 3 + (y 1).val
    omega
  generalize Spec.row (N := 6912) (P := 2304) _ _ = r at hr ⊢
  have ha : r.val % 3 = (y 1).val := by have h1 : (y 1).val < 3 := (y 1).isLt; omega
  refine (top_pay _ _ _ _ _ _ y).trans ?_
  exact Spec.lower_congr
    (Spec.delta_of _ _ 1 _ (Spec.chan ⟨3 + (y 1).val, Spec.col_lt 3 (by decide) (y 1)⟩)
      (by show (3 + (y 1).val) % 3 * 4 + (3 + (y 1).val) / 3 = _; omega)
      (feats_blk m c t (y 0) (y 1) r hr) (fun k => blk7 m c t k _) (blk8 m c t _))
    (Spec.delta_of _ _ 3 _ (Spec.chan ⟨9 + (y 1).val, Spec.col_lt 9 (by decide) (y 1)⟩)
      (by show (9 + (y 1).val) % 3 * 4 + (9 + (y 1).val) / 3 = _; omega)
      (feats_blk m c t (y 0) (y 1) r hr) (fun k => blk7 m c t k _) (blk8 m c t _))
    (anchor1 m c t y r hr) (anchor3 m c t y r hr) (blk13 m c t 0)

/-- The fourth result holds the right edges. -/
theorem final17 (c : Dev nD) : (dats m 0 c).arrAt 17 cfg0.N =
    (fun i => Spec.right (args m c) (Spec.row (by decide) i) : FVec Ideal S2304x3 .f32) := by
  refine (dats m 0 c).arrAt_eq_of_covers 17 _ (by decide +kernel) fun t hf y => ?_
  blk_simp
  rw [after0_17]
  dsimp only [outsAt0]
  frame_out
  have hr : (Spec.row (N := 6912) (P := 2304) (by decide) (((View.whole main_v70_3).slice (win0_17.rect t)).emb y)).val =
      (576 * t.val + (y 0).val) * 3 + (y 1).val := by
    unfold Spec.row
    blk_simp [idx t]
    show (t.val * 576 + (y 0).val) * 3 + (y 1).val = (576 * t.val + (y 0).val) * 3 + (y 1).val
    omega
  generalize Spec.row (N := 6912) (P := 2304) _ _ = r at hr ⊢
  have ha : r.val % 3 = (y 1).val := by have h1 : (y 1).val < 3 := (y 1).isLt; omega
  refine (right_pay _ _ _ _ _ _ y).trans ?_
  exact Spec.upper_congr
    (Spec.delta_of _ _ 0 _ (Spec.chan ⟨0 + (y 1).val, Spec.col_lt 0 (by decide) (y 1)⟩)
      (by show (0 + (y 1).val) % 3 * 4 + (0 + (y 1).val) / 3 = _; omega)
      (feats_blk m c t (y 0) (y 1) r hr) (fun k => blk7 m c t k _) (blk8 m c t _))
    (Spec.delta_of _ _ 2 _ (Spec.chan ⟨6 + (y 1).val, Spec.col_lt 6 (by decide) (y 1)⟩)
      (by show (6 + (y 1).val) % 3 * 4 + (6 + (y 1).val) / 3 = _; omega)
      (feats_blk m c t (y 0) (y 1) r hr) (fun k => blk7 m c t k _) (blk8 m c t _))
    (anchor0 m c t y r hr) (anchor2 m c t y r hr) (blk13 m c t 1)

/-- The fifth result holds the bottom edges. -/
theorem final18 (c : Dev nD) : (dats m 0 c).arrAt 18 cfg0.N =
    (fun i => Spec.bottom (args m c) (Spec.row (by decide) i) : FVec Ideal S2304x3 .f32) := by
  refine (dats m 0 c).arrAt_eq_of_covers 18 _ (by decide +kernel) fun t hf y => ?_
  blk_simp
  rw [after0_18]
  dsimp only [outsAt0]
  frame_out
  have hr : (Spec.row (N := 6912) (P := 2304) (by decide) (((View.whole main_v70_4).slice (win0_18.rect t)).emb y)).val =
      (576 * t.val + (y 0).val) * 3 + (y 1).val := by
    unfold Spec.row
    blk_simp [idx t]
    show (t.val * 576 + (y 0).val) * 3 + (y 1).val = (576 * t.val + (y 0).val) * 3 + (y 1).val
    omega
  generalize Spec.row (N := 6912) (P := 2304) _ _ = r at hr ⊢
  have ha : r.val % 3 = (y 1).val := by have h1 : (y 1).val < 3 := (y 1).isLt; omega
  refine (bottom_pay _ _ _ _ _ _ y).trans ?_
  exact Spec.upper_congr
    (Spec.delta_of _ _ 1 _ (Spec.chan ⟨3 + (y 1).val, Spec.col_lt 3 (by decide) (y 1)⟩)
      (by show (3 + (y 1).val) % 3 * 4 + (3 + (y 1).val) / 3 = _; omega)
      (feats_blk m c t (y 0) (y 1) r hr) (fun k => blk7 m c t k _) (blk8 m c t _))
    (Spec.delta_of _ _ 3 _ (Spec.chan ⟨9 + (y 1).val, Spec.col_lt 9 (by decide) (y 1)⟩)
      (by show (9 + (y 1).val) % 3 * 4 + (9 + (y 1).val) / 3 = _; omega)
      (feats_blk m c t (y 0) (y 1) r hr) (fun k => blk7 m c t k _) (blk8 m c t _))
    (anchor1 m c t y r hr) (anchor3 m c t y r hr) (blk13 m c t 0)

end Cert.Proof.Kernel3

end
-- ==== Proof.Reference3.lean ====
/- Level 3 (48 x 48): what the reference leaves in its five results, as the functions of Spec.lean of its arguments. -/
module

public import proofs.«01_k».proof.Proof.Gen.Reference3Ideal.Run
public import proofs.«01_k».proof.Proof.Spec
public import Idealize.ShloMosaic.Lib.Tactic.CleanTypes

@[expose] public section

set_option maxRecDepth 16384

noncomputable section

namespace Cert.Proof.Reference3

open Cert.Reference3Ideal Cert.Reference3Ideal.Gen Cert.Reference3Ideal.Value Idealize.ShloMosaic Idealize.ShloMosaic.TcCoe
open Idealize.SL.Sem StableHlo

/-- The arguments of the level, read off a valuation of the reference's buffers. -/
def args (V0 : Valuation τ sig (Elt Ideal)) : Spec.Args 48 6912 where
  x k h v := (V0 (Proc.devRef .tc main_arg0) : FVec Ideal S1x256x48x48 .f32) (ix4 0 k h v)
  im k := (V0 (Proc.devRef .tc main_arg1) : FVec Ideal S1x6 .f32) (ix2 0 k)
  w o k i j := (V0 (Proc.devRef .tc main_arg2) : FVec Ideal S256x256x3x3 .f32) (ix4 o k i j)
  b o := (V0 (Proc.devRef .tc main_arg3) : FVec Ideal S256 .f32) (ix1 o)
  cw q k := (V0 (Proc.devRef .tc main_arg4) : FVec Ideal S6x256x1x1 .f32) (ix4 q k 0 0)
  cb q := (V0 (Proc.devRef .tc main_arg5) : FVec Ideal S6 .f32) (ix1 q)
  bw q k := (V0 (Proc.devRef .tc main_arg6) : FVec Ideal S18x256x1x1 .f32) (ix4 q k 0 0)
  bb q := (V0 (Proc.devRef .tc main_arg7) : FVec Ideal S18 .f32) (ix1 q)
  an r q := (V0 (Proc.devRef .tc main_arg8) : FVec Ideal S6912x4 .f32) (ix2 r q)

variable (V0 : Valuation τ sig (Elt Ideal))

/-- The padded picture. -/
theorem pad_at (k : Fin 256) (i j : Fin 50) :
    (res_main_v1 V0 : FVec Ideal S256x50x50 .f32) (ix3 k i j) = Spec.pad (args V0).x i.val j.val k := by
  unfold res_main_v1
  clean_types
  pointwise
  rw [Spec.sitofp_zero]
  rfl

/-- The features. -/
theorem feat_at (o : Fin 256) (h v : Fin 48) :
    (res_main_v51 V0 : FVec Ideal S256x48x48 .f32) (ix3 o h v) = Spec.feat (args V0) h.val v.val o := by
  unfold res_main_v51
  clean_types
  pointwise
  simp only [pad_at]
  have T := fun (k l : Fin 3) (i j : ℕ) (hi : i = h.val + k.val) (hj : j = v.val + l.val) =>
    Spec.tap_rev (args V0) k l h.val v.val o hi hj
  have n0 := fun a : ℕ => Nat.add_comm 1 a
  have n1 := fun a : ℕ => Nat.add_comm 2 a
  unfold Spec.feat
  rw [← T 0 0 h.val v.val rfl rfl, ← T 0 1 h.val (1 + v.val) rfl (n0 _), ← T 0 2 h.val (2 + v.val) rfl (n1 _),
    ← T 1 0 (1 + h.val) v.val (n0 _) rfl, ← T 1 1 (1 + h.val) (1 + v.val) (n0 _) (n0 _), ← T 1 2 (1 + h.val) (2 + v.val) (n0 _) (n1 _),
    ← T 2 0 (2 + h.val) v.val (n1 _) rfl, ← T 2 1 (2 + h.val) (1 + v.val) (n1 _) (n0 _), ← T 2 2 (2 + h.val) (2 + v.val) (n1 _) (n1 _)]
  rfl

/-- The class scores. -/
theorem logit_at (r : Fin 6912) (q : Fin 2) :
    (res_main_v66 V0 : FVec Ideal S6912x2 .f32) (ix2 r q) = Spec.logit (args V0) r.val q.val q.isLt := by
  unfold res_main_v66
  clean_types
  pointwise
  simp only [feat_at]
  exact Spec.lin_rev _ _ _

/-- The box offsets. -/
theorem delta_at (r : Fin 6912) (q : Fin 4) :
    (res_main_v64 V0 : FVec Ideal S6912x4 .f32) (ix2 r q) = Spec.delta (args V0) r.val q.val q.isLt := by
  unfold res_main_v64
  clean_types
  pointwise
  simp only [feat_at]
  exact Spec.lin_rev _ _ _

/-- The exponentials of the class scores, their larger one taken off. -/
theorem exp_at (r : Fin 6912) (q : Fin 2) :
    (res_main_v73 V0 : FVec Ideal S6912x2 .f32) (ix2 r q) = Ideal.exp (Spec.logit (args V0) r.val q.val q.isLt
      - max (Spec.logit (args V0) r.val 0 (by decide)) (Spec.logit (args V0) r.val 1 (by decide))) := by
  unfold res_main_v73
  clean_types
  pointwise
  simp only [logit_at]
  rw [Spec.fold_max_two, Spec.bot_max]
  rfl

/-- The lower bound of the clipping is zero. -/
theorem zero_at : (id (constant (F := Ideal) S_ .f32 0#32) ix0 : Ideal .f32) = 0 := by
  show Ideal.ofBits FTy.f32 0#32 = 0
  simp [Ideal.ofBits, Ideal.ieee]

/-- The scores. -/
theorem result144 (y : S2304x3.Idx) : (after ops V0 (Proc.devRef .tc main_v144) : FVec Ideal S2304x3 .f32) y =
    Spec.score (args V0) (Spec.row (by decide) y) := by
  rw [after_ops, val3_main_v144]
  clean_types
  pointwise
  simp only [exp_at]
  rw [Fin.sum_univ_two]
  rfl

/-- The left edges. -/
theorem result145 (y : S2304x3.Idx) : (after ops V0 (Proc.devRef .tc main_v145) : FVec Ideal S2304x3 .f32) y =
    Spec.left (args V0) (Spec.row (by decide) y) := by
  rw [after_ops, val3_main_v145]
  unfold res_main_v123 res_main_v109 res_main_v115 res_main_v84
  clean_types
  pointwise
  simp only [delta_at]
  rw [zero_at]
  rfl

/-- The top edges. -/
theorem result146 (y : S2304x3.Idx) : (after ops V0 (Proc.devRef .tc main_v146) : FVec Ideal S2304x3 .f32) y =
    Spec.top (args V0) (Spec.row (by decide) y) := by
  rw [after_ops, val3_main_v146]
  unfold res_main_v121 res_main_v111 res_main_v119 res_main_v89
  clean_types
  pointwise
  simp only [delta_at]
  rw [zero_at]
  rfl

/-- The right edges. -/
theorem result147 (y : S2304x3.Idx) : (after ops V0 (Proc.devRef .tc main_v147) : FVec Ideal S2304x3 .f32) y =
    Spec.right (args V0) (Spec.row (by decide) y) := by
  rw [after_ops, val3_main_v147]
  unfold res_main_v123 res_main_v109 res_main_v115 res_main_v84
  clean_types
  pointwise
  simp only [delta_at]
  rw [zero_at]
  rfl

/-- The bottom edges. -/
theorem result148 (y : S2304x3.Idx) : (after ops V0 (Proc.devRef .tc main_v148) : FVec Ideal S2304x3 .f32) y =
    Spec.bottom (args V0) (Spec.row (by decide) y) := by
  rw [after_ops, val3_main_v148]
  unfold res_main_v121 res_main_v111 res_main_v119 res_main_v89
  clean_types
  pointwise
  simp only [delta_at]
  rw [zero_at]
  rfl

end Cert.Proof.Reference3

end
-- ==== Proof.Level3.lean ====
/- Level 3 (48 x 48): the kernel and the reference, run from the same arguments, end with the same five results. -/
module

public import proofs.«01_k».proof.Defs
public import proofs.«01_k».proof.Proof.Kernel3
public import proofs.«01_k».proof.Proof.Reference3

@[expose] public section

set_option maxRecDepth 16384

noncomputable section

namespace Cert.Proof.Level3

open Idealize.ShloMosaic Idealize.ShloMosaic.TcCoe Idealize.SL.Sem StableHlo

section KernelRun
open Cert.Kernel3Ideal Cert.Kernel3Ideal.Gen Cert.Kernel3Ideal.Value

/-- Every run of the kernel ends with the scores and the four edges of the boxes in its five results, and with its
    arguments as they were. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v70_0) = (fun i => Spec.score (Kernel3.args m c) (Spec.row (by decide) i) : FVec Ideal S2304x3 .f32)
      ∧ r.2.mem ((c.tc : Thread nD τ).loc main_v70_1) = (fun i => Spec.left (Kernel3.args m c) (Spec.row (by decide) i) : FVec Ideal S2304x3 .f32)
      ∧ r.2.mem ((c.tc : Thread nD τ).loc main_v70_2) = (fun i => Spec.top (Kernel3.args m c) (Spec.row (by decide) i) : FVec Ideal S2304x3 .f32)
      ∧ r.2.mem ((c.tc : Thread nD τ).loc main_v70_3) = (fun i => Spec.right (Kernel3.args m c) (Spec.row (by decide) i) : FVec Ideal S2304x3 .f32)
      ∧ r.2.mem ((c.tc : Thread nD τ).loc main_v70_4) = (fun i => Spec.bottom (Kernel3.args m c) (Spec.row (by decide) i) : FVec Ideal S2304x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).1 14).trans (Kernel3.final14 m c), ((h c).1 15).trans (Kernel3.final15 m c),
      ((h c).1 16).trans (Kernel3.final16 m c), ((h c).1 17).trans (Kernel3.final17 m c),
      ((h c).1 18).trans (Kernel3.final18 m c), kept_main_arg0 m r h c, kept_main_arg1 m r h c, kept_main_arg2 m r h c,
      kept_main_arg3 m r h c, kept_main_arg4 m r h c, kept_main_arg5 m r h c, kept_main_arg6 m r h c,
      kept_main_arg7 m r h c, kept_main_arg8 m r h c⟩) (run_main m g)

end KernelRun

section ReferenceRun
open Cert.Reference3Ideal Cert.Reference3Ideal.Gen Cert.Reference3Ideal.Value

/-- Every run of the reference whose arguments read as `A` ends with the scores and the four edges of the boxes of `A`
    in its five results, and with its arguments as they were. -/
theorem reference_run (m : (ℓ : Loc nD τ sig) → Buf (Elt Ideal) ℓ) (g : Dev nD → PrngReg)
    (A : Dev nD → Spec.Args 48 6912) (hA : ∀ c, Reference3.args (launchContents m c) = A c) :
    θ_run defs (onTc (τ := τ) (main (F := Ideal))) ⟨m, fun _ => 0, g⟩ (fun r => ∀ c : Dev nD,
      r.2.mem ((c.tc : Thread nD τ).loc main_v144) = (fun i => Spec.score (A c) (Spec.row (by decide) i) : FVec Ideal S2304x3 .f32)
      ∧ r.2.mem ((c.tc : Thread nD τ).loc main_v145) = (fun i => Spec.left (A c) (Spec.row (by decide) i) : FVec Ideal S2304x3 .f32)
      ∧ r.2.mem ((c.tc : Thread nD τ).loc main_v146) = (fun i => Spec.top (A c) (Spec.row (by decide) i) : FVec Ideal S2304x3 .f32)
      ∧ r.2.mem ((c.tc : Thread nD τ).loc main_v147) = (fun i => Spec.right (A c) (Spec.row (by decide) i) : FVec Ideal S2304x3 .f32)
      ∧ r.2.mem ((c.tc : Thread nD τ).loc main_v148) = (fun i => Spec.bottom (A c) (Spec.row (by decide) i) : FVec Ideal S2304x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hk (V0 : Valuation τ sig (Elt Ideal)) (b) : after ops V0 b = val3 V0 b := congrFun (after_ops V0) b
  refine (θ_run defs _ _).mono (fun r h c => ?_)
    (run_seq scopedRefs_eq scopedSems_eq defs main (fun _ => ops) main_eq (fun _ => ops_sub) m g fun _ => ops_fresh)
  rw [← hA c]
  exact ⟨(h c main_v144).trans (funext (Reference3.result144 _)), (h c main_v145).trans (funext (Reference3.result145 _)),
    (h c main_v146).trans (funext (Reference3.result146 _)), (h c main_v147).trans (funext (Reference3.result147 _)),
    (h c main_v148).trans (funext (Reference3.result148 _)),
    (h c main_arg0).trans ((hk _ _).trans (val3_main_arg0 _)), (h c main_arg1).trans ((hk _ _).trans (val3_main_arg1 _)),
    (h c main_arg2).trans ((hk _ _).trans (val3_main_arg2 _)), (h c main_arg3).trans ((hk _ _).trans (val3_main_arg3 _)),
    (h c main_arg4).trans ((hk _ _).trans (val3_main_arg4 _)), (h c main_arg5).trans ((hk _ _).trans (val3_main_arg5 _)),
    (h c main_arg6).trans ((hk _ _).trans (val3_main_arg6 _)), (h c main_arg7).trans ((hk _ _).trans (val3_main_arg7 _)),
    (h c main_arg8).trans ((hk _ _).trans (val3_main_arg8 _))⟩

end ReferenceRun

/-- Over the extended reals the kernel and the reference of this level compute the same five results. -/
theorem algebraic : algebraic_Kernel3Ideal_Reference3Ideal (hKernel3Ideal := Cert.Kernel3Ideal.Gen.facts)
    (hReference3Ideal := Cert.Reference3Ideal.Gen.facts) := by
  intro m g m' g' _ hagree
  refine ⟨_, _, _, _, _, kernel_run m g, reference_run m' g' (fun c => Kernel3.args m c) fun c => ?_⟩
  obtain ⟨h0, h1, h2, h3, h4, h5, h6, h7, h8⟩ := hagree c
  show Spec.Args.mk _ _ _ _ _ _ _ _ _ = Spec.Args.mk _ _ _ _ _ _ _ _ _
  congr 1
  · funext k h v; exact congrFun h0 _
  · funext k; exact congrFun h1 _
  · funext o k i j; exact congrFun h2 _
  · funext o; exact congrFun h3 _
  · funext q k; exact congrFun h4 _
  · funext q; exact congrFun h5 _
  · funext q k; exact congrFun h6 _
  · funext q; exact congrFun h7 _
  · funext r q; exact congrFun h8 _

end Cert.Proof.Level3

end
-- ==== Proof.Kernel4.lean ====
/- Level 4 (96 x 96): what the kernel leaves in its five result arrays, as the functions of Spec.lean of its arguments. -/
module

public import proofs.«01_k».proof.Proof.Gen.Kernel4Ideal.Value
public import proofs.«01_k».proof.Proof.Spec
public import Idealize.ShloMosaic.Lib.Tactic.CleanTypes

@[expose] public section

set_option maxRecDepth 16384

noncomputable section

namespace Cert.Proof.Kernel4

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The arguments of the level, read off the launch memory. -/
def args (c : Dev nD) : Spec.Args 96 27648 where
  x k h v := (m ((c : Thread nD τ).loc main_arg0) : FVec Ideal S1x256x96x96 .f32) (ix4 0 k h v)
  im k := (m ((c : Thread nD τ).loc main_arg1) : FVec Ideal S1x6 .f32) (ix2 0 k)
  w o k i j := (m ((c : Thread nD τ).loc main_arg2) : FVec Ideal S256x256x3x3 .f32) (ix4 o k i j)
  b o := (m ((c : Thread nD τ).loc main_arg3) : FVec Ideal S256 .f32) (ix1 o)
  cw q k := (m ((c : Thread nD τ).loc main_arg4) : FVec Ideal S6x256x1x1 .f32) (ix4 q k 0 0)
  cb q := (m ((c : Thread nD τ).loc main_arg5) : FVec Ideal S6 .f32) (ix1 q)
  bw q k := (m ((c : Thread nD τ).loc main_arg6) : FVec Ideal S18x256x1x1 .f32) (ix4 q k 0 0)
  bb q := (m ((c : Thread nD τ).loc main_arg7) : FVec Ideal S18 .f32) (ix1 q)
  an r q := (m ((c : Thread nD τ).loc main_arg8) : FVec Ideal S27648x4 .f32) (ix2 r q)

/-! ## The operands the host prepares -/

/-- A picture laid pixels first and surrounded by a border of zeros. -/
theorem pad_at (X : FVec Ideal S1x256x96x96 .f32) (i j : Fin 98) (k : Fin 256) :
    pad S98x98x256 ![1, 1, 0] ![1, 1, 0] ![0, 0, 0]
      (transpose S96x96x256 [1, 2, 0] (shapeCast S256x96x96 X shapeCasts_S1x256x96x96_S256x96x96) transposes_S256x96x96_S96x96x256_1_2_0)
      (sitofp (F := Ideal) .f32 (constantI S_ 32 0#32)) pads_S96x96x256_S98x98x256_110_110_000 h_S_ (ix3 i j k) =
    Spec.pad (fun k h v => X (ix4 0 k h v)) i.val j.val k := by
  pointwise
  rw [Spec.sitofp_zero]
  rfl

/-- The padded picture, pixels first. -/
theorem V_pad (c : Dev nD) (i j : Fin 98) (k : Fin 256) :
    (V m c main_v59 : FVec Ideal S98x98x256 .f32) (ix3 i j k) = Spec.pad (args m c).x i.val j.val k := by
  have e : (V m c main_v59 : FVec Ideal S98x98x256 .f32) = pad S98x98x256 ![1, 1, 0] ![1, 1, 0] ![0, 0, 0]
      (transpose S96x96x256 [1, 2, 0] (shapeCast S256x96x96 (m ((c : Thread nD τ).loc main_arg0) : FVec Ideal S1x256x96x96 .f32) shapeCasts_S1x256x96x96_S256x96x96) transposes_S256x96x96_S96x96x256_1_2_0)
      (sitofp (F := Ideal) .f32 (constantI S_ 32 0#32)) pads_S96x96x256_S98x98x256_110_110_000 h_S_ := by
    unfold V
    simp only [hostOps0, hostOps0_1, hostOps0_2, List.flatten_cons, List.flatten_nil, List.cons_append, List.nil_append, List.append_nil]
    entry_read
    rfl
  rw [e]
  exact pad_at _ i j k

set_option maxHeartbeats 1600000 in
/-- The nine matrices of weights, input channels first. -/
theorem V_wk (c : Dev nD) (q : Fin 9) (k o : Fin 256) :
    (V m c main_v36 : FVec Ideal S9x256x256 .f32) (ix3 q k o) = (args m c).w o k ⟨q.val / 3, by omega⟩ ⟨q.val % 3, by omega⟩ := by
  unfold V
  simp only [hostOps0, hostOps0_1, hostOps0_2, List.flatten_cons, List.flatten_nil, List.cons_append, List.nil_append, List.append_nil]
  simp only [StableHlo.after_cons, StableHlo.after_nil]
  after_results_simp
  concat_tiles i h
  all_goals
    dsimp only [Matrix.cons_val]
    after_results_simp
    first
      | exact Spec.mat_at _ 0 0 _ _ _ _ i q k o h h1 h2
      | exact Spec.mat_at _ 0 1 _ _ _ _ i q k o h h1 h2
      | exact Spec.mat_at _ 0 2 _ _ _ _ i q k o h h1 h2
      | exact Spec.mat_at _ 1 0 _ _ _ _ i q k o h h1 h2
      | exact Spec.mat_at _ 1 1 _ _ _ _ i q k o h h1 h2
      | exact Spec.mat_at _ 1 2 _ _ _ _ i q k o h h1 h2
      | exact Spec.mat_at _ 2 0 _ _ _ _ i q k o h h1 h2
      | exact Spec.mat_at _ 2 1 _ _ _ _ i q k o h h1 h2
      | exact Spec.mat_at _ 2 2 _ _ _ _ i q k o h h1 h2

/-- The table of column numbers holds each column's channel. -/
theorem chan_word : ∀ q : Fin 12, (broadcastInDim S12x1 ![0] bcast_S12_S12x1_0
        (select (constantI S12 1 0#1)
          (addi (fun i => lit0 (S12.rowMajor i)) (broadcastInDim S12 ![] bcast_S_S12 (constantI S_ 32 12#32))) fun i =>
          lit0 (S12.rowMajor i)) (ix2 q 0)).toInt.toNat = (Spec.chan12 q).val := by decide +kernel

/-- The weights of the box offsets, columns in the kernel's order. -/
theorem V_wb (c : Dev nD) (k : Fin 256) (q : Fin 12) :
    (V m c main_v50 : FVec Ideal S256x12 .f32) (ix2 k q) = (args m c).bw (Spec.chan q) k := by
  unfold V
  simp only [hostOps0, hostOps0_1, hostOps0_2, List.flatten_cons, List.flatten_nil, List.cons_append, List.nil_append, List.append_nil]
  entry_read
  refine (Spec.gather_col _ _ _ k q (Spec.chan12 q) (chan_word q)).trans ?_
  pointwise
  rfl

/-- The biases of the box offsets, in the kernel's order. -/
theorem V_bb (c : Dev nD) (q : Fin 12) :
    (V m c main_v56 : FVec Ideal S12 .f32) (ix1 q) = (args m c).bb (Spec.chan q) := by
  unfold V
  simp only [hostOps0, hostOps0_1, hostOps0_2, List.flatten_cons, List.flatten_nil, List.cons_append, List.nil_append, List.append_nil]
  entry_read
  refine (Spec.gather_vec _ _ _ q (Spec.chan12 q) (chan_word q)).trans ?_
  pointwise
  rfl

/-- The score weights of the background class. -/
theorem V_wc0 (c : Dev nD) (k : Fin 256) (a : Fin 3) :
    (V m c main_v39 : FVec Ideal S256x3 .f32) (ix2 k a) = (args m c).cw ⟨2 * a.val, by omega⟩ k := by
  unfold V
  simp only [hostOps0, hostOps0_1, hostOps0_2, List.flatten_cons, List.flatten_nil, List.cons_append, List.nil_append, List.append_nil]
  entry_read
  clean_types
  pointwise
  rfl

/-- The score weights of the foreground class. -/
theorem V_wc1 (c : Dev nD) (k : Fin 256) (a : Fin 3) :
    (V m c main_v40 : FVec Ideal S256x3 .f32) (ix2 k a) = (args m c).cw ⟨1 + 2 * a.val, by omega⟩ k := by
  unfold V
  simp only [hostOps0, hostOps0_1, hostOps0_2, List.flatten_cons, List.flatten_nil, List.cons_append, List.nil_append, List.append_nil]
  entry_read
  clean_types
  pointwise
  rfl

/-- The score biases of the background class. -/
theorem V_bc0 (c : Dev nD) (a : Fin 3) :
    (V m c main_v41 : FVec Ideal S3 .f32) (ix1 a) = (args m c).cb ⟨2 * a.val, by omega⟩ := by
  unfold V
  simp only [hostOps0, hostOps0_1, hostOps0_2, List.flatten_cons, List.flatten_nil, List.cons_append, List.nil_append, List.append_nil]
  entry_read
  clean_types
  pointwise
  rfl

/-- The score biases of the foreground class. -/
theorem V_bc1 (c : Dev nD) (a : Fin 3) :
    (V m c main_v42 : FVec Ideal S3 .f32) (ix1 a) = (args m c).cb ⟨1 + 2 * a.val, by omega⟩ := by
  unfold V
  simp only [hostOps0, hostOps0_1, hostOps0_2, List.flatten_cons, List.flatten_nil, List.cons_append, List.nil_append, List.append_nil]
  entry_read
  clean_types
  pointwise
  rfl

/-- The left edges of the anchors, one row per pixel. -/
theorem V_an0 (c : Dev nD) (p : Fin 9216) (a : Fin 3) :
    (V m c main_v62 : FVec Ideal S9216x3 .f32) (ix2 p a) = (args m c).an ⟨p.val * 3 + a.val, by omega⟩ 0 := by
  unfold V
  simp only [hostOps0, hostOps0_1, hostOps0_2, List.flatten_cons, List.flatten_nil, List.cons_append, List.nil_append, List.append_nil]
  entry_read
  clean_types
  pointwise
  rfl

/-- The top edges of the anchors, one row per pixel. -/
theorem V_an1 (c : Dev nD) (p : Fin 9216) (a : Fin 3) :
    (V m c main_v64 : FVec Ideal S9216x3 .f32) (ix2 p a) = (args m c).an ⟨p.val * 3 + a.val, by omega⟩ 1 := by
  unfold V
  simp only [hostOps0, hostOps0_1, hostOps0_2, List.flatten_cons, List.flatten_nil, List.cons_append, List.nil_append, List.append_nil]
  entry_read
  clean_types
  pointwise
  rfl

/-- The right edges of the anchors, one row per pixel. -/
theorem V_an2 (c : Dev nD) (p : Fin 9216) (a : Fin 3) :
    (V m c main_v66 : FVec Ideal S9216x3 .f32) (ix2 p a) = (args m c).an ⟨p.val * 3 + a.val, by omega⟩ 2 := by
  unfold V
  simp only [hostOps0, hostOps0_1, hostOps0_2, List.flatten_cons, List.flatten_nil, List.cons_append, List.nil_append, List.append_nil]
  entry_read
  clean_types
  pointwise
  rfl

/-- The bottom edges of the anchors, one row per pixel. -/
theorem V_an3 (c : Dev nD) (p : Fin 9216) (a : Fin 3) :
    (V m c main_v68 : FVec Ideal S9216x3 .f32) (ix2 p a) = (args m c).an ⟨p.val * 3 + a.val, by omega⟩ 3 := by
  unfold V
  simp only [hostOps0, hostOps0_1, hostOps0_2, List.flatten_cons, List.flatten_nil, List.cons_append, List.nil_append, List.append_nil]
  entry_read
  clean_types
  pointwise
  rfl

/-- The height and width of the picture. -/
theorem V_hw (c : Dev nD) (q : Fin 2) :
    (V m c main_v69 : FVec Ideal S1x2 .f32) (ix2 0 q) = (args m c).im ⟨q.val, by omega⟩ := by
  unfold V
  simp only [hostOps0, hostOps0_1, hostOps0_2, List.flatten_cons, List.flatten_nil, List.cons_append, List.nil_append, List.append_nil]
  entry_read
  clean_types
  pointwise
  rfl

/-! ## The blocks of a grid point -/

/-- Where the blocks of the point `t` lie: the anchors and the results move with it, everything else is whole. -/
theorem idx : ∀ t : Fin cfg0.N, win0_0.index t = ![0, 0, 0] ∧ win0_1.index t = ![0, 0, 0] ∧ win0_2.index t = ![0]
    ∧ win0_3.index t = ![0, 0] ∧ win0_4.index t = ![0, 0] ∧ win0_5.index t = ![0] ∧ win0_6.index t = ![0]
    ∧ win0_7.index t = ![0, 0] ∧ win0_8.index t = ![0] ∧ win0_9.index t = ![t.val, 0] ∧ win0_10.index t = ![t.val, 0]
    ∧ win0_11.index t = ![t.val, 0] ∧ win0_12.index t = ![t.val, 0] ∧ win0_13.index t = ![0, 0]
    ∧ win0_14.index t = ![t.val, 0] ∧ win0_15.index t = ![t.val, 0] ∧ win0_16.index t = ![t.val, 0]
    ∧ win0_17.index t = ![t.val, 0] ∧ win0_18.index t = ![t.val, 0] := by decide +kernel

/-- The grid is one axis. -/
theorem coords0 : ∀ t : Fin cfg0.N, (grid0.coords t 0).val = t.val := by decide +kernel

/-- The number of grid points. -/
theorem point_lt (t : Fin cfg0.N) : t.val < 8 := t.isLt

/-- The padded picture in a point. -/
theorem blk0 (c : Dev nD) (t : Fin cfg0.N) (i j : Fin 98) (k : Fin 256) :
    (iblk m c 0 t : FVec Ideal S98x98x256 .f32) (ix3 i j k) = Spec.pad (args m c).x i.val j.val k := by
  refine Eq.trans ?_ (V_pad m c i j k)
  blk_ext [iblk, idx t]

/-- The weights in a point. -/
theorem blk1 (c : Dev nD) (t : Fin cfg0.N) (q : Fin 9) (k o : Fin 256) :
    (iblk m c 1 t : FVec Ideal S9x256x256 .f32) (ix3 q k o) = (args m c).w o k ⟨q.val / 3, by omega⟩ ⟨q.val % 3, by omega⟩ := by
  refine Eq.trans ?_ (V_wk m c q k o)
  blk_ext [iblk, idx t]

/-- The biases in a point. -/
theorem blk2 (c : Dev nD) (t : Fin cfg0.N) (o : Fin 256) :
    (iblk m c 2 t : FVec Ideal S256 .f32) (ix1 o) = (args m c).b o := by
  refine Eq.trans ?_ ((V_main_arg3 m c ▸ rfl : (V m c main_arg3 : FVec Ideal S256 .f32) (ix1 o) = (args m c).b o))
  blk_ext [iblk, idx t]

/-- Score weights in a point. -/
theorem blk3 (c : Dev nD) (t : Fin cfg0.N) (k : Fin 256) (a : Fin 3) :
    (iblk m c 3 t : FVec Ideal S256x3 .f32) (ix2 k a) = (args m c).cw ⟨2 * a.val, by omega⟩ k := by
  refine Eq.trans ?_ (V_wc0 m c k a)
  blk_ext [iblk, idx t]

/-- Score weights in a point. -/
theorem blk4 (c : Dev nD) (t : Fin cfg0.N) (k : Fin 256) (a : Fin 3) :
    (iblk m c 4 t : FVec Ideal S256x3 .f32) (ix2 k a) = (args m c).cw ⟨1 + 2 * a.val, by omega⟩ k := by
  refine Eq.trans ?_ (V_wc1 m c k a)
  blk_ext [iblk, idx t]

/-- Score biases in a point. -/
theorem blk5 (c : Dev nD) (t : Fin cfg0.N) (a : Fin 3) :
    (iblk m c 5 t : FVec Ideal S3 .f32) (ix1 a) = (args m c).cb ⟨2 * a.val, by omega⟩ := by
  refine Eq.trans ?_ (V_bc0 m c a)
  blk_ext [iblk, idx t]

/-- Score biases in a point. -/
theorem blk6 (c : Dev nD) (t : Fin cfg0.N) (a : Fin 3) :
    (iblk m c 6 t : FVec Ideal S3 .f32) (ix1 a) = (args m c).cb ⟨1 + 2 * a.val, by omega⟩ := by
  refine Eq.trans ?_ (V_bc1 m c a)
  blk_ext [iblk, idx t]

/-- The weights of the box offsets in a point. -/
theorem blk7 (c : Dev nD) (t : Fin cfg0.N) (k : Fin 256) (q : Fin 12) :
    (iblk m c 7 t : FVec Ideal S256x12 .f32) (ix2 k q) = (args m c).bw (Spec.chan q) k := by
  refine Eq.trans ?_ (V_wb m c k q)
  blk_ext [iblk, idx t]

/-- The biases of the box offsets in a point. -/
theorem blk8 (c : Dev nD) (t : Fin cfg0.N) (q : Fin 12) :
    (iblk m c 8 t : FVec Ideal S12 .f32) (ix1 q) = (args m c).bb (Spec.chan q) := by
  refine Eq.trans ?_ (V_bb m c q)
  blk_ext [iblk, idx t]

/-- Anchor edges in a point. -/
theorem blk9 (c : Dev nD) (t : Fin cfg0.N) (p : Fin 1152) (a : Fin 3) :
    (iblk m c 9 t : FVec Ideal S1152x3 .f32) (ix2 p a) = (args m c).an ⟨(1152 * t.val + p.val) * 3 + a.val, by have := point_lt t; omega⟩ 0 := by
  have ht := point_lt t
  refine Eq.trans ?_ (V_an0 m c ⟨1152 * t.val + p.val, by omega⟩ a)
  blk_ext [iblk, idx t]

/-- Anchor edges in a point. -/
theorem blk10 (c : Dev nD) (t : Fin cfg0.N) (p : Fin 1152) (a : Fin 3) :
    (iblk m c 10 t : FVec Ideal S1152x3 .f32) (ix2 p a) = (args m c).an ⟨(1152 * t.val + p.val) * 3 + a.val, by have := point_lt t; omega⟩ 1 := by
  have ht := point_lt t
  refine Eq.trans ?_ (V_an1 m c ⟨1152 * t.val + p.val, by omega⟩ a)
  blk_ext [iblk, idx t]

/-- Anchor edges in a point. -/
theorem blk11 (c : Dev nD) (t : Fin cfg0.N) (p : Fin 1152) (a : Fin 3) :
    (iblk m c 11 t : FVec Ideal S1152x3 .f32) (ix2 p a) = (args m c).an ⟨(1152 * t.val + p.val) * 3 + a.val, by have := point_lt t; omega⟩ 2 := by
  have ht := point_lt t
  refine Eq.trans ?_ (V_an2 m c ⟨1152 * t.val + p.val, by omega⟩ a)
  blk_ext [iblk, idx t]

/-- Anchor edges in a point. -/
theorem blk12 (c : Dev nD) (t : Fin cfg0.N) (p : Fin 1152) (a : Fin 3) :
    (iblk m c 12 t : FVec Ideal S1152x3 .f32) (ix2 p a) = (args m c).an ⟨(1152 * t.val + p.val) * 3 + a.val, by have := point_lt t; omega⟩ 3 := by
  have ht := point_lt t
  refine Eq.trans ?_ (V_an3 m c ⟨1152 * t.val + p.val, by omega⟩ a)
  blk_ext [iblk, idx t]

/-- The extent of the picture in a point. -/
theorem blk13 (c : Dev nD) (t : Fin cfg0.N) (q : Fin 2) :
    (iblk m c 13 t : FVec Ideal S1x2 .f32) (ix2 0 q) = (args m c).im ⟨q.val, by omega⟩ := by
  refine Eq.trans ?_ (V_hw m c q)
  blk_ext [iblk, idx t]

/-! ## The features -/

/-- The features of grid point `t`, over the padded picture `X`, the nine matrices `W` and the biases `B`: what the body
    computes from its loads. -/
def feats (X : FVec Ideal S98x98x256 .f32) (W : FVec Ideal S9x256x256 .f32) (B : FVec Ideal S256 .f32) (t : Fin cfg0.N) :
    FVec Ideal S1152x256 .f32 :=
  k0_pay6
    (k0_pay4
      (k0_pay3 (View.ld (S := S98x98x256) X (Rect.unit (s := S98x98x256) (k0_off1 (grid0.coords t) 0#32) S12x96x256.size (k0_off1_inb _ 0)))
        (View.ld (S := S9x256x256) W (Rect.unit (s := S9x256x256) ![0, 0, 0] S1x256x256.size inb_S9x256x256_S1x256x256_0_0_0))
        (View.ld (S := S98x98x256) X (Rect.unit (s := S98x98x256) (k0_off2 (grid0.coords t) 0#32) S12x96x256.size (k0_off2_inb _ 0)))
        (View.ld (S := S9x256x256) W (Rect.unit (s := S9x256x256) ![1, 0, 0] S1x256x256.size inb_S9x256x256_S1x256x256_1_0_0))
        (View.ld (S := S98x98x256) X (Rect.unit (s := S98x98x256) (k0_off3 (grid0.coords t) 0#32) S12x96x256.size (k0_off3_inb _ 0)))
        (View.ld (S := S9x256x256) W (Rect.unit (s := S9x256x256) ![2, 0, 0] S1x256x256.size inb_S9x256x256_S1x256x256_2_0_0)))
      (View.ld (S := S98x98x256) X (Rect.unit (s := S98x98x256) (k0_off1 (grid0.coords t) 1#32) S12x96x256.size (k0_off1_inb _ 1)))
      (View.ld (S := S9x256x256) W (Rect.unit (s := S9x256x256) ![3, 0, 0] S1x256x256.size inb_S9x256x256_S1x256x256_3_0_0))
      (View.ld (S := S98x98x256) X (Rect.unit (s := S98x98x256) (k0_off2 (grid0.coords t) 1#32) S12x96x256.size (k0_off2_inb _ 1)))
      (View.ld (S := S9x256x256) W (Rect.unit (s := S9x256x256) ![4, 0, 0] S1x256x256.size inb_S9x256x256_S1x256x256_4_0_0))
      (View.ld (S := S98x98x256) X (Rect.unit (s := S98x98x256) (k0_off3 (grid0.coords t) 1#32) S12x96x256.size (k0_off3_inb _ 1)))
      (View.ld (S := S9x256x256) W (Rect.unit (s := S9x256x256) ![5, 0, 0] S1x256x256.size inb_S9x256x256_S1x256x256_5_0_0)))
    (k0_pay5 (View.ld (S := S98x98x256) X (Rect.unit (s := S98x98x256) (k0_off1 (grid0.coords t) 2#32) S12x96x256.size (k0_off1_inb _ 2))))
    (View.ld (S := S9x256x256) W (Rect.unit (s := S9x256x256) ![6, 0, 0] S1x256x256.size inb_S9x256x256_S1x256x256_6_0_0))
    (View.ld (S := S98x98x256) X (Rect.unit (s := S98x98x256) (k0_off2 (grid0.coords t) 2#32) S12x96x256.size (k0_off2_inb _ 2)))
    (View.ld (S := S9x256x256) W (Rect.unit (s := S9x256x256) ![7, 0, 0] S1x256x256.size inb_S9x256x256_S1x256x256_7_0_0))
    (View.ld (S := S98x98x256) X (Rect.unit (s := S98x98x256) (k0_off3 (grid0.coords t) 2#32) S12x96x256.size (k0_off3_inb _ 2)))
    (View.ld (S := S9x256x256) W (Rect.unit (s := S9x256x256) ![8, 0, 0] S1x256x256.size inb_S9x256x256_S1x256x256_8_0_0)) B

/-- They are the rectified convolution at the pixels of the point's rows. -/
theorem feats_at (A : Spec.Args 96 27648) (X : FVec Ideal S98x98x256 .f32) (W : FVec Ideal S9x256x256 .f32) (B : FVec Ideal S256 .f32)
    (t : Fin cfg0.N) (hX : ∀ i j k, X (ix3 i j k) = Spec.pad A.x i.val j.val k)
    (hW : ∀ q k o, W (ix3 q k o) = A.w o k ⟨q.val / 3, by omega⟩ ⟨q.val % 3, by omega⟩)
    (hB : ∀ o, B (ix1 o) = A.b o) (p : Fin 1152) (o : Fin 256) :
    feats X W B t (ix2 p o) = Spec.feat A (12 * t.val + p.val / 96) (p.val % 96) o := by
  have c0 := coords0 t
  pointwise [feats, k0_pay6, k0_pay5, k0_pay4, k0_pay3]
  simp only [hX, hW, hB]
  have o1 : ∀ r : Fin 3, k0_off1 (grid0.coords t) (BitVec.ofNat 32 r.val) = ![12 * t.val + r.val, 0, 0] := fun r => by rw [k0_off1_eq, c0]
  have o2 : ∀ r : Fin 3, k0_off2 (grid0.coords t) (BitVec.ofNat 32 r.val) = ![12 * t.val + r.val, 1, 0] := fun r => by rw [k0_off2_eq, c0]
  have o3 : ∀ r : Fin 3, k0_off3 (grid0.coords t) (BitVec.ofNat 32 r.val) = ![12 * t.val + r.val, 2, 0] := fun r => by rw [k0_off3_eq, c0]
  have tap1 := fun k : Fin 3 => Spec.tap_eq A k 0 (12 * t.val + p.val / 96) (p.val % 96) o (a := k) (b := 0)
    (i := k0_off1 (grid0.coords t) (BitVec.ofNat 32 k.val) 0 + p.val / 96) (j := k0_off1 (grid0.coords t) (BitVec.ofNat 32 k.val) 1 + p.val % 96)
    (z := k0_off1 (grid0.coords t) (BitVec.ofNat 32 k.val) 2) (by intro x; rw [o1]; show 0 + x.val < 256; omega)
    (by rw [o1]; show 12 * t.val + k.val + p.val / 96 = _; omega) (by rw [o1]; exact Nat.add_comm 0 _) (by rw [o1]; rfl) rfl rfl
  have tap2 := fun k : Fin 3 => Spec.tap_eq A k 1 (12 * t.val + p.val / 96) (p.val % 96) o (a := k) (b := 1)
    (i := k0_off2 (grid0.coords t) (BitVec.ofNat 32 k.val) 0 + p.val / 96) (j := k0_off2 (grid0.coords t) (BitVec.ofNat 32 k.val) 1 + p.val % 96)
    (z := k0_off2 (grid0.coords t) (BitVec.ofNat 32 k.val) 2) (by intro x; rw [o2]; show 0 + x.val < 256; omega)
    (by rw [o2]; show 12 * t.val + k.val + p.val / 96 = _; omega) (by rw [o2]; exact Nat.add_comm 1 _) (by rw [o2]; rfl) rfl rfl
  have tap3 := fun k : Fin 3 => Spec.tap_eq A k 2 (12 * t.val + p.val / 96) (p.val % 96) o (a := k) (b := 2)
    (i := k0_off3 (grid0.coords t) (BitVec.ofNat 32 k.val) 0 + p.val / 96) (j := k0_off3 (grid0.coords t) (BitVec.ofNat 32 k.val) 1 + p.val % 96)
    (z := k0_off3 (grid0.coords t) (BitVec.ofNat 32 k.val) 2) (by intro x; rw [o3]; show 0 + x.val < 256; omega)
    (by rw [o3]; show 12 * t.val + k.val + p.val / 96 = _; omega) (by rw [o3]; exact Nat.add_comm 2 _) (by rw [o3]; rfl) rfl rfl
  unfold Spec.feat
  rw [← tap1 0, ← tap2 0, ← tap3 0, ← tap1 1, ← tap2 1, ← tap3 1, ← tap1 2, ← tap2 2, ← tap3 2]
  rfl

/-! ## What the body stores, over its operands -/

/-- The scores: the probability of the second class, from the two products of the features. -/
theorem score_pay (a b c d e f g h) (w0 : FVec Ideal S256x3 .f32) (b0 : FVec Ideal S3 .f32) (w1 : FVec Ideal S256x3 .f32)
    (b1 : FVec Ideal S3 .f32) (y : S1152x3.Idx) :
    k0_pay8 (F := Ideal) (k0_pay6 a b c d e f g h) (k0_pay7 a b c d e f g h w0) b0 w1 b1 y =
      Spec.soft (∑ k : Fin 256, k0_pay6 a b c d e f g h (ix2 (y 0) k) * w0 (ix2 k (y 1)) + b0 (ix1 (y 1)))
        (∑ k : Fin 256, k0_pay6 a b c d e f g h (ix2 (y 0) k) * w1 (ix2 k (y 1)) + b1 (ix1 (y 1))) := by
  pointwise [k0_pay8, k0_pay7]
  rfl

/-- The left edges. -/
theorem left_pay (T : FVec Ideal S1152x256 .f32) (W : FVec Ideal S256x12 .f32) (B : FVec Ideal S12 .f32) (lo hi : FVec Ideal S1152x3 .f32)
    (I : FVec Ideal S1x2 .f32) (y : S1152x3.Idx) :
    k0_pay26 (F := Ideal) (k0_pay10 T W B) (k0_pay12 T W B) (k0_pay14 lo) (k0_pay16 hi) (View.ld (S := S1x2) I (Rect.unit (s := S1x2) ![0, 1] S1x1.size inb_S1x2_S1x1_0_1)) y =
      Spec.lower (∑ k : Fin 256, T (ix2 (y 0) k) * W (ix2 k ⟨0 + (y 1).val, Spec.col_lt 0 (by decide) (y 1)⟩) + B (ix1 ⟨0 + (y 1).val, Spec.col_lt 0 (by decide) (y 1)⟩))
        (∑ k : Fin 256, T (ix2 (y 0) k) * W (ix2 k ⟨6 + (y 1).val, Spec.col_lt 6 (by decide) (y 1)⟩) + B (ix1 ⟨6 + (y 1).val, Spec.col_lt 6 (by decide) (y 1)⟩))
        (lo y) (hi y) (I (ix2 0 1)) := by
  pointwise [k0_pay26, k0_pay25, k0_pay20, k0_pay22, k0_pay18, k0_pay10, k0_pay12, k0_pay14, k0_pay16, k0_pay9]
  rfl

/-- The top edges. -/
theorem top_pay (T : FVec Ideal S1152x256 .f32) (W : FVec Ideal S256x12 .f32) (B : FVec Ideal S12 .f32) (lo hi : FVec Ideal S1152x3 .f32)
    (I : FVec Ideal S1x2 .f32) (y : S1152x3.Idx) :
    k0_pay27 (F := Ideal) (k0_pay11 T W B) (k0_pay13 T W B) (k0_pay15 lo) (k0_pay17 hi) (View.ld (S := S1x2) I (Rect.unit (s := S1x2) ![0, 0] S1x1.size inb_S1x2_S1x1_0_0)) y =
      Spec.lower (∑ k : Fin 256, T (ix2 (y 0) k) * W (ix2 k ⟨3 + (y 1).val, Spec.col_lt 3 (by decide) (y 1)⟩) + B (ix1 ⟨3 + (y 1).val, Spec.col_lt 3 (by decide) (y 1)⟩))
        (∑ k : Fin 256, T (ix2 (y 0) k) * W (ix2 k ⟨9 + (y 1).val, Spec.col_lt 9 (by decide) (y 1)⟩) + B (ix1 ⟨9 + (y 1).val, Spec.col_lt 9 (by decide) (y 1)⟩))
        (lo y) (hi y) (I (ix2 0 0)) := by
  pointwise [k0_pay27, k0_pay24, k0_pay21, k0_pay23, k0_pay19, k0_pay11, k0_pay13, k0_pay15, k0_pay17, k0_pay9]
  rfl

/-- The right edges. -/
theorem right_pay (T : FVec Ideal S1152x256 .f32) (W : FVec Ideal S256x12 .f32) (B : FVec Ideal S12 .f32) (lo hi : FVec Ideal S1152x3 .f32)
    (I : FVec Ideal S1x2 .f32) (y : S1152x3.Idx) :
    k0_pay1 (F := Ideal) (k0_pay20 (k0_pay10 T W B) (k0_pay14 lo) (k0_pay16 hi)) (k0_pay22 (k0_pay12 T W B) (k0_pay14 lo) (k0_pay16 hi)) (k0_pay25 (View.ld (S := S1x2) I (Rect.unit (s := S1x2) ![0, 1] S1x1.size inb_S1x2_S1x1_0_1))) y =
      Spec.upper (∑ k : Fin 256, T (ix2 (y 0) k) * W (ix2 k ⟨0 + (y 1).val, Spec.col_lt 0 (by decide) (y 1)⟩) + B (ix1 ⟨0 + (y 1).val, Spec.col_lt 0 (by decide) (y 1)⟩))
        (∑ k : Fin 256, T (ix2 (y 0) k) * W (ix2 k ⟨6 + (y 1).val, Spec.col_lt 6 (by decide) (y 1)⟩) + B (ix1 ⟨6 + (y 1).val, Spec.col_lt 6 (by decide) (y 1)⟩))
        (lo y) (hi y) (I (ix2 0 1)) := by
  pointwise [k0_pay1, k0_pay25, k0_pay20, k0_pay22, k0_pay18, k0_pay10, k0_pay12, k0_pay14, k0_pay16, k0_pay9]
  rfl

/-- The bottom edges. -/
theorem bottom_pay (T : FVec Ideal S1152x256 .f32) (W : FVec Ideal S256x12 .f32) (B : FVec Ideal S12 .f32) (lo hi : FVec Ideal S1152x3 .f32)
    (I : FVec Ideal S1x2 .f32) (y : S1152x3.Idx) :
    k0_pay2 (F := Ideal) (k0_pay21 (k0_pay11 T W B) (k0_pay15 lo) (k0_pay17 hi)) (k0_pay23 (k0_pay13 T W B) (k0_pay15 lo) (k0_pay17 hi)) (k0_pay24 (View.ld (S := S1x2) I (Rect.unit (s := S1x2) ![0, 0] S1x1.size inb_S1x2_S1x1_0_0))) y =
      Spec.upper (∑ k : Fin 256, T (ix2 (y 0) k) * W (ix2 k ⟨3 + (y 1).val, Spec.col_lt 3 (by decide) (y 1)⟩) + B (ix1 ⟨3 + (y 1).val, Spec.col_lt 3 (by decide) (y 1)⟩))
        (∑ k : Fin 256, T (ix2 (y 0) k) * W (ix2 k ⟨9 + (y 1).val, Spec.col_lt 9 (by decide) (y 1)⟩) + B (ix1 ⟨9 + (y 1).val, Spec.col_lt 9 (by decide) (y 1)⟩))
        (lo y) (hi y) (I (ix2 0 0)) := by
  pointwise [k0_pay2, k0_pay24, k0_pay21, k0_pay23, k0_pay19, k0_pay11, k0_pay13, k0_pay15, k0_pay17, k0_pay9]
  rfl

/-! ## The five result arrays -/

/-- The features of a point, on the blocks it reads. -/
theorem feats_blk (c : Dev nD) (t : Fin cfg0.N) (p : Fin 1152) (a : Fin 3) (r : ℕ) (hr : r = (1152 * t.val + p.val) * 3 + a.val) (k : Fin 256) :
    feats (iblk m c 0 t) (iblk m c 1 t) (iblk m c 2 t) t (ix2 p k) = Spec.feat (args m c) (r / (3 * 96)) (r / 3 % 96) k := by
  rw [feats_at (args m c) _ _ _ t (blk0 m c t) (blk1 m c t) (blk2 m c t)]
  have e1 : r / (3 * 96) = 12 * t.val + p.val / 96 := by omega
  have e2 : r / 3 % 96 = p.val % 96 := by omega
  rw [e1, e2]

/-- The first result holds the scores. -/
theorem final14 (c : Dev nD) : (dats m 0 c).arrAt 14 cfg0.N =
    (fun i => Spec.score (args m c) (Spec.row (by decide) i) : FVec Ideal S9216x3 .f32) := by
  refine (dats m 0 c).arrAt_eq_of_covers 14 _ (by decide +kernel) fun t hf y => ?_
  blk_simp
  rw [after0_14]
  dsimp only [outsAt0]
  frame_out
  have hr : (Spec.row (N := 27648) (P := 9216) (by decide) (((View.whole main_v70_0).slice (win0_14.rect t)).emb y)).val =
      (1152 * t.val + (y 0).val) * 3 + (y 1).val := by
    unfold Spec.row
    blk_simp [idx t]
    show (t.val * 1152 + (y 0).val) * 3 + (y 1).val = (1152 * t.val + (y 0).val) * 3 + (y 1).val
    omega
  generalize Spec.row (N := 27648) (P := 9216) _ _ = r at hr ⊢
  have ha : r.val % 3 = (y 1).val := by have h1 : (y 1).val < 3 := (y 1).isLt; omega
  refine (score_pay _ _ _ _ _ _ _ _ _ _ _ _ y).trans ?_
  exact congrArg₂ Spec.soft
    (Spec.logit_of _ _ 0 _ ⟨2 * (y 1).val, by omega⟩ (by show 2 * (y 1).val = _; omega) (feats_blk m c t (y 0) (y 1) r hr)
      (fun k => blk3 m c t k (y 1)) (blk5 m c t (y 1)))
    (Spec.logit_of _ _ 1 _ ⟨1 + 2 * (y 1).val, by omega⟩ (by show 1 + 2 * (y 1).val = _; omega) (feats_blk m c t (y 0) (y 1) r hr)
      (fun k => blk4 m c t k (y 1)) (blk6 m c t (y 1)))

/-- An edge of the anchor of a row of the point. -/
theorem anchor0 (c : Dev nD) (t : Fin cfg0.N) (y : S1152x3.Idx) (r : Fin 27648) (hr : r.val = (1152 * t.val + (y 0).val) * 3 + (y 1).val) :
    (iblk m c 9 t : FVec Ideal S1152x3 .f32) y = (args m c).an r 0 := by
  have e : y = ix2 (y 0) (y 1) := by funext i; match i with | ⟨0, _⟩ => rfl | ⟨1, _⟩ => rfl
  exact (congrArg (iblk m c 9 t : FVec Ideal S1152x3 .f32) e).trans
    ((blk9 m c t (y 0) (y 1)).trans (congrArg (fun r => (args m c).an r 0) (Fin.ext hr.symm)))

/-- An edge of the anchor of a row of the point. -/
theorem anchor1 (c : Dev nD) (t : Fin cfg0.N) (y : S1152x3.Idx) (r : Fin 27648) (hr : r.val = (1152 * t.val + (y 0).val) * 3 + (y 1).val) :
    (iblk m c 10 t : FVec Ideal S1152x3 .f32) y = (args m c).an r 1 := by
  have e : y = ix2 (y 0) (y 1) := by funext i; match i with | ⟨0, _⟩ => rfl | ⟨1, _⟩ => rfl
  exact (congrArg (iblk m c 10 t : FVec Ideal S1152x3 .f32) e).trans
    ((blk10 m c t (y 0) (y 1)).trans (congrArg (fun r => (args m c).an r 1) (Fin.ext hr.symm)))

/-- An edge of the anchor of a row of the point. -/
theorem anchor2 (c : Dev nD) (t : Fin cfg0.N) (y : S1152x3.Idx) (r : Fin 27648) (hr : r.val = (1152 * t.val + (y 0).val) * 3 + (y 1).val) :
    (iblk m c 11 t : FVec Ideal S1152x3 .f32) y = (args m c).an r 2 := by
  have e : y = ix2 (y 0) (y 1) := by funext i; match i with | ⟨0, _⟩ => rfl | ⟨1, _⟩ => rfl
  exact (congrArg (iblk m c 11 t : FVec Ideal S1152x3 .f32) e).trans
    ((blk11 m c t (y 0) (y 1)).trans (congrArg (fun r => (args m c).an r 2) (Fin.ext hr.symm)))

/-- An edge of the anchor of a row of the point. -/
theorem anchor3 (c : Dev nD) (t : Fin cfg0.N) (y : S1152x3.Idx) (r : Fin 27648) (hr : r.val = (1152 * t.val + (y 0).val) * 3 + (y 1).val) :
    (iblk m c 12 t : FVec Ideal S1152x3 .f32) y = (args m c).an r 3 := by
  have e : y = ix2 (y 0) (y 1) := by funext i; match i with | ⟨0, _⟩ => rfl | ⟨1, _⟩ => rfl
  exact (congrArg (iblk m c 12 t : FVec Ideal S1152x3 .f32) e).trans
    ((blk12 m c t (y 0) (y 1)).trans (congrArg (fun r => (args m c).an r 3) (Fin.ext hr.symm)))

/-- The second result holds the left edges of the boxes. -/
theorem final15 (c : Dev nD) : (dats m 0 c).arrAt 15 cfg0.N =
    (fun i => Spec.left (args m c) (Spec.row (by decide) i) : FVec Ideal S9216x3 .f32) := by
  refine (dats m 0 c).arrAt_eq_of_covers 15 _ (by decide +kernel) fun t hf y => ?_
  blk_simp
  rw [after0_15]
  dsimp only [outsAt0]
  frame_out
  have hr : (Spec.row (N := 27648) (P := 9216) (by decide) (((View.whole main_v70_1).slice (win0_15.rect t)).emb y)).val =
      (1152 * t.val + (y 0).val) * 3 + (y 1).val := by
    unfold Spec.row
    blk_simp [idx t]
    show (t.val * 1152 + (y 0).val) * 3 + (y 1).val = (1152 * t.val + (y 0).val) * 3 + (y 1).val
    omega
  generalize Spec.row (N := 27648) (P := 9216) _ _ = r at hr ⊢
  have ha : r.val % 3 = (y 1).val := by have h1 : (y 1).val < 3 := (y 1).isLt; omega
  refine (left_pay _ _ _ _ _ _ y).trans ?_
  exact Spec.lower_congr
    (Spec.delta_of _ _ 0 _ (Spec.chan ⟨0 + (y 1).val, Spec.col_lt 0 (by decide) (y 1)⟩)
      (by show (0 + (y 1).val) % 3 * 4 + (0 + (y 1).val) / 3 = _; omega)
      (feats_blk m c t (y 0) (y 1) r hr) (fun k => blk7 m c t k _) (blk8 m c t _))
    (Spec.delta_of _ _ 2 _ (Spec.chan ⟨6 + (y 1).val, Spec.col_lt 6 (by decide) (y 1)⟩)
      (by show (6 + (y 1).val) % 3 * 4 + (6 + (y 1).val) / 3 = _; omega)
      (feats_blk m c t (y 0) (y 1) r hr) (fun k => blk7 m c t k _) (blk8 m c t _))
    (anchor0 m c t y r hr) (anchor2 m c t y r hr) (blk13 m c t 1)

/-- The third result holds the top edges. -/
theorem final16 (c : Dev nD) : (dats m 0 c).arrAt 16 cfg0.N =
    (fun i => Spec.top (args m c) (Spec.row (by decide) i) : FVec Ideal S9216x3 .f32) := by
  refine (dats m 0 c).arrAt_eq_of_covers 16 _ (by decide +kernel) fun t hf y => ?_
  blk_simp
  rw [after0_16]
  dsimp only [outsAt0]
  frame_out
  have hr : (Spec.row (N := 27648) (P := 9216) (by decide) (((View.whole main_v70_2).slice (win0_16.rect t)).emb y)).val =
      (1152 * t.val + (y 0).val) * 3 + (y 1).val := by
    unfold Spec.row
    blk_simp [idx t]
    show (t.val * 1152 + (y 0).val) * 3 + (y 1).val = (1152 * t.val + (y 0).val) * 3 + (y 1).val
    omega
  generalize Spec.row (N := 27648) (P := 9216) _ _ = r at hr ⊢
  have ha : r.val % 3 = (y 1).val := by have h1 : (y 1).val < 3 := (y 1).isLt; omega
  refine (top_pay _ _ _ _ _ _ y).trans ?_
  exact Spec.lower_congr
    (Spec.delta_of _ _ 1 _ (Spec.chan ⟨3 + (y 1).val, Spec.col_lt 3 (by decide) (y 1)⟩)
      (by show (3 + (y 1).val) % 3 * 4 + (3 + (y 1).val) / 3 = _; omega)
      (feats_blk m c t (y 0) (y 1) r hr) (fun k => blk7 m c t k _) (blk8 m c t _))
    (Spec.delta_of _ _ 3 _ (Spec.chan ⟨9 + (y 1).val, Spec.col_lt 9 (by decide) (y 1)⟩)
      (by show (9 + (y 1).val) % 3 * 4 + (9 + (y 1).val) / 3 = _; omega)
      (feats_blk m c t (y 0) (y 1) r hr) (fun k => blk7 m c t k _) (blk8 m c t _))
    (anchor1 m c t y r hr) (anchor3 m c t y r hr) (blk13 m c t 0)

/-- The fourth result holds the right edges. -/
theorem final17 (c : Dev nD) : (dats m 0 c).arrAt 17 cfg0.N =
    (fun i => Spec.right (args m c) (Spec.row (by decide) i) : FVec Ideal S9216x3 .f32) := by
  refine (dats m 0 c).arrAt_eq_of_covers 17 _ (by decide +kernel) fun t hf y => ?_
  blk_simp
  rw [after0_17]
  dsimp only [outsAt0]
  frame_out
  have hr : (Spec.row (N := 27648) (P := 9216) (by decide) (((View.whole main_v70_3).slice (win0_17.rect t)).emb y)).val =
      (1152 * t.val + (y 0).val) * 3 + (y 1).val := by
    unfold Spec.row
    blk_simp [idx t]
    show (t.val * 1152 + (y 0).val) * 3 + (y 1).val = (1152 * t.val + (y 0).val) * 3 + (y 1).val
    omega
  generalize Spec.row (N := 27648) (P := 9216) _ _ = r at hr ⊢
  have ha : r.val % 3 = (y 1).val := by have h1 : (y 1).val < 3 := (y 1).isLt; omega
  refine (right_pay _ _ _ _ _ _ y).trans ?_
  exact Spec.upper_congr
    (Spec.delta_of _ _ 0 _ (Spec.chan ⟨0 + (y 1).val, Spec.col_lt 0 (by decide) (y 1)⟩)
      (by show (0 + (y 1).val) % 3 * 4 + (0 + (y 1).val) / 3 = _; omega)
      (feats_blk m c t (y 0) (y 1) r hr) (fun k => blk7 m c t k _) (blk8 m c t _))
    (Spec.delta_of _ _ 2 _ (Spec.chan ⟨6 + (y 1).val, Spec.col_lt 6 (by decide) (y 1)⟩)
      (by show (6 + (y 1).val) % 3 * 4 + (6 + (y 1).val) / 3 = _; omega)
      (feats_blk m c t (y 0) (y 1) r hr) (fun k => blk7 m c t k _) (blk8 m c t _))
    (anchor0 m c t y r hr) (anchor2 m c t y r hr) (blk13 m c t 1)

/-- The fifth result holds the bottom edges. -/
theorem final18 (c : Dev nD) : (dats m 0 c).arrAt 18 cfg0.N =
    (fun i => Spec.bottom (args m c) (Spec.row (by decide) i) : FVec Ideal S9216x3 .f32) := by
  refine (dats m 0 c).arrAt_eq_of_covers 18 _ (by decide +kernel) fun t hf y => ?_
  blk_simp
  rw [after0_18]
  dsimp only [outsAt0]
  frame_out
  have hr : (Spec.row (N := 27648) (P := 9216) (by decide) (((View.whole main_v70_4).slice (win0_18.rect t)).emb y)).val =
      (1152 * t.val + (y 0).val) * 3 + (y 1).val := by
    unfold Spec.row
    blk_simp [idx t]
    show (t.val * 1152 + (y 0).val) * 3 + (y 1).val = (1152 * t.val + (y 0).val) * 3 + (y 1).val
    omega
  generalize Spec.row (N := 27648) (P := 9216) _ _ = r at hr ⊢
  have ha : r.val % 3 = (y 1).val := by have h1 : (y 1).val < 3 := (y 1).isLt; omega
  refine (bottom_pay _ _ _ _ _ _ y).trans ?_
  exact Spec.upper_congr
    (Spec.delta_of _ _ 1 _ (Spec.chan ⟨3 + (y 1).val, Spec.col_lt 3 (by decide) (y 1)⟩)
      (by show (3 + (y 1).val) % 3 * 4 + (3 + (y 1).val) / 3 = _; omega)
      (feats_blk m c t (y 0) (y 1) r hr) (fun k => blk7 m c t k _) (blk8 m c t _))
    (Spec.delta_of _ _ 3 _ (Spec.chan ⟨9 + (y 1).val, Spec.col_lt 9 (by decide) (y 1)⟩)
      (by show (9 + (y 1).val) % 3 * 4 + (9 + (y 1).val) / 3 = _; omega)
      (feats_blk m c t (y 0) (y 1) r hr) (fun k => blk7 m c t k _) (blk8 m c t _))
    (anchor1 m c t y r hr) (anchor3 m c t y r hr) (blk13 m c t 0)

end Cert.Proof.Kernel4

end
-- ==== Proof.Reference4.lean ====
/- Level 4 (96 x 96): what the reference leaves in its five results, as the functions of Spec.lean of its arguments. -/
module

public import proofs.«01_k».proof.Proof.Gen.Reference4Ideal.Run
public import proofs.«01_k».proof.Proof.Spec
public import Idealize.ShloMosaic.Lib.Tactic.CleanTypes

@[expose] public section

set_option maxRecDepth 16384

noncomputable section

namespace Cert.Proof.Reference4

open Cert.Reference4Ideal Cert.Reference4Ideal.Gen Cert.Reference4Ideal.Value Idealize.ShloMosaic Idealize.ShloMosaic.TcCoe
open Idealize.SL.Sem StableHlo

/-- The arguments of the level, read off a valuation of the reference's buffers. -/
def args (V0 : Valuation τ sig (Elt Ideal)) : Spec.Args 96 27648 where
  x k h v := (V0 (Proc.devRef .tc main_arg0) : FVec Ideal S1x256x96x96 .f32) (ix4 0 k h v)
  im k := (V0 (Proc.devRef .tc main_arg1) : FVec Ideal S1x6 .f32) (ix2 0 k)
  w o k i j := (V0 (Proc.devRef .tc main_arg2) : FVec Ideal S256x256x3x3 .f32) (ix4 o k i j)
  b o := (V0 (Proc.devRef .tc main_arg3) : FVec Ideal S256 .f32) (ix1 o)
  cw q k := (V0 (Proc.devRef .tc main_arg4) : FVec Ideal S6x256x1x1 .f32) (ix4 q k 0 0)
  cb q := (V0 (Proc.devRef .tc main_arg5) : FVec Ideal S6 .f32) (ix1 q)
  bw q k := (V0 (Proc.devRef .tc main_arg6) : FVec Ideal S18x256x1x1 .f32) (ix4 q k 0 0)
  bb q := (V0 (Proc.devRef .tc main_arg7) : FVec Ideal S18 .f32) (ix1 q)
  an r q := (V0 (Proc.devRef .tc main_arg8) : FVec Ideal S27648x4 .f32) (ix2 r q)

variable (V0 : Valuation τ sig (Elt Ideal))

/-- The padded picture. -/
theorem pad_at (k : Fin 256) (i j : Fin 98) :
    (res_main_v1 V0 : FVec Ideal S256x98x98 .f32) (ix3 k i j) = Spec.pad (args V0).x i.val j.val k := by
  unfold res_main_v1
  clean_types
  pointwise
  rw [Spec.sitofp_zero]
  rfl

/-- The features. -/
theorem feat_at (o : Fin 256) (h v : Fin 96) :
    (res_main_v51 V0 : FVec Ideal S256x96x96 .f32) (ix3 o h v) = Spec.feat (args V0) h.val v.val o := by
  unfold res_main_v51
  clean_types
  pointwise
  simp only [pad_at]
  have T := fun (k l : Fin 3) (i j : ℕ) (hi : i = h.val + k.val) (hj : j = v.val + l.val) =>
    Spec.tap_rev (args V0) k l h.val v.val o hi hj
  have n0 := fun a : ℕ => Nat.add_comm 1 a
  have n1 := fun a : ℕ => Nat.add_comm 2 a
  unfold Spec.feat
  rw [← T 0 0 h.val v.val rfl rfl, ← T 0 1 h.val (1 + v.val) rfl (n0 _), ← T 0 2 h.val (2 + v.val) rfl (n1 _),
    ← T 1 0 (1 + h.val) v.val (n0 _) rfl, ← T 1 1 (1 + h.val) (1 + v.val) (n0 _) (n0 _), ← T 1 2 (1 + h.val) (2 + v.val) (n0 _) (n1 _),
    ← T 2 0 (2 + h.val) v.val (n1 _) rfl, ← T 2 1 (2 + h.val) (1 + v.val) (n1 _) (n0 _), ← T 2 2 (2 + h.val) (2 + v.val) (n1 _) (n1 _)]
  rfl

/-- The class scores. -/
theorem logit_at (r : Fin 27648) (q : Fin 2) :
    (res_main_v66 V0 : FVec Ideal S27648x2 .f32) (ix2 r q) = Spec.logit (args V0) r.val q.val q.isLt := by
  unfold res_main_v66
  clean_types
  pointwise
  simp only [feat_at]
  exact Spec.lin_rev _ _ _

/-- The box offsets. -/
theorem delta_at (r : Fin 27648) (q : Fin 4) :
    (res_main_v64 V0 : FVec Ideal S27648x4 .f32) (ix2 r q) = Spec.delta (args V0) r.val q.val q.isLt := by
  unfold res_main_v64
  clean_types
  pointwise
  simp only [feat_at]
  exact Spec.lin_rev _ _ _

/-- The exponentials of the class scores, their larger one taken off. -/
theorem exp_at (r : Fin 27648) (q : Fin 2) :
    (res_main_v73 V0 : FVec Ideal S27648x2 .f32) (ix2 r q) = Ideal.exp (Spec.logit (args V0) r.val q.val q.isLt
      - max (Spec.logit (args V0) r.val 0 (by decide)) (Spec.logit (args V0) r.val 1 (by decide))) := by
  unfold res_main_v73
  clean_types
  pointwise
  simp only [logit_at]
  rw [Spec.fold_max_two, Spec.bot_max]
  rfl

/-- The lower bound of the clipping is zero. -/
theorem zero_at : (id (constant (F := Ideal) S_ .f32 0#32) ix0 : Ideal .f32) = 0 := by
  show Ideal.ofBits FTy.f32 0#32 = 0
  simp [Ideal.ofBits, Ideal.ieee]

/-- The scores. -/
theorem result144 (y : S9216x3.Idx) : (after ops V0 (Proc.devRef .tc main_v144) : FVec Ideal S9216x3 .f32) y =
    Spec.score (args V0) (Spec.row (by decide) y) := by
  rw [after_ops, val3_main_v144]
  clean_types
  pointwise
  simp only [exp_at]
  rw [Fin.sum_univ_two]
  rfl

/-- The left edges. -/
theorem result145 (y : S9216x3.Idx) : (after ops V0 (Proc.devRef .tc main_v145) : FVec Ideal S9216x3 .f32) y =
    Spec.left (args V0) (Spec.row (by decide) y) := by
  rw [after_ops, val3_main_v145]
  unfold res_main_v123 res_main_v109 res_main_v115 res_main_v84
  clean_types
  pointwise
  simp only [delta_at]
  rw [zero_at]
  rfl

/-- The top edges. -/
theorem result146 (y : S9216x3.Idx) : (after ops V0 (Proc.devRef .tc main_v146) : FVec Ideal S9216x3 .f32) y =
    Spec.top (args V0) (Spec.row (by decide) y) := by
  rw [after_ops, val3_main_v146]
  unfold res_main_v121 res_main_v111 res_main_v119 res_main_v89
  clean_types
  pointwise
  simp only [delta_at]
  rw [zero_at]
  rfl

/-- The right edges. -/
theorem result147 (y : S9216x3.Idx) : (after ops V0 (Proc.devRef .tc main_v147) : FVec Ideal S9216x3 .f32) y =
    Spec.right (args V0) (Spec.row (by decide) y) := by
  rw [after_ops, val3_main_v147]
  unfold res_main_v123 res_main_v109 res_main_v115 res_main_v84
  clean_types
  pointwise
  simp only [delta_at]
  rw [zero_at]
  rfl

/-- The bottom edges. -/
theorem result148 (y : S9216x3.Idx) : (after ops V0 (Proc.devRef .tc main_v148) : FVec Ideal S9216x3 .f32) y =
    Spec.bottom (args V0) (Spec.row (by decide) y) := by
  rw [after_ops, val3_main_v148]
  unfold res_main_v121 res_main_v111 res_main_v119 res_main_v89
  clean_types
  pointwise
  simp only [delta_at]
  rw [zero_at]
  rfl

end Cert.Proof.Reference4

end
-- ==== Proof.Level4.lean ====
/- Level 4 (96 x 96): the kernel and the reference, run from the same arguments, end with the same five results. -/
module

public import proofs.«01_k».proof.Defs
public import proofs.«01_k».proof.Proof.Kernel4
public import proofs.«01_k».proof.Proof.Reference4

@[expose] public section

set_option maxRecDepth 16384

noncomputable section

namespace Cert.Proof.Level4

open Idealize.ShloMosaic Idealize.ShloMosaic.TcCoe Idealize.SL.Sem StableHlo

section KernelRun
open Cert.Kernel4Ideal Cert.Kernel4Ideal.Gen Cert.Kernel4Ideal.Value

/-- Every run of the kernel ends with the scores and the four edges of the boxes in its five results, and with its
    arguments as they were. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v70_0) = (fun i => Spec.score (Kernel4.args m c) (Spec.row (by decide) i) : FVec Ideal S9216x3 .f32)
      ∧ r.2.mem ((c.tc : Thread nD τ).loc main_v70_1) = (fun i => Spec.left (Kernel4.args m c) (Spec.row (by decide) i) : FVec Ideal S9216x3 .f32)
      ∧ r.2.mem ((c.tc : Thread nD τ).loc main_v70_2) = (fun i => Spec.top (Kernel4.args m c) (Spec.row (by decide) i) : FVec Ideal S9216x3 .f32)
      ∧ r.2.mem ((c.tc : Thread nD τ).loc main_v70_3) = (fun i => Spec.right (Kernel4.args m c) (Spec.row (by decide) i) : FVec Ideal S9216x3 .f32)
      ∧ r.2.mem ((c.tc : Thread nD τ).loc main_v70_4) = (fun i => Spec.bottom (Kernel4.args m c) (Spec.row (by decide) i) : FVec Ideal S9216x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).1 14).trans (Kernel4.final14 m c), ((h c).1 15).trans (Kernel4.final15 m c),
      ((h c).1 16).trans (Kernel4.final16 m c), ((h c).1 17).trans (Kernel4.final17 m c),
      ((h c).1 18).trans (Kernel4.final18 m c), kept_main_arg0 m r h c, kept_main_arg1 m r h c, kept_main_arg2 m r h c,
      kept_main_arg3 m r h c, kept_main_arg4 m r h c, kept_main_arg5 m r h c, kept_main_arg6 m r h c,
      kept_main_arg7 m r h c, kept_main_arg8 m r h c⟩) (run_main m g)

end KernelRun

section ReferenceRun
open Cert.Reference4Ideal Cert.Reference4Ideal.Gen Cert.Reference4Ideal.Value

/-- Every run of the reference whose arguments read as `A` ends with the scores and the four edges of the boxes of `A`
    in its five results, and with its arguments as they were. -/
theorem reference_run (m : (ℓ : Loc nD τ sig) → Buf (Elt Ideal) ℓ) (g : Dev nD → PrngReg)
    (A : Dev nD → Spec.Args 96 27648) (hA : ∀ c, Reference4.args (launchContents m c) = A c) :
    θ_run defs (onTc (τ := τ) (main (F := Ideal))) ⟨m, fun _ => 0, g⟩ (fun r => ∀ c : Dev nD,
      r.2.mem ((c.tc : Thread nD τ).loc main_v144) = (fun i => Spec.score (A c) (Spec.row (by decide) i) : FVec Ideal S9216x3 .f32)
      ∧ r.2.mem ((c.tc : Thread nD τ).loc main_v145) = (fun i => Spec.left (A c) (Spec.row (by decide) i) : FVec Ideal S9216x3 .f32)
      ∧ r.2.mem ((c.tc : Thread nD τ).loc main_v146) = (fun i => Spec.top (A c) (Spec.row (by decide) i) : FVec Ideal S9216x3 .f32)
      ∧ r.2.mem ((c.tc : Thread nD τ).loc main_v147) = (fun i => Spec.right (A c) (Spec.row (by decide) i) : FVec Ideal S9216x3 .f32)
      ∧ r.2.mem ((c.tc : Thread nD τ).loc main_v148) = (fun i => Spec.bottom (A c) (Spec.row (by decide) i) : FVec Ideal S9216x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hk (V0 : Valuation τ sig (Elt Ideal)) (b) : after ops V0 b = val3 V0 b := congrFun (after_ops V0) b
  refine (θ_run defs _ _).mono (fun r h c => ?_)
    (run_seq scopedRefs_eq scopedSems_eq defs main (fun _ => ops) main_eq (fun _ => ops_sub) m g fun _ => ops_fresh)
  rw [← hA c]
  exact ⟨(h c main_v144).trans (funext (Reference4.result144 _)), (h c main_v145).trans (funext (Reference4.result145 _)),
    (h c main_v146).trans (funext (Reference4.result146 _)), (h c main_v147).trans (funext (Reference4.result147 _)),
    (h c main_v148).trans (funext (Reference4.result148 _)),
    (h c main_arg0).trans ((hk _ _).trans (val3_main_arg0 _)), (h c main_arg1).trans ((hk _ _).trans (val3_main_arg1 _)),
    (h c main_arg2).trans ((hk _ _).trans (val3_main_arg2 _)), (h c main_arg3).trans ((hk _ _).trans (val3_main_arg3 _)),
    (h c main_arg4).trans ((hk _ _).trans (val3_main_arg4 _)), (h c main_arg5).trans ((hk _ _).trans (val3_main_arg5 _)),
    (h c main_arg6).trans ((hk _ _).trans (val3_main_arg6 _)), (h c main_arg7).trans ((hk _ _).trans (val3_main_arg7 _)),
    (h c main_arg8).trans ((hk _ _).trans (val3_main_arg8 _))⟩

end ReferenceRun

/-- Over the extended reals the kernel and the reference of this level compute the same five results. -/
theorem algebraic : algebraic_Kernel4Ideal_Reference4Ideal (hKernel4Ideal := Cert.Kernel4Ideal.Gen.facts)
    (hReference4Ideal := Cert.Reference4Ideal.Gen.facts) := by
  intro m g m' g' _ hagree
  refine ⟨_, _, _, _, _, kernel_run m g, reference_run m' g' (fun c => Kernel4.args m c) fun c => ?_⟩
  obtain ⟨h0, h1, h2, h3, h4, h5, h6, h7, h8⟩ := hagree c
  show Spec.Args.mk _ _ _ _ _ _ _ _ _ = Spec.Args.mk _ _ _ _ _ _ _ _ _
  congr 1
  · funext k h v; exact congrFun h0 _
  · funext k; exact congrFun h1 _
  · funext o k i j; exact congrFun h2 _
  · funext o; exact congrFun h3 _
  · funext q k; exact congrFun h4 _
  · funext q; exact congrFun h5 _
  · funext q k; exact congrFun h6 _
  · funext q; exact congrFun h7 _
  · funext r q; exact congrFun h8 _

end Cert.Proof.Level4

end
-- ==== Proof.ProposalsIdealRun.lean ====
/-
  The run of the proposals call. Its body reads the seven grids, finds three thresholds and three tie cuts by counted loops that
  touch no memory, and then picks boxes one at a time: while fewer than 1000 have been picked and the largest remaining score is
  positive, it writes the box of the best remaining position into the next row of the result and strikes out the positions the
  pick covers. Last it fills the rows never written with row 0.

  Nothing here fixes what the result is. A proof names a property `P` of the loop's state (the row number, the remaining scores,
  their maximum and the result so far); if `P` holds before the first pick and every pick keeps it, it holds where the loop stops.
  The result is not written at all where no score is positive, so what the call returns is then a matter of what its buffer
  held, and the run is stated by what the result may be rather than by what it is.
-/
module

public import proofs.«01_k».proof.Proof.Gen.ProposalsIdeal
public import proofs.«01_k».proof.Proof.Gen.ProposalsIdeal.Skeleton
public import proofs.«01_k».proof.Proof.Gen.ProposalsIdeal.Launch
public import proofs.«01_k».proof.Proof.Gen.ProposalsIdeal.Points
public import Idealize.ShloMosaic.Lib.Pipeline.FrameBody
public import Idealize.ShloMosaic.Lib.Pipeline.ArrRel
public import Idealize.ShloMosaic.Lib.Tactic
public import Idealize.ShloMosaic.Lib.WordCmp

@[expose] public section

noncomputable section

namespace Cert.Proof.ProposalsIdealRun

open Cert.ProposalsIdeal Cert.ProposalsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- Recursion is bounded by a natural number: the picks still allowed. -/
abbrev bounds : Variants := Variants.nat

/-! ### Words of the row number -/

theorem row_lt (j : ℕ) (h : j < 1000) : k0_chk1 (BitVec.ofNat 32 j) := by
  have e : (BitVec.ofNat 32 j).toNat = j := by simp only [BitVec.toNat_ofNat]; omega
  intro a
  unfold k0_off1
  fin_cases a
  · show (BitVec.ofNat 32 j).toNat + 1 ≤ 1024
    omega
  · show 0 + 8 ≤ 8
    omega

theorem row_succ (j : ℕ) : Scalar.addi (BitVec.ofNat 32 j) 1#32 = BitVec.ofNat 32 (j + 1) := by
  show BitVec.ofNat 32 j + 1#32 = _
  rw [BitVec.ofNat_add]

/-! ### The counted loops touch no memory -/

/-- A counted loop whose body only computes is itself the return of what the body computes, time after time. -/
theorem for_ret {E : Type → Type} {σ : Type} {w : ℕ} (l : Scf.Loop w) (ok : l.OK) (init : σ) (body : Fin l.trips → σ → Prog E σ) (g : σ → σ)
    (h : ∀ k acc, body k acc = .ret (g acc)) : ∃ r, r = g^[l.trips] init ∧ Scf.Loop.for l ok init body = .ret r := by
  refine ⟨_, ?_, Scf.for_pure _ _ _ ok init body (fun _ => g) h⟩
  rw [Scf.fold_eq, List.foldl_const, List.length_finRange]

/-- The middle of two words, rounded down. -/
def halfway (lo hi : BitVec 32) : BitVec 32 :=
  Scalar.select (Scalar.andi (Scalar.cmpi .ne (Scalar.subi (Scalar.extui (Scalar.cmpi .sgt (Scalar.addi lo hi) 0#32)) (Scalar.extui (Scalar.cmpi .slt (Scalar.addi lo hi) 0#32)))
      (Scalar.subi (Scalar.extui (Scalar.cmpi .sgt 2#32 0#32)) (Scalar.extui (Scalar.cmpi .slt 2#32 0#32))))
      (Scalar.cmpi .ne (Scalar.remsi (Scalar.addi lo hi) 2#32) 0#32))
    (Scalar.subi (Scalar.divsi (Scalar.addi lo hi) 2#32) 1#32) (Scalar.divsi (Scalar.addi lo hi) 2#32)

/-- One halving for a threshold: the upper half where the count `x` of the bounds is a thousand or more, else the lower one. -/
def upper (x : BitVec 32 → BitVec 32 → F .f32) (r : BitVec 32 × BitVec 32) : BitVec 32 × BitVec 32 :=
  (Scalar.select (Scalar.cmpf .oge (x r.1 r.2) (Scalar.ofBits .f32 0x447A0000#32)) (halfway r.1 r.2) r.1,
    Scalar.select (Scalar.cmpf .oge (x r.1 r.2) (Scalar.ofBits .f32 0x447A0000#32)) r.2 (halfway r.1 r.2))

/-- One halving for a cut: the lower half where the count `x` of the bounds is `y` or more, else the upper one. -/
def lower (x : BitVec 32 → BitVec 32 → F .f32) (y : F .f32) (r : BitVec 32 × BitVec 32) : BitVec 32 × BitVec 32 :=
  (Scalar.select (Scalar.cmpf .oge (x r.1 r.2) y) r.1 (Scalar.addi (halfway r.1 r.2) 1#32),
    Scalar.select (Scalar.cmpf .oge (x r.1 r.2) y) (halfway r.1 r.2) r.2)

theorem thresholds_ret (a0 h0 a1 h1 a2 h2 a3 h3 a4 h4 a5 h5 a6 h6 a7 h7) (v5 v6 v11 v19 v21 v23 v31) :
    ∃ b a, b = ((lower (k0_pay14 (F := F) v6 v11 v21 v23) (k0_pay12 v31))^[k0_t2_loop.trips] (539#32, 2267#32)).2
      ∧ a = ((upper (k0_pay17 (F := F) v5 v6))^[k0_t3_loop.trips] (0#32, 1073741824#32)).1
      ∧ k0_part2 (F := F) a0 h0 a1 h1 a2 h2 a3 h3 a4 h4 a5 h5 a6 h6 a7 h7 v5 v6 v11 v19 v21 v23 v31
      = .ret ⟨k0_pay15 v6 v11 v19 v21 v23 b, k0_pay16 v5, a, k0_pay18 v5 v6 a, k0_pay19 v5 v6 a, 2267#32, 9179#32, 0#32⟩ := by
  rw [k0_part2_eq_skeleton]; unfold k0_part2_skel
  obtain ⟨⟨r2, r2'⟩, q2, e2⟩ := for_ret k0_t2_loop k0_t2_ok (539#32, 2267#32)
    (k0_t2_body (F := F) a0 h0 a1 h1 a2 h2 a3 h3 a4 h4 a5 h5 a6 h6 a7 h7 v5 v6 v11 v19 v21 v23 v31)
    (lower (k0_pay14 (F := F) v6 v11 v21 v23) (k0_pay12 v31)) (fun k ⟨a, b⟩ => rfl)
  obtain ⟨⟨r3, r3'⟩, q3, e3⟩ := for_ret k0_t3_loop k0_t3_ok (0#32, 1073741824#32)
    (k0_t3_body (F := F) a0 h0 a1 h1 a2 h2 a3 h3 a4 h4 a5 h5 a6 h6 a7 h7 v5 v6 v11 v19 v21 v23 v31)
    (upper (k0_pay17 (F := F) v5 v6)) (fun k ⟨a, b⟩ => rfl)
  simp only [e2, Prog.bind_ret]
  simp only [e3, Prog.bind_ret]
  exact ⟨r2', r3, congrArg Prod.snd q2, congrArg Prod.fst q3, rfl⟩

theorem cuts_ret (a0 h0 a1 h1 a2 h2 a3 h3 a4 h4 a5 h5 a6 h6 a7 h7) (v5 v6 v11 v50 v52 v54 v65 v68 x y z) :
    ∃ d e g, d = ((lower (k0_pay20 (F := F) v11 v68) v65)^[k0_t4_loop.trips] (x, y)).2
      ∧ e = ((upper (k0_pay23 (F := F) v5 v6))^[k0_t5_loop.trips] (0#32, 1073741824#32)).1
      ∧ g = ((lower (k0_pay26 (F := F) v5 v6 v11 e) (k0_pay24 v5 v6 e))^[k0_t6_loop.trips] (9179#32, 36827#32)).2
      ∧ k0_part3 (F := F) a0 h0 a1 h1 a2 h2 a3 h3 a4 h4 a5 h5 a6 h6 a7 h7 v5 v6 v11 v50 v52 v54 v65 v68 x y z
      = .ret ⟨k0_pay21 v6 v11 v50 v52 v54 v68 d, k0_pay27 v5 v6 v11 e g, Scalar.ofBits .f32 0x00000000#32, k0_pay28⟩ := by
  rw [k0_part3_eq_skeleton]; unfold k0_part3_skel
  obtain ⟨⟨r4, r4'⟩, q4, e4⟩ := for_ret k0_t4_loop k0_t4_ok (x, y)
    (k0_t4_body (F := F) a0 h0 a1 h1 a2 h2 a3 h3 a4 h4 a5 h5 a6 h6 a7 h7 v5 v6 v11 v50 v52 v54 v65 v68 x y z)
    (lower (k0_pay20 (F := F) v11 v68) v65) (fun k ⟨a, b⟩ => rfl)
  obtain ⟨⟨r5, r5'⟩, q5, e5⟩ := for_ret k0_t5_loop k0_t5_ok (0#32, 1073741824#32)
    (k0_t5_body (F := F) a0 h0 a1 h1 a2 h2 a3 h3 a4 h4 a5 h5 a6 h6 a7 h7 v5 v6 v11 v50 v52 v54 v65 v68 x y z)
    (upper (k0_pay23 (F := F) v5 v6)) (fun k ⟨a, b⟩ => rfl)
  obtain ⟨⟨r6, r6'⟩, q6, e6⟩ := for_ret k0_t6_loop k0_t6_ok (9179#32, 36827#32)
    (k0_t6_body (F := F) a0 h0 a1 h1 a2 h2 a3 h3 a4 h4 a5 h5 a6 h6 a7 h7 v5 v6 v11 v50 v52 v54 v65 v68 x y z r5)
    (lower (k0_pay26 (F := F) v5 v6 v11 r5) (k0_pay24 v5 v6 r5)) (fun k ⟨a, b⟩ => rfl)
  simp only [e4, Prog.bind_ret]
  simp only [e5, Prog.bind_ret]
  simp only [e6, Prog.bind_ret]
  exact ⟨r4', r5, r6', congrArg Prod.snd q4, congrArg Prod.fst q5, congrArg Prod.snd q6, rfl⟩

/-! ### The picking loop -/

section Pick

/-- The contents of the result's buffer. -/
abbrev Out (F : FTy → Type) : Type := (cc0_stg7_0 : Ref sig .tc).ty.Contents (Elt F)

variable (c : Dev nD) (v11 : IVec S288x128 32) (v1 v2 v3 v4 : Vec F S288x128 .f32)

/-- What is left of the scores after a pick at scores `a9` with maximum `a10`. -/
def leftover (a9 : FVec F S288x128 .f32) (a10 : F .f32) : FVec F S288x128 .f32 :=
  k0_pay5 v1 v2 v3 v4 (k0_pay1 v1 v2 v3 v4) a9 (k0_pay29 v11 a9 a10) (k0_pay30 v11 v1 a9 a10) (k0_pay31 v11 v2 a9 a10)
    (k0_pay33 v11 v4 a9 a10) (k0_pay35 v11 v1 v2 v3 v4 a9 a10) (k0_pay36 v11 v3 a9 a10)

/-- The largest of them. -/
def leftmax (a9 : FVec F S288x128 .f32) (a10 : F .f32) : F .f32 :=
  k0_pay6 v1 v2 v3 v4 (k0_pay1 v1 v2 v3 v4) a9 (k0_pay29 v11 a9 a10) (k0_pay30 v11 v1 a9 a10) (k0_pay31 v11 v2 a9 a10)
    (k0_pay33 v11 v4 a9 a10) (k0_pay35 v11 v1 v2 v3 v4 a9 a10) (k0_pay36 v11 v3 a9 a10)

/-- The rectangle of the row numbered by the word `i`. -/
abbrev rowAt (i : BitVec 32) (hi : k0_chk1 i) : Rect S1024x8 :=
  Rect.unit (s := S1024x8) (k0_off1 i) S1x8.size (k0_off1_inb i hi)

/-- The result with the picked box written into row `i`. -/
def written (i : BitVec 32) (hi : k0_chk1 i) (a9 : FVec F S288x128 .f32) (a10 : F .f32) (fo : Out F) : Out F :=
  ((Memref.whole cc0_stg7_0).access (rowAt i hi) : View sig .tc _ _ _).write (Elt F) fo (k0_pay34 v11 v1 v2 v3 v4 a9 a10) Finset.univ

/-- Another box is picked. -/
def more (i : BitVec 32) (a10 : F .f32) : Prop :=
  Scalar.andi (Scalar.cmpi .slt i 1000#32) (Scalar.cmpf .ogt a10 (Scalar.ofBits .f32 0x00000000#32)) = 1#1

variable (P : ℕ → FVec F S288x128 .f32 → F .f32 → Out F → Prop)

/-- A pick keeps `P`. -/
def Keeps : Prop := ∀ (j : ℕ) (hj : j < 1000) (a9 : FVec F S288x128 .f32) (a10 : F .f32) (fo : Out F),
  more (BitVec.ofNat 32 j) a10 → P j a9 a10 fo →
    P (j + 1) (leftover v11 v1 v2 v3 v4 a9 a10) (leftmax v11 v1 v2 v3 v4 a9 a10) (written v11 v1 v2 v3 v4 (BitVec.ofNat 32 j) (row_lt j hj) a9 a10 fo)

/-- The loop's specification: holding the result's buffer it returns a state of which `P` holds and in which no box is picked. -/
def spec (fo : Out F) : sWPT 𝕄 (BitVec 32 × FVec F S288x128 .f32 × F .f32) := do
  sWPT.consume (((c : Thread nD τ).loc cc0_stg7_0) ↦{fullShare} fo)
  let r ← sWPT.arbitrary
  let fo' : Out F ← sWPT.arbitrary
  let n : ℕ ← sWPT.arbitrary
  sWPT.assume (n ≤ 1000 ∧ r.1 = BitVec.ofNat 32 n ∧ P n r.2.1 r.2.2 fo' ∧ ¬ more r.1 r.2.2)
  sWPT.produce (((c : Thread nD τ).loc cc0_stg7_0) ↦{fullShare} fo')
  pure r

theorem spec_apply (fo : Out F) (K : BitVec 32 × FVec F S288x128 .f32 × F .f32 → sProp 𝕄) :
    spec c P fo K
      = iprop((((c : Thread nD τ).loc cc0_stg7_0) ↦{fullShare} fo) ∗ ∀ r : BitVec 32 × FVec F S288x128 .f32 × F .f32, ∀ fo' : Out F, ∀ n : ℕ,
          ⌜n ≤ 1000 ∧ r.1 = BitVec.ofNat 32 n ∧ P n r.2.1 r.2.2 fo' ∧ ¬ more r.1 r.2.2⌝ -∗ ((((c : Thread nD τ).loc cc0_stg7_0) ↦{fullShare} fo') -∗ K r)) := rfl

theorem spec_le (E : Set ℕ) (hP : Keeps v11 v1 v2 v3 v4 P) :
    ∀ k j, j + k = 1000 → ∀ a9 a10 fo, P j a9 a10 fo → ∀ K, spec c P fo K
      ⊢ wp frame (wpE (defs₀ (F := F)) bounds (c : Thread nD τ) (some k)) E
          (defs₀ (F := F) .tc 1 ⟨v11, v1, v2, v3, v4, Memref.whole cc0_stg7_0, Memref.isWhole_whole _, k0_pay1 v1 v2 v3 v4, BitVec.ofNat 32 j, a9, a10⟩) K := by
  intro k
  induction k with
  | zero =>
    intro j hj a9 a10 fo hp K
    rw [spec_apply]
    show _ ⊢ wp frame (wpE (defs₀ (F := F)) bounds (c : Thread nD τ) (some 0)) E
      (cc0_while1 v11 v1 v2 v3 v4 (Memref.whole cc0_stg7_0) (Memref.isWhole_whole _) (k0_pay1 v1 v2 v3 v4) (BitVec.ofNat 32 j) a9 a10) K
    simp only [cc0_while1_eq_skeleton]; unfold cc0_while1_skel
    obtain rfl : j = 1000 := by omega
    have ht : ¬ more (F := F) (BitVec.ofNat 32 1000) a10 := fun h => by
      unfold more at h
      have e : Scalar.cmpi .slt (BitVec.ofNat 32 1000) 1000#32 = 0#1 := by decide
      rw [e] at h
      revert h
      generalize Scalar.cmpf .ogt a10 (Scalar.ofBits .f32 0x00000000#32) = x
      revert x; decide
    have ht' := ht
    unfold more at ht'
    simp only [ht', ↓reduceIte, Prog.pure_eq_ret]
    iintro ⟨H, Hk⟩
    rw [wp_ret]; imodintro
    iapply Hk $$ %_ %fo %1000
    · ipureintro; exact ⟨le_rfl, rfl, hp, ht⟩
    · iexact H
  | succ k ih =>
    intro j hj a9 a10 fo hp K
    have hj' : j < 1000 := by omega
    rw [spec_apply]
    show _ ⊢ wp frame (wpE (defs₀ (F := F)) bounds (c : Thread nD τ) (some (k + 1))) E
      (cc0_while1 v11 v1 v2 v3 v4 (Memref.whole cc0_stg7_0) (Memref.isWhole_whole _) (k0_pay1 v1 v2 v3 v4) (BitVec.ofNat 32 j) a9 a10) K
    simp only [cc0_while1_eq_skeleton]; unfold cc0_while1_skel
    by_cases ht : more (F := F) (BitVec.ofNat 32 j) a10
    · have ht' := ht
      unfold more at ht'
      simp only [ht', ↓reduceIte, k0_part4_eq_skeleton]
      unfold k0_part4_skel
      simp only [Prog.lift, Prog.bind_op, Prog.bind_ret, Prog.pure_eq_ret]
      iintro ⟨Ho, Hk⟩
      iapply (wp_assume bounds (c : Thread nD τ) (some (k + 1)) E (row_lt j hj'))
      iapply (wp_load bounds (c : Thread nD τ) (some (k + 1)) E (m := Memref.whole cc0_stg7_0) (Finset.subset_univ _)) $$ Ho; iintro Ho
      iapply (wp_store bounds (c : Thread nD τ) (some (k + 1)) E (m := Memref.whole cc0_stg7_0) (r := rowAt (BitVec.ofNat 32 j) (row_lt j hj')) (Mk := Finset.univ) (Finset.subset_univ _)) $$ Ho; iintro Ho
      rw [row_succ]
      iapply (wp_call_spec bounds (c : Thread nD τ) (some (k + 1)) E
        (spec c P (written v11 v1 v2 v3 v4 (BitVec.ofNat 32 j) (row_lt j hj') a9 a10 fo)) k
        (fun u hu => by cases hu; exact Nat.lt_succ_self k)
        (ih (j + 1) (by omega) _ _ _ (hP j hj' a9 a10 fo ht hp)))
      rw [spec_apply]
      isplitl [Ho]; · iexact Ho
      iintro %r %fo' %n %hr Ho
      rw [wp_ret]; imodintro
      iapply Hk $$ %r %fo' %n
      · ipureintro; exact hr
      · iexact Ho
    · have ht' := ht
      unfold more at ht'
      simp only [ht', ↓reduceIte, Prog.pure_eq_ret]
      iintro ⟨H, Hk⟩
      rw [wp_ret]; imodintro
      iapply Hk $$ %_ %fo %j
      · ipureintro; exact ⟨by omega, rfl, hp, ht⟩
      · iexact H

end Pick

/-! ### The whole body -/

section Body

variable (m : (ℓ : Loc nD τ sig) → Buf (Elt F) ℓ) (ρ : Dev nD → PrngReg)

/-- The memory at launch. -/
def s₀ : MemSt nD τ sig (Elt F) := ⟨m, fun _ => 0, ρ⟩

/-- The buffers where the call's region is entered: as at launch. -/
abbrev V (c : Dev nD) (b : Ref sig .tc) : Buf (Elt F) ((c : Thread nD τ).loc b) := m ((c : Thread nD τ).loc b)

/-- The seven arguments on core `c`. -/
abbrev scores (c : Dev nD) : Vec F S288x128 .f32 := V m c main_arg0
abbrev keys (c : Dev nD) : Vec F S288x128 .i32 := V m c main_arg1
abbrev left (c : Dev nD) : Vec F S288x128 .f32 := V m c main_arg2
abbrev top (c : Dev nD) : Vec F S288x128 .f32 := V m c main_arg3
abbrev right (c : Dev nD) : Vec F S288x128 .f32 := V m c main_arg4
abbrev bottom (c : Dev nD) : Vec F S288x128 .f32 := V m c main_arg5
abbrev levels (c : Dev nD) : Vec F S288x128 .i32 := V m c main_arg6

/-- The rectangle of row 0. -/
abbrev row0 : Rect S1024x8 := Rect.unit (s := S1024x8) ![0, 0] S1x8.size inb_S1024x8_S1x8_0_0

/-- The result after `n` picks, its other rows filled with row 0. -/
def filled (n : ℕ) (fo : Out F) : Out F :=
  k0_pay4 (BitVec.ofNat 32 n) ((Memref.whole cc0_stg7_0 : Memref sig .tc _ _ _).view.readAt (Elt F) row0.toLoadRect fo) fo

variable (P : Dev nD → ℕ → FVec F S288x128 .f32 → F .f32 → Out F → Prop)

/-- The positions counted in before the last level, at the thresholds and cuts of the two levels before it. -/
def counted (c : Dev nD) (t₁ b₁ t₂ b₂ : BitVec 32) : FVec F S288x128 .f32 :=
  k0_pay21 (keys m c) k0_pay7 (k0_pay15 (keys m c) k0_pay7 (k0_pay8 (levels m c)) (k0_pay9 (levels m c)) t₁ b₁) (k0_pay16 (levels m c)) t₂
    (k0_pay19 (levels m c) (keys m c) t₂) b₂

/-! The thresholds and cuts of the three levels that have them, each cut at its level's threshold `t`. -/

def tau₁ (v5 v6 : IVec S288x128 32) : BitVec 32 := ((upper (k0_pay10 (F := F) v5 v6))^[k0_t1_loop.trips] (0#32, 1073741824#32)).1
def tau₂ (v5 v6 : IVec S288x128 32) : BitVec 32 := ((upper (k0_pay17 (F := F) v5 v6))^[k0_t3_loop.trips] (0#32, 1073741824#32)).1
def tau₃ (v5 v6 : IVec S288x128 32) : BitVec 32 := ((upper (k0_pay23 (F := F) v5 v6))^[k0_t5_loop.trips] (0#32, 1073741824#32)).1
def cut₁ (v5 v6 : IVec S288x128 32) (t : BitVec 32) : BitVec 32 :=
  ((lower (k0_pay14 (F := F) v6 k0_pay7 (k0_pay9 (F := F) v5) t) (k0_pay12 (k0_pay11 v5 v6 t)))^[k0_t2_loop.trips] (539#32, 2267#32)).2
def cut₂ (v5 v6 : IVec S288x128 32) (t : BitVec 32) : BitVec 32 :=
  ((lower (k0_pay20 (F := F) k0_pay7 (k0_pay19 (F := F) v5 v6 t)) (k0_pay18 v5 v6 t))^[k0_t4_loop.trips] (2267#32, 9179#32)).2
def cut₃ (v5 v6 : IVec S288x128 32) (t : BitVec 32) : BitVec 32 :=
  ((lower (k0_pay26 (F := F) v5 v6 k0_pay7 t) (k0_pay24 v5 v6 t))^[k0_t6_loop.trips] (9179#32, 36827#32)).2

/-- `P` holds before the first pick, at the thresholds and cuts. -/
def Starts : Prop := ∀ (c : Dev nD) (t₁ b₁ t₂ b₂ t₃ b₃ : BitVec 32) (fo : Out F),
  t₁ = tau₁ (F := F) (levels m c) (keys m c) → b₁ = cut₁ (F := F) (levels m c) (keys m c) t₁ →
  t₂ = tau₂ (F := F) (levels m c) (keys m c) → b₂ = cut₂ (F := F) (levels m c) (keys m c) t₂ →
  t₃ = tau₃ (F := F) (levels m c) (keys m c) → b₃ = cut₃ (F := F) (levels m c) (keys m c) t₃ →
  P c 0 (k0_pay2 (scores m c) (counted m c t₁ b₁ t₂ b₂) (k0_pay27 (levels m c) (keys m c) k0_pay7 t₃ b₃) (Scalar.ofBits .f32 0x00000000#32) k0_pay28)
    (k0_pay3 (scores m c) (counted m c t₁ b₁ t₂ b₂) (k0_pay27 (levels m c) (keys m c) k0_pay7 t₃ b₃) (Scalar.ofBits .f32 0x00000000#32) k0_pay28) fo

/-- On every core a pick keeps `P`. -/
def KeepsAll : Prop := ∀ c : Dev nD, Keeps k0_pay7 (left m c) (top m c) (right m c) (bottom m c) (P c)

/-- What the result may be: the rows written where the loop stops, in a state `P` holds of, the others filled. -/
def Ends (c : Dev nD) (X : Out F) : Prop :=
  ∃ (n : ℕ) (a9 : FVec F S288x128 .f32) (a10 : F .f32) (fo : Out F),
    n ≤ 1000 ∧ P c n a9 a10 fo ∧ ¬ more (BitVec.ofNat 32 n) a10 ∧ X = filled n fo

/-- The proof data: the inputs stay as they are found, the result is one that `Ends` allows. -/
def rdat (c : Dev nD) : RDat τ (Elt F) Unit ℕ (UR sig nD τ) ℕ (cfg0 (F := F)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => Ends P c X
    | ⟨_ + 8, h⟩ => absurd h (Nat.not_lt.2 (Nat.le_add_left _ _))
  Φ _ := Pipeline.ΦA spec0 c
  q _ := fullShare
  owed _ := 0

theorem zero2 : (![0, 0] : Fin 2 → Nat) = fun _ => 0 := funext fun a => by fin_cases a <;> rfl

/-- The body on its eight buffers, the inputs at the arguments. -/
theorem sound_body (hS : Starts m P) (hK : KeepsAll m P) (c : Dev nD) (fo : Out F) (K : PUnit → sProp 𝕄) :
    iprop((((c : Thread nD τ).loc cc0_stg0_0) ↦{fullShare} (scores m c : (cc0_stg0_0 : Ref sig .tc).ty.Contents (Elt F)))
        ∗ (((c : Thread nD τ).loc cc0_stg1_0) ↦{fullShare} (keys m c : (cc0_stg1_0 : Ref sig .tc).ty.Contents (Elt F)))
        ∗ (((c : Thread nD τ).loc cc0_stg2_0) ↦{fullShare} (left m c : (cc0_stg2_0 : Ref sig .tc).ty.Contents (Elt F)))
        ∗ (((c : Thread nD τ).loc cc0_stg3_0) ↦{fullShare} (top m c : (cc0_stg3_0 : Ref sig .tc).ty.Contents (Elt F)))
        ∗ (((c : Thread nD τ).loc cc0_stg4_0) ↦{fullShare} (right m c : (cc0_stg4_0 : Ref sig .tc).ty.Contents (Elt F)))
        ∗ (((c : Thread nD τ).loc cc0_stg5_0) ↦{fullShare} (bottom m c : (cc0_stg5_0 : Ref sig .tc).ty.Contents (Elt F)))
        ∗ (((c : Thread nD τ).loc cc0_stg6_0) ↦{fullShare} (levels m c : (cc0_stg6_0 : Ref sig .tc).ty.Contents (Elt F)))
        ∗ (((c : Thread nD τ).loc cc0_stg7_0) ↦{fullShare} fo)
        ∗ (∀ X : Out F, ⌜Ends P c X⌝ -∗
          ((((c : Thread nD τ).loc cc0_stg0_0) ↦{fullShare} (scores m c : (cc0_stg0_0 : Ref sig .tc).ty.Contents (Elt F)))
            ∗ (((c : Thread nD τ).loc cc0_stg1_0) ↦{fullShare} (keys m c : (cc0_stg1_0 : Ref sig .tc).ty.Contents (Elt F)))
            ∗ (((c : Thread nD τ).loc cc0_stg2_0) ↦{fullShare} (left m c : (cc0_stg2_0 : Ref sig .tc).ty.Contents (Elt F)))
            ∗ (((c : Thread nD τ).loc cc0_stg3_0) ↦{fullShare} (top m c : (cc0_stg3_0 : Ref sig .tc).ty.Contents (Elt F)))
            ∗ (((c : Thread nD τ).loc cc0_stg4_0) ↦{fullShare} (right m c : (cc0_stg4_0 : Ref sig .tc).ty.Contents (Elt F)))
            ∗ (((c : Thread nD τ).loc cc0_stg5_0) ↦{fullShare} (bottom m c : (cc0_stg5_0 : Ref sig .tc).ty.Contents (Elt F)))
            ∗ (((c : Thread nD τ).loc cc0_stg6_0) ↦{fullShare} (levels m c : (cc0_stg6_0 : Ref sig .tc).ty.Contents (Elt F)))
            ∗ (((c : Thread nD τ).loc cc0_stg7_0) ↦{fullShare} X)) -∗ K ⟨⟩))
      ⊢ wp frame (wpE (defs₀ (F := F)) bounds c none) Set.univ
          (cc0__proposal_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)) K := by
  simp only [cc0__proposal_body_eq_skeleton]; unfold cc0__proposal_body_skel
  simp only [k0_part1_eq_skeleton]; unfold k0_part1_skel
  simp only [Prog.lift, Prog.bind_op, Prog.bind_ret, Prog.pure_eq_ret]
  iintro ⟨H0, H1, H2, H3, H4, H5, H6, H7, Hk⟩
  iapply (wp_load bounds (c : Thread nD τ) none Set.univ (m := Memref.whole cc0_stg0_0) (Finset.subset_univ _)) $$ H0; iintro H0
  iapply (wp_load bounds (c : Thread nD τ) none Set.univ (m := Memref.whole cc0_stg2_0) (Finset.subset_univ _)) $$ H2; iintro H2
  iapply (wp_load bounds (c : Thread nD τ) none Set.univ (m := Memref.whole cc0_stg3_0) (Finset.subset_univ _)) $$ H3; iintro H3
  iapply (wp_load bounds (c : Thread nD τ) none Set.univ (m := Memref.whole cc0_stg4_0) (Finset.subset_univ _)) $$ H4; iintro H4
  iapply (wp_load bounds (c : Thread nD τ) none Set.univ (m := Memref.whole cc0_stg5_0) (Finset.subset_univ _)) $$ H5; iintro H5
  iapply (wp_load bounds (c : Thread nD τ) none Set.univ (m := Memref.whole cc0_stg6_0) (Finset.subset_univ _)) $$ H6; iintro H6
  iapply (wp_load bounds (c : Thread nD τ) none Set.univ (m := Memref.whole cc0_stg1_0) (Finset.subset_univ _)) $$ H1; iintro H1
  rw [show (Memref.whole cc0_stg0_0 : Memref sig .tc _ _ _).view.readAt (Elt F) (Rect.unit (s := S288x128) ![0, 0] S288x128.size inb_S288x128_S288x128_0_0).toLoadRect (scores m c) = scores m c from Memref.readAt_unit_zero (Elt F) cc0_stg0_0 zero2 _ _,
    show (Memref.whole cc0_stg1_0 : Memref sig .tc _ _ _).view.readAt (Elt F) (Rect.unit (s := S288x128) ![0, 0] S288x128.size inb_S288x128_S288x128_0_0).toLoadRect (keys m c) = keys m c from Memref.readAt_unit_zero (Elt F) cc0_stg1_0 zero2 _ _,
    show (Memref.whole cc0_stg2_0 : Memref sig .tc _ _ _).view.readAt (Elt F) (Rect.unit (s := S288x128) ![0, 0] S288x128.size inb_S288x128_S288x128_0_0).toLoadRect (left m c) = left m c from Memref.readAt_unit_zero (Elt F) cc0_stg2_0 zero2 _ _,
    show (Memref.whole cc0_stg3_0 : Memref sig .tc _ _ _).view.readAt (Elt F) (Rect.unit (s := S288x128) ![0, 0] S288x128.size inb_S288x128_S288x128_0_0).toLoadRect (top m c) = top m c from Memref.readAt_unit_zero (Elt F) cc0_stg3_0 zero2 _ _,
    show (Memref.whole cc0_stg4_0 : Memref sig .tc _ _ _).view.readAt (Elt F) (Rect.unit (s := S288x128) ![0, 0] S288x128.size inb_S288x128_S288x128_0_0).toLoadRect (right m c) = right m c from Memref.readAt_unit_zero (Elt F) cc0_stg4_0 zero2 _ _,
    show (Memref.whole cc0_stg5_0 : Memref sig .tc _ _ _).view.readAt (Elt F) (Rect.unit (s := S288x128) ![0, 0] S288x128.size inb_S288x128_S288x128_0_0).toLoadRect (bottom m c) = bottom m c from Memref.readAt_unit_zero (Elt F) cc0_stg5_0 zero2 _ _,
    show (Memref.whole cc0_stg6_0 : Memref sig .tc _ _ _).view.readAt (Elt F) (Rect.unit (s := S288x128) ![0, 0] S288x128.size inb_S288x128_S288x128_0_0).toLoadRect (levels m c) = levels m c from Memref.readAt_unit_zero (Elt F) cc0_stg6_0 zero2 _ _]
  obtain ⟨⟨r1, r1'⟩, q1, e1⟩ := for_ret k0_t1_loop k0_t1_ok (0#32, 1073741824#32)
    (k0_t1_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _) (levels m c) (keys m c))
    (upper (k0_pay10 (F := F) (levels m c) (keys m c))) (fun k ⟨a, b⟩ => rfl)
  simp only [e1, Prog.bind_ret]
  obtain ⟨b1, r2, qb1, q2, e2⟩ := thresholds_ret (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _) (levels m c) (keys m c)
            k0_pay7 (k0_pay8 (levels m c)) (k0_pay9 (levels m c)) r1 (k0_pay11 (levels m c) (keys m c) r1)
  simp only [e2, Prog.bind_ret]
  obtain ⟨b2, r3, b3, qb2, q3, qb3, e3⟩ := cuts_ret (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _) (levels m c) (keys m c)
            k0_pay7 (k0_pay15 (keys m c) k0_pay7 (k0_pay8 (levels m c)) (k0_pay9 (levels m c)) r1 b1) (k0_pay16 (levels m c)) r2
            (k0_pay18 (levels m c) (keys m c) r2) (k0_pay19 (levels m c) (keys m c) r2) 2267#32 9179#32 0#32
  simp only [e3, Prog.bind_ret, Prog.bind_op]
  have hT := spec_le (F := F) c k0_pay7 (left m c) (top m c) (right m c) (bottom m c) (P c) Set.univ (hK c) 1000 0 rfl
    (k0_pay2 (scores m c) (counted m c r1 b1 r2 b2) (k0_pay27 (levels m c) (keys m c) k0_pay7 r3 b3) (Scalar.ofBits .f32 0x00000000#32) k0_pay28)
    (k0_pay3 (scores m c) (counted m c r1 b1 r2 b2) (k0_pay27 (levels m c) (keys m c) k0_pay7 r3 b3) (Scalar.ofBits .f32 0x00000000#32) k0_pay28)
    fo (hS c r1 b1 r2 b2 r3 b3 fo (congrArg Prod.fst q1) qb1 q2 qb2 q3 qb3)
  iapply (wp_call_spec bounds (c : Thread nD τ) none Set.univ (spec c (P c) fo) 1000 (fun u hu => nomatch hu) hT)
  rw [spec_apply]
  isplitl [H7]; · iexact H7
  iintro %r %fo' %n %hr H7
  obtain ⟨i, a9, a10⟩ := r
  obtain ⟨hn, hi, hp, hm⟩ := hr
  dsimp only at hi hp hm
  subst hi
  dsimp only
  iapply (wp_load bounds (c : Thread nD τ) none Set.univ (m := Memref.whole cc0_stg7_0) (Finset.subset_univ _)) $$ H7; iintro H7
  iapply (wp_load bounds (c : Thread nD τ) none Set.univ (m := Memref.whole cc0_stg7_0) (Finset.subset_univ _)) $$ H7; iintro H7
  iapply (wp_load bounds (c : Thread nD τ) none Set.univ (m := Memref.whole cc0_stg7_0) (Finset.subset_univ _)) $$ H7; iintro H7
  iapply (wp_store bounds (c : Thread nD τ) none Set.univ (m := Memref.whole cc0_stg7_0) (r := Rect.unit (s := S1024x8) ![0, 0] S1024x8.size inb_S1024x8_S1024x8_0_0) (Mk := Finset.univ) (Finset.subset_univ _)) $$ H7; iintro H7
  rw [show ∀ f w : Out F, ((Memref.whole cc0_stg7_0).access (Rect.unit (s := S1024x8) ![0, 0] S1024x8.size inb_S1024x8_S1024x8_0_0) : View sig .tc _ _ _).write (Elt F) f w Finset.univ = w
      from fun f w => Memref.write_access_unit_zero_univ (Elt F) cc0_stg7_0 zero2 _ f w,
    show (Memref.whole cc0_stg7_0 : Memref sig .tc _ _ _).view.readAt (Elt F) (Rect.unit (s := S1024x8) ![0, 0] S1024x8.size inb_S1024x8_S1024x8_0_0).toLoadRect fo' = fo' from Memref.readAt_unit_zero (Elt F) cc0_stg7_0 zero2 _ _]
  rw [wp_ret]; imodintro
  iapply Hk $$ %(filled n fo')
  · ipureintro; exact ⟨n, a9, a10, fo', hn, hp, hm, rfl⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! Each input's buffer is found at the argument. -/

theorem found0 (c : Dev nD) (Y : (cc0_stg0_0 : Ref sig .tc).ty.Contents (Elt F)) (h : (rdat m P c).Finds 0 t0_0 Y) : Y = scores m c := by
  obtain ⟨d, rfl⟩ := ((rdat m P c).finds_of_fetch (fetch0_0 t0_0) Y).1 h
  have e : (rdat m P c).fetched 0 t0_0 d = (((cfg0 (F := F)).win 0).blk t0_0).view.read (Elt F) (V m c (Pipeline.arrRef spec0 0)) := by
    unfold RDat.fetched RDat.blockOf; rfl
  rw [e]
  funext j
  show V m c main_arg0 _ = V m c main_arg0 j
  congr 1
  funext a
  fin_cases a <;> exact Fin.ext (show 0 * _ + 1 * _ = _ by rw [Nat.zero_mul, Nat.zero_add, Nat.one_mul])

theorem found1 (c : Dev nD) (Y : (cc0_stg1_0 : Ref sig .tc).ty.Contents (Elt F)) (h : (rdat m P c).Finds 1 t0_0 Y) : Y = keys m c := by
  obtain ⟨d, rfl⟩ := ((rdat m P c).finds_of_fetch (fetch0_1 t0_0) Y).1 h
  have e : (rdat m P c).fetched 1 t0_0 d = (((cfg0 (F := F)).win 1).blk t0_0).view.read (Elt F) (V m c (Pipeline.arrRef spec0 1)) := by
    unfold RDat.fetched RDat.blockOf; rfl
  rw [e]
  funext j
  show V m c main_arg1 _ = V m c main_arg1 j
  congr 1
  funext a
  fin_cases a <;> exact Fin.ext (show 0 * _ + 1 * _ = _ by rw [Nat.zero_mul, Nat.zero_add, Nat.one_mul])

theorem found2 (c : Dev nD) (Y : (cc0_stg2_0 : Ref sig .tc).ty.Contents (Elt F)) (h : (rdat m P c).Finds 2 t0_0 Y) : Y = left m c := by
  obtain ⟨d, rfl⟩ := ((rdat m P c).finds_of_fetch (fetch0_2 t0_0) Y).1 h
  have e : (rdat m P c).fetched 2 t0_0 d = (((cfg0 (F := F)).win 2).blk t0_0).view.read (Elt F) (V m c (Pipeline.arrRef spec0 2)) := by
    unfold RDat.fetched RDat.blockOf; rfl
  rw [e]
  funext j
  show V m c main_arg2 _ = V m c main_arg2 j
  congr 1
  funext a
  fin_cases a <;> exact Fin.ext (show 0 * _ + 1 * _ = _ by rw [Nat.zero_mul, Nat.zero_add, Nat.one_mul])

theorem found3 (c : Dev nD) (Y : (cc0_stg3_0 : Ref sig .tc).ty.Contents (Elt F)) (h : (rdat m P c).Finds 3 t0_0 Y) : Y = top m c := by
  obtain ⟨d, rfl⟩ := ((rdat m P c).finds_of_fetch (fetch0_3 t0_0) Y).1 h
  have e : (rdat m P c).fetched 3 t0_0 d = (((cfg0 (F := F)).win 3).blk t0_0).view.read (Elt F) (V m c (Pipeline.arrRef spec0 3)) := by
    unfold RDat.fetched RDat.blockOf; rfl
  rw [e]
  funext j
  show V m c main_arg3 _ = V m c main_arg3 j
  congr 1
  funext a
  fin_cases a <;> exact Fin.ext (show 0 * _ + 1 * _ = _ by rw [Nat.zero_mul, Nat.zero_add, Nat.one_mul])

theorem found4 (c : Dev nD) (Y : (cc0_stg4_0 : Ref sig .tc).ty.Contents (Elt F)) (h : (rdat m P c).Finds 4 t0_0 Y) : Y = right m c := by
  obtain ⟨d, rfl⟩ := ((rdat m P c).finds_of_fetch (fetch0_4 t0_0) Y).1 h
  have e : (rdat m P c).fetched 4 t0_0 d = (((cfg0 (F := F)).win 4).blk t0_0).view.read (Elt F) (V m c (Pipeline.arrRef spec0 4)) := by
    unfold RDat.fetched RDat.blockOf; rfl
  rw [e]
  funext j
  show V m c main_arg4 _ = V m c main_arg4 j
  congr 1
  funext a
  fin_cases a <;> exact Fin.ext (show 0 * _ + 1 * _ = _ by rw [Nat.zero_mul, Nat.zero_add, Nat.one_mul])

theorem found5 (c : Dev nD) (Y : (cc0_stg5_0 : Ref sig .tc).ty.Contents (Elt F)) (h : (rdat m P c).Finds 5 t0_0 Y) : Y = bottom m c := by
  obtain ⟨d, rfl⟩ := ((rdat m P c).finds_of_fetch (fetch0_5 t0_0) Y).1 h
  have e : (rdat m P c).fetched 5 t0_0 d = (((cfg0 (F := F)).win 5).blk t0_0).view.read (Elt F) (V m c (Pipeline.arrRef spec0 5)) := by
    unfold RDat.fetched RDat.blockOf; rfl
  rw [e]
  funext j
  show V m c main_arg5 _ = V m c main_arg5 j
  congr 1
  funext a
  fin_cases a <;> exact Fin.ext (show 0 * _ + 1 * _ = _ by rw [Nat.zero_mul, Nat.zero_add, Nat.one_mul])

theorem found6 (c : Dev nD) (Y : (cc0_stg6_0 : Ref sig .tc).ty.Contents (Elt F)) (h : (rdat m P c).Finds 6 t0_0 Y) : Y = levels m c := by
  obtain ⟨d, rfl⟩ := ((rdat m P c).finds_of_fetch (fetch0_6 t0_0) Y).1 h
  have e : (rdat m P c).fetched 6 t0_0 d = (((cfg0 (F := F)).win 6).blk t0_0).view.read (Elt F) (V m c (Pipeline.arrRef spec0 6)) := by
    unfold RDat.fetched RDat.blockOf; rfl
  rw [e]
  funext j
  show V m c main_arg6 _ = V m c main_arg6 j
  congr 1
  funext a
  fin_cases a <;> exact Fin.ext (show 0 * _ + 1 * _ = _ by rw [Nat.zero_mul, Nat.zero_add, Nat.one_mul])

theorem body_obligation (hS : Starts m P) (hK : KeepsAll m P) (c : Dev nD) :
    (rdat m P c).BodyObligation (defs₀ (F := F)) bounds () Set.univ := fun t Y hY => by
  obtain rfl := fin_N0 t
  have y0 := found0 m P c (Y 0) (hY 0)
  have y1 := found1 m P c (Y 1) (hY 1)
  have y2 := found2 m P c (Y 2) (hY 2)
  have y3 := found3 m P c (Y 3) (hY 3)
  have y4 := found4 m P c (Y 4) (hY 4)
  have y5 := found5 m P c (Y 5) (hY 5)
  have y6 := found6 m P c (Y 6) (hY 6)
  rw [bigSep_W0, bigSep_W0]
  sl_whnfR [defs₀, Defs.onTc]
  simp only [owns_whole_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl,
    show stage0_6 0 = Memref.whole cc0_stg6_0 from rfl, show stage0_7 0 = Memref.whole cc0_stg7_0 from rfl]
  iintro ⟨HΦ, Howes, ⟨%f0, %g0, H0⟩, ⟨%f1, %g1, H1⟩, ⟨%f2, %g2, H2⟩, ⟨%f3, %g3, H3⟩, ⟨%f4, %g4, H4⟩, ⟨%f5, %g5, H5⟩, ⟨%f6, %g6, H6⟩, ⟨%f7, %g7, H7⟩⟩
  obtain rfl := g0.trans y0
  obtain rfl := g1.trans y1
  obtain rfl := g2.trans y2
  obtain rfl := g3.trans y3
  obtain rfl := g4.trans y4
  obtain rfl := g5.trans y5
  obtain rfl := g6.trans y6
  iapply (sound_body m P hS hK c f7)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro %X %hX ⟨H0, H1, H2, H3, H4, H5, H6, H7⟩
  rw [show (rdat m P c).Φ t0_0.succ = (rdat m P c).Φ t0_0.castSucc from rfl,
    show (rdat m P c).owesAt () t0_0.succ = (rdat m P c).owesAt () t0_0.castSucc from rfl]
  isplitl [HΦ]; · iexact HΦ
  isplitl [Howes]; · iexact Howes
  isplitl [H0]
  · iexists (scores m c); isplitr
    · ipureintro; exact y0.symm
    iexists _; isplitr; · (ipureintro; rfl)
    iexact H0
  isplitl [H1]
  · iexists (keys m c); isplitr
    · ipureintro; exact y1.symm
    iexists _; isplitr; · (ipureintro; rfl)
    iexact H1
  isplitl [H2]
  · iexists (left m c); isplitr
    · ipureintro; exact y2.symm
    iexists _; isplitr; · (ipureintro; rfl)
    iexact H2
  isplitl [H3]
  · iexists (top m c); isplitr
    · ipureintro; exact y3.symm
    iexists _; isplitr; · (ipureintro; rfl)
    iexact H3
  isplitl [H4]
  · iexists (right m c); isplitr
    · ipureintro; exact y4.symm
    iexists _; isplitr; · (ipureintro; rfl)
    iexact H4
  isplitl [H5]
  · iexists (bottom m c); isplitr
    · ipureintro; exact y5.symm
    iexists _; isplitr; · (ipureintro; rfl)
    iexact H5
  isplitl [H6]
  · iexists (levels m c); isplitr
    · ipureintro; exact y6.symm
    iexists _; isplitr; · (ipureintro; rfl)
    iexact H6
  iexists X; isplitr
  · ipureintro; exact hX
  iexists _; isplitr; · (ipureintro; rfl)
  iexact H7

/-! ### The call -/

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => by rw [main_chain]; rfl

-- the launch's implicit arguments are found by unfolding plain definitions in the statement's type
set_option backward.isDefEq.respectTransparency.types false in
/-- The call ends, its arguments as they were, its result one that `Ends` allows, every semaphore at zero. -/
theorem run (hS : Starts m P) (hK : KeepsAll m P) :
    θ_run defs (onTc (τ := τ) (main (F := F))) (s₀ m ρ)
      (fun r => Pipeline.RDat.FramePost (cfg0 (F := F)) (rdat m P) (V m) r ∧ r.2.sem = fun _ => 0) :=
  Pipeline.RDat.θ_run_frame (Q' := _) cfgs (0 : Fin 1) launch0 defs₀ bounds (rdat m P) m ρ main
    (hbody := fun c => body_obligation m P hS hK c) (hshare := fun c => (rdat m P c).share_full fun _ => rfl)
    (howed := fun _ _ => rfl) (V := V m) (hmain := hmain m bounds) (hA := fun _ _ => rfl) (hΦ := fun _ _ => rfl)
    (hQ' := fun _ h => h)

/-- What the run's post says of the arguments and of the result. -/
theorem post_args (r : PUnit × MemSt nD τ sig (Elt F)) (h : Pipeline.RDat.FramePost (cfg0 (F := F)) (rdat m P) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨h.arr_in c 0 rfl, h.arr_in c 1 rfl, h.arr_in c 2 rfl, h.arr_in c 3 rfl, h.arr_in c 4 rfl, h.arr_in c 5 rfl, h.arr_in c 6 rfl⟩

theorem post_result (r : PUnit × MemSt nD τ sig (Elt F)) (h : Pipeline.RDat.FramePost (cfg0 (F := F)) (rdat m P) (V m) r) (c : Dev nD) :
    Ends P c (r.2.mem ((c.tc : Thread nD τ).loc main_v0)) := by
  have hw : ((cfg0 (F := F)).win 7).WholeAt t0_0 := (by decide +kernel : win0_7.WholeAt t0_0)
  obtain ⟨X, ⟨Y, -, hX⟩, hj⟩ := ((h c).1 7).emb_eq_of_wholeAt (rd := rdat m P c) hw
  have e : r.2.mem ((c.tc : Thread nD τ).loc main_v0) = X := funext fun j => hj j
  rw [e]; exact hX

end Body

/-- The call ends, leaves its arguments as they were and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨post_args m _ r h.1, h.2⟩)
    (run m ρ (fun _ _ _ _ _ => True) (fun _ _ _ _ _ _ _ _ _ _ _ _ _ _ => trivial) (fun _ _ _ _ _ _ _ _ => trivial))

end Cert.Proof.ProposalsIdealRun

end
-- ==== Proof.PicksFacts.lean ====
/- The shape relations the predicate `picked_in_turn` states of its operations. -/
module

public import proofs.«01_k».proof.Post_picked_in_turn

@[expose] public section

set_option maxRecDepth 16384

noncomputable section

namespace Cert.Proof.PicksPost

/-- They hold. -/
theorem facts : Cert.Post_picked_in_turn.Facts :=
  ⟨by decide, by decide, by decide, by decide, by decide, by decide, by decide, by decide,
    by decide, by decide, by decide, by decide, by decide, by decide, by decide, by decide, by decide,
    by decide, by decide, by decide, by decide, by decide, by decide, by decide, by decide, by decide⟩

end Cert.Proof.PicksPost

end
-- ==== Proof.Picks.lean ====
/- Picking boxes in turn, as mathematics: a position of the largest score left is picked, it and the positions its box
   covers are struck out, and so on while a positive score is left. `Picked` is what holds after `n` picks; `Picked.next`
   is one pick, and the rest says what the rows of boxes written down meanwhile satisfy, with nothing of the loop in it. -/
module

public import Idealize.ShloMosaic.PureOps.Ideal

@[expose] public section

noncomputable section

namespace Cert.Proof.Picks

open Idealize.ShloMosaic

/-- A box by its four edges: left, top, right, bottom. -/
abbrev Box : Type := Fin 4 → EReal

/-- The area common to two boxes. -/
def common (w b : Box) : EReal :=
  max (min (b 2) (w 2) - max (b 0) (w 0)) (Ideal.ofBits .f32 0x00000000#32)
    * max (min (b 3) (w 3) - max (b 1) (w 1)) (Ideal.ofBits .f32 0x00000000#32)

/-- The box `w` covers the box `b`: they have more than seven tenths of their union in common. -/
def Covers (w b : Box) : Prop :=
  Ideal.ofBits .f32 0x3F333333#32
      * ((b 2 - b 0) * (b 3 - b 1) + (w 2 - w 0) * (w 3 - w 1) - common w b + Ideal.ofBits .f32 0x3089705F#32)
    < common w b

variable {ι : Type} (s : ι → EReal) (box : ι → Box) (cand may : ι → Prop)

/-- After `n` picks `pk 0 … pk (n - 1)` the scores left are `sa`, the largest of them `top`. What is `cand` takes part, what is
    not `may` does not. -/
structure Picked (n : ℕ) (sa : ι → EReal) (top : EReal) (pk : ℕ → ι) : Prop where
  /-- a picked position had a positive score -/
  pos : ∀ a < n, 0 < s (pk a)
  /-- and was one that may be picked -/
  fair : ∀ a < n, may (pk a)
  /-- no pick's box is covered by an earlier one's -/
  apart : ∀ b < n, ∀ a < b, ¬ Covers (box (pk a)) (box (pk b))
  /-- a position keeps its score, or it is struck out, for a reason if it was a candidate -/
  rest : ∀ p, (sa p = s p ∧ may p ∧ ∀ a < n, pk a ≠ p ∧ ¬ Covers (box (pk a)) (box p))
    ∨ (sa p ≤ 0 ∧ (cand p → ∃ a < n, pk a = p ∨ Covers (box (pk a)) (box p)))
  /-- a pick's score is the largest among the candidates then left -/
  best : ∀ a < n, ∀ p, cand p → (∀ b < a, pk b ≠ p ∧ ¬ Covers (box (pk b)) (box p)) → s p ≤ s (pk a)
  le_top : ∀ p, sa p ≤ top
  top_le : ∃ p, top ≤ sa p

variable {s box cand may}

/-- Before the first pick. -/
theorem Picked.start {sa : ι → EReal} {top : EReal} (pk : ℕ → ι) (h : ∀ p, (sa p = s p ∧ may p) ∨ (sa p ≤ 0 ∧ ¬ cand p))
    (hle : ∀ p, sa p ≤ top) (hge : ∃ p, top ≤ sa p) : Picked s box cand may 0 sa top pk where
  pos a ha := absurd ha (Nat.not_lt_zero _)
  fair a ha := absurd ha (Nat.not_lt_zero _)
  apart b hb := absurd hb (Nat.not_lt_zero _)
  rest p := (h p).imp (fun e => ⟨e.1, e.2, fun a ha => absurd ha (Nat.not_lt_zero _)⟩) (fun e => ⟨e.1, fun hc => absurd hc e.2⟩)
  best a ha := absurd ha (Nat.not_lt_zero _)
  le_top := hle
  top_le := hge

/-- One pick. -/
theorem Picked.next {n : ℕ} {sa : ι → EReal} {top : EReal} {pk : ℕ → ι} (h : Picked s box cand may n sa top pk) (ht : 0 < top)
    {p : ι} (hp : top ≤ sa p) {sa' : ι → EReal} {top' : EReal}
    (hs : ∀ q, (Covers (box p) (box q) ∨ q = p) ∧ sa' q ≤ 0 ∨ ¬ (Covers (box p) (box q) ∨ q = p) ∧ sa' q = sa q)
    (hle : ∀ q, sa' q ≤ top') (hge : ∃ q, top' ≤ sa' q) :
    Picked s box cand may (n + 1) sa' top' (fun a => if a = n then p else pk a) := by
  have old : ∀ a, a < n → (if a = n then p else pk a) = pk a := fun a ha => if_neg (Nat.ne_of_lt ha)
  have new : (if n = n then p else pk n) = p := if_pos rfl
  have hpos : 0 < sa p := lt_of_lt_of_le ht hp
  obtain ⟨hsp, hmay, hfree⟩ : sa p = s p ∧ may p ∧ ∀ a < n, pk a ≠ p ∧ ¬ Covers (box (pk a)) (box p) := by
    rcases h.rest p with hr | hr
    · exact hr
    · exact absurd hr.1 (not_le.2 hpos)
  refine ⟨?_, ?_, ?_, ?_, ?_, hle, hge⟩
  · intro a ha
    rcases Nat.lt_succ_iff_lt_or_eq.1 ha with ha | rfl
    · simp only [old a ha]; exact h.pos a ha
    · simp only [if_true]; rw [← hsp]; exact hpos
  · intro a ha
    rcases Nat.lt_succ_iff_lt_or_eq.1 ha with ha | rfl
    · simp only [old a ha]; exact h.fair a ha
    · simp only [if_true]; exact hmay
  · intro b hb a ha
    rcases Nat.lt_succ_iff_lt_or_eq.1 hb with hb | rfl
    · simp only [old a (lt_trans ha hb), old b hb]; exact h.apart b hb a ha
    · simp only [old a ha, if_true]; exact (hfree a ha).2
  · intro q
    rcases hs q with ⟨hc, hq⟩ | ⟨hc, hq⟩
    · refine .inr ⟨hq, fun _ => ⟨n, Nat.lt_succ_self n, ?_⟩⟩
      simp only [if_true]
      exact hc.elim .inr (fun e => .inl e.symm)
    · rcases h.rest q with ⟨h1, hm, h2⟩ | ⟨h1, h2⟩
      · refine .inl ⟨hq.trans h1, hm, fun a ha => ?_⟩
        rcases Nat.lt_succ_iff_lt_or_eq.1 ha with ha | rfl
        · simp only [old a ha]; exact h2 a ha
        · simp only [if_true]
          exact ⟨fun e => hc (.inr e.symm), fun e => hc (.inl e)⟩
      · refine .inr ⟨hq.trans_le h1, fun hq' => ?_⟩
        obtain ⟨a, ha, e⟩ := h2 hq'
        exact ⟨a, Nat.lt_succ_of_lt ha, by simp only [old a ha]; exact e⟩
  · intro a ha q hq hb
    rcases Nat.lt_succ_iff_lt_or_eq.1 ha with ha | rfl
    · simp only [old a ha]
      refine h.best a ha q hq fun b hb' => ?_
      have := hb b hb'
      simpa only [old b (lt_trans hb' ha)] using this
    · simp only [if_true]
      rcases h.rest q with ⟨h1, -⟩ | ⟨-, h2⟩
      · rw [← h1, ← hsp]; exact (h.le_top q).trans hp
      · obtain ⟨b, hb', e⟩ := h2 hq
        have := hb b hb'
        simp only [old b hb'] at this
        exact absurd e (not_or.2 this)

/-- What row `a` of the boxes `R` is when the picking has stopped: the box of a position of positive score that may be picked
    and that no earlier row covers, whose score is the largest of the candidates that no earlier row covers or equals; or nothing but a filler,
    and then a thousand rows come before it or no candidate of positive score is left. -/
def RowOk (s : ι → EReal) (box : ι → Box) (cand may : ι → Prop) (R : ℕ → Box) (a : ℕ) : Prop :=
  (∃ p, box p = R a ∧ 0 < s p ∧ may p ∧ (∀ b < a, ¬ Covers (R b) (box p))
    ∧ ∀ q, cand q → 0 < s q → (∀ b < a, ¬ Covers (R b) (box q) ∧ box q ≠ R b) → s q ≤ s p)

/-- No candidate of positive score is left before row `a`. -/
def NoneLeft (s : ι → EReal) (box : ι → Box) (cand : ι → Prop) (R : ℕ → Box) (a : ℕ) : Prop :=
  ∀ q, cand q → 0 < s q → ¬ ∀ b < a, ¬ Covers (R b) (box q) ∧ box q ≠ R b

/-- The picked rows. -/
theorem Picked.rowOk {n : ℕ} {sa : ι → EReal} {top : EReal} {pk : ℕ → ι} (h : Picked s box cand may n sa top pk)
    {R : ℕ → Box} (hR : ∀ a < n, R a = box (pk a)) (a : ℕ) (ha : a < n) : RowOk s box cand may R a := by
  refine ⟨pk a, (hR a ha).symm, h.pos a ha, h.fair a ha, fun b hb => ?_, fun q hq _ hf => h.best a ha q hq fun b hb => ?_⟩
  · rw [hR b (lt_trans hb ha)]; exact h.apart a ha b hb
  · have := hf b hb
    rw [hR b (lt_trans hb ha)] at this
    exact ⟨fun e => this.2 (by rw [e]), this.1⟩

/-- The rows after the picked ones. -/
theorem Picked.noneLeft {n : ℕ} {sa : ι → EReal} {top : EReal} {pk : ℕ → ι} (h : Picked s box cand may n sa top pk)
    {R : ℕ → Box} (hR : ∀ a < n, R a = box (pk a)) (ht : ¬ 0 < top) (a : ℕ) (ha : n ≤ a) : NoneLeft s box cand R a := by
  intro q hq hs hf
  rcases h.rest q with ⟨h1, -⟩ | ⟨-, h2⟩
  · exact ht (lt_of_lt_of_le (h1 ▸ hs) (h.le_top q))
  · obtain ⟨b, hb, e⟩ := h2 hq
    have := hf b (lt_of_lt_of_le hb ha)
    rw [hR b hb] at this
    rcases e with e | e
    · exact this.2 (by rw [e])
    · exact this.1 e

end Cert.Proof.Picks

end
-- ==== Proof.Ranking.lean ====
/- The first thousand of a set by falling key, ties by rising position, found by halving: first the largest threshold that at
   least a thousand keys reach, then the first position up to which enough keys lie on it. Plain counting, with nothing of a
   program in it. -/
module

public import Idealize.ShloMosaic.PureOps.Ideal

@[expose] public section

noncomputable section

namespace Cert.Proof.Ranking

open Classical

variable {ι : Type} [Fintype ι] (S : ι → Prop) (key pos : ι → ℤ)

/-- How many of the set have a key of at least `t`. -/
def reach (t : ℤ) : ℕ := (Finset.univ.filter fun q => S q ∧ t ≤ key q).card

/-- How many of the set have the key `t` and a position up to `g`. -/
def tied (t g : ℤ) : ℕ := (Finset.univ.filter fun q => S q ∧ key q = t ∧ pos q ≤ g).card

/-- How many of the set come before `p`: by a larger key, or by the same key and an earlier position. -/
def rank (p : ι) : ℕ := (Finset.univ.filter fun q => S q ∧ (key p < key q ∨ key q = key p ∧ pos q < pos p)).card

theorem reach_add_tied (t g : ℤ) :
    reach S key (t + 1) + tied S key pos t g = (Finset.univ.filter fun q => S q ∧ (t < key q ∨ key q = t ∧ pos q ≤ g)).card := by
  unfold reach tied
  rw [← Finset.card_union_of_disjoint]
  · congr 1
    ext q
    simp only [Finset.mem_union, Finset.mem_filter, Finset.mem_univ, true_and, Int.add_one_le_iff]
    tauto
  · rw [Finset.disjoint_left]
    intro q h1 h2
    simp only [Finset.mem_filter, Finset.mem_univ, true_and] at h1 h2
    omega

/-- A threshold and a cut that the halving stops at tell the first thousand from the rest. -/
theorem first_iff (t b : ℤ) (h1 : 1000 ≤ reach S key t) (h2 : reach S key (t + 1) < 1000)
    (h3 : 1000 ≤ reach S key (t + 1) + tied S key pos t b) (h4 : ∀ g < b, reach S key (t + 1) + tied S key pos t g < 1000) (p : ι) :
    (t < key p ∨ key p = t ∧ pos p ≤ b) ↔ rank S key pos p < 1000 := by
  simp only [reach_add_tied] at h3 h4
  unfold reach at h1 h2
  unfold rank
  constructor
  · rintro (h | ⟨h, hp⟩)
    · refine lt_of_le_of_lt (Finset.card_le_card fun q hq => ?_) h2
      simp only [Finset.mem_filter, Finset.mem_univ, true_and] at hq ⊢
      refine ⟨hq.1, ?_⟩
      rcases hq.2 with e | e <;> omega
    · refine lt_of_le_of_lt (Finset.card_le_card fun q hq => ?_) (h4 (pos p - 1) (by omega))
      simp only [Finset.mem_filter, Finset.mem_univ, true_and] at hq ⊢
      refine ⟨hq.1, ?_⟩
      rcases hq.2 with e | e
      · left; omega
      · right; omega
  · intro hr
    by_contra hn
    simp only [not_or, not_and, not_lt, not_le] at hn
    obtain ⟨ha, hb⟩ := hn
    rcases lt_or_eq_of_le ha with ha | ha
    · refine absurd (h1.trans (Finset.card_le_card fun q hq => ?_)) (not_le.2 hr)
      simp only [Finset.mem_filter, Finset.mem_univ, true_and] at hq ⊢
      refine ⟨hq.1, ?_⟩
      left; exact lt_of_lt_of_le ha hq.2
    · refine absurd (h3.trans (Finset.card_le_card fun q hq => ?_)) (not_le.2 hr)
      simp only [Finset.mem_filter, Finset.mem_univ, true_and] at hq ⊢
      refine ⟨hq.1, ?_⟩
      have := hb ha
      rcases hq.2 with e | e
      · left; omega
      · right; omega

/-! ### Counting by adding ones -/

theorem if_iff {P Q : Prop} {dP : Decidable P} {dQ : Decidable Q} (h : P ↔ Q) (x y : EReal) : @ite _ P dP x y = @ite _ Q dQ x y := by
  by_cases hp : P
  · rw [if_pos hp, if_pos (h.1 hp)]
  · rw [if_neg hp, if_neg fun hq => hp (h.2 hq)]

theorem sum_ones {α : Type} (s : Finset α) (P : α → Prop) : ∑ i ∈ s, (if P i then (1 : EReal) else 0) = ((s.filter P).card : EReal) := by
  induction s using Finset.induction_on with
  | empty => simp
  | insert a s ha ih =>
    rw [Finset.sum_insert ha, ih, Finset.filter_insert]
    split
    · rw [Finset.card_insert_of_notMem (fun h => ha (Finset.mem_filter.1 h).1), Nat.cast_succ, add_comm]
    · rw [zero_add]

theorem sum_rank (p : ι) :
    ∑ q, (if S q ∧ (key p < key q ∨ key q = key p ∧ pos q < pos p) then (1 : EReal) else 0) = (rank S key pos p : EReal) := by
  unfold rank
  convert sum_ones Finset.univ (fun q => S q ∧ (key p < key q ∨ key q = key p ∧ pos q < pos p))

theorem sum_reach (t : ℤ) : ∑ q, (if S q ∧ t ≤ key q then (1 : EReal) else 0) = (reach S key t : EReal) := by
  unfold reach
  convert sum_ones Finset.univ (fun q => S q ∧ t ≤ key q)

theorem sum_tied (t g : ℤ) : ∑ q, (if S q ∧ key q = t ∧ pos q ≤ g then (1 : EReal) else 0) = (tied S key pos t g : EReal) := by
  unfold tied
  convert sum_ones Finset.univ (fun q => S q ∧ key q = t ∧ pos q ≤ g)

/-! ### The halving of the threshold -/

/-- What holds of the bounds after `k` halvings. -/
def Between (k : ℕ) (lo hi : ℕ) : Prop :=
  lo < hi ∧ hi ≤ 1073741824 ∧ hi - lo ≤ 2 ^ (30 - k) ∧ 1000 ≤ reach S key lo ∧ reach S key hi < 1000

theorem Between.next {k lo hi : ℕ} (h : Between S key k lo hi) :
    (1000 ≤ reach S key ((lo + hi) / 2 : ℕ) → Between S key (k + 1) ((lo + hi) / 2) hi)
      ∧ (¬ 1000 ≤ reach S key ((lo + hi) / 2 : ℕ) → Between S key (k + 1) lo ((lo + hi) / 2)) := by
  obtain ⟨h1, h2, h3, h4, h5⟩ := h
  have hp : 2 ^ (30 - k) ≤ 2 * 2 ^ (30 - (k + 1)) ∧ 1 ≤ 2 ^ (30 - (k + 1)) := by
    refine ⟨?_, Nat.one_le_two_pow⟩
    rcases Nat.lt_or_ge k 30 with h | h
    · rw [show 30 - k = 30 - (k + 1) + 1 by omega, pow_succ]; omega
    · rw [show 30 - k = 0 by omega, show 30 - (k + 1) = 0 by omega]; norm_num
  have hp' : k < 30 → 2 ^ (30 - k) = 2 * 2 ^ (30 - (k + 1)) := fun h => by
    rw [show 30 - k = 30 - (k + 1) + 1 by omega, pow_succ]; omega
  refine ⟨fun h => ⟨by omega, h2, by omega, h, h5⟩, fun h => ?_⟩
  have : (lo + hi) / 2 ≠ lo := fun e => h (by rw [e]; exact h4)
  exact ⟨by omega, by omega, by omega, h4, not_le.1 h⟩

theorem Between.last {lo hi : ℕ} (h : Between S key 31 lo hi) : 1000 ≤ reach S key lo ∧ reach S key (lo + 1) < 1000 := by
  obtain ⟨h1, h2, h3, h4, h5⟩ := h
  have : hi = lo + 1 := by norm_num at h3; omega
  subst this
  exact ⟨h4, by exact_mod_cast h5⟩

/-! ### The halving of the cut -/

/-- What holds of the bounds after `k` halvings. -/
def Within (t : ℤ) (k : ℕ) (lo hi : ℕ) : Prop :=
  lo ≤ hi ∧ hi < 65536 ∧ hi - lo < 2 ^ (16 - k) ∧ 1000 ≤ reach S key (t + 1) + tied S key pos t hi
    ∧ ∀ g : ℤ, g < lo → reach S key (t + 1) + tied S key pos t g < 1000

theorem tied_mono (t : ℤ) {g g' : ℤ} (h : g ≤ g') : tied S key pos t g ≤ tied S key pos t g' :=
  Finset.card_le_card fun q hq => by
    simp only [Finset.mem_filter, Finset.mem_univ, true_and] at hq ⊢
    exact ⟨hq.1, hq.2.1, hq.2.2.trans h⟩

theorem Within.next {t : ℤ} {k lo hi : ℕ} (h : Within S key pos t k lo hi) :
    (1000 ≤ reach S key (t + 1) + tied S key pos t ((lo + hi) / 2 : ℕ) → Within S key pos t (k + 1) lo ((lo + hi) / 2))
      ∧ (¬ 1000 ≤ reach S key (t + 1) + tied S key pos t ((lo + hi) / 2 : ℕ) → Within S key pos t (k + 1) ((lo + hi) / 2 + 1) hi) := by
  obtain ⟨h1, h2, h3, h4, h5⟩ := h
  have hp : 2 ^ (16 - k) ≤ 2 * 2 ^ (16 - (k + 1)) ∧ 1 ≤ 2 ^ (16 - (k + 1)) := by
    refine ⟨?_, Nat.one_le_two_pow⟩
    rcases Nat.lt_or_ge k 16 with h | h
    · rw [show 16 - k = 16 - (k + 1) + 1 by omega, pow_succ]; omega
    · rw [show 16 - k = 0 by omega, show 16 - (k + 1) = 0 by omega]; norm_num
  refine ⟨fun h => ⟨by omega, by omega, by omega, h, h5⟩, fun h => ?_⟩
  have : (lo + hi) / 2 ≠ hi := fun e => h (by rw [e]; exact h4)
  refine ⟨by omega, by omega, by omega, h4, fun g hg => ?_⟩
  have := tied_mono S key pos t (show g ≤ ((lo + hi) / 2 : ℕ) by push_cast at hg ⊢; omega)
  omega

theorem Within.last {t : ℤ} {lo hi : ℕ} (h : Within S key pos t 16 lo hi) :
    1000 ≤ reach S key (t + 1) + tied S key pos t hi ∧ ∀ g : ℤ, g < hi → reach S key (t + 1) + tied S key pos t g < 1000 := by
  obtain ⟨h1, h2, h3, h4, h5⟩ := h
  have : hi = lo := by norm_num at h3; omega
  subst this
  exact ⟨h4, h5⟩

/-- Where the set lies after `lo` and not after `hi`, the halving of the cut may start there. -/
theorem Within.first {t : ℤ} {lo hi : ℕ} (h1 : lo ≤ hi) (h2 : hi < 65536) (hl : ∀ q, S q → (lo : ℤ) < pos q) (hh : ∀ q, S q → pos q ≤ hi)
    (ht : 1000 ≤ reach S key t) (ht' : reach S key (t + 1) < 1000) : Within S key pos t 0 lo hi := by
  refine ⟨h1, h2, by norm_num; omega, ?_, fun g hg => ?_⟩
  · rw [reach_add_tied]
    refine ht.trans (Finset.card_le_card fun q hq => ?_)
    simp only [Finset.mem_filter, Finset.mem_univ, true_and] at hq ⊢
    refine ⟨hq.1, ?_⟩
    have := hh q hq.1
    rcases lt_or_eq_of_le hq.2 with e | e
    · exact .inl e
    · exact .inr ⟨e.symm, this⟩
  · have : tied S key pos t g = 0 := by
      unfold tied
      rw [Finset.card_eq_zero, Finset.filter_eq_empty_iff]
      rintro q - ⟨h3, -, h5⟩
      have := hl q h3
      omega
    omega

theorem reach_none (t : ℤ) (h : ∀ q, S q → key q < t) : reach S key t = 0 := by
  unfold reach
  refine Finset.card_eq_zero.2 (Finset.eq_empty_of_forall_notMem fun q hq => ?_)
  obtain ⟨h1, h2⟩ := (Finset.mem_filter.1 hq).2
  exact absurd (h q h1) (not_lt.2 h2)

end Cert.Proof.Ranking

end
-- ==== Proof.PicksPost.lean ====
/- The predicate `picked_in_turn` of a result is all ones when every row is a pick or a filler in the sense of
   Picks.lean. Read part by part of the printed function, each part on any vectors with the values its head needs. -/
module

public import proofs.«01_k».proof.Proof.PicksFacts
public import proofs.«01_k».proof.Proof.Picks
public import proofs.«01_k».proof.Proof.Ranking
public import Idealize.ShloMosaic.Lib.Pipeline.ValueKit
public import Idealize.ShloMosaic.Lib.Pointwise
public import Idealize.ShloMosaic.Lib.Affine
public import Idealize.ShloMosaic.Lib.StableHlo.Predicate

@[expose] public section

set_option maxRecDepth 16384

noncomputable section

namespace Cert.Proof.PicksPost

open Cert.Post_picked_in_turn Cert.Post_picked_in_turn.Facts Idealize.ShloMosaic Picks

/-! ### Reductions by `or`, `and` and the maximum -/

section Reductions

variable {s t u : Shape} {axes : List (Fin s.rank)} {κ : Type}

theorem foldl_ori {α : Type} (x : α → BitVec 1) (l : List α) (b : BitVec 1) :
    l.foldl (fun r i => IntOp.ori r (x i)) b = 1#1 ↔ b = 1#1 ∨ ∃ i ∈ l, x i = 1#1 := by
  induction l generalizing b with
  | nil => simp
  | cons i l ih => simp only [List.foldl_cons, ih, IntOp.ori_eq_one, List.mem_cons, exists_eq_or_imp, or_assoc]

theorem foldl_andi {α : Type} (x : α → BitVec 1) (l : List α) (b : BitVec 1) :
    l.foldl (fun r i => IntOp.andi r (x i)) b = 1#1 ↔ b = 1#1 ∧ ∀ i ∈ l, x i = 1#1 := by
  induction l generalizing b with
  | nil => simp
  | cons i l ih => simp only [List.foldl_cons, ih, IntOp.andi_eq_one, List.mem_cons, forall_eq_or_imp, and_assoc]

theorem foldl_max {α : Type} (x : α → EReal) (l : List α) (b M : EReal) (hb : b ≤ M) (h : ∀ i ∈ l, x i ≤ M) :
    l.foldl (fun r i => max r (x i)) b ≤ M := by
  induction l generalizing b with
  | nil => exact hb
  | cons i l ih =>
    exact ih _ (max_le hb (h i List.mem_cons_self)) fun k hk => h k (List.mem_cons_of_mem _ hk)

theorem mem_list (h : s.ReducesTo axes t) (j : t.Idx) (i : s.Idx) :
    i ∈ ((List.finRange s.numel).map s.rowMajor.symm).filter (fun i => h.drop i = j) ↔ h.drop i = j := by
  simp only [List.mem_filter, List.mem_map, List.mem_finRange, true_and, decide_eq_true_eq]
  exact ⟨fun e => e.2, fun e => ⟨⟨s.rowMajor i, s.rowMajor.symm_apply_apply i⟩, e⟩⟩

theorem reduce_ori (x : s.Idx → BitVec 1) (init : u.Idx → BitVec 1) (h : s.ReducesTo axes t) (hu : 0 < u.numel) (j : t.Idx)
    (hi : init (Shape.Idx.first hu) = 0#1) (φ : κ → s.Idx) (hφ : ∀ i, h.drop i = j ↔ ∃ k, φ k = i) :
    Host.reduce IntOp.ori x init h hu j = 1#1 ↔ ∃ k, x (φ k) = 1#1 := by
  rw [Host.reduce_eq_foldl, foldl_ori, hi]
  simp only [mem_list, hφ]
  constructor
  · rintro (e | ⟨i, ⟨k, rfl⟩, e⟩)
    · exact absurd e (by decide)
    · exact ⟨k, e⟩
  · rintro ⟨k, e⟩
    exact .inr ⟨_, ⟨k, rfl⟩, e⟩

theorem reduce_andi (x : s.Idx → BitVec 1) (init : u.Idx → BitVec 1) (h : s.ReducesTo axes t) (hu : 0 < u.numel) (j : t.Idx)
    (hi : init (Shape.Idx.first hu) = 1#1) (φ : κ → s.Idx) (hφ : ∀ i, h.drop i = j ↔ ∃ k, φ k = i) :
    Host.reduce IntOp.andi x init h hu j = 1#1 ↔ ∀ k, x (φ k) = 1#1 := by
  rw [Host.reduce_eq_foldl, foldl_andi, hi]
  simp only [mem_list, hφ]
  constructor
  · rintro ⟨-, e⟩ k
    exact e _ ⟨k, rfl⟩
  · intro e
    refine ⟨trivial, ?_⟩
    rintro i ⟨k, rfl⟩
    exact e k

theorem reduce_max (x : FVec Ideal s .f32) (init : FVec Ideal u .f32) (h : s.ReducesTo axes t) (hu : 0 < u.numel) (j : t.Idx)
    (M : EReal) (hi : init (Shape.Idx.first hu) ≤ M) (φ : κ → s.Idx) (hφ : ∀ i, h.drop i = j ↔ ∃ k, φ k = i)
    (hx : ∀ k, x (φ k) ≤ M) : Host.reduce FloatOps.maximumf x init h hu j ≤ M := by
  rw [Host.reduce_eq_foldl]
  refine foldl_max x _ _ M hi fun i hm => ?_
  rw [mem_list, hφ] at hm
  obtain ⟨k, rfl⟩ := hm
  exact hx k

end Reductions

/-! ### Indices -/

/-- Position `p` before row `a`. -/
def at3 (a : Fin 1024) (p : S288x128.Idx) : S1024x288x128.Idx := ix3 a (p 0) (p 1)

/-- Position `p` before row `a`, against row `b`. -/
def at4 (a b : Fin 1024) (p : S288x128.Idx) : S1024x1024x288x128.Idx := ix4 a b (p 0) (p 1)

theorem eq_at3 (i : S1024x288x128.Idx) : i = at3 (i 0) (ix2 (i 1) (i 2)) := by
  funext x; match x with | ⟨0, _⟩ => rfl | ⟨1, _⟩ => rfl | ⟨2, _⟩ => rfl

theorem eq_at4 (i : S1024x1024x288x128.Idx) : i = at4 (i 0) (i 1) (ix2 (i 2) (i 3)) := by
  funext x; match x with | ⟨0, _⟩ => rfl | ⟨1, _⟩ => rfl | ⟨2, _⟩ => rfl | ⟨3, _⟩ => rfl

variable [Cert.Post_picked_in_turn.Facts]

theorem drop12 (h : S1024x288x128.ReducesTo [1, 2] S1024) (a : Fin 1024) (i : S1024x288x128.Idx) : h.drop i = ix1 a ↔ ∃ p, at3 a p = i := by
  constructor
  · intro e
    refine ⟨ix2 (i 1) (i 2), ?_⟩
    have e0 : i 0 = a := Fin.ext (by
      have := congrArg (fun k : S1024.Idx => (k 0).val) e
      rw [← h.drop_apply_val_of_eq i 0 0]; exact this)
    rw [← e0]; exact (eq_at3 i).symm
  · rintro ⟨p, rfl⟩
    funext b
    fin_cases b
    exact Fin.ext (h.drop_apply_val_of_eq (at3 a p) 0 0)

theorem drop1 (h : S1024x1024x288x128.ReducesTo [1] S1024x288x128) (a : Fin 1024) (p : S288x128.Idx) (i : S1024x1024x288x128.Idx) :
    h.drop i = at3 a p ↔ ∃ b, at4 a b p = i := by
  constructor
  · intro e
    refine ⟨i 1, ?_⟩
    have e0 : i 0 = a := Fin.ext (by
      have := congrArg (fun k : S1024x288x128.Idx => (k 0).val) e
      rw [← h.drop_apply_val_of_eq i 0 0]; exact this)
    have e1 : i 2 = p 0 := Fin.ext (by
      have := congrArg (fun k : S1024x288x128.Idx => (k 1).val) e
      rw [← h.drop_apply_val_of_eq i 1 2]; exact this)
    have e2 : i 3 = p 1 := Fin.ext (by
      have := congrArg (fun k : S1024x288x128.Idx => (k 2).val) e
      rw [← h.drop_apply_val_of_eq i 2 3]; exact this)
    funext x
    match x with
    | ⟨0, _⟩ => exact e0.symm
    | ⟨1, _⟩ => rfl
    | ⟨2, _⟩ => exact e1.symm
    | ⟨3, _⟩ => exact e2.symm
  · rintro ⟨b, rfl⟩
    funext x
    match x with
    | ⟨0, _⟩ => exact Fin.ext (h.drop_apply_val_of_eq (at4 a b p) 0 0)
    | ⟨1, _⟩ => exact Fin.ext (h.drop_apply_val_of_eq (at4 a b p) 1 2)
    | ⟨2, _⟩ => exact Fin.ext (h.drop_apply_val_of_eq (at4 a b p) 2 3)

theorem dropc4 (h : S1024x4.ReducesTo [1] S1024) (a : Fin 1024) (i : S1024x4.Idx) :
    h.drop i = ix1 a ↔ ∃ c : Fin 4, ix2 a c = i := by
  constructor
  · intro e
    refine ⟨i 1, ?_⟩
    have e0 : i 0 = a := Fin.ext (by
      have := congrArg (fun k : S1024.Idx => (k 0).val) e
      rw [← h.drop_apply_val_of_eq i 0 0]; exact this)
    rw [← e0]; exact (eq_ix2 i).symm
  · rintro ⟨c, rfl⟩
    funext b
    fin_cases b
    exact Fin.ext (h.drop_apply_val_of_eq (ix2 a c) 0 0)

theorem dropc8 (h : S1024x8.ReducesTo [1] S1024) (a : Fin 1024) (i : S1024x8.Idx) :
    h.drop i = ix1 a ↔ ∃ c : Fin 8, ix2 a c = i := by
  constructor
  · intro e
    refine ⟨i 1, ?_⟩
    have e0 : i 0 = a := Fin.ext (by
      have := congrArg (fun k : S1024.Idx => (k 0).val) e
      rw [← h.drop_apply_val_of_eq i 0 0]; exact this)
    rw [← e0]; exact (eq_ix2 i).symm
  · rintro ⟨c, rfl⟩
    funext b
    fin_cases b
    exact Fin.ext (h.drop_apply_val_of_eq (ix2 a c) 0 0)

/-! ### Broadcasts -/

theorem bc_pos {α : Type} (x : S288x128.Idx → α) (a : Fin 1024) (p : S288x128.Idx) :
    broadcastInDim S1024x288x128 ![1, 2] bcast_S288x128_S1024x288x128_1_2 x (at3 a p) = x p :=
  broadcastInDim_apply _ _ x (at3 a p) p fun c => by fin_cases c <;> rfl

theorem bc_row {α : Type} (x : S1024.Idx → α) (a : Fin 1024) (p : S288x128.Idx) :
    broadcastInDim S1024x288x128 ![0] bcast_S1024_S1024x288x128_0 x (at3 a p) = x (ix1 a) :=
  broadcastInDim_apply _ _ x (at3 a p) (ix1 a) fun c => by fin_cases c; rfl

theorem bc_col {α : Type} (x : S1024x1.Idx → α) (a : Fin 1024) (p : S288x128.Idx) :
    broadcastInDim S1024x288x128 ![0, 1] bcast_S1024x1_S1024x288x128_0_1 x (at3 a p) = x (ix2 a 0) :=
  broadcastInDim_apply _ _ x (at3 a p) (ix2 a 0) fun c => by fin_cases c <;> rfl

theorem bc_pair {α : Type} (x : S1024x1024.Idx → α) (a b : Fin 1024) (p : S288x128.Idx) :
    broadcastInDim S1024x1024x288x128 ![0, 1] bcast_S1024x1024_S1024x1024x288x128_0_1 x (at4 a b p) = x (ix2 a b) :=
  broadcastInDim_apply _ _ x (at4 a b p) (ix2 a b) fun c => by fin_cases c <;> rfl

theorem bc_other {α : Type} (x : S1024x288x128.Idx → α) (a b : Fin 1024) (p : S288x128.Idx) :
    broadcastInDim S1024x1024x288x128 ![1, 2, 3] bcast_S1024x288x128_S1024x1024x288x128_1_2_3 x (at4 a b p) = x (at3 b p) :=
  broadcastInDim_apply _ _ x (at4 a b p) (at3 b p) fun c => by fin_cases c <;> rfl

theorem bc_first {α : Type} (x : S1x8.Idx → α) (a : Fin 1024) (c : Fin 8) :
    broadcastInDim S1024x8 ![0, 1] bcast_S1x8_S1024x8_0_1 x (ix2 a c) = x (ix2 0 c) :=
  broadcastInDim_apply _ _ x (ix2 a c) (ix2 0 c) fun c => by fin_cases c <;> rfl

theorem cmp_eq (x y : EReal) : Ideal.cmp .oeq x y = 1#1 ↔ x = y := by
  simp [Ideal.cmp, StableHlo.Predicate.ofBool_eq_one_iff]
theorem cmp_gt (x y : EReal) : Ideal.cmp .ogt x y = 1#1 ↔ y < x := by
  simp [Ideal.cmp, StableHlo.Predicate.ofBool_eq_one_iff]
theorem cmp_ge (x y : EReal) : Ideal.cmp .oge x y = 1#1 ↔ y ≤ x := by
  simp [Ideal.cmp, StableHlo.Predicate.ofBool_eq_one_iff]

section Words

variable {sh : Shape} (x y : IVec sh 1) (f g : FVec Ideal sh .f32) (i : sh.Idx)

theorem andi_at : andi x y i = 1#1 ↔ x i = 1#1 ∧ y i = 1#1 := IntOp.andi_eq_one
theorem ori_at : ori x y i = 1#1 ↔ x i = 1#1 ∨ y i = 1#1 := IntOp.ori_eq_one
theorem noti_at : noti x i = 1#1 ↔ ¬ x i = 1#1 := IntOp.not_eq_one
theorem oeq_at : cmpf .oeq f g i = 1#1 ↔ f i = g i := cmp_eq _ _
theorem ogt_at : cmpf .ogt f g i = 1#1 ↔ g i < f i := cmp_gt _ _
theorem oge_at : cmpf .oge f g i = 1#1 ↔ g i ≤ f i := cmp_ge _ _

end Words

/-- A constant broadcast to a shape is zero everywhere. -/
theorem bc_zero {t : Shape} (h : S_.BroadcastsInDim t ![]) (k : t.Idx) :
    broadcastInDim t ![] h (constant (F := Ideal) S_ .f32 0x00000000#32) k = 0 := Ideal.ofBits_zero_f32

/-! ### The parts -/

theorem part8_one (v129 : IVec S1024x288x128 1) (v149 v153 : IVec S1024 1)
    (L : Fin 1024 → S288x128.Idx → Prop) (h129 : ∀ a p, v129 (at3 a p) = 1#1 ↔ L a p)
    (H : ∀ a, v149 (ix1 a) = 1#1 ∨ (v153 (ix1 a) = 1#1 ∧ ((∀ p, ¬ L a p) ∨ 1000 ≤ a.val))) :
    fn_part8 (F := Ideal) v129 v149 v153 = fun _ => 1#1 := by
  funext k
  obtain ⟨a, rfl⟩ : ∃ a, k = ix1 a := ⟨k 0, eq_ix1 k⟩
  unfold fn_part8
  dsimp only
  rw [ori_at, andi_at, ori_at]
  rw [reduce_andi _ _ _ _ (ix1 a) rfl (fun p => at3 a p) (drop12 _ a),
    show cmpi .sge (iotaInDim S1024 32 0) (broadcastInDim S1024 ![] bcast_S_S1024 (constantI S_ 32 1000#32)) (ix1 a)
      = IntOp.cmpi .sge (BitVec.ofNat 32 a.val) 1000#32 from rfl,
    StableHlo.Predicate.sge_iff_toNat (by have := a.isLt; simp only [BitVec.toNat_ofNat]; omega) (by decide)]
  refine (H a).imp_right fun e => ⟨e.1, e.2.imp (fun h p => ?_) (fun h => ?_)⟩
  · rw [noti_at, h129]; exact h p
  · have := a.isLt
    show (1000#32).toNat ≤ (BitVec.ofNat 32 a.val).toNat
    simp only [BitVec.toNat_ofNat]; omega

theorem part7_one (s : FVec Ideal S288x128 .f32) (out : FVec Ideal S1024x8 .f32) (v104 v111 : IVec S1024x288x128 1) (v114 : IVec S1024x1024 1)
    (v117 : IVec S1024x288x128 1) (v118 : FVec Ideal S1024x288x128 .f32) (v120 v129 : IVec S1024x288x128 1) (v132 : FVec Ideal S1024x288x128 .f32)
    (v133 : FVec Ideal S1024x4 .f32)
    (Cv Sm L : Fin 1024 → S288x128.Idx → Prop) (M : S288x128.Idx → Prop) (h104 : ∀ a p, v104 (at3 a p) = 1#1 ↔ Cv a p)
    (h111 : ∀ a p, v111 (at3 a p) = 1#1 ↔ Sm a p) (h114 : ∀ a b, v114 (ix2 a b) = 1#1 ↔ b < a) (h117 : ∀ a p, v117 (at3 a p) = 1#1 ↔ M p)
    (h118 : ∀ a p, v118 (at3 a p) = s p) (h120 : ∀ a p, v120 (at3 a p) = 1#1 ↔ 0 < s p) (h129 : ∀ a p, v129 (at3 a p) = 1#1 ↔ L a p)
    (h132 : ∀ a p (x : EReal), 0 < x → (∀ q, L a q → s q ≤ x) → v132 (at3 a p) ≤ x)
    (h133 : ∀ a (c : Fin 4), v133 (ix2 a c) = out (ix2 a ⟨4 + c.val, by omega⟩))
    (H : ∀ a, (∃ p, Sm a p ∧ 0 < s p ∧ M p ∧ (∀ b < a, ¬ Cv b p) ∧ (∀ q, L a q → s q ≤ s p) ∧ ∀ c : Fin 4, out (ix2 a ⟨4 + c.val, by omega⟩) = 0)
      ∨ ((∀ c, out (ix2 a c) = out (ix2 0 c)) ∧ ((∀ p, ¬ L a p) ∨ 1000 ≤ a.val))) :
    fn_part7 (F := Ideal) out v104 v111 v114 v117 v118 v120 v129 v132 v133 (constant S_ .f32 0x00000000#32) = fun _ => 1#1 := by
  unfold fn_part7
  refine part8_one v129 _ _ L h129 fun a => (H a).imp ?_ ?_
  · rintro ⟨p, hs, hp, hm, hc, hl, h0⟩
    rw [reduce_ori _ _ _ _ (ix1 a) rfl (fun p => at3 a p) (drop12 _ a)]
    refine ⟨p, ?_⟩
    dsimp only
    rw [andi_at, andi_at, andi_at, andi_at, andi_at, noti_at, oge_at, bc_row, h111, h120, h117, h118,
      reduce_ori _ _ _ _ (at3 a p) rfl (fun b => at4 a b p) (drop1 _ a p),
      reduce_andi _ _ _ _ (ix1 a) rfl (fun c : Fin 4 => ix2 a c) (dropc4 _ a)]
    refine ⟨⟨⟨⟨⟨hs, hp⟩, hm⟩, ?_⟩, h132 a p (s p) hp hl⟩, fun c => ?_⟩
    · rintro ⟨b, e⟩
      rw [andi_at, bc_pair, bc_other, h114, h104] at e
      exact hc b e.1 e.2
    · rw [oeq_at, bc_zero, ← h0 c, h133]
  · rintro ⟨h1, h2⟩
    refine ⟨?_, h2⟩
    rw [reduce_andi _ _ _ _ (ix1 a) rfl (fun c : Fin 8 => ix2 a c) (dropc8 _ a)]
    intro c
    rw [oeq_at, bc_first, h1 c]
    exact (extractStridedSlice_apply _ out _ (ix2 0 c) (ix2 0 c) fun x => by fin_cases x <;> simp).symm

theorem part6_one (s : FVec Ideal S288x128 .f32) (out : FVec Ideal S1024x8 .f32) (v50 v68 : IVec S288x128 1) (v104 v111 : IVec S1024x288x128 1)
    (v114 : IVec S1024x1024 1) (G : Prop) (C : S288x128.Idx → Prop) (Cv Sm : Fin 1024 → S288x128.Idx → Prop) (h50 : ∀ p, v50 p = 1#1 ↔ G)
    (h68 : ∀ p, v68 p = 1#1 ↔ C p) (h104 : ∀ a p, v104 (at3 a p) = 1#1 ↔ Cv a p) (h111 : ∀ a p, v111 (at3 a p) = 1#1 ↔ Sm a p)
    (h114 : ∀ a b, v114 (ix2 a b) = 1#1 ↔ b < a)
    (H : ∀ a, (∃ p, Sm a p ∧ 0 < s p ∧ (C p ∨ ¬ G) ∧ (∀ b < a, ¬ Cv b p) ∧ (∀ q, C q → 0 < s q → (∀ b < a, ¬ Cv b q ∧ ¬ Sm b q) → s q ≤ s p)
        ∧ ∀ c : Fin 4, out (ix2 a ⟨4 + c.val, by omega⟩) = 0)
      ∨ ((∀ c, out (ix2 a c) = out (ix2 0 c)) ∧ ((∀ q, C q → 0 < s q → ¬ ∀ b < a, ¬ Cv b q ∧ ¬ Sm b q) ∨ 1000 ≤ a.val))) :
    fn_part6 (F := Ideal) s out v50 v68 v104 v111 v114 = fun _ => 1#1 := by
  have hL : ∀ a p, (andi (andi (broadcastInDim S1024x288x128 ![1, 2] bcast_S288x128_S1024x288x128_1_2 v68)
      (cmpf .ogt (broadcastInDim S1024x288x128 ![1, 2] bcast_S288x128_S1024x288x128_1_2 s)
        (broadcastInDim S1024x288x128 ![] bcast_S_S1024x288x128 (constant (F := Ideal) S_ .f32 0x00000000#32))))
      (noti (Host.reduce IntOp.ori (andi (broadcastInDim S1024x1024x288x128 ![0, 1] bcast_S1024x1024_S1024x1024x288x128_0_1 v114)
          (broadcastInDim S1024x1024x288x128 ![1, 2, 3] bcast_S1024x288x128_S1024x1024x288x128_1_2_3 (ori v104 v111))) (constantI S_ 1 0#1)
        reducesTo_S1024x1024x288x128_S1024x288x128_d1 h_S_))) (at3 a p) = 1#1
      ↔ C p ∧ 0 < s p ∧ ∀ b < a, ¬ Cv b p ∧ ¬ Sm b p := fun a p => by
    rw [andi_at, andi_at, noti_at, bc_pos, ogt_at, bc_pos, bc_zero,
      reduce_ori _ _ _ _ (at3 a p) rfl (fun b => at4 a b p) (drop1 _ a p), and_assoc]
    refine and_congr (h68 p) (and_congr Iff.rfl ?_)
    have e : ∀ b, (andi (broadcastInDim S1024x1024x288x128 ![0, 1] bcast_S1024x1024_S1024x1024x288x128_0_1 v114)
        (broadcastInDim S1024x1024x288x128 ![1, 2, 3] bcast_S1024x288x128_S1024x1024x288x128_1_2_3 (ori v104 v111))) (at4 a b p) = 1#1
        ↔ b < a ∧ (Cv b p ∨ Sm b p) := fun b => by
      rw [andi_at, bc_pair, bc_other, h114, ori_at, h104, h111]
    refine (not_congr (exists_congr e)).trans ?_
    simp only [not_exists, not_and, not_or]
  unfold fn_part6
  refine part7_one s out v104 v111 v114 _ _ _ _ _ _ Cv Sm (fun a q => C q ∧ 0 < s q ∧ ∀ b < a, ¬ Cv b q ∧ ¬ Sm b q) (fun p => C p ∨ ¬ G)
    h104 h111 h114 (fun a p => ?_) (fun a p => bc_pos s a p) (fun a p => ?_) hL (fun a p x hx hq => ?_) (fun a c => ?_) fun a => (H a).imp ?_ ?_
  · rw [bc_pos, ori_at, noti_at, h68, h50]
  · rw [ogt_at, bc_pos, bc_zero]
  · rw [bc_row]
    refine reduce_max _ _ _ _ (ix1 a) x ?_ (fun p => at3 a p) (drop12 _ a) fun q => ?_
    · change Ideal.ofBits .f32 0xFF800000#32 ≤ x
      rw [show Ideal.ofBits .f32 0xFF800000#32 = (⊥ : EReal) by simp [Ideal.ofBits, Ideal.ieee]]
      exact bot_le
    · unfold fn_where_2
      rw [show ∀ (mk : IVec S1024x288x128 1) (y z : FVec Ideal S1024x288x128 .f32) (i : S1024x288x128.Idx),
        select mk y z i = if mk i = 1#1 then y i else z i from fun _ _ _ _ => rfl]
      split
      · rename_i h; rw [bc_pos]; exact hq q ((hL a q).1 h)
      · change Ideal.ofBits .f32 0x00000000#32 ≤ x
        rw [Ideal.ofBits_zero_f32]; exact hx.le
  · exact extractStridedSlice_apply _ out _ (ix2 a c) (ix2 a ⟨4 + c.val, by omega⟩) fun x => by fin_cases x <;> simp
  · rintro ⟨p, h1, h2, h3, h4, h5, h6⟩
    exact ⟨p, h1, h2, h3, h4, fun q hq => h5 q hq.1 hq.2.1 hq.2.2, h6⟩
  · rintro ⟨h1, h2⟩
    exact ⟨h1, h2.imp_left fun h q hq => h q hq.1 hq.2.1 hq.2.2⟩

/-- The level of a position is one of the two smallest. -/
def Small (lv : IVec S288x128 32) (p : S288x128.Idx) : Prop := lv p = 0#32 ∨ lv p = 1#32

/-- The positions that take part where `G` says the arguments are as they should be and `n` counts those before a position. -/
def Part (lv : IVec S288x128 32) (G : Prop) (n : S288x128.Idx → ℕ) (p : S288x128.Idx) : Prop :=
  Small lv p ∨ G ∧ (lv p = 2#32 ∨ lv p = 3#32 ∨ lv p = 4#32) ∧ n p < 1000

theorem cmp_lt (x y : EReal) : Ideal.cmp .olt x y = 1#1 ↔ x < y := by
  simp [Ideal.cmp, StableHlo.Predicate.ofBool_eq_one_iff]

theorem thousand : Ideal.ofBits .f32 0x447A0000#32 = ((1000 : ℕ) : EReal) := by
  simp [Ideal.ofBits, Ideal.ieee]
  rw [← EReal.coe_mul]
  norm_num
  norm_cast

theorem one_bits : Ideal.ofBits .f32 0x3F800000#32 = (1 : EReal) := by
  simp [Ideal.ofBits, Ideal.ieee]
  rw [← EReal.coe_mul]
  norm_num

/-! ### The whole -/

section Whole

/-- The box at a position. -/
def boxAt (x1 y1 x2 y2 : FVec Ideal S288x128 .f32) (p : S288x128.Idx) : Box := ![x1 p, y1 p, x2 p, y2 p]

/-- The box in row `a` of a result. -/
def rowBox (out : FVec Ideal S1024x8 .f32) (a : ℕ) : Box :=
  fun c => if h : a < 1024 then out (ix2 ⟨a, h⟩ ⟨c.val, by omega⟩) else 0

theorem rowBox_fin (out : FVec Ideal S1024x8 .f32) (a : Fin 1024) :
    rowBox out a.val = ![out (ix2 a 0), out (ix2 a 1), out (ix2 a 2), out (ix2 a 3)] := by
  funext c
  unfold rowBox
  rw [dif_pos a.isLt]
  fin_cases c <;> rfl

variable (v1 v3 v5 v7 v8 v9 v10 v11 : FVec Ideal S1024x288x128 .f32) (i : S1024x288x128.Idx)

theorem same_at : andi (andi (andi (cmpf .oeq v8 v1) (cmpf .oeq v9 v3)) (cmpf .oeq v10 v5)) (cmpf .oeq v11 v7) i = 1#1
    ↔ (![v8 i, v9 i, v10 i, v11 i] : Box) = ![v1 i, v3 i, v5 i, v7 i] := by
  rw [andi_at, andi_at, andi_at, oeq_at, oeq_at, oeq_at, oeq_at]
  constructor
  · rintro ⟨⟨⟨h0, h1⟩, h2⟩, h3⟩
    rw [h0, h1, h2, h3]
  · intro h
    exact ⟨⟨⟨congrFun h 0, congrFun h 1⟩, congrFun h 2⟩, congrFun h 3⟩

theorem part3_one (s : FVec Ideal S288x128 .f32) (x1 y1 x2 y2 : FVec Ideal S288x128 .f32) (lv : IVec S288x128 32)
    (out : FVec Ideal S1024x8 .f32) (v22 : FVec Ideal S288x128 .f32) (v50 : IVec S288x128 1) (G : Prop) (n : S288x128.Idx → ℕ)
    (h22 : ∀ p, v22 p = (n p : EReal)) (h50 : ∀ p, v50 p = 1#1 ↔ G)
    (H : ∀ a : Fin 1024, (RowOk s (boxAt x1 y1 x2 y2) (Part lv G n) (fun p => Part lv G n p ∨ ¬ G) (rowBox out) a.val
        ∧ ∀ c : Fin 4, out (ix2 a ⟨4 + c.val, by omega⟩) = 0)
      ∨ ((∀ c, out (ix2 a c) = out (ix2 0 c)) ∧ (NoneLeft s (boxAt x1 y1 x2 y2) (Part lv G n) (rowBox out) a.val ∨ 1000 ≤ a.val))) :
    fn_part3 (F := Ideal) s x1 y1 x2 y2 lv out v22 v50 (broadcastInDim S288x128 ![] bcast_S_S288x128 (constantI S_ 32 2#32)) = fun _ => 1#1 := by
  have lt : ∀ {a : Fin 1024} {Q : ℕ → Prop}, (∀ b < a, Q b.val) ↔ ∀ b < a.val, Q b := fun {a Q} =>
    ⟨fun h b hb => h ⟨b, hb.trans a.isLt⟩ hb, fun h b hb => h b.val hb⟩
  have col : ∀ (k : ℕ) (hk : k < 8) (h : S1024x8.Slices ![0, k] S1024x1) (a : Fin 1024) (p : S288x128.Idx),
      broadcastInDim S1024x288x128 ![0, 1] bcast_S1024x1_S1024x288x128_0_1 (extractStridedSlice S1024x1 ![0, k] out h) (at3 a p)
        = out (ix2 a ⟨k, hk⟩) := fun k hk h a p => by
    rw [bc_col]
    exact extractStridedSlice_apply _ out h (ix2 a 0) (ix2 a ⟨k, hk⟩) fun x => by fin_cases x <;> simp
  unfold fn_part3 fn_part4 fn_part5
  dsimp only
  refine part6_one s out v50 _ _ _ _ G (Part lv G n) (fun a p => Covers (rowBox out a.val) (boxAt x1 y1 x2 y2 p))
    (fun a p => boxAt x1 y1 x2 y2 p = rowBox out a.val) h50 (fun p => ?_) (fun a p => ?_) (fun a p => ?_) (fun a b => ?_) fun a => (H a).imp ?_ ?_
  · rw [ori_at, andi_at, andi_at, h50]
    change IntOp.ori (IntOp.cmpi .eq (lv p) 0#32) (IntOp.cmpi .eq (lv p) 1#32) = 1#1
      ∨ G ∧ IntOp.ori (IntOp.ori (IntOp.cmpi .eq (lv p) 2#32) (IntOp.cmpi .eq (lv p) 3#32)) (IntOp.cmpi .eq (lv p) 4#32) = 1#1
        ∧ Ideal.cmp .olt (v22 p) (Ideal.ofBits .f32 0x447A0000#32) = 1#1 ↔ _
    rw [IntOp.ori_eq_one, IntOp.ori_eq_one, IntOp.ori_eq_one, StableHlo.Predicate.cmpi_eq_iff, StableHlo.Predicate.cmpi_eq_iff,
      StableHlo.Predicate.cmpi_eq_iff, StableHlo.Predicate.cmpi_eq_iff, StableHlo.Predicate.cmpi_eq_iff, cmp_lt, h22, thousand,
      EReal.natCast_lt_iff]
    unfold Part Small
    tauto
  · rw [ogt_at, rowBox_fin]
    unfold boxAt
    have c0 : _ = out (ix2 a 0) := col 0 (by decide) slices_S1024x8_S1024x1_0_0 a p
    have c1 : _ = out (ix2 a 1) := col 1 (by decide) slices_S1024x8_S1024x1_0_1 a p
    have c2 : _ = out (ix2 a 2) := col 2 (by decide) slices_S1024x8_S1024x1_0_2 a p
    have c3 : _ = out (ix2 a 3) := col 3 (by decide) slices_S1024x8_S1024x1_0_3 a p
    have d0 := bc_pos x1 a p
    have d1 := bc_pos y1 a p
    have d2 := bc_pos x2 a p
    have d3 := bc_pos y2 a p
    generalize broadcastInDim S1024x288x128 ![0, 1] bcast_S1024x1_S1024x288x128_0_1 (extractStridedSlice S1024x1 ![0, 0] out slices_S1024x8_S1024x1_0_0) = w0 at *
    generalize broadcastInDim S1024x288x128 ![0, 1] bcast_S1024x1_S1024x288x128_0_1 (extractStridedSlice S1024x1 ![0, 1] out slices_S1024x8_S1024x1_0_1) = w1 at *
    generalize broadcastInDim S1024x288x128 ![0, 1] bcast_S1024x1_S1024x288x128_0_1 (extractStridedSlice S1024x1 ![0, 2] out slices_S1024x8_S1024x1_0_2) = w2 at *
    generalize broadcastInDim S1024x288x128 ![0, 1] bcast_S1024x1_S1024x288x128_0_1 (extractStridedSlice S1024x1 ![0, 3] out slices_S1024x8_S1024x1_0_3) = w3 at *
    generalize broadcastInDim S1024x288x128 ![1, 2] bcast_S288x128_S1024x288x128_1_2 x1 = u0 at *
    generalize broadcastInDim S1024x288x128 ![1, 2] bcast_S288x128_S1024x288x128_1_2 y1 = u1 at *
    generalize broadcastInDim S1024x288x128 ![1, 2] bcast_S288x128_S1024x288x128_1_2 x2 = u2 at *
    generalize broadcastInDim S1024x288x128 ![1, 2] bcast_S288x128_S1024x288x128_1_2 y2 = u3 at *
    rw [← c0, ← c1, ← c2, ← c3, ← d0, ← d1, ← d2, ← d3]
    exact Iff.rfl
  · rw [same_at, col 0 (by decide), col 1 (by decide), col 2 (by decide), col 3 (by decide), bc_pos, bc_pos, bc_pos, bc_pos, rowBox_fin]
    exact Iff.rfl
  · change IntOp.cmpi .slt (BitVec.ofNat 32 b.val) (BitVec.ofNat 32 a.val) = 1#1 ↔ _
    have := a.isLt; have := b.isLt
    rw [StableHlo.Predicate.slt_iff_toNat (by simp only [BitVec.toNat_ofNat]; omega) (by simp only [BitVec.toNat_ofNat]; omega)]
    simp only [BitVec.toNat_ofNat]
    rw [Nat.mod_eq_of_lt (by omega), Nat.mod_eq_of_lt (by omega)]
    exact Iff.rfl
  · rintro ⟨⟨p, h1, h2, hm, h3, h4⟩, h5⟩
    refine ⟨p, h1, h2, hm, lt.2 h3, fun q hq hs hf => h4 q hq hs (lt.1 hf), h5⟩
  · rintro ⟨h1, h2⟩
    exact ⟨h1, h2.imp_left fun h q hq hs hf => h q hq hs (lt.1 hf)⟩

/-! ### Which positions take part -/

/-- A position's number: row by row. -/
def place (p : S288x128.Idx) : ℤ := (p 0).val * 128 + (p 1).val

/-- The levels in order, their sizes 108, 432, 1728, 6912 and 27648; what is past them has none. -/
def table (g : ℤ) : BitVec 32 :=
  if g < 108 then 0#32 else if g < 540 then 1#32 else if g < 2268 then 2#32 else if g < 9180 then 3#32 else if g < 36828 then 4#32 else 4294967295#32

/-- The levels are those of the table, and the keys of every level are small. -/
def Given (lv key : IVec S288x128 32) : Prop :=
  ∀ p, lv p = table (place p) ∧ ((lv p).toInt < 0 ∨ 0 ≤ (key p).toInt ∧ (key p).toInt < 1073741824)

/-- How many of its level come before a position. -/
def before (lv key : IVec S288x128 32) (p : S288x128.Idx) : ℕ :=
  Ranking.rank (fun q => lv q = lv p) (fun q => (key q).toInt) place p

theorem lt_at (x y : BitVec 32) : IntOp.cmpi .slt x y = 1#1 ↔ x.toInt < y.toInt := by
  simp [IntOp.cmpi, BitVec.slt, StableHlo.Predicate.ofBool_eq_one_iff]
theorem gt_at (x y : BitVec 32) : IntOp.cmpi .sgt x y = 1#1 ↔ y.toInt < x.toInt := by
  simp [IntOp.cmpi, BitVec.slt, StableHlo.Predicate.ofBool_eq_one_iff]
theorem ge_at (x y : BitVec 32) : IntOp.cmpi .sge x y = 1#1 ↔ y.toInt ≤ x.toInt := by
  simp [IntOp.cmpi, BitVec.sle, StableHlo.Predicate.ofBool_eq_one_iff]

/-- A pair of positions. -/
def pair (p q : S288x128.Idx) : S288x128x288x128.Idx := ix4 (p 0) (p 1) (q 0) (q 1)

theorem drop23 (h : S288x128x288x128.ReducesTo [2, 3] S288x128) (p : S288x128.Idx) (i : S288x128x288x128.Idx) :
    h.drop i = p ↔ ∃ q, pair p q = i := by
  constructor
  · intro e
    refine ⟨ix2 (i 2) (i 3), ?_⟩
    have e0 : i 0 = p 0 := Fin.ext (by
      have := congrArg (fun k : S288x128.Idx => (k 0).val) e
      rw [← h.drop_apply_val_of_eq i 0 0]; exact this)
    have e1 : i 1 = p 1 := Fin.ext (by
      have := congrArg (fun k : S288x128.Idx => (k 1).val) e
      rw [← h.drop_apply_val_of_eq i 1 1]; exact this)
    funext x
    match x with
    | ⟨0, _⟩ => exact e0.symm
    | ⟨1, _⟩ => exact e1.symm
    | ⟨2, _⟩ => rfl
    | ⟨3, _⟩ => rfl
  · rintro ⟨q, rfl⟩
    funext x
    match x with
    | ⟨0, _⟩ => exact Fin.ext (h.drop_apply_val_of_eq (pair p q) 0 0)
    | ⟨1, _⟩ => exact Fin.ext (h.drop_apply_val_of_eq (pair p q) 1 1)

theorem bc_that {α : Type} (x : S288x128.Idx → α) (p q : S288x128.Idx) :
    broadcastInDim S288x128x288x128 ![2, 3] bcast_S288x128_S288x128x288x128_2_3 x (pair p q) = x q :=
  broadcastInDim_apply _ _ x (pair p q) q fun c => by fin_cases c <;> rfl

theorem bc_this {α : Type} (x : S288x128.Idx → α) (p q : S288x128.Idx) :
    broadcastInDim S288x128x288x128 ![0, 1] bcast_S288x128_S288x128x288x128_0_1 x (pair p q) = x p :=
  broadcastInDim_apply _ _ x (pair p q) p fun c => by fin_cases c <;> rfl

theorem pair_inj {p q q' : S288x128.Idx} (h : pair p q = pair p q') : q = q' := by
  funext a
  match a with
  | ⟨0, _⟩ => exact congrFun h 2
  | ⟨1, _⟩ => exact congrFun h 3

/-- Summing over the second of a pair. -/
theorem sum_pairs (x : FVec Ideal S288x128x288x128 .f32) (p : S288x128.Idx) :
    Host.reduceAdd x (constant (F := Ideal) S_ .f32 0x00000000#32) reducesTo_S288x128x288x128_S288x128_d2_3 h_S_ p = ∑ q : S288x128.Idx, (x (pair p q) : EReal) := by
  have e : Host.reduceAdd x (constant (F := Ideal) S_ .f32 0x00000000#32) reducesTo_S288x128x288x128_S288x128_d2_3 h_S_ p
      = Ideal.ofBits .f32 0x00000000#32 + ∑ i ∈ Finset.univ.filter (fun i => reducesTo_S288x128x288x128_S288x128_d2_3.drop i = p), (x i : EReal) := rfl
  rw [e, Ideal.ofBits_zero_f32, zero_add]
  refine (Finset.sum_bij (fun q _ => pair p q) (fun q _ => ?_) (fun q _ q' _ h => pair_inj h) (fun i hi => ?_) (fun q _ => rfl)).symm
  · exact Finset.mem_filter.2 ⟨Finset.mem_univ _, (drop23 _ p _).2 ⟨q, rfl⟩⟩
  · obtain ⟨q, hq⟩ := (drop23 _ p i).1 (Finset.mem_filter.1 hi).2
    exact ⟨q, Finset.mem_univ _, hq⟩

/-- The numbers of the positions, as words. -/
def gridW : IVec S288x128 32 :=
  addi (muli (iotaInDim S288x128 32 0) (broadcastInDim S288x128 ![] bcast_S_S288x128 (constantI S_ 32 128#32))) (iotaInDim S288x128 32 1)

theorem gridW_at (p : S288x128.Idx) : (gridW p).toInt = place p := by
  have h0 : (p 0).val < 288 := (p 0).isLt
  have h1 : (p 1).val < 128 := (p 1).isLt
  have e : (gridW p).toNat = (p 0).val * 128 + (p 1).val := by
    rw [show gridW p = BitVec.ofNat 32 (p 0).val * 128#32 + BitVec.ofNat 32 (p 1).val from rfl, BitVec.toNat_add, BitVec.toNat_mul]
    simp only [BitVec.toNat_ofNat]
    omega
  rw [StableHlo.Predicate.toInt_eq_toNat_of_lt (by rw [e]; omega), e]
  unfold place
  push_cast
  rfl

theorem part2_one (s : FVec Ideal S288x128 .f32) (key : IVec S288x128 32) (x1 y1 x2 y2 : FVec Ideal S288x128 .f32) (lv : IVec S288x128 32)
    (out : FVec Ideal S1024x8 .f32) (v22 : FVec Ideal S288x128 .f32) (v24 v26 v28 : IVec S288x128 1) (v34 : IVec S288x128 32)
    (h22 : ∀ p, v22 p = (before lv key p : EReal)) (h24 : ∀ p, v24 p = 1#1 ↔ place p < 108) (h26 : ∀ p, v26 p = 1#1 ↔ place p < 540)
    (h28 : ∀ p, v28 p = 1#1 ↔ place p < 2268)
    (h34 : ∀ p, v34 p = if place p < 9180 then 3#32 else if place p < 36828 then 4#32 else 4294967295#32)
    (H : ∀ a : Fin 1024, (RowOk s (boxAt x1 y1 x2 y2) (Part lv (Given lv key) (before lv key))
        (fun p => Part lv (Given lv key) (before lv key) p ∨ ¬ Given lv key) (rowBox out) a.val
        ∧ ∀ c : Fin 4, out (ix2 a ⟨4 + c.val, by omega⟩) = 0)
      ∨ ((∀ c, out (ix2 a c) = out (ix2 0 c)) ∧ (NoneLeft s (boxAt x1 y1 x2 y2) (Part lv (Given lv key) (before lv key)) (rowBox out) a.val ∨ 1000 ≤ a.val))) :
    fn_part2 (F := Ideal) s key x1 y1 x2 y2 lv out v22 v24 v26 v28 v34 (constantI S_ 32 2#32) = fun _ => 1#1 := by
  unfold fn_part2
  refine part3_one s x1 y1 x2 y2 lv out v22 _ (Given lv key) (before lv key) h22 (fun p => ?_) H
  rw [show ∀ (y : IVec S_ 1) (p : S288x128.Idx), broadcastInDim S288x128 ![] bcast_S_S288x128 y p = y ix0 from
    fun y p => congrArg y (funext fun a => a.elim0)]
  rw [reduce_andi _ _ _ _ ix0 rfl (fun q : S288x128.Idx => q) (fun i => ⟨fun _ => ⟨i, rfl⟩, fun _ => funext fun a => a.elim0⟩)]
  refine forall_congr' fun q => ?_
  rw [andi_at, ori_at, andi_at]
  have sel : ∀ (mk : IVec S288x128 1) (w : BitVec 32) (y : IVec S288x128 32) (i : S288x128.Idx),
      fn_where_1 (F := Ideal) mk (constantI S_ 32 w) y i = if mk i = 1#1 then w else y i := fun _ _ _ _ => rfl
  change IntOp.cmpi .eq (lv q) (fn_where_1 (F := Ideal) v24 (constantI S_ 32 0#32) _ q) = 1#1
    ∧ (IntOp.cmpi .slt (lv q) 0#32 = 1#1 ∨ IntOp.cmpi .sge (key q) 0#32 = 1#1 ∧ IntOp.cmpi .slt (key q) 1073741824#32 = 1#1) ↔ _
  rw [StableHlo.Predicate.cmpi_eq_iff, sel, sel, sel, h34, lt_at, lt_at, ge_at]
  simp only [h24, h26, h28]
  exact Iff.rfl

theorem fn_one (s : FVec Ideal S288x128 .f32) (key : IVec S288x128 32) (x1 y1 x2 y2 : FVec Ideal S288x128 .f32) (lv : IVec S288x128 32)
    (out : FVec Ideal S1024x8 .f32)
    (H : ∀ a : Fin 1024, (RowOk s (boxAt x1 y1 x2 y2) (Part lv (Given lv key) (before lv key))
        (fun p => Part lv (Given lv key) (before lv key) p ∨ ¬ Given lv key) (rowBox out) a.val
        ∧ ∀ c : Fin 4, out (ix2 a ⟨4 + c.val, by omega⟩) = 0)
      ∨ ((∀ c, out (ix2 a c) = out (ix2 0 c)) ∧ (NoneLeft s (boxAt x1 y1 x2 y2) (Part lv (Given lv key) (before lv key)) (rowBox out) a.val ∨ 1000 ≤ a.val))) :
    fn (F := Ideal) s key x1 y1 x2 y2 lv out = fun _ => 1#1 := by
  classical
  have small : ∀ (w : BitVec 32) (p : S288x128.Idx),
      cmpi .slt gridW (broadcastInDim S288x128 ![] bcast_S_S288x128 (constantI S_ 32 w)) p = 1#1 ↔ place p < w.toInt := fun w p => by
    change IntOp.cmpi .slt (gridW p) w = 1#1 ↔ _
    rw [lt_at, gridW_at]
  unfold fn fn_part1
  refine part2_one s key x1 y1 x2 y2 lv out _ _ _ _ _ (fun p => ?_) (small 108#32) (small 540#32) (small 2268#32) (fun p => ?_) H
  · refine (sum_pairs _ p).trans ?_
    refine Eq.trans (Finset.sum_congr rfl fun q _ => ?_) (Ranking.sum_rank _ _ _ p)
    unfold fn_where
    have sel : ∀ (mk : IVec S288x128x288x128 1) (i : S288x128x288x128.Idx),
      (select mk (broadcastInDim S288x128x288x128 ![] bcast_S_S288x128x288x128 (constant (F := Ideal) S_ .f32 0x3F800000#32))
        (broadcastInDim S288x128x288x128 ![] bcast_S_S288x128x288x128 (constant (F := Ideal) S_ .f32 0x00000000#32)) i : EReal)
      = if mk i = 1#1 then Ideal.ofBits .f32 0x3F800000#32 else Ideal.ofBits .f32 0x00000000#32 := fun _ _ => rfl
    refine (sel _ (pair p q)).trans ?_
    rw [one_bits, Ideal.ofBits_zero_f32]
    refine Ranking.if_iff ?_ _ _
    have ci : ∀ (pr) (x y : IVec S288x128 32), cmpi pr
        (broadcastInDim S288x128x288x128 ![2, 3] bcast_S288x128_S288x128x288x128_2_3 x)
        (broadcastInDim S288x128x288x128 ![0, 1] bcast_S288x128_S288x128x288x128_0_1 y) (pair p q) = IntOp.cmpi pr (x q) (y p) := fun pr x y =>
      congrArg₂ (IntOp.cmpi pr) (bc_that x p q) (bc_this y p q)
    rw [andi_at, ori_at, andi_at, ci, ci, ci, ci, StableHlo.Predicate.cmpi_eq_iff, StableHlo.Predicate.cmpi_eq_iff, gt_at, lt_at]
    change lv q = lv p ∧ (_ ∨ _ ∧ (gridW q).toInt < (gridW p).toInt) ↔ _
    rw [gridW_at, gridW_at, BitVec.toInt_inj]
  · change (if cmpi .slt gridW (broadcastInDim S288x128 ![] bcast_S_S288x128 (constantI S_ 32 9180#32)) p = 1#1 then 3#32
      else if cmpi .slt gridW (broadcastInDim S288x128 ![] bcast_S_S288x128 (constantI S_ 32 36828#32)) p = 1#1 then 4#32 else 4294967295#32) = _
    simp only [small]
    rfl

end Whole

end Cert.Proof.PicksPost

end
-- ==== Proof.PicksKernel.lean ====
/- What one turn of the picking loop computes over the extended reals: the position it picks, the box it writes down, the
   scores it leaves and the largest of them. -/
module

public import proofs.«01_k».proof.Proof.ProposalsIdealRun
public import proofs.«01_k».proof.Proof.PicksPost
public import Idealize.ShloMosaic.Lib.Pipeline.ValueKit
public import Idealize.ShloMosaic.Lib.Pointwise
public import Idealize.ShloMosaic.Lib.Affine
public import Idealize.ShloMosaic.Lib.StableHlo.Predicate

@[expose] public section

set_option maxRecDepth 16384

noncomputable section

namespace Cert.Proof.PicksKernel

open Cert.ProposalsIdeal Cert.ProposalsIdeal.Gen Cert.ProposalsIdeal.Facts Idealize.ShloMosaic Picks ProposalsIdealRun
open PicksPost (boxAt)

instance : Subsingleton S1.Idx := ⟨fun i j => funext fun a => by
  fin_cases a
  exact Fin.ext (by
    have hi : (i 0).val < 1 := (i 0).isLt
    have hj : (j 0).val < 1 := (j 0).isLt
    show (i 0).val = (j 0).val
    omega)⟩

/-- A position as an index of the vector with a leading unit axis. -/
def up (p : S288x128.Idx) : S1x288x128.Idx := ix3 0 (p 0) (p 1)

/-- And back. -/
def down (i : S1x288x128.Idx) : S288x128.Idx := ix2 (i 1) (i 2)

theorem down_up (p : S288x128.Idx) : down (up p) = p := (eq_ix2 p).symm

theorem cast_at {α : Type} (x : S288x128.Idx → α) (i : S1x288x128.Idx) :
    shapeCast S1x288x128 x shapeCasts_S288x128_S1x288x128 i = x (down i) :=
  (shapeCast_addUnit_apply _ x _ i).trans (congrArg x (by
    funext a
    match a with
    | ⟨0, _⟩ => rfl
    | ⟨1, _⟩ => rfl))

/-- The one value of a vector of one. -/
theorem only_at {α : Type} (y : S1.Idx → α) : ∃ j, extractAt ![0, 0, 0] (shapeCast S1x1x1 y shapeCasts_S1_S1x1x1) inpos_S1x1x1_p0_0_0 = y j := ⟨_, rfl⟩

/-! ### The largest score -/

/-- The maximum over all positions. -/
def greatest (x : FVec Ideal S288x128 .f32) : EReal :=
  extractAt ![0, 0, 0] (shapeCast S1x1x1 (multiReduction .maximumf [1, 2] S1 (shapeCast S1x288x128 x shapeCasts_S288x128_S1x288x128) 0xFF800000#32
    reduces_S1x288x128_S1 (.inl rfl) rfl) shapeCasts_S1_S1x1x1) inpos_S1x1x1_p0_0_0

theorem greatest_eq (x : FVec Ideal S288x128 .f32) :
    greatest x = (Finset.univ : Finset S1x288x128.Idx).fold max (⊥ : EReal) (fun i => x (down i)) := by
  obtain ⟨j, hj⟩ : ∃ j : S1.Idx, greatest x = multiReduction .maximumf [1, 2] S1 (shapeCast S1x288x128 x shapeCasts_S288x128_S1x288x128) 0xFF800000#32
      reduces_S1x288x128_S1 (.inl rfl) rfl j := only_at _
  have hc : Std.Commutative (FloatOps.maximumf (F := Ideal) (φ := .f32)) := ⟨fun a b => max_comm (α := EReal) a b⟩
  have ha : Std.Associative (FloatOps.maximumf (F := Ideal) (φ := .f32)) := ⟨fun a b c => max_assoc (α := EReal) a b c⟩
  refine (hj.trans (multiReduction_maximumf_eq_fold ..)).trans ?_
  rw [Finset.filter_true_of_mem fun i _ => Subsingleton.elim _ _]
  have hb : (FloatOps.ofBits FTy.f32 0xFF800000#32 : Ideal .f32) = (⊥ : EReal) := by
    show Ideal.ofBits .f32 0xFF800000#32 = ⊥
    simp [Ideal.ofBits, Ideal.ieee]
  rw [hb, show shapeCast S1x288x128 x shapeCasts_S288x128_S1x288x128 = fun i => x (down i) from funext fun i => cast_at x i]
  rfl

theorem le_greatest (x : FVec Ideal S288x128 .f32) (p : S288x128.Idx) : x p ≤ greatest x := by
  rw [greatest_eq]
  refine (Finset.le_fold_max (x p)).2 (.inr ⟨up p, Finset.mem_univ _, ?_⟩)
  rw [down_up]

theorem greatest_le (x : FVec Ideal S288x128 .f32) : ∃ p, greatest x ≤ x p := by
  rw [greatest_eq]
  rcases (Finset.le_fold_max _).1 (le_refl ((Finset.univ : Finset S1x288x128.Idx).fold max (⊥ : EReal) (fun i => x (down i)))) with h | ⟨i, -, h⟩
  · exact ⟨ix2 0 0, h.trans bot_le⟩
  · exact ⟨down i, h⟩

/-! ### The position picked -/

theorem grid_at (p : S288x128.Idx) : (k0_pay7 p).toNat = (p 0).val * 128 + (p 1).val := by
  have h0 : (p 0).val < 288 := (p 0).isLt
  have h1 : (p 1).val < 128 := (p 1).isLt
  have e : k0_pay7 p = BitVec.ofNat 32 (p 0).val * 128#32 + BitVec.ofNat 32 (p 1).val := by
    unfold k0_pay7
    show (iota .tc S288x128 32 [0] iota_S288x128_d0_w32 p) * 128#32 + iota .tc S288x128 32 [1] iota_S288x128_d1_w32 p = _
    rw [iota_single_apply, iota_single_apply]
  rw [e, BitVec.toNat_add, BitVec.toNat_mul]
  simp only [BitVec.toNat_ofNat]
  omega

theorem grid_inj {p q : S288x128.Idx} (h : k0_pay7 p = k0_pay7 q) : p = q := by
  have e := congrArg BitVec.toNat h
  rw [grid_at, grid_at] at e
  have h0 : (p 1).val < 128 := (p 1).isLt
  have h1 : (q 1).val < 128 := (q 1).isLt
  funext a
  match a with
  | ⟨0, _⟩ => exact Fin.ext (show (p 0).val = (q 0).val by omega)
  | ⟨1, _⟩ => exact Fin.ext (show (p 1).val = (q 1).val by omega)

theorem minsi_cases (x y : BitVec 32) : (IntOp.minsi x y = x ∨ IntOp.minsi x y = y) ∧ (IntOp.minsi x y).toInt ≤ x.toInt ∧ (IntOp.minsi x y).toInt ≤ y.toInt := by
  unfold IntOp.minsi
  by_cases h : x.slt y = true
  · rw [if_pos h]
    have : x.toInt < y.toInt := by simpa [BitVec.slt] using h
    exact ⟨.inl rfl, le_rfl, this.le⟩
  · rw [if_neg h]
    have : ¬ x.toInt < y.toInt := by simpa [BitVec.slt] using h
    exact ⟨.inr rfl, not_lt.1 this, le_rfl⟩

theorem fold_minsi {α : Type} (S : Finset α) (b : BitVec 32) (f : α → BitVec 32) :
    (S.fold IntOp.minsi b f = b ∨ ∃ i ∈ S, S.fold IntOp.minsi b f = f i) ∧ ∀ i ∈ S, (S.fold IntOp.minsi b f).toInt ≤ (f i).toInt := by
  classical
  induction S using Finset.induction_on with
  | empty => exact ⟨.inl rfl, fun i hi => absurd hi (Finset.notMem_empty i)⟩
  | insert a S ha ih =>
    rw [Finset.fold_insert ha]
    obtain ⟨hc, h1, h2⟩ := minsi_cases (f a) (S.fold IntOp.minsi b f)
    refine ⟨?_, fun i hi => ?_⟩
    · rcases hc with hc | hc
      · exact .inr ⟨a, Finset.mem_insert_self _ _, hc⟩
      · rw [hc]
        exact ih.1.imp_right fun ⟨i, hi, e⟩ => ⟨i, Finset.mem_insert_of_mem hi, e⟩
    · rcases Finset.mem_insert.1 hi with rfl | hi
      · exact h1
      · exact h2.trans (ih.2 i hi)

theorem ge_at (x y : EReal) : Ideal.cmp .oge x y = 1#1 ↔ y ≤ x := by
  simp [Ideal.cmp, StableHlo.Predicate.ofBool_eq_one_iff]
theorem gt_at (x y : EReal) : Ideal.cmp .ogt x y = 1#1 ↔ y < x := by
  simp [Ideal.cmp, StableHlo.Predicate.ofBool_eq_one_iff]

/-- The mask of the pick holds at one position, of a score as large as the largest. -/
theorem hot (a9 : FVec Ideal S288x128 .f32) (a10 : EReal) (hge : ∃ p, a10 ≤ a9 p) :
    ∃ p, a10 ≤ a9 p ∧ ∀ q, k0_pay29 (F := Ideal) k0_pay7 a9 a10 q = 1#1 ↔ q = p := by
  let sel : S288x128.Idx → BitVec 32 := fun p => if a10 ≤ a9 p then k0_pay7 p else 1073741824#32
  let w : BitVec 32 := (Finset.univ : Finset S1x288x128.Idx).fold IntOp.minsi 2147483647#32 (fun i => sel (down i))
  have hsel : select (cmpf .oge a9 (broadcast S288x128 a10)) k0_pay7 (broadcast S288x128 1073741824#32) = sel := funext fun p => by
    show (if Ideal.cmp .oge (a9 p) a10 = 1#1 then k0_pay7 p else 1073741824#32) = if a10 ≤ a9 p then k0_pay7 p else 1073741824#32
    simp only [ge_at]
  have hw : extractAt ![0, 0, 0] (shapeCast S1x1x1 (multiReductionI .minsi [1, 2] S1 (shapeCast S1x288x128 sel shapeCasts_S288x128_S1x288x128) 2147483647#32
      reduces_S1x288x128_S1 rfl) shapeCasts_S1_S1x1x1) inpos_S1x1x1_p0_0_0 = w := by
    obtain ⟨j, hj⟩ : ∃ j : S1.Idx, extractAt ![0, 0, 0] (shapeCast S1x1x1 (multiReductionI .minsi [1, 2] S1
        (shapeCast S1x288x128 sel shapeCasts_S288x128_S1x288x128) 2147483647#32 reduces_S1x288x128_S1 rfl) shapeCasts_S1_S1x1x1) inpos_S1x1x1_p0_0_0
      = multiReductionI .minsi [1, 2] S1 (shapeCast S1x288x128 sel shapeCasts_S288x128_S1x288x128) 2147483647#32 reduces_S1x288x128_S1 rfl j := only_at _
    refine (hj.trans (multiReductionI_eq_fold ..)).trans ?_
    rw [Finset.filter_true_of_mem fun i _ => Subsingleton.elim _ _,
      show shapeCast S1x288x128 sel shapeCasts_S288x128_S1x288x128 = fun i => sel (down i) from funext fun i => cast_at sel i]
    rfl
  have small : ∀ p, (k0_pay7 p).toInt = ((p 0).val * 128 + (p 1).val : ℕ) ∧ (p 0).val * 128 + (p 1).val < 36864 := fun p => by
    have h0 : (p 0).val < 288 := (p 0).isLt
    have h1 : (p 1).val < 128 := (p 1).isLt
    refine ⟨?_, by omega⟩
    rw [StableHlo.Predicate.toInt_eq_toNat_of_lt (by rw [grid_at]; omega), grid_at]
  obtain ⟨p₁, hp₁⟩ := hge
  obtain ⟨hc, hle⟩ := fold_minsi (Finset.univ : Finset S1x288x128.Idx) 2147483647#32 (fun i => sel (down i))
  have hl := hle (up p₁) (Finset.mem_univ _)
  rw [down_up] at hl
  have e₁ : sel p₁ = k0_pay7 p₁ := if_pos hp₁
  rw [e₁, (small p₁).1] at hl
  have hs := (small p₁).2
  have hmain : ∃ p, a10 ≤ a9 p ∧ w = k0_pay7 p := by
    rcases hc with hc | ⟨i, -, hc⟩
    · rw [hc] at hl
      have : (2147483647#32 : BitVec 32).toInt = 2147483647 := by decide
      rw [this] at hl; omega
    · by_cases h : a10 ≤ a9 (down i)
      · exact ⟨down i, h, hc.trans (if_pos h)⟩
      · have e : sel (down i) = 1073741824#32 := if_neg h
        rw [hc] at hl
        simp only [e] at hl
        have : (1073741824#32 : BitVec 32).toInt = 1073741824 := by decide
        rw [this] at hl; omega
  obtain ⟨p, hp, hwp⟩ := hmain
  refine ⟨p, hp, fun q => ?_⟩
  unfold k0_pay29
  dsimp only
  rw [hsel, hw, hwp]
  show IntOp.cmpi .eq (k0_pay7 q) (k0_pay7 p) = 1#1 ↔ q = p
  rw [StableHlo.Predicate.cmpi_eq_iff]
  exact ⟨grid_inj, fun e => by rw [e]⟩

/-! ### The box picked -/

/-- The sum over all positions. -/
def total (x : FVec Ideal S288x128 .f32) : EReal :=
  extractAt ![0, 0, 0] (shapeCast S1x1x1 (multiReduction .add [1, 2] S1 (shapeCast S1x288x128 x shapeCasts_S288x128_S1x288x128) 0x00000000#32
    reduces_S1x288x128_S1 (.inl rfl) rfl) shapeCasts_S1_S1x1x1) inpos_S1x1x1_p0_0_0

/-- Masked to one position, the sum is the value there. -/
theorem total_hot (mask : IVec S288x128 1) (x : FVec Ideal S288x128 .f32) (p : S288x128.Idx) (h : ∀ q, mask q = 1#1 ↔ q = p) :
    total (select mask x (broadcast S288x128 (Scalar.ofBits (F := Ideal) .f32 0x00000000#32))) = x p := by
  obtain ⟨j, hj⟩ : ∃ j : S1.Idx, total (select mask x (broadcast S288x128 (Scalar.ofBits (F := Ideal) .f32 0x00000000#32)))
      = multiReduction .add [1, 2] S1 (shapeCast S1x288x128 (select mask x (broadcast S288x128 (Scalar.ofBits (F := Ideal) .f32 0x00000000#32))) shapeCasts_S288x128_S1x288x128) 0x00000000#32
      reduces_S1x288x128_S1 (.inl rfl) rfl j := only_at _
  have val : ∀ i, shapeCast S1x288x128 (select mask x (broadcast S288x128 (Scalar.ofBits (F := Ideal) .f32 0x00000000#32))) shapeCasts_S288x128_S1x288x128 i
      = if down i = p then x (down i) else 0 := fun i => by
    rw [cast_at]
    show (if mask (down i) = 1#1 then x (down i) else Ideal.ofBits .f32 0x00000000#32) = _
    simp only [h, Ideal.ofBits_zero_f32]
  refine (hj.trans (Ideal.multiReduction_add_total _ _ _ (by decide) _ _ j)).trans ((Finset.sum_congr rfl fun i _ => val i).trans ?_)
  rw [Finset.sum_eq_single (up p)]
  · rw [down_up, if_pos rfl]
  · intro i _ hi
    refine if_neg fun e => hi ?_
    subst e
    funext a
    match a with
    | ⟨0, _⟩ => exact Fin.ext (by
        have : (i 0).val < 1 := (i 0).isLt
        show (i 0).val = 0
        omega)
    | ⟨1, _⟩ => rfl
    | ⟨2, _⟩ => rfl
  · intro hi; exact absurd (Finset.mem_univ _) hi

section Turn

variable (v1 v2 v3 v4 a9 : FVec Ideal S288x128 .f32) (a10 : EReal) (p : S288x128.Idx)
  (h : ∀ q, k0_pay29 (F := Ideal) k0_pay7 a9 a10 q = 1#1 ↔ q = p)

include h

theorem edge0 : k0_pay30 (F := Ideal) k0_pay7 v1 a9 a10 = v1 p := total_hot _ v1 p h
theorem edge1 : k0_pay31 (F := Ideal) k0_pay7 v2 a9 a10 = v2 p := total_hot _ v2 p h
theorem edge2 : k0_pay32 (F := Ideal) k0_pay7 v3 a9 a10 = v3 p := total_hot _ v3 p h
theorem edge3 : k0_pay33 (F := Ideal) k0_pay7 v4 a9 a10 = v4 p := total_hot _ v4 p h

/-- What is left of the scores: nothing positive where the picked box covers or at the pick, the same elsewhere. -/
theorem leftover_at (q : S288x128.Idx) :
    (Covers (boxAt v1 v2 v3 v4 p) (boxAt v1 v2 v3 v4 q) ∨ q = p) ∧ leftover (F := Ideal) k0_pay7 v1 v2 v3 v4 a9 a10 q ≤ (0 : EReal)
      ∨ ¬ (Covers (boxAt v1 v2 v3 v4 p) (boxAt v1 v2 v3 v4 q) ∨ q = p) ∧ leftover (F := Ideal) k0_pay7 v1 v2 v3 v4 a9 a10 q = a9 q := by
  classical
  have hneg : Ideal.ofBits .f32 0xBF800000#32 ≤ (0 : EReal) := by
    simp [Ideal.ofBits, Ideal.ieee]
    positivity
  have e : leftover (F := Ideal) k0_pay7 v1 v2 v3 v4 a9 a10 q
      = if Covers (boxAt v1 v2 v3 v4 p) (boxAt v1 v2 v3 v4 q) ∨ q = p then Ideal.ofBits .f32 0xBF800000#32 else a9 q := by
    unfold leftover k0_pay35 k0_pay36
    rw [edge0 v1 a9 a10 p h, edge1 v2 a9 a10 p h, edge2 v3 a9 a10 p h, edge3 v4 a9 a10 p h]
    unfold k0_pay5
    dsimp only
    refine if_congr (IntOp.ori_eq_one.trans (or_congr ((gt_at _ _).trans Iff.rfl) (h q))) rfl rfl
  rw [e]
  by_cases hc : Covers (boxAt v1 v2 v3 v4 p) (boxAt v1 v2 v3 v4 q) ∨ q = p
  · rw [if_pos hc]; exact .inl ⟨hc, hneg⟩
  · rw [if_neg hc]; exact .inr ⟨hc, rfl⟩

/-- The row written down: the four edges of the picked box, then zeros. -/
theorem row_at (c : Fin 8) :
    k0_pay34 (F := Ideal) k0_pay7 v1 v2 v3 v4 a9 a10 (ix2 0 c) = if hc : c.val < 4 then boxAt v1 v2 v3 v4 p ⟨c.val, hc⟩ else (0 : EReal) := by
  unfold k0_pay34
  rw [edge0 v1 a9 a10 p h, edge1 v2 a9 a10 p h, edge2 v3 a9 a10 p h, edge3 v4 a9 a10 p h]
  fin_cases c
  · rfl
  · rfl
  · rfl
  · rfl
  · exact Ideal.ofBits_zero_f32
  · exact Ideal.ofBits_zero_f32
  · exact Ideal.ofBits_zero_f32
  · exact Ideal.ofBits_zero_f32

end Turn

/-- The largest of the scores left. -/
theorem leftmax_eq (v1 v2 v3 v4 a9 : FVec Ideal S288x128 .f32) (a10 : EReal) :
    leftmax (F := Ideal) k0_pay7 v1 v2 v3 v4 a9 a10 = greatest (leftover (F := Ideal) k0_pay7 v1 v2 v3 v4 a9 a10) := rfl

/-! ### The result's rows -/

theorem written_at (v1 v2 v3 v4 a9 : FVec Ideal S288x128 .f32) (a10 : EReal) (j : ℕ) (hj : j < 1000) (fo : Out Ideal) (r : Fin 1024) (c : Fin 8) :
    written (F := Ideal) k0_pay7 v1 v2 v3 v4 (BitVec.ofNat 32 j) (row_lt j hj) a9 a10 fo (ix2 r c)
      = if r.val = j then k0_pay34 (F := Ideal) k0_pay7 v1 v2 v3 v4 a9 a10 (ix2 0 c) else fo (ix2 r c) := by
  have ej : (BitVec.ofNat 32 j).toNat = j := by simp only [BitVec.toNat_ofNat]; omega
  unfold written
  have emb : ∀ (k : Fin 8), ((Memref.whole cc0_stg7_0).access (rowAt (BitVec.ofNat 32 j) (row_lt j hj)) : View sig .tc _ _ _).emb (ix2 0 k)
      = ix2 (⟨j, by omega⟩ : Fin 1024) k := fun k => by
    funext a
    match a with
    | ⟨0, _⟩ => exact Fin.ext (show (BitVec.ofNat 32 j).toNat + 1 * 0 = j by omega)
    | ⟨1, _⟩ => exact Fin.ext (show 0 + 1 * k.val = k.val by omega)
  split
  · rename_i hr
    have e : (ix2 r c : S1024x8.Idx) = ((Memref.whole cc0_stg7_0).access (rowAt (BitVec.ofNat 32 j) (row_lt j hj)) : View sig .tc _ _ _).emb (ix2 0 c) := by
      rw [emb]; congr 1; exact Fin.ext hr
    rw [e]
    exact View.write_emb_of_mem _ _ (Finset.mem_univ _)
  · rename_i hr
    refine View.write_of_not_mem _ _ _ fun hm => hr ?_
    obtain ⟨x, -, hx⟩ := Finset.mem_map.1 hm
    have e : x = ix2 0 (x 1) := by
      funext a
      match a with
      | ⟨0, _⟩ => exact Fin.ext (by
          have : (x 0).val < 1 := (x 0).isLt
          show (x 0).val = 0
          omega)
      | ⟨1, _⟩ => rfl
    have hx' := (emb (x 1)).symm.trans ((congrArg _ e.symm).trans hx)
    exact congrArg (fun k : S1024x8.Idx => (k 0).val) hx'.symm

theorem filled_at (n : ℕ) (hn : n ≤ 1000) (fo : Out Ideal) (r : Fin 1024) (c : Fin 8) :
    filled (F := Ideal) n fo (ix2 r c) = if r.val < n then fo (ix2 r c) else fo (ix2 0 c) := by
  have hr := r.isLt
  have row : (Memref.whole cc0_stg7_0 : Memref sig .tc _ _ _).view.readAt (Elt Ideal) row0.toLoadRect fo = fun k => fo (ix2 0 (k 1)) := by
    funext k
    show fo _ = fo _
    congr 1
    funext a
    match a with
    | ⟨0, _⟩ => exact Fin.ext (by
        have : (k 0).val < 1 := (k 0).isLt
        show 0 + 1 * (k 0).val = 0
        omega)
    | ⟨1, _⟩ => exact Fin.ext (show 0 + 1 * (k 1).val = (k 1).val by omega)
  unfold filled k0_pay4
  dsimp only
  rw [row]
  simp only [shapeCast_self]
  show (if IntOp.cmpi .slt (iota .tc S1024x8 32 [0] iota_S1024x8_d0_w32 (ix2 r c)) (BitVec.ofNat 32 n) = 1#1 then fo (ix2 r c)
    else broadcastTo S1024x8 (fun k : S1x8.Idx => fo (ix2 0 (k 1))) broadcasts_S1x8_S1024x8 (ix2 r c)) = _
  rw [iota_single_apply, broadcastTo_apply _ _ (ix2 r c) (ix2 0 c) (fun a => by fin_cases a <;> rfl)]
  refine if_congr ?_ rfl rfl
  show IntOp.cmpi .slt (BitVec.ofNat 32 r.val) (BitVec.ofNat 32 n) = 1#1 ↔ _
  rw [StableHlo.Predicate.slt_iff_toNat (by simp only [BitVec.toNat_ofNat]; omega) (by simp only [BitVec.toNat_ofNat]; omega)]
  simp only [BitVec.toNat_ofNat]
  rw [Nat.mod_eq_of_lt (by omega), Nat.mod_eq_of_lt (by omega)]

/-! ### The scores the picking starts from -/

/-- The levels that have a cut, at a threshold of the keys and a cut of the positions: above the threshold, or on it and not
    after the cut. -/
def Above (lv key : IVec S288x128 32) (l t b : BitVec 32) (p : S288x128.Idx) : Prop :=
  lv p = l ∧ (t.toInt < (key p).toInt ∨ key p = t ∧ (k0_pay7 p).toInt ≤ b.toInt)

/-- The positions whose score takes part. -/
def Cand (lv key : IVec S288x128 32) (t₁ b₁ t₂ b₂ t₃ b₃ : BitVec 32) (p : S288x128.Idx) : Prop :=
  (lv p = 0#32 ∨ lv p = 1#32) ∨ Above lv key 2#32 t₁ b₁ p ∨ Above lv key 3#32 t₂ b₂ p ∨ Above lv key 4#32 t₃ b₃ p

theorem above_iff (lv key : IVec S288x128 32) (l t b : BitVec 32) (p : S288x128.Idx) :
    IntOp.andi (IntOp.cmpi .eq (lv p) l) (IntOp.ori (IntOp.cmpi .sgt (key p) t)
      (IntOp.andi (IntOp.andi (IntOp.cmpi .eq (lv p) l) (IntOp.cmpi .eq (key p) t)) (IntOp.cmpi .sle (k0_pay7 p) b))) = 1#1
      ↔ Above lv key l t b p := by
  have gt : IntOp.cmpi .sgt (key p) t = 1#1 ↔ t.toInt < (key p).toInt := by
    simp [IntOp.cmpi, BitVec.slt, StableHlo.Predicate.ofBool_eq_one_iff]
  have le : IntOp.cmpi .sle (k0_pay7 p) b = 1#1 ↔ (k0_pay7 p).toInt ≤ b.toInt := by
    simp [IntOp.cmpi, BitVec.sle, StableHlo.Predicate.ofBool_eq_one_iff]
  rw [IntOp.andi_eq_one, IntOp.ori_eq_one, IntOp.andi_eq_one, IntOp.andi_eq_one, StableHlo.Predicate.cmpi_eq_iff, StableHlo.Predicate.cmpi_eq_iff, gt, le]
  unfold Above
  tauto

theorem ones {P : Prop} [Decidable P] (x : BitVec 1) (h : x = 1#1 ↔ P) :
    (if x = 1#1 then Ideal.ofBits .f32 0x3F800000#32 else Ideal.ofBits .f32 0x00000000#32 : EReal) = if P then 1 else 0 := by
  have e1 : Ideal.ofBits .f32 0x3F800000#32 = (1 : EReal) := by
    simp [Ideal.ofBits, Ideal.ieee]
    rw [← EReal.coe_mul]
    norm_num
  rw [e1, Ideal.ofBits_zero_f32]
  exact if_congr h rfl rfl

theorem start_at (m : (ℓ : Loc nD τ sig) → Buf (Elt Ideal) ℓ) (c : Dev nD) (t₁ b₁ t₂ b₂ t₃ b₃ : BitVec 32) (p : S288x128.Idx) :
    Cand (levels m c) (keys m c) t₁ b₁ t₂ b₂ t₃ b₃ p ∧ k0_pay2 (F := Ideal) (scores m c) (counted m c t₁ b₁ t₂ b₂) (k0_pay27 (levels m c) (keys m c) k0_pay7 t₃ b₃)
        (Scalar.ofBits .f32 0x00000000#32) k0_pay28 p = scores m c p
      ∨ ¬ Cand (levels m c) (keys m c) t₁ b₁ t₂ b₂ t₃ b₃ p ∧ k0_pay2 (F := Ideal) (scores m c) (counted m c t₁ b₁ t₂ b₂) (k0_pay27 (levels m c) (keys m c) k0_pay7 t₃ b₃)
        (Scalar.ofBits .f32 0x00000000#32) k0_pay28 p ≤ (0 : EReal) := by
  classical
  have hneg : Ideal.ofBits .f32 0xBF800000#32 ≤ (0 : EReal) := by
    simp [Ideal.ofBits, Ideal.ieee]
    positivity
  have e8 : (k0_pay8 (F := Ideal) (levels m c) p : EReal) = if levels m c p = 0#32 ∨ levels m c p = 1#32 then 1 else 0 :=
    ones _ (IntOp.ori_eq_one.trans (or_congr StableHlo.Predicate.cmpi_eq_iff StableHlo.Predicate.cmpi_eq_iff))
  have e15 : (k0_pay15 (F := Ideal) (keys m c) k0_pay7 (k0_pay8 (levels m c)) (k0_pay9 (levels m c)) t₁ b₁ p : EReal)
      = (if levels m c p = 0#32 ∨ levels m c p = 1#32 then 1 else 0) + (if Above (levels m c) (keys m c) 2#32 t₁ b₁ p then 1 else 0) :=
    congrArg₂ (fun x y : EReal => x + y) e8 (ones _ (above_iff (levels m c) (keys m c) 2#32 t₁ b₁ p))
  have e21 : (counted m c t₁ b₁ t₂ b₂ p : EReal)
      = (if levels m c p = 0#32 ∨ levels m c p = 1#32 then 1 else 0) + (if Above (levels m c) (keys m c) 2#32 t₁ b₁ p then 1 else 0)
        + (if Above (levels m c) (keys m c) 3#32 t₂ b₂ p then 1 else 0) :=
    congrArg₂ (fun x y : EReal => x + y) e15 (ones _ (above_iff (levels m c) (keys m c) 3#32 t₂ b₂ p))
  have e27 : (select (k0_pay27 (levels m c) (keys m c) k0_pay7 t₃ b₃) (k0_pay28 (F := Ideal)) (broadcast S288x128 (Scalar.ofBits (F := Ideal) .f32 0x00000000#32)) p : EReal)
      = if Above (levels m c) (keys m c) 4#32 t₃ b₃ p then 1 else 0 := ones _ (above_iff (levels m c) (keys m c) 4#32 t₃ b₃ p)
  have e2 : k0_pay2 (F := Ideal) (scores m c) (counted m c t₁ b₁ t₂ b₂) (k0_pay27 (levels m c) (keys m c) k0_pay7 t₃ b₃) (Scalar.ofBits .f32 0x00000000#32) k0_pay28 p
      = if (0 : EReal) < (if levels m c p = 0#32 ∨ levels m c p = 1#32 then 1 else 0) + (if Above (levels m c) (keys m c) 2#32 t₁ b₁ p then 1 else 0)
        + (if Above (levels m c) (keys m c) 3#32 t₂ b₂ p then 1 else 0) + (if Above (levels m c) (keys m c) 4#32 t₃ b₃ p then 1 else 0)
        then scores m c p else Ideal.ofBits .f32 0xBF800000#32 := by
    have e : k0_pay2 (F := Ideal) (scores m c) (counted m c t₁ b₁ t₂ b₂) (k0_pay27 (levels m c) (keys m c) k0_pay7 t₃ b₃) (Scalar.ofBits .f32 0x00000000#32) k0_pay28 p
        = if Ideal.cmp .ogt ((fun x y : EReal => x + y) (counted m c t₁ b₁ t₂ b₂ p)
            (select (k0_pay27 (levels m c) (keys m c) k0_pay7 t₃ b₃) (k0_pay28 (F := Ideal)) (broadcast S288x128 (Scalar.ofBits (F := Ideal) .f32 0x00000000#32)) p))
            (Ideal.ofBits .f32 0x00000000#32) = 1#1 then scores m c p else Ideal.ofBits .f32 0xBF800000#32 := rfl
    rw [e, e21, e27, Ideal.ofBits_zero_f32]
    exact if_congr (gt_at _ _) rfl rfl
  have nn : ∀ (Q : Prop) [Decidable Q], (0 : EReal) ≤ if Q then 1 else 0 := fun Q _ => by split <;> simp
  rw [e2]
  by_cases hc : Cand (levels m c) (keys m c) t₁ b₁ t₂ b₂ t₃ b₃ p
  · refine .inl ⟨hc, if_pos ?_⟩
    have one : (0 : EReal) < 1 := by simp
    rcases hc with hc | hc | hc | hc
    · rw [if_pos hc]
      exact lt_of_lt_of_le one (((le_add_of_nonneg_right (nn _)).trans (le_add_of_nonneg_right (nn _))).trans (le_add_of_nonneg_right (nn _)))
    · rw [if_pos hc]
      exact lt_of_lt_of_le one (((le_add_of_nonneg_left (nn _)).trans (le_add_of_nonneg_right (nn _))).trans (le_add_of_nonneg_right (nn _)))
    · rw [if_pos hc]
      exact lt_of_lt_of_le one ((le_add_of_nonneg_left (add_nonneg (nn _) (nn _))).trans (le_add_of_nonneg_right (nn _)))
    · rw [if_pos hc]
      exact lt_of_lt_of_le one (le_add_of_nonneg_left (add_nonneg (add_nonneg (nn _) (nn _)) (nn _)))
  · refine .inr ⟨hc, ?_⟩
    unfold Cand at hc
    simp only [not_or] at hc
    rw [if_neg (not_or.2 hc.1), if_neg hc.2.1, if_neg hc.2.2.1, if_neg hc.2.2.2, if_neg (by simp)]
    exact hneg

end Cert.Proof.PicksKernel

end
-- ==== Proof.Thresholds.lean ====
/- The halvings the proposals call finds its thresholds and cuts by, over the extended reals: where the levels are those of the
   table and the keys are small, what they stop at lets in exactly the first thousand of each large level. -/
module

public import proofs.«01_k».proof.Proof.PicksKernel

@[expose] public section

set_option maxRecDepth 16384

noncomputable section

namespace Cert.Proof.Thresholds

open Cert.ProposalsIdeal Cert.ProposalsIdeal.Gen Cert.ProposalsIdeal.Facts Idealize.ShloMosaic ProposalsIdealRun PicksKernel Ranking
open PicksPost (place table Given before)

local instance : Cert.Post_picked_in_turn.Facts := PicksPost.facts

/-! ### Words -/

theorem int_of (n : ℕ) (h : n < 2147483648) : (BitVec.ofNat 32 n).toInt = n := by
  rw [StableHlo.Predicate.toInt_eq_toNat_of_lt (by simp only [BitVec.toNat_ofNat]; omega)]
  simp only [BitVec.toNat_ofNat]
  omega

theorem halfway_eq (a b : ℕ) (h : a + b < 2147483648) : halfway (BitVec.ofNat 32 a) (BitVec.ofNat 32 b) = BitVec.ofNat 32 ((a + b) / 2) := by
  have e : Scalar.addi (BitVec.ofNat 32 a) (BitVec.ofNat 32 b) = BitVec.ofNat 32 (a + b) := (BitVec.ofNat_add ..).symm
  have d : Scalar.divsi (BitVec.ofNat 32 (a + b)) 2#32 = BitVec.ofNat 32 ((a + b) / 2) := by
    have i := Affine.divsi (e := ((a + b : ℕ) : ℤ) / 2) (Affine.ofNat (a + b) ⟨rfl, by omega⟩) (Affine.ofNat 2 ⟨rfl, by omega⟩)
      ⟨rfl, by omega, by norm_num⟩
    unfold Affine.IsInt at i
    apply BitVec.eq_of_toInt_eq
    rw [show (BitVec.ofNat 32 2) = 2#32 from rfl] at i
    rw [i, StableHlo.Predicate.toInt_eq_toNat_of_lt (by simp only [BitVec.toNat_ofNat]; omega)]
    simp only [BitVec.toNat_ofNat]
    omega
  unfold halfway
  rw [e, d]
  generalize a + b = n at h
  rcases Nat.eq_zero_or_pos n with rfl | hn
  · decide
  · have g1 : Scalar.cmpi .sgt (BitVec.ofNat 32 n) 0#32 = 1#1 := by
      refine (PicksPost.gt_at _ _).2 ?_
      rw [int_of n h]
      show (0 : ℤ) < n
      omega
    have g2 : Scalar.cmpi .slt (BitVec.ofNat 32 n) 0#32 = 0#1 := by
      have : ¬ Scalar.cmpi .slt (BitVec.ofNat 32 n) 0#32 = 1#1 := fun h' => by
        have h2 := (PicksPost.lt_at _ _).1 h'
        rw [int_of n h] at h2
        have h3 : (n : ℤ) < 0 := h2
        omega
      revert this
      generalize Scalar.cmpi .slt (BitVec.ofNat 32 n) 0#32 = x
      revert x; decide
    have g3 : Scalar.cmpi .ne (Scalar.subi (Scalar.extui 1#1) (Scalar.extui 0#1))
      (Scalar.subi (Scalar.extui (Scalar.cmpi .sgt 2#32 0#32)) (Scalar.extui (Scalar.cmpi .slt 2#32 0#32))) = 0#1 := by decide
    rw [g1, g2, g3]
    generalize Scalar.cmpi .ne (Scalar.remsi (BitVec.ofNat 32 n) 2#32) 0#32 = x
    have : Scalar.andi 0#1 x = 0#1 := by revert x; decide
    rw [this]
    exact if_neg (by decide)

theorem grid_int (p : S288x128.Idx) : (k0_pay7 p).toInt = place p := by
  have h0 : (p 0).val < 288 := (p 0).isLt
  have h1 : (p 1).val < 128 := (p 1).isLt
  rw [StableHlo.Predicate.toInt_eq_toNat_of_lt (by rw [grid_at]; omega), grid_at]
  unfold place
  push_cast
  rfl

/-! ### Counts -/

/-- The number of positions of a mask, as the program counts it. -/
def count (mask : IVec S288x128 1) : EReal :=
  total (select mask (broadcast S288x128 (Scalar.ofBits (F := Ideal) .f32 0x3F800000#32)) (broadcast S288x128 (Scalar.ofBits (F := Ideal) .f32 0x00000000#32)))

theorem count_eq (mask : IVec S288x128 1) (P : S288x128.Idx → Prop) {d : ∀ p, Decidable (P p)} (h : ∀ p, mask p = 1#1 ↔ P p) :
    count mask = ∑ p, @ite EReal (P p) (d p) 1 0 := by
  let x : FVec Ideal S288x128 .f32 := select mask (broadcast S288x128 (Scalar.ofBits (F := Ideal) .f32 0x3F800000#32)) (broadcast S288x128 (Scalar.ofBits (F := Ideal) .f32 0x00000000#32))
  have hx : ∀ p, (x p : EReal) = @ite EReal (P p) (d p) 1 0 := fun p => ones _ (h p)
  obtain ⟨j, hj⟩ : ∃ j : S1.Idx, total x = multiReduction .add [1, 2] S1 (shapeCast S1x288x128 x shapeCasts_S288x128_S1x288x128) 0x00000000#32
      reduces_S1x288x128_S1 (.inl rfl) rfl j := only_at _
  refine (hj.trans (Ideal.multiReduction_add_total _ _ _ (by decide) _ _ j)).trans ?_
  refine Finset.sum_nbij' (fun i => down i) (fun p => up p) (fun _ _ => Finset.mem_univ _) (fun _ _ => Finset.mem_univ _) (fun i _ => ?_)
    (fun p _ => down_up p) (fun i _ => ?_)
  · funext a
    match a with
    | ⟨0, _⟩ => exact Fin.ext (by
        have : (i 0).val < 1 := (i 0).isLt
        show 0 = (i 0).val
        omega)
    | ⟨1, _⟩ => rfl
    | ⟨2, _⟩ => rfl
  · exact (cast_at x i).trans (hx _)

variable (lv key : IVec S288x128 32) (l : BitVec 32)

/-- The key of a position as a number. -/
abbrev num (p : S288x128.Idx) : ℤ := (key p).toInt

/-- How many of the level reach the middle of the bounds. -/
def cntAbove (lo hi : BitVec 32) : EReal := count (andi (cmpi .eq lv (broadcast S288x128 l)) (cmpi .sge key (broadcast S288x128 (halfway lo hi))))

/-- How many of the level lie on the threshold up to the middle of the bounds. -/
def cntTied (t lo hi : BitVec 32) : EReal :=
  count (andi (andi (cmpi .eq lv (broadcast S288x128 l)) (cmpi .eq key (broadcast S288x128 t))) (cmpi .sle k0_pay7 (broadcast S288x128 (halfway lo hi))))

/-- How many are wanted beside those above the threshold. -/
def wanted (t : BitVec 32) : EReal :=
  Ideal.ofBits .f32 0x447A0000#32 - count (andi (cmpi .eq lv (broadcast S288x128 l)) (cmpi .sgt key (broadcast S288x128 t)))

theorem cntAbove_eq (lo hi : ℕ) (h : lo + hi < 2147483648) :
    cntAbove lv key l (BitVec.ofNat 32 lo) (BitVec.ofNat 32 hi) = (reach (fun q => lv q = l) (num key) ((lo + hi) / 2 : ℕ) : EReal) := by
  unfold cntAbove
  rw [halfway_eq lo hi h]
  refine (count_eq _ (fun q => lv q = l ∧ (((lo + hi) / 2 : ℕ) : ℤ) ≤ num key q) (fun p => ?_)).trans (sum_reach (fun q => lv q = l) (num key) _)
  · rw [PicksPost.andi_at]
    change IntOp.cmpi .eq (lv p) l = 1#1 ∧ IntOp.cmpi .sge (key p) (BitVec.ofNat 32 ((lo + hi) / 2)) = 1#1 ↔ _
    rw [StableHlo.Predicate.cmpi_eq_iff, PicksPost.ge_at, int_of _ (by omega)]

theorem cntTied_eq (t : BitVec 32) (lo hi : ℕ) (h : lo + hi < 2147483648) :
    cntTied lv key l t (BitVec.ofNat 32 lo) (BitVec.ofNat 32 hi) = (tied (fun q => lv q = l) (num key) place t.toInt ((lo + hi) / 2 : ℕ) : EReal) := by
  unfold cntTied
  rw [halfway_eq lo hi h]
  refine (count_eq _ (fun q => lv q = l ∧ num key q = t.toInt ∧ place q ≤ (((lo + hi) / 2 : ℕ) : ℤ)) (fun p => ?_)).trans
    (sum_tied (fun q => lv q = l) (num key) place _ _)
  · rw [PicksPost.andi_at, PicksPost.andi_at, and_assoc]
    change IntOp.cmpi .eq (lv p) l = 1#1 ∧ IntOp.cmpi .eq (key p) t = 1#1 ∧ IntOp.cmpi .sle (k0_pay7 p) (BitVec.ofNat 32 ((lo + hi) / 2)) = 1#1 ↔ _
    have le : ∀ x y : BitVec 32, IntOp.cmpi .sle x y = 1#1 ↔ x.toInt ≤ y.toInt := fun x y => by
      simp [IntOp.cmpi, BitVec.sle, StableHlo.Predicate.ofBool_eq_one_iff]
    rw [StableHlo.Predicate.cmpi_eq_iff, StableHlo.Predicate.cmpi_eq_iff, le, grid_int, int_of _ (by omega), BitVec.toInt_inj]

theorem wanted_eq (t : BitVec 32) : wanted lv key l t = ((1000 : ℕ) : EReal) - (reach (fun q => lv q = l) (num key) (t.toInt + 1) : EReal) := by
  unfold wanted
  rw [PicksPost.thousand]
  refine congrArg (((1000 : ℕ) : EReal) - ·) ((count_eq _ (fun q => lv q = l ∧ t.toInt + 1 ≤ num key q) (fun p => ?_)).trans
    (sum_reach (fun q => lv q = l) (num key) _))
  · rw [PicksPost.andi_at]
    change IntOp.cmpi .eq (lv p) l = 1#1 ∧ IntOp.cmpi .sgt (key p) t = 1#1 ↔ _
    rw [StableHlo.Predicate.cmpi_eq_iff, PicksPost.gt_at, Int.add_one_le_iff]

theorem enough (r d : ℕ) : ((1000 : ℕ) : EReal) - (r : EReal) ≤ (d : EReal) ↔ 1000 ≤ r + d := by
  rw [← EReal.coe_natCast, ← EReal.coe_natCast, ← EReal.coe_natCast, ← EReal.coe_sub, EReal.coe_le_coe_iff, sub_le_iff_le_add']
  exact_mod_cast Iff.rfl

/-! ### The halvings -/

theorem upper_all (h0 : 1000 ≤ reach (fun q => lv q = l) (num key) 0) (h1 : reach (fun q => lv q = l) (num key) 1073741824 < 1000) (k : ℕ) :
    ∃ lo hi : ℕ, (upper (F := Ideal) (cntAbove lv key l))^[k] (0#32, 1073741824#32) = (BitVec.ofNat 32 lo, BitVec.ofNat 32 hi)
      ∧ Between (fun q => lv q = l) (num key) k lo hi := by
  induction k with
  | zero => exact ⟨0, 1073741824, rfl, by norm_num, le_rfl, by norm_num, by exact_mod_cast h0, by exact_mod_cast h1⟩
  | succ k ih =>
    obtain ⟨lo, hi, e, hb⟩ := ih
    rw [Function.iterate_succ_apply', e]
    have hlt : lo + hi < 2147483648 := by have := hb.1; have := hb.2.1; omega
    have hc : Scalar.cmpf (F := Ideal) (φ := .f32) .oge (cntAbove lv key l (BitVec.ofNat 32 lo) (BitVec.ofNat 32 hi)) (Scalar.ofBits .f32 0x447A0000#32) = 1#1
        ↔ 1000 ≤ reach (fun q => lv q = l) (num key) ((lo + hi) / 2 : ℕ) := by
      refine (ge_at _ _).trans ?_
      rw [cntAbove_eq lv key l lo hi hlt, show (Scalar.ofBits (F := Ideal) .f32 0x447A0000#32 : EReal) = _ from PicksPost.thousand]
      exact_mod_cast Iff.rfl
    unfold upper
    dsimp only
    rw [halfway_eq lo hi hlt]
    by_cases h : 1000 ≤ reach (fun q => lv q = l) (num key) ((lo + hi) / 2 : ℕ)
    · exact ⟨_, _, congrArg₂ Prod.mk (if_pos (hc.2 h)) (if_pos (hc.2 h)), hb.next.1 h⟩
    · exact ⟨_, _, congrArg₂ Prod.mk (if_neg fun e => h (hc.1 e)) (if_neg fun e => h (hc.1 e)), hb.next.2 h⟩

theorem lower_all (t : BitVec 32) (a b : ℕ) (h0 : Within (fun q => lv q = l) (num key) place t.toInt 0 a b) (k : ℕ) :
    ∃ lo hi : ℕ, (lower (F := Ideal) (cntTied lv key l t) (wanted lv key l t))^[k] (BitVec.ofNat 32 a, BitVec.ofNat 32 b) = (BitVec.ofNat 32 lo, BitVec.ofNat 32 hi)
      ∧ Within (fun q => lv q = l) (num key) place t.toInt k lo hi := by
  induction k with
  | zero => exact ⟨a, b, rfl, h0⟩
  | succ k ih =>
    obtain ⟨lo, hi, e, hb⟩ := ih
    rw [Function.iterate_succ_apply', e]
    have hlt : lo + hi < 2147483648 := by have := hb.1; have := hb.2.1; omega
    have hc : Scalar.cmpf (F := Ideal) (φ := .f32) .oge (cntTied lv key l t (BitVec.ofNat 32 lo) (BitVec.ofNat 32 hi)) (wanted lv key l t) = 1#1
        ↔ 1000 ≤ reach (fun q => lv q = l) (num key) (t.toInt + 1) + tied (fun q => lv q = l) (num key) place t.toInt ((lo + hi) / 2 : ℕ) := by
      refine (ge_at _ _).trans ?_
      rw [cntTied_eq lv key l t lo hi hlt, wanted_eq]
      exact enough _ _
    unfold lower
    dsimp only
    rw [halfway_eq lo hi hlt, show Scalar.addi (BitVec.ofNat 32 ((lo + hi) / 2)) 1#32 = BitVec.ofNat 32 ((lo + hi) / 2 + 1) from (BitVec.ofNat_add ..).symm]
    by_cases h : 1000 ≤ reach (fun q => lv q = l) (num key) (t.toInt + 1) + tied (fun q => lv q = l) (num key) place t.toInt ((lo + hi) / 2 : ℕ)
    · exact ⟨_, _, congrArg₂ Prod.mk (if_pos (hc.2 h)) (if_pos (hc.2 h)), hb.next.1 h⟩
    · exact ⟨_, _, congrArg₂ Prod.mk (if_neg fun e => h (hc.1 e)) (if_neg fun e => h (hc.1 e)), hb.next.2 h⟩

/-! ### A level -/

/-- A level that fills the positions after `lo` up to `hi`, at least a thousand of them, with small keys: what its threshold and
    its cut let in is its first thousand. -/
theorem level_iff (lo hi : ℕ) (hl : ∀ q, lv q = l ↔ (lo : ℤ) < place q ∧ place q ≤ hi) (hlen : lo + 1000 ≤ hi) (hhi : hi < 36864)
    (hk : ∀ q, lv q = l → 0 ≤ num key q ∧ num key q < 1073741824) (t b : BitVec 32)
    (ht : t = ((upper (F := Ideal) (cntAbove lv key l))^[31] (0#32, 1073741824#32)).1)
    (hb : b = ((lower (F := Ideal) (cntTied lv key l t) (wanted lv key l t))^[16] (BitVec.ofNat 32 lo, BitVec.ofNat 32 hi)).2) (p : S288x128.Idx) :
    Above lv key l t b p ↔ lv p = l ∧ before lv key p < 1000 := by
  have all : 1000 ≤ reach (fun q => lv q = l) (num key) 0 := by
    let f : ℕ → S288x128.Idx := fun i => if h : lo + 1 + i < 36864 then ix2 ⟨(lo + 1 + i) / 128, by omega⟩ ⟨(lo + 1 + i) % 128, by omega⟩ else ix2 0 0
    have hf : ∀ i < 1000, place (f i) = ((lo + 1 + i : ℕ) : ℤ) := fun i hi' => by
      have : f i = ix2 ⟨(lo + 1 + i) / 128, by omega⟩ ⟨(lo + 1 + i) % 128, by omega⟩ := dif_pos (by omega)
      rw [this]
      unfold place
      show (((lo + 1 + i) / 128 : ℕ) : ℤ) * 128 + (((lo + 1 + i) % 128 : ℕ) : ℤ) = _
      omega
    have c : (Finset.range 1000).card ≤ reach (fun q => lv q = l) (num key) 0 := by
      unfold reach
      refine Finset.card_le_card_of_injOn f (fun i hi' => ?_) (fun i hi' j hj e => ?_)
      · have hi'' : i < 1000 := by simpa using hi'
        have hm : lv (f i) = l := (hl _).2 (by rw [hf i hi'']; push_cast; omega)
        simp only [Finset.coe_filter, Finset.mem_univ, true_and, Set.mem_setOf_eq]
        exact ⟨hm, (hk _ hm).1⟩
      · have hi'' : i < 1000 := by simpa using hi'
        have hj'' : j < 1000 := by simpa using hj
        have := congrArg place e
        rw [hf i hi'', hf j hj''] at this
        omega
    simpa using c
  have none : reach (fun q => lv q = l) (num key) 1073741824 < 1000 := by
    have := reach_none (fun q => lv q = l) (num key) 1073741824 fun q h => (hk q h).2
    omega
  obtain ⟨a, a', ea, ha⟩ := upper_all lv key l all none 31
  rw [ea] at ht
  have hta : t.toInt = a := by rw [ht]; exact int_of a (by have := ha.1; have := ha.2.1; omega)
  obtain ⟨r1, r2⟩ := ha.last
  obtain ⟨d', d, ed, hd⟩ := lower_all lv key l t lo hi (Within.first _ _ _ (by omega) (by omega) (fun q h => ((hl q).1 h).1) (fun q h => ((hl q).1 h).2)
    (by rw [hta]; exact r1) (by rw [hta]; exact r2)) 16
  rw [ed] at hb
  have hbd : b.toInt = d := by rw [hb]; exact int_of d (by have := hd.2.1; omega)
  obtain ⟨r3, r4⟩ := hd.last
  have key1 := first_iff (fun q => lv q = l) (num key) place t.toInt b.toInt (by rw [hta]; exact r1) (by rw [hta]; exact r2) (by rw [hbd]; exact r3)
    (by rw [hbd]; exact r4) p
  unfold Above
  refine and_congr_right fun hp => ?_
  rw [grid_int, ← BitVec.toInt_inj]
  refine key1.trans ?_
  unfold before
  rw [hp]

/-! ### The three levels -/

theorem table_2 (g : ℤ) : table g = 2#32 ↔ 539 < g ∧ g ≤ 2267 := by
  unfold table
  split_ifs <;> first | (refine iff_of_true rfl ?_; omega) | (refine iff_of_false (by decide) ?_; omega)

theorem table_3 (g : ℤ) : table g = 3#32 ↔ 2267 < g ∧ g ≤ 9179 := by
  unfold table
  split_ifs <;> first | (refine iff_of_true rfl ?_; omega) | (refine iff_of_false (by decide) ?_; omega)

theorem table_4 (g : ℤ) : table g = 4#32 ↔ 9179 < g ∧ g ≤ 36827 := by
  unfold table
  split_ifs <;> first | (refine iff_of_true rfl ?_; omega) | (refine iff_of_false (by decide) ?_; omega)

variable {lv key}

theorem keys_small (hG : Given lv key) (hn : 0 ≤ l.toInt) (q : S288x128.Idx) (h : lv q = l) : 0 ≤ num key q ∧ num key q < 1073741824 := by
  rcases (hG q).2 with h' | h'
  · rw [h] at h'; omega
  · exact h'

theorem level2 (hG : Given lv key) (t b : BitVec 32) (ht : t = tau₁ (F := Ideal) lv key) (hb : b = cut₁ (F := Ideal) lv key t) (p : S288x128.Idx) :
    Above lv key 2#32 t b p ↔ lv p = 2#32 ∧ before lv key p < 1000 :=
  level_iff lv key 2#32 539 2267 (fun q => by rw [(hG q).1]; exact_mod_cast table_2 _) (by omega) (by omega) (keys_small _ hG (by decide)) t b ht hb p

theorem level3 (hG : Given lv key) (t b : BitVec 32) (ht : t = tau₂ (F := Ideal) lv key) (hb : b = cut₂ (F := Ideal) lv key t) (p : S288x128.Idx) :
    Above lv key 3#32 t b p ↔ lv p = 3#32 ∧ before lv key p < 1000 :=
  level_iff lv key 3#32 2267 9179 (fun q => by rw [(hG q).1]; exact_mod_cast table_3 _) (by omega) (by omega) (keys_small _ hG (by decide)) t b ht hb p

theorem level4 (hG : Given lv key) (t b : BitVec 32) (ht : t = tau₃ (F := Ideal) lv key) (hb : b = cut₃ (F := Ideal) lv key t) (p : S288x128.Idx) :
    Above lv key 4#32 t b p ↔ lv p = 4#32 ∧ before lv key p < 1000 :=
  level_iff lv key 4#32 9179 36827 (fun q => by rw [(hG q).1]; exact_mod_cast table_4 _) (by omega) (by omega) (keys_small _ hG (by decide)) t b ht hb p

end Cert.Proof.Thresholds

end
-- ==== Proof.PicksClaim.lean ====
/- The proposals call over the extended reals picks its boxes in turn: what `picked_in_turn` says of its arguments and its
   result holds. -/
module

public import proofs.«01_k».proof.Proof.Thresholds
public import proofs.«01_k».proof.Proof.PicksFacts
public import proofs.«01_k».proof.Defs

@[expose] public section

set_option maxRecDepth 16384

noncomputable section

namespace Cert.Proof.PicksClaim

open Cert.ProposalsIdeal Cert.ProposalsIdeal.Gen Cert.ProposalsIdeal.Facts Idealize.ShloMosaic Idealize.SL.Sem
open Picks PicksKernel ProposalsIdealRun
open PicksPost (boxAt rowBox Small Part Given before)

variable (m : (ℓ : Loc nD τ sig) → Buf (Elt Ideal) ℓ)

/-- The boxes of core `c`. -/
abbrev boxes (c : Dev nD) : S288x128.Idx → Box := boxAt (left m c) (top m c) (right m c) (bottom m c)

/-- The arguments of core `c` are as the caller gives them. -/
abbrev good (c : Dev nD) : Prop := Given (levels m c) (keys m c)

/-- The candidates of core `c`: the two small levels, and the first thousand of each large one. -/
abbrev cd (c : Dev nD) : S288x128.Idx → Prop := Part (levels m c) (good m c) (before (levels m c) (keys m c))

/-- After `n` picks: the scores are what they leave, and the rows before `n` are their boxes and zeros. -/
def State (c : Dev nD) (n : ℕ) (a9 : FVec Ideal S288x128 .f32) (a10 : Ideal .f32) (fo : Out Ideal) : Prop :=
  ∃ pk : ℕ → S288x128.Idx, Picked (scores m c) (boxes m c) (cd m c) (fun p => cd m c p ∨ ¬ good m c) n a9 a10 pk
    ∧ ∀ r : Fin 1024, r.val < n → ∀ k : Fin 8, fo (ix2 r k) = if hk : k.val < 4 then boxes m c (pk r.val) ⟨k.val, hk⟩ else (0 : EReal)

theorem cand_iff (c : Dev nD) (hG : good m c) (t₁ b₁ t₂ b₂ t₃ b₃ : BitVec 32)
    (h1 : t₁ = tau₁ (F := Ideal) (levels m c) (keys m c)) (g1 : b₁ = cut₁ (F := Ideal) (levels m c) (keys m c) t₁)
    (h2 : t₂ = tau₂ (F := Ideal) (levels m c) (keys m c)) (g2 : b₂ = cut₂ (F := Ideal) (levels m c) (keys m c) t₂)
    (h3 : t₃ = tau₃ (F := Ideal) (levels m c) (keys m c)) (g3 : b₃ = cut₃ (F := Ideal) (levels m c) (keys m c) t₃) (p : S288x128.Idx) :
    Cand (levels m c) (keys m c) t₁ b₁ t₂ b₂ t₃ b₃ p ↔ cd m c p := by
  unfold Cand
  rw [Thresholds.level2 hG t₁ b₁ h1 g1 p, Thresholds.level3 hG t₂ b₂ h2 g2 p, Thresholds.level4 hG t₃ b₃ h3 g3 p, ← or_and_right, ← or_and_right]
  exact or_congr Iff.rfl ⟨fun h => ⟨hG, h⟩, fun h => h.2⟩

theorem starts : Starts m (State m) := by
  intro c t₁ b₁ t₂ b₂ t₃ b₃ fo h1 g1 h2 g2 h3 g3
  refine ⟨fun _ => ix2 0 0, Picked.start _ (fun p => ?_) (fun p => le_greatest _ p) (greatest_le _), fun r hr => absurd hr (Nat.not_lt_zero _)⟩
  by_cases hG : good m c
  · have e := cand_iff m c hG t₁ b₁ t₂ b₂ t₃ b₃ h1 g1 h2 g2 h3 g3 p
    rcases start_at m c t₁ b₁ t₂ b₂ t₃ b₃ p with ⟨hc, h⟩ | ⟨hc, h⟩
    · exact .inl ⟨h, .inl (e.1 hc)⟩
    · exact .inr ⟨h, fun hs => hc (e.2 hs)⟩
  · rcases start_at m c t₁ b₁ t₂ b₂ t₃ b₃ p with ⟨-, h⟩ | ⟨hc, h⟩
    · exact .inl ⟨h, .inr hG⟩
    · exact .inr ⟨h, fun hs => hs.elim (fun hs => hc (.inl hs)) fun hs => hG hs.1⟩

theorem more_iff (j : ℕ) (hj : j < 2147483648) (a10 : Ideal .f32) : more (F := Ideal) (BitVec.ofNat 32 j) a10 ↔ j < 1000 ∧ (0 : EReal) < a10 := by
  unfold more
  refine IntOp.andi_eq_one.trans (and_congr ?_ ?_)
  · show IntOp.cmpi .slt (BitVec.ofNat 32 j) 1000#32 = 1#1 ↔ _
    rw [StableHlo.Predicate.slt_iff_toNat (by simp only [BitVec.toNat_ofNat]; omega) (by decide)]
    simp only [BitVec.toNat_ofNat]
    omega
  · show Ideal.cmp .ogt a10 (Ideal.ofBits .f32 0x00000000#32) = 1#1 ↔ _
    rw [gt_at, Ideal.ofBits_zero_f32]

theorem keeps : KeepsAll m (State m) := by
  intro c j hj a9 a10 fo hmore ⟨pk, hp, hr⟩
  have ht := ((more_iff j (by omega) a10).1 hmore).2
  obtain ⟨p, hpt, hot⟩ := hot a9 a10 hp.top_le
  refine ⟨fun a => if a = j then p else pk a, hp.next ht hpt (leftover_at (left m c) (top m c) (right m c) (bottom m c) a9 a10 p hot)
    (fun q => ?_) ?_, fun r hr' k => ?_⟩
  · rw [leftmax_eq]; exact le_greatest _ q
  · rw [leftmax_eq]; exact greatest_le _
  · rw [written_at _ _ _ _ _ _ j hj]
    by_cases e : r.val = j
    · simp only [e, if_true]
      exact row_at (left m c) (top m c) (right m c) (bottom m c) a9 a10 p hot k
    · simp only [e, if_false]
      exact hr r (by omega) k

theorem ends [Cert.Post_picked_in_turn.Facts] (c : Dev nD) (X : Out Ideal) (h : Ends (State m) c X) :
    Cert.Post_picked_in_turn.fn (F := Ideal) (scores m c) (keys m c) (left m c) (top m c) (right m c) (bottom m c) (levels m c) X = fun _ => 1#1 := by
  obtain ⟨n, a9, a10, fo, hn, ⟨pk, hp, hr⟩, hstop, rfl⟩ := h
  have hR : ∀ a < n, rowBox (filled n fo) a = boxes m c (pk a) := fun a ha => by
    funext k
    unfold rowBox
    rw [dif_pos (by omega), filled_at n hn, if_pos ha, hr ⟨a, by omega⟩ ha, dif_pos k.isLt]
  refine PicksPost.fn_one _ _ _ _ _ _ _ _ fun a => ?_
  by_cases ha : a.val < n
  · refine .inl ⟨hp.rowOk hR a.val ha, fun k => ?_⟩
    rw [filled_at n hn, if_pos ha, hr a ha, dif_neg (by simp)]
  · refine .inr ⟨fun k => ?_, ?_⟩
    · rw [filled_at n hn, if_neg ha, filled_at n hn]
      split <;> rfl
    · rcases Nat.lt_or_ge n 1000 with h' | h'
      · refine .inl (hp.noneLeft hR (fun h0 => hstop ((more_iff n (by omega) a10).2 ⟨h', h0⟩)) a.val (not_lt.1 ha))
      · exact .inr (h'.trans (not_lt.1 ha))

/-- The claim of the proposals call over the extended reals. -/
theorem holds : Cert.holds_ProposalsIdeal_picked_in_turn (hProposalsIdeal := Cert.ProposalsIdeal.Gen.facts) (hPost_picked_in_turn := PicksPost.facts) :=
  fun m g _ => (θ_run Cert.ProposalsIdeal.defs _ _).mono
    (fun r h c => by
      obtain ⟨h0, h1, h2, h3, h4, h5, h6⟩ := post_args m (State m) r h.1 c
      exact ⟨h0, h1, h2, h3, h4, h5, h6,
        (letI := PicksPost.facts; ends m c _ (post_result m (State m) r h.1 c))⟩)
    (run m g (State m) (starts m) (keeps m))

end Cert.Proof.PicksClaim

end
-- ==== Proof.lean ====
module

public import proofs.«01_k».proof.Proof.Gen.Proposals
public import proofs.«01_k».proof.Proof.Gen.Proposals.Skeleton
public import proofs.«01_k».proof.Proof.Gen.Proposals.Launch
public import proofs.«01_k».proof.Proof.Gen.Proposals.Points
public import proofs.«01_k».proof.Proof.Gen.ProposalsIdeal
public import proofs.«01_k».proof.Proof.Gen.ProposalsIdeal.Skeleton
public import proofs.«01_k».proof.Proof.Gen.ProposalsIdeal.Launch
public import proofs.«01_k».proof.Proof.Gen.ProposalsIdeal.Points
public import proofs.«01_k».proof.Defs
public import proofs.«01_k».proof.Proof.Gen.Kernel0
public import proofs.«01_k».proof.Proof.Gen.Kernel0.Skeleton
public import proofs.«01_k».proof.Proof.Gen.Kernel0.Launch
public import proofs.«01_k».proof.Proof.Gen.Kernel0.Points
public import proofs.«01_k».proof.Proof.Gen.Kernel0.Frame
public import proofs.«01_k».proof.Proof.Gen.Kernel0Ideal
public import proofs.«01_k».proof.Proof.Gen.Kernel0Ideal.Skeleton
public import proofs.«01_k».proof.Proof.Gen.Kernel0Ideal.Launch
public import proofs.«01_k».proof.Proof.Gen.Kernel0Ideal.Points
public import proofs.«01_k».proof.Proof.Gen.Kernel0Ideal.Frame
public import proofs.«01_k».proof.Proof.Gen.Reference0Ideal
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Reference1Ideal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel0Ideal.Value
public import proofs.«01_k».proof.Proof.Gen.Kernel1Ideal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Reference0Ideal.Run
public import proofs.«01_k».proof.Proof.Gen.Reference1Ideal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Level0
public import proofs.«01_k».proof.Proof.Level1
public import proofs.«01_k».proof.Proof.Level2
public import proofs.«01_k».proof.Proof.Level3
public import proofs.«01_k».proof.Proof.Level4
public import proofs.«01_k».proof.Proof.ProposalsRun
public import proofs.«01_k».proof.Proof.ProposalsIdealRun
public import proofs.«01_k».proof.Proof.PicksClaim
public import Idealize.ShloMosaic.Adequacy
public import Idealize.ShloMosaic.Init

@[expose] public section

noncomputable section

namespace Cert.Proof

open Idealize.ShloMosaic Idealize.SL.Sem

/-- The run of a host program with five results and nine arguments, read at the arguments alone. -/
theorem last9 {a b c d e p : Prop} (h : a ∧ b ∧ c ∧ d ∧ e ∧ p) : p := h.2.2.2.2.2

/-- The reference of level 0 ends, leaves its arguments as they were, and has no semaphore to leave raised. -/
theorem reference0_frame : quiescent_Reference0Ideal (hReference0Ideal := Cert.Reference0Ideal.Gen.facts) :=
  fun m g _ => (θ_run Cert.Reference0Ideal.defs _ _).mono
    (fun r h => ⟨fun c => last9 (h c), sem_eq_zero_of_no_sems (by decide) r.2⟩) (Cert.Reference0Ideal.Value.run m g)

/-- The reference of level 1 ends, leaves its arguments as they were, and has no semaphore to leave raised. -/
theorem reference1_frame : quiescent_Reference1Ideal (hReference1Ideal := Cert.Reference1Ideal.Gen.facts) :=
  fun m g _ => (θ_run Cert.Reference1Ideal.defs _ _).mono
    (fun r h => ⟨fun c => last9 (h c), sem_eq_zero_of_no_sems (by decide) r.2⟩) (Cert.Reference1Ideal.Value.run m g)

/-- The reference of level 2 ends, leaves its arguments as they were, and has no semaphore to leave raised. -/
theorem reference2_frame : quiescent_Reference2Ideal (hReference2Ideal := Cert.Reference2Ideal.Gen.facts) :=
  fun m g _ => (θ_run Cert.Reference2Ideal.defs _ _).mono
    (fun r h => ⟨fun c => last9 (h c), sem_eq_zero_of_no_sems (by decide) r.2⟩) (Cert.Reference2Ideal.Value.run m g)

/-- The reference of level 3 ends, leaves its arguments as they were, and has no semaphore to leave raised. -/
theorem reference3_frame : quiescent_Reference3Ideal (hReference3Ideal := Cert.Reference3Ideal.Gen.facts) :=
  fun m g _ => (θ_run Cert.Reference3Ideal.defs _ _).mono
    (fun r h => ⟨fun c => last9 (h c), sem_eq_zero_of_no_sems (by decide) r.2⟩) (Cert.Reference3Ideal.Value.run m g)

/-- The reference of level 4 ends, leaves its arguments as they were, and has no semaphore to leave raised. -/
theorem reference4_frame : quiescent_Reference4Ideal (hReference4Ideal := Cert.Reference4Ideal.Gen.facts) :=
  fun m g _ => (θ_run Cert.Reference4Ideal.defs _ _).mono
    (fun r h => ⟨fun c => last9 (h c), sem_eq_zero_of_no_sems (by decide) r.2⟩) (Cert.Reference4Ideal.Value.run m g)

/-- At each of the five levels: the kernel, its reading over the extended reals and the reference end without fault,
    leave their arguments as they were and every semaphore at zero; that reading is the kernel's; and over the extended
    reals the kernel and the reference compute the same scores and boxes. The proposals call and its reading over the extended reals end without fault,
    leave their arguments as they were and every semaphore at zero, and that reading is the call's; and over the extended
    reals the call's result is boxes picked in turn. -/
theorem claim : Cert.Claim := ⟨Cert.Kernel0.Gen.facts, Cert.Kernel0Ideal.Gen.facts, Cert.Reference0Ideal.Gen.facts, Cert.Kernel1.Gen.facts, Cert.Kernel1Ideal.Gen.facts, Cert.Reference1Ideal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Proposals.Gen.facts, Cert.ProposalsIdeal.Gen.facts, PicksPost.facts,
  fun m g _ => Cert.Kernel0.Gen.frame m g, fun m g _ => Cert.Kernel0Ideal.Gen.frame m g, reference0_frame,
  fun m g _ => Cert.Kernel1.Gen.frame m g, fun m g _ => Cert.Kernel1Ideal.Gen.frame m g, reference1_frame,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => ProposalsRun.frame m g, fun m g _ => ProposalsIdealRun.frame m g,
  trivial, Level0.algebraic,
  trivial, Level1.algebraic,
  trivial, Level2.algebraic,
  trivial, Level3.algebraic,
  trivial, Level4.algebraic,
  trivial, PicksClaim.holds⟩

end Cert.Proof

end
